-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_and_finite [hPre_sorted_and_finite : Cert.Pre_sorted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_finite [hPre_sorted_and_finite : Cert.Pre_sorted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_sorted_and_finite [hKernelIdeal : Cert.KernelIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_sorted_and_finite [hReferenceIdeal : Cert.ReferenceIdeal.Facts] [hPre_sorted_and_finite : Cert.Pre_sorted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_sorted_and_finite [hKernelIdeal : Cert.KernelIdeal.Facts] [hReferenceIdeal : Cert.ReferenceIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_sorted_and_finite : Cert.Pre_sorted_and_finite.Facts),
    quiescent_Kernel (hKernel := hKernel)
    ∧ quiescent_KernelIdeal (hKernelIdeal := hKernelIdeal)
    ∧ quiescent_KernelIdeal_pre_sorted_and_finite (hKernelIdeal := hKernelIdeal) (hPre_sorted_and_finite := hPre_sorted_and_finite)
    ∧ quiescent_ReferenceIdeal (hReferenceIdeal := hReferenceIdeal)
    ∧ quiescent_ReferenceIdeal_pre_sorted_and_finite (hReferenceIdeal := hReferenceIdeal) (hPre_sorted_and_finite := hPre_sorted_and_finite)
    ∧ preserves_Kernel_KernelIdeal
    ∧ algebraic_KernelIdeal_ReferenceIdeal_pre_sorted_and_finite (hKernelIdeal := hKernelIdeal) (hReferenceIdeal := hReferenceIdeal) (hPre_sorted_and_finite := hPre_sorted_and_finite)
-- ==== Pre_sorted_and_finite.lean ====
abbrev S3200000x3 : Shape := ⟨2, ![3200000, 3]⟩
abbrev S3200000 : Shape := ⟨1, ![3200000]⟩
abbrev S3x16 : Shape := ⟨2, ![3, 16]⟩
abbrev S16 : Shape := ⟨1, ![16]⟩
abbrev S16x16 : Shape := ⟨2, ![16, 16]⟩
abbrev S3199999 : Shape := ⟨1, ![3199999]⟩
abbrev S_ : Shape := ⟨0, ![]⟩

class Facts : Prop where
  slices_S3200000_S3199999_0 : S3200000.Slices ![0] S3199999
  slices_S3200000_S3199999_1 : S3200000.Slices ![1] S3199999
  reducesTo_S3199999_S_d0 : S3199999.ReducesTo [0] S_
  h_S_ : 0 < S_.numel
  bcast_S_S3200000x3 : S_.BroadcastsInDim S3200000x3 (![] : Fin 0 → Fin S3200000x3.rank)
  reducesTo_S3200000x3_S_d0_1 : S3200000x3.ReducesTo [0, 1] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v3 : IVec S_ 1) (main_v12 : IVec S_ 1) (main_v16 : IVec S_ 1) : IVec S_ 1 :=
  let main_v17 : IVec S_ 1 := andi main_v12 main_v16
  let main_v18 : IVec S_ 1 := andi main_v3 main_v17
  main_v18

def fn {F : FTy → Type} [FloatOps F] (main_arg0 : FVec F S3200000x3 .f32) (main_arg1 : IVec S3200000 32) (main_arg2 : FVec F S3x16 .f32) (main_arg3 : FVec F S16 .f32) (main_arg4 : FVec F S16x16 .f32) (main_arg5 : FVec F S16 .f32) (main_arg6 : FVec F S16x16 .f32) (main_arg7 : FVec F S16 .f32) : IVec S_ 1 :=
  let main_v0 : IVec S3199999 32 := (extractStridedSlice S3199999 ![0] · slices_S3200000_S3199999_0) main_arg1
  let main_v1 : IVec S3199999 32 := (extractStridedSlice S3199999 ![1] · slices_S3200000_S3199999_1) main_arg1
  let main_v2 : IVec S3199999 1 := cmpi .sle main_v0 main_v1
  let main_c : IVec S_ 1 := constantI S_ 1 1#1
  let main_v3 : IVec S_ 1 := (fun x v => Host.reduce IntOp.andi x v reducesTo_S3199999_S_d0 h_S_) main_v2 main_c
  let main_v4 : FVec F S3200000x3 .f32 := Host.absf main_arg0
  let main_cst : FVec F S_ .f32 := constant S_ .f32 0x7F800000#32
  let main_v5 : FVec F S3200000x3 .f32 := broadcastInDim S3200000x3 ![] bcast_S_S3200000x3 main_cst
  let main_v6 : IVec S3200000x3 1 := cmpf .olt main_v4 main_v5
  let main_c_0 : IVec S_ 1 := constantI S_ 1 1#1
  let main_v7 : IVec S_ 1 := (fun x v => Host.reduce IntOp.andi x v reducesTo_S3200000x3_S_d0_1 h_S_) main_v6 main_c_0
  let main_v8 : FVec F S3x16 .f32 := Host.absf main_arg2
  let main_cst_1 : FVec F S_ .f32 := constant S_ .f32 0x7F800000#32
  let main_v9 : FVec F S3x16 .f32 := broadcastInDim S3x16 ![] bcast_S_S3x16 main_cst_1
  let main_v10 : IVec S3x16 1 := cmpf .olt main_v8 main_v9
  let main_c_2 : IVec S_ 1 := constantI S_ 1 1#1
  let main_v11 : IVec S_ 1 := (fun x v => Host.reduce IntOp.andi x v reducesTo_S3x16_S_d0_1 h_S_) main_v10 main_c_2
  let main_v12 : IVec S_ 1 := andi main_v7 main_v11
  let main_v13 : FVec F S16 .f32 := Host.absf main_arg3
  let main_cst_3 : FVec F S_ .f32 := constant S_ .f32 0x7F800000#32
  let main_v14 : FVec F S16 .f32 := broadcastInDim S16 ![] bcast_S_S16 main_cst_3
  let main_v15 : IVec S16 1 := cmpf .olt main_v13 main_v14
  let main_c_4 : IVec S_ 1 := constantI S_ 1 1#1
  let main_v16 : IVec S_ 1 := (fun x v => Host.reduce IntOp.andi x v reducesTo_S16_S_d0 h_S_) main_v15 main_c_4
  fn_part1 (F := F) main_v3 main_v12 main_v16
-- ==== Kernel.lean ====
abbrev S3200000x3 : Shape := ⟨2, ![3200000, 3]⟩
abbrev S3200000 : Shape := ⟨1, ![3200000]⟩
abbrev S3x16 : Shape := ⟨2, ![3, 16]⟩
abbrev S16 : Shape := ⟨1, ![16]⟩
abbrev S16x16 : Shape := ⟨2, ![16, 16]⟩
abbrev S3200000x1 : Shape := ⟨2, ![3200000, 1]⟩
abbrev S3125 : Shape := ⟨1, ![3125]⟩
abbrev S_ : Shape := ⟨0, ![]⟩
abbrev S75 : Shape := ⟨1, ![75]⟩
abbrev S3200 : Shape := ⟨1, ![3200]⟩
abbrev S1x16 : Shape := ⟨2, ![1, 16]⟩
abbrev S4x16 : Shape := ⟨2, ![4, 16]⟩
abbrev S1600000 : Shape := ⟨1, ![1600000]⟩
abbrev S1040 : Shape := ⟨1, ![1040]⟩
abbrev S25088 : Shape := ⟨1, ![25088]⟩
abbrev S1024 : Shape := ⟨1, ![1024]⟩
abbrev S1 : Shape := ⟨1, ![1]⟩
abbrev S25008 : Shape := ⟨1, ![25008]⟩
abbrev S24992 : Shape := ⟨1, ![24992]⟩
abbrev S100000x16 : Shape := ⟨2, ![100000, 16]⟩
abbrev S10000x16 : Shape := ⟨2, ![10000, 16]⟩

abbrev nBuf : Table → Nat
  | .hbm => 35
  | .local .tc .vmem => 8
  | .local .scVector .vmem => 22
  | _ => 0

abbrev bufTy : (tb : Table) → Fin (nBuf tb) → BufTy
  | .hbm, ⟨0, _⟩ => ⟨S3200000x3, .f32⟩
  | .hbm, ⟨1, _⟩ => ⟨S3200000, .i32⟩
  | .hbm, ⟨2, _⟩ => ⟨S3x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S3200000x1, .f32⟩
  | .hbm, ⟨9, _⟩ => ⟨S3200000, .f32⟩
  | .hbm, ⟨10, _⟩ => ⟨S3200000, .bf16⟩
  | .hbm, ⟨11, _⟩ => ⟨S3200000, .f32⟩
  | .hbm, ⟨12, _⟩ => ⟨S3200000x1, .f32⟩
  | .hbm, ⟨13, _⟩ => ⟨S3200000, .f32⟩
  | .hbm, ⟨14, _⟩ => ⟨S3200000, .bf16⟩
  | .hbm, ⟨15, _⟩ => ⟨S3200000, .f32⟩
  | .hbm, ⟨16, _⟩ => ⟨S3200000x1, .f32⟩
  | .hbm, ⟨17, _⟩ => ⟨S3200000, .f32⟩
  | .hbm, ⟨18, _⟩ => ⟨S3200000, .bf16⟩
  | .hbm, ⟨19, _⟩ => ⟨S3200000, .f32⟩
  | .hbm, ⟨20, _⟩ => ⟨S3125, .i32⟩
  | .hbm, ⟨21, _⟩ => ⟨S_, .i32⟩
  | .hbm, ⟨22, _⟩ => ⟨S75, .i32⟩
  | .hbm, ⟨23, _⟩ => ⟨S3200, .i32⟩
  | .hbm, ⟨24, _⟩ => ⟨S3x16, .bf16⟩
  | .hbm, ⟨25, _⟩ => ⟨S3x16, .f32⟩
  | .hbm, ⟨26, _⟩ => ⟨S1x16, .f32⟩
  | .hbm, ⟨27, _⟩ => ⟨S4x16, .f32⟩
  | .hbm, ⟨28, _⟩ => ⟨S1600000, .f32⟩
  | .hbm, ⟨29, _⟩ => ⟨S100000x16, .f32⟩
  | .hbm, ⟨30, _⟩ => ⟨S16x16, .bf16⟩
  | .hbm, ⟨31, _⟩ => ⟨S1x16, .f32⟩
  | .hbm, ⟨32, _⟩ => ⟨S16x16, .bf16⟩
  | .hbm, ⟨33, _⟩ => ⟨S1x16, .f32⟩
  | .hbm, ⟨34, _⟩ => ⟨S100000x16, .f32⟩
  | .local .tc .vmem, ⟨0, _⟩ => ⟨S10000x16, .f32⟩
  | .local .tc .vmem, ⟨1, _⟩ => ⟨S10000x16, .f32⟩
  | .local .tc .vmem, ⟨2, _⟩ => ⟨S16x16, .bf16⟩
  | .local .tc .vmem, ⟨3, _⟩ => ⟨S1x16, .f32⟩
  | .local .tc .vmem, ⟨4, _⟩ => ⟨S16x16, .bf16⟩
  | .local .tc .vmem, ⟨5, _⟩ => ⟨S1x16, .f32⟩
  | .local .tc .vmem, ⟨6, _⟩ => ⟨S10000x16, .f32⟩
  | .local .tc .vmem, ⟨7, _⟩ => ⟨S10000x16, .f32⟩
  | .local .scVector .vmem, ⟨0, _⟩ => ⟨S3200, .i32⟩
  | .local .scVector .vmem, ⟨1, _⟩ => ⟨S4x16, .f32⟩
  | .local .scVector .vmem, ⟨2, _⟩ => ⟨S1040, .f32⟩
  | .local .scVector .vmem, ⟨3, _⟩ => ⟨S1040, .f32⟩
  | .local .scVector .vmem, ⟨4, _⟩ => ⟨S1040, .f32⟩
  | .local .scVector .vmem, ⟨5, _⟩ => ⟨S1040, .i32⟩
  | .local .scVector .vmem, ⟨6, _⟩ => ⟨S1040, .f32⟩
  | .local .scVector .vmem, ⟨7, _⟩ => ⟨S1040, .f32⟩
  | .local .scVector .vmem, ⟨8, _⟩ => ⟨S1040, .f32⟩
  | .local .scVector .vmem, ⟨9, _⟩ => ⟨S1040, .i32⟩
  | .local .scVector .vmem, ⟨10, _⟩ => ⟨S1040, .f32⟩
  | .local .scVector .vmem, ⟨11, _⟩ => ⟨S1040, .f32⟩
  | .local .scVector .vmem, ⟨12, _⟩ => ⟨S1040, .f32⟩
  | .local .scVector .vmem, ⟨13, _⟩ => ⟨S1040, .i32⟩
  | .local .scVector .vmem, ⟨14, _⟩ => ⟨S1040, .f32⟩
  | .local .scVector .vmem, ⟨15, _⟩ => ⟨S1040, .f32⟩
  | .local .scVector .vmem, ⟨16, _⟩ => ⟨S1040, .f32⟩
  | .local .scVector .vmem, ⟨17, _⟩ => ⟨S1040, .i32⟩
  | .local .scVector .vmem, ⟨18, _⟩ => ⟨S25088, .f32⟩
  | .local .scVector .vmem, ⟨19, _⟩ => ⟨S25088, .f32⟩
  | .local .scVector .vmem, ⟨20, _⟩ => ⟨S25088, .f32⟩
  | .local .scVector .vmem, ⟨21, _⟩ => ⟨S25088, .f32⟩
  | _, _ => ⟨S3200000x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v3_scv : Ref sig .scVector := ⟨.hbm, 11, rfl⟩
abbrev main_v7_scv : Ref sig .scVector := ⟨.hbm, 15, rfl⟩
abbrev main_v11_scv : Ref sig .scVector := ⟨.hbm, 19, rfl⟩
abbrev main_arg1_scv : Ref sig .scVector := ⟨.hbm, 1, rfl⟩
abbrev main_v14_scv : Ref sig .scVector := ⟨.hbm, 23, rfl⟩
abbrev main_v18_scv : Ref sig .scVector := ⟨.hbm, 27, rfl⟩
abbrev main_v19_scv : Ref sig .scVector := ⟨.hbm, 28, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_5 : BitVec 32 := 0#32
  let c392_i32 : BitVec 32 := 392#32
  let v14 : BitVec 32 := Scalar.addi c0_i32_5 c392_i32
  let c1_i32_6 : BitVec 32 := 1#32
  ⟨c0_i32_5, v14, c1_i32_6⟩
def k0_off1 (k0_t1 : Fin k0_t1_loop.trips) (c0_i32_112 : BitVec 32) : Fin 1 → Nat :=
  let c4_i32 : BitVec 32 := 4#32
  let c0_i32_5 : BitVec 32 := 0#32
  let c1_i32_6 : BitVec 32 := 1#32
  let arg33 : BitVec 32 := Scf.iv c0_i32_5 c1_i32_6 k0_t1
  let v180 : BitVec 32 := Scalar.muli c4_i32 arg33
  let v181 : BitVec 32 := Scalar.addi v180 c0_i32_112
  let c16_i32_113 : BitVec 32 := 16#32
  let v182 : BitVec 32 := Scalar.muli v181 c16_i32_113
  let v183 : Index := Scalar.indexCast v182
  ![v183.toNat]
@[reducible] def k0_t2_loop : Scf.Loop 32 :=
  let c0_i32_11 : BitVec 32 := 0#32
  let c200_i32 : BitVec 32 := 200#32
  let v18 : BitVec 32 := Scalar.addi c0_i32_11 c200_i32
  let c1_i32_12 : BitVec 32 := 1#32
  ⟨c0_i32_11, v18, c1_i32_12⟩
def k0_off2 (k0_t2 : Fin k0_t2_loop.trips) : Fin 1 → Nat :=
  let c0_i32_11 : BitVec 32 := 0#32
  let c1_i32_12 : BitVec 32 := 1#32
  let arg33 : BitVec 32 := Scf.iv c0_i32_11 c1_i32_12 k0_t2
  let c16_i32_112 : BitVec 32 := 16#32
  let v180 : BitVec 32 := Scalar.muli arg33 c16_i32_112
  let v181 : Index := Scalar.indexCast v180
  ![v181.toNat]
def k0_mult1 (v22 : BitVec 32) : BitVec 32 :=
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  v31

def k0_mult2 (v25 : BitVec 32) : BitVec 32 :=
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  v36

def k0_mult3 (v22 : BitVec 32) : BitVec 32 :=
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let c0_i32_50 : BitVec 32 := 0#32
  let v100 : BitVec 32 := Scalar.addi v39 c0_i32_50
  let c3198976_i32 : BitVec 32 := 3198976#32
  let v101 : BitVec 32 := Scalar.minsi v100 c3198976_i32
  v101
def k0_mult4 (v25 : BitVec 32) : BitVec 32 :=
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let c0_i32_51 : BitVec 32 := 0#32
  let v103 : BitVec 32 := Scalar.addi v40 c0_i32_51
  let c3198976_i32_52 : BitVec 32 := 3198976#32
  let v104 : BitVec 32 := Scalar.minsi v103 c3198976_i32_52
  v104
def k0_off3 (v22 : BitVec 32) : Fin 1 → Nat :=
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let c0_i32_50 : BitVec 32 := 0#32
  let v100 : BitVec 32 := Scalar.addi v39 c0_i32_50
  let c3198976_i32 : BitVec 32 := 3198976#32
  let v101 : BitVec 32 := Scalar.minsi v100 c3198976_i32
  let v102 : BitVec 32 := v101
  ![v102.toNat]

def k0_chk1 (v22 : BitVec 32) : Prop :=
  (8 ∣ (k0_mult1 v22).toNat) ∧
  (8 ∣ (k0_mult3 v22).toNat) ∧
  (∀ a, (k0_off3 v22) a + S1024.size a ≤ S3200000.size a)
theorem k0_mult1_dvd : ∀ (v22 : BitVec 32) (k0_hw1 : k0_chk1 v22), 8 ∣ (k0_mult1 v22).toNat := fun v22 k0_hw1 => k0_hw1.1
theorem k0_mult3_dvd : ∀ (v22 : BitVec 32) (k0_hw1 : k0_chk1 v22), 8 ∣ (k0_mult3 v22).toNat := fun v22 k0_hw1 => k0_hw1.2.1
theorem k0_off3_inb : ∀ (v22 : BitVec 32) (k0_hw1 : k0_chk1 v22), ∀ a, (k0_off3 v22) a + S1024.size a ≤ S3200000.size a := fun v22 k0_hw1 => k0_hw1.2.2

def k0_off4 (v25 : BitVec 32) : Fin 1 → Nat :=
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let c0_i32_51 : BitVec 32 := 0#32
  let v103 : BitVec 32 := Scalar.addi v40 c0_i32_51
  let c3198976_i32_52 : BitVec 32 := 3198976#32
  let v104 : BitVec 32 := Scalar.minsi v103 c3198976_i32_52
  let v105 : BitVec 32 := v104
  ![v105.toNat]

def k0_chk2 (v25 : BitVec 32) : Prop :=
  (8 ∣ (k0_mult2 v25).toNat) ∧
  (8 ∣ (k0_mult4 v25).toNat) ∧
  (∀ a, (k0_off4 v25) a + S1024.size a ≤ S3200000.size a)
theorem k0_mult2_dvd : ∀ (v25 : BitVec 32) (k0_hw2 : k0_chk2 v25), 8 ∣ (k0_mult2 v25).toNat := fun v25 k0_hw2 => k0_hw2.1
theorem k0_mult4_dvd : ∀ (v25 : BitVec 32) (k0_hw2 : k0_chk2 v25), 8 ∣ (k0_mult4 v25).toNat := fun v25 k0_hw2 => k0_hw2.2.1
theorem k0_off4_inb : ∀ (v25 : BitVec 32) (k0_hw2 : k0_chk2 v25), ∀ a, (k0_off4 v25) a + S1024.size a ≤ S3200000.size a := fun v25 k0_hw2 => k0_hw2.2.2

@[reducible] def k0_t3_loop (v22 : BitVec 32) (v25 : BitVec 32) (v28 : BitVec 32) : Scf.Loop 32 :=
  let c0_i32_70 : BitVec 32 := 0#32
  let c1024_i32_18 : BitVec 32 := 1024#32
  let v32 : BitVec 32 := Scalar.muli v25 c1024_i32_18
  let c3200000_i32 : BitVec 32 := 3200000#32
  let v33 : BitVec 32 := Scalar.minsi v32 c3200000_i32
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let v41 : BitVec 32 := Scalar.subi v33 v39
  let c1024_i32_24 : BitVec 32 := 1024#32
  let v42 : BitVec 32 := Scalar.addi v41 c1024_i32_24
  let c1_i32_25 : BitVec 32 := 1#32
  let v43 : BitVec 32 := Scalar.subi v42 c1_i32_25
  let c0_i32_27 : BitVec 32 := 0#32
  let v45 : BitVec 1 := Scalar.cmpi .sgt v43 c0_i32_27
  let v46 : BitVec 32 := Scalar.extui v45
  let c0_i32_28 : BitVec 32 := 0#32
  let v47 : BitVec 1 := Scalar.cmpi .slt v43 c0_i32_28
  let v48 : BitVec 32 := Scalar.extui v47
  let v49 : BitVec 32 := Scalar.subi v46 v48
  let c1024_i32_26 : BitVec 32 := 1024#32
  let c0_i32_29 : BitVec 32 := 0#32
  let v50 : BitVec 1 := Scalar.cmpi .sgt c1024_i32_26 c0_i32_29
  let v51 : BitVec 32 := Scalar.extui v50
  let c0_i32_30 : BitVec 32 := 0#32
  let v52 : BitVec 1 := Scalar.cmpi .slt c1024_i32_26 c0_i32_30
  let v53 : BitVec 32 := Scalar.extui v52
  let v54 : BitVec 32 := Scalar.subi v51 v53
  let v55 : BitVec 1 := Scalar.cmpi .ne v49 v54
  let v56 : BitVec 32 := Scalar.remsi v43 c1024_i32_26
  let c0_i32_31 : BitVec 32 := 0#32
  let v57 : BitVec 1 := Scalar.cmpi .ne v56 c0_i32_31
  let v58 : BitVec 1 := Scalar.andi v55 v57
  let v44 : BitVec 32 := Scalar.divsi v43 c1024_i32_26
  let c1_i32_32 : BitVec 32 := 1#32
  let v59 : BitVec 32 := Scalar.subi v44 c1_i32_32
  let v60 : BitVec 32 := Scalar.select v58 v59 v44
  let c1024_i32_22 : BitVec 32 := 1024#32
  let v37 : BitVec 32 := Scalar.muli v28 c1024_i32_22
  let c3200000_i32_23 : BitVec 32 := 3200000#32
  let v38 : BitVec 32 := Scalar.minsi v37 c3200000_i32_23
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let v61 : BitVec 32 := Scalar.subi v38 v40
  let c1024_i32_33 : BitVec 32 := 1024#32
  let v62 : BitVec 32 := Scalar.addi v61 c1024_i32_33
  let c1_i32_34 : BitVec 32 := 1#32
  let v63 : BitVec 32 := Scalar.subi v62 c1_i32_34
  let c0_i32_36 : BitVec 32 := 0#32
  let v65 : BitVec 1 := Scalar.cmpi .sgt v63 c0_i32_36
  let v66 : BitVec 32 := Scalar.extui v65
  let c0_i32_37 : BitVec 32 := 0#32
  let v67 : BitVec 1 := Scalar.cmpi .slt v63 c0_i32_37
  let v68 : BitVec 32 := Scalar.extui v67
  let v69 : BitVec 32 := Scalar.subi v66 v68
  let c1024_i32_35 : BitVec 32 := 1024#32
  let c0_i32_38 : BitVec 32 := 0#32
  let v70 : BitVec 1 := Scalar.cmpi .sgt c1024_i32_35 c0_i32_38
  let v71 : BitVec 32 := Scalar.extui v70
  let c0_i32_39 : BitVec 32 := 0#32
  let v72 : BitVec 1 := Scalar.cmpi .slt c1024_i32_35 c0_i32_39
  let v73 : BitVec 32 := Scalar.extui v72
  let v74 : BitVec 32 := Scalar.subi v71 v73
  let v75 : BitVec 1 := Scalar.cmpi .ne v69 v74
  let v76 : BitVec 32 := Scalar.remsi v63 c1024_i32_35
  let c0_i32_40 : BitVec 32 := 0#32
  let v77 : BitVec 1 := Scalar.cmpi .ne v76 c0_i32_40
  let v78 : BitVec 1 := Scalar.andi v75 v77
  let v64 : BitVec 32 := Scalar.divsi v63 c1024_i32_35
  let c1_i32_41 : BitVec 32 := 1#32
  let v79 : BitVec 32 := Scalar.subi v64 c1_i32_41
  let v80 : BitVec 32 := Scalar.select v78 v79 v64
  let v81 : BitVec 32 := Scalar.maxsi v60 v80
  let c1_i32_42 : BitVec 32 := 1#32
  let v82 : BitVec 32 := Scalar.addi v81 c1_i32_42
  let c0_i32_44 : BitVec 32 := 0#32
  let v84 : BitVec 1 := Scalar.cmpi .sgt v82 c0_i32_44
  let v85 : BitVec 32 := Scalar.extui v84
  let c0_i32_45 : BitVec 32 := 0#32
  let v86 : BitVec 1 := Scalar.cmpi .slt v82 c0_i32_45
  let v87 : BitVec 32 := Scalar.extui v86
  let v88 : BitVec 32 := Scalar.subi v85 v87
  let c2_i32_43 : BitVec 32 := 2#32
  let c0_i32_46 : BitVec 32 := 0#32
  let v89 : BitVec 1 := Scalar.cmpi .sgt c2_i32_43 c0_i32_46
  let v90 : BitVec 32 := Scalar.extui v89
  let c0_i32_47 : BitVec 32 := 0#32
  let v91 : BitVec 1 := Scalar.cmpi .slt c2_i32_43 c0_i32_47
  let v92 : BitVec 32 := Scalar.extui v91
  let v93 : BitVec 32 := Scalar.subi v90 v92
  let v94 : BitVec 1 := Scalar.cmpi .ne v88 v93
  let v95 : BitVec 32 := Scalar.remsi v82 c2_i32_43
  let c0_i32_48 : BitVec 32 := 0#32
  let v96 : BitVec 1 := Scalar.cmpi .ne v95 c0_i32_48
  let v97 : BitVec 1 := Scalar.andi v94 v96
  let v83 : BitVec 32 := Scalar.divsi v82 c2_i32_43
  let c1_i32_49 : BitVec 32 := 1#32
  let v98 : BitVec 32 := Scalar.subi v83 c1_i32_49
  let v99 : BitVec 32 := Scalar.select v97 v98 v83
  let v138 : BitVec 32 := Scalar.subi v99 c0_i32_70
  let c1_i32_71 : BitVec 32 := 1#32
  let v140 : BitVec 32 := Scalar.divsi v138 c1_i32_71
  let v141 : BitVec 32 := Scalar.muli v140 c1_i32_71
  let v142 : BitVec 32 := Scalar.addi c0_i32_70 v141
  let c1_i32_72 : BitVec 32 := 1#32
  ⟨c0_i32_70, v142, c1_i32_72⟩

def k0_mult5 (v22 : BitVec 32) (v25 : BitVec 32) (v28 : BitVec 32) (k0_t3 : Fin (k0_t3_loop v22 v25 v28).trips) : BitVec 32 :=
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let c2_i32_112 : BitVec 32 := 2#32
  let c0_i32_70 : BitVec 32 := 0#32
  let c1_i32_72 : BitVec 32 := 1#32
  let arg33 : BitVec 32 := Scf.iv c0_i32_70 c1_i32_72 k0_t3
  let v180 : BitVec 32 := Scalar.muli c2_i32_112 arg33
  let c1_i32_113 : BitVec 32 := 1#32
  let v181 : BitVec 32 := Scalar.addi v180 c1_i32_113
  let c1024_i32_114 : BitVec 32 := 1024#32
  let v182 : BitVec 32 := Scalar.muli v181 c1024_i32_114
  let v183 : BitVec 32 := Scalar.addi v39 v182
  let c3198976_i32_115 : BitVec 32 := 3198976#32
  let v184 : BitVec 32 := Scalar.minsi v183 c3198976_i32_115
  v184
def k0_mult6 (v22 : BitVec 32) (v25 : BitVec 32) (v28 : BitVec 32) (k0_t3 : Fin (k0_t3_loop v22 v25 v28).trips) : BitVec 32 :=
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let c2_i32_112 : BitVec 32 := 2#32
  let c0_i32_70 : BitVec 32 := 0#32
  let c1_i32_72 : BitVec 32 := 1#32
  let arg33 : BitVec 32 := Scf.iv c0_i32_70 c1_i32_72 k0_t3
  let v180 : BitVec 32 := Scalar.muli c2_i32_112 arg33
  let c1_i32_113 : BitVec 32 := 1#32
  let v181 : BitVec 32 := Scalar.addi v180 c1_i32_113
  let c1024_i32_116 : BitVec 32 := 1024#32
  let v186 : BitVec 32 := Scalar.muli v181 c1024_i32_116
  let v187 : BitVec 32 := Scalar.addi v40 v186
  let c3198976_i32_117 : BitVec 32 := 3198976#32
  let v188 : BitVec 32 := Scalar.minsi v187 c3198976_i32_117
  v188
def k0_off5 (v22 : BitVec 32) (v25 : BitVec 32) (v28 : BitVec 32) (k0_t3 : Fin (k0_t3_loop v22 v25 v28).trips) (c1_i32_113 : BitVec 32) : Fin 1 → Nat :=
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let c2_i32_112 : BitVec 32 := 2#32
  let c0_i32_70 : BitVec 32 := 0#32
  let c1_i32_72 : BitVec 32 := 1#32
  let arg33 : BitVec 32 := Scf.iv c0_i32_70 c1_i32_72 k0_t3
  let v180 : BitVec 32 := Scalar.muli c2_i32_112 arg33
  let v181 : BitVec 32 := Scalar.addi v180 c1_i32_113
  let c1024_i32_114 : BitVec 32 := 1024#32
  let v182 : BitVec 32 := Scalar.muli v181 c1024_i32_114
  let v183 : BitVec 32 := Scalar.addi v39 v182
  let c3198976_i32_115 : BitVec 32 := 3198976#32
  let v184 : BitVec 32 := Scalar.minsi v183 c3198976_i32_115
  let v185 : BitVec 32 := v184
  ![v185.toNat]
def k0_off6 (v22 : BitVec 32) (v25 : BitVec 32) (v28 : BitVec 32) (k0_t3 : Fin (k0_t3_loop v22 v25 v28).trips) (c1_i32_113 : BitVec 32) : Fin 1 → Nat :=
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let c2_i32_112 : BitVec 32 := 2#32
  let c0_i32_70 : BitVec 32 := 0#32
  let c1_i32_72 : BitVec 32 := 1#32
  let arg33 : BitVec 32 := Scf.iv c0_i32_70 c1_i32_72 k0_t3
  let v180 : BitVec 32 := Scalar.muli c2_i32_112 arg33
  let v181 : BitVec 32 := Scalar.addi v180 c1_i32_113
  let c1024_i32_116 : BitVec 32 := 1024#32
  let v186 : BitVec 32 := Scalar.muli v181 c1024_i32_116
  let v187 : BitVec 32 := Scalar.addi v40 v186
  let c3198976_i32_117 : BitVec 32 := 3198976#32
  let v188 : BitVec 32 := Scalar.minsi v187 c3198976_i32_117
  let v189 : BitVec 32 := v188
  ![v189.toNat]
@[reducible] def k0_t4_loop : Scf.Loop 32 :=
  let c0_i32_167 : BitVec 32 := 0#32
  let c64_i32 : BitVec 32 := 64#32
  let v254 : BitVec 32 := Scalar.addi c0_i32_167 c64_i32
  let c1_i32_168 : BitVec 32 := 1#32
  ⟨c0_i32_167, v254, c1_i32_168⟩
def k0_off7 (k0_t4 : Fin k0_t4_loop.trips) : Fin 1 → Nat :=
  let c0_i32_167 : BitVec 32 := 0#32
  let c1_i32_168 : BitVec 32 := 1#32
  let arg34 : BitVec 32 := Scf.iv c0_i32_167 c1_i32_168 k0_t4
  let c16_i32_228 : BitVec 32 := 16#32
  let v329 : BitVec 32 := Scalar.muli arg34 c16_i32_228
  let v330 : Index := Scalar.indexCast v329
  ![v330.toNat]

def k0_chk4 (v386 : IVec S16 32) : Prop :=
  (∀ a x, ((![v386] : Fin 1 → IVec S16 32) a x).toNat < S25088.size a) ∧
  (∀ a x, ((![v386] : Fin 1 → IVec S16 32) a x).toNat < S25088.size a)
theorem k0_idx1_inb : ∀ (v386 : IVec S16 32) (k0_hw4 : k0_chk4 v386), ∀ a x, ((![v386] : Fin 1 → IVec S16 32) a x).toNat < S25088.size a := fun v386 k0_hw4 => k0_hw4.1
theorem k0_idx2_inb : ∀ (v386 : IVec S16 32) (k0_hw4 : k0_chk4 v386), ∀ a x, ((![v386] : Fin 1 → IVec S16 32) a x).toNat < S25088.size a := fun v386 k0_hw4 => k0_hw4.2

def k0_chk5 (v405 : IVec S16 32) : Prop :=
  (∀ a x, ((![v405] : Fin 1 → IVec S16 32) a x).toNat < S25088.size a) ∧
  (∀ a x, ((![v405] : Fin 1 → IVec S16 32) a x).toNat < S25088.size a)
theorem k0_idx3_inb : ∀ (v405 : IVec S16 32) (k0_hw5 : k0_chk5 v405), ∀ a x, ((![v405] : Fin 1 → IVec S16 32) a x).toNat < S25088.size a := fun v405 k0_hw5 => k0_hw5.1
theorem k0_idx4_inb : ∀ (v405 : IVec S16 32) (k0_hw5 : k0_chk5 v405), ∀ a x, ((![v405] : Fin 1 → IVec S16 32) a x).toNat < S25088.size a := fun v405 k0_hw5 => k0_hw5.2

def k0_chk6 (v424 : IVec S16 32) : Prop :=
  (∀ a x, ((![v424] : Fin 1 → IVec S16 32) a x).toNat < S25088.size a) ∧
  (∀ a x, ((![v424] : Fin 1 → IVec S16 32) a x).toNat < S25088.size a)
theorem k0_idx5_inb : ∀ (v424 : IVec S16 32) (k0_hw6 : k0_chk6 v424), ∀ a x, ((![v424] : Fin 1 → IVec S16 32) a x).toNat < S25088.size a := fun v424 k0_hw6 => k0_hw6.1
theorem k0_idx6_inb : ∀ (v424 : IVec S16 32) (k0_hw6 : k0_chk6 v424), ∀ a x, ((![v424] : Fin 1 → IVec S16 32) a x).toNat < S25088.size a := fun v424 k0_hw6 => k0_hw6.2

def k0_chk7 (v443 : IVec S16 32) : Prop :=
  (∀ a x, ((![v443] : Fin 1 → IVec S16 32) a x).toNat < S25088.size a) ∧
  (∀ a x, ((![v443] : Fin 1 → IVec S16 32) a x).toNat < S25088.size a)
theorem k0_idx7_inb : ∀ (v443 : IVec S16 32) (k0_hw7 : k0_chk7 v443), ∀ a x, ((![v443] : Fin 1 → IVec S16 32) a x).toNat < S25088.size a := fun v443 k0_hw7 => k0_hw7.1
theorem k0_idx8_inb : ∀ (v443 : IVec S16 32) (k0_hw7 : k0_chk7 v443), ∀ a x, ((![v443] : Fin 1 → IVec S16 32) a x).toNat < S25088.size a := fun v443 k0_hw7 => k0_hw7.2

def k0_chk8 (v462 : IVec S16 32) : Prop :=
  (∀ a x, ((![v462] : Fin 1 → IVec S16 32) a x).toNat < S25088.size a) ∧
  (∀ a x, ((![v462] : Fin 1 → IVec S16 32) a x).toNat < S25088.size a)
theorem k0_idx9_inb : ∀ (v462 : IVec S16 32) (k0_hw8 : k0_chk8 v462), ∀ a x, ((![v462] : Fin 1 → IVec S16 32) a x).toNat < S25088.size a := fun v462 k0_hw8 => k0_hw8.1
theorem k0_idx10_inb : ∀ (v462 : IVec S16 32) (k0_hw8 : k0_chk8 v462), ∀ a x, ((![v462] : Fin 1 → IVec S16 32) a x).toNat < S25088.size a := fun v462 k0_hw8 => k0_hw8.2

def k0_chk9 (v481 : IVec S16 32) : Prop :=
  (∀ a x, ((![v481] : Fin 1 → IVec S16 32) a x).toNat < S25088.size a) ∧
  (∀ a x, ((![v481] : Fin 1 → IVec S16 32) a x).toNat < S25088.size a)
theorem k0_idx11_inb : ∀ (v481 : IVec S16 32) (k0_hw9 : k0_chk9 v481), ∀ a x, ((![v481] : Fin 1 → IVec S16 32) a x).toNat < S25088.size a := fun v481 k0_hw9 => k0_hw9.1
theorem k0_idx12_inb : ∀ (v481 : IVec S16 32) (k0_hw9 : k0_chk9 v481), ∀ a x, ((![v481] : Fin 1 → IVec S16 32) a x).toNat < S25088.size a := fun v481 k0_hw9 => k0_hw9.2

def k0_chk10 (v500 : IVec S16 32) : Prop :=
  (∀ a x, ((![v500] : Fin 1 → IVec S16 32) a x).toNat < S25088.size a) ∧
  (∀ a x, ((![v500] : Fin 1 → IVec S16 32) a x).toNat < S25088.size a)
theorem k0_idx13_inb : ∀ (v500 : IVec S16 32) (k0_hw10 : k0_chk10 v500), ∀ a x, ((![v500] : Fin 1 → IVec S16 32) a x).toNat < S25088.size a := fun v500 k0_hw10 => k0_hw10.1
theorem k0_idx14_inb : ∀ (v500 : IVec S16 32) (k0_hw10 : k0_chk10 v500), ∀ a x, ((![v500] : Fin 1 → IVec S16 32) a x).toNat < S25088.size a := fun v500 k0_hw10 => k0_hw10.2

def k0_chk11 (v519 : IVec S16 32) : Prop :=
  (∀ a x, ((![v519] : Fin 1 → IVec S16 32) a x).toNat < S25088.size a) ∧
  (∀ a x, ((![v519] : Fin 1 → IVec S16 32) a x).toNat < S25088.size a)
theorem k0_idx15_inb : ∀ (v519 : IVec S16 32) (k0_hw11 : k0_chk11 v519), ∀ a x, ((![v519] : Fin 1 → IVec S16 32) a x).toNat < S25088.size a := fun v519 k0_hw11 => k0_hw11.1
theorem k0_idx16_inb : ∀ (v519 : IVec S16 32) (k0_hw11 : k0_chk11 v519), ∀ a x, ((![v519] : Fin 1 → IVec S16 32) a x).toNat < S25088.size a := fun v519 k0_hw11 => k0_hw11.2

def k0_chk12 (v538 : IVec S16 32) : Prop :=
  (∀ a x, ((![v538] : Fin 1 → IVec S16 32) a x).toNat < S25088.size a) ∧
  (∀ a x, ((![v538] : Fin 1 → IVec S16 32) a x).toNat < S25088.size a)
theorem k0_idx17_inb : ∀ (v538 : IVec S16 32) (k0_hw12 : k0_chk12 v538), ∀ a x, ((![v538] : Fin 1 → IVec S16 32) a x).toNat < S25088.size a := fun v538 k0_hw12 => k0_hw12.1
theorem k0_idx18_inb : ∀ (v538 : IVec S16 32) (k0_hw12 : k0_chk12 v538), ∀ a x, ((![v538] : Fin 1 → IVec S16 32) a x).toNat < S25088.size a := fun v538 k0_hw12 => k0_hw12.2

def k0_chk13 (v557 : IVec S16 32) : Prop :=
  (∀ a x, ((![v557] : Fin 1 → IVec S16 32) a x).toNat < S25088.size a) ∧
  (∀ a x, ((![v557] : Fin 1 → IVec S16 32) a x).toNat < S25088.size a)
theorem k0_idx19_inb : ∀ (v557 : IVec S16 32) (k0_hw13 : k0_chk13 v557), ∀ a x, ((![v557] : Fin 1 → IVec S16 32) a x).toNat < S25088.size a := fun v557 k0_hw13 => k0_hw13.1
theorem k0_idx20_inb : ∀ (v557 : IVec S16 32) (k0_hw13 : k0_chk13 v557), ∀ a x, ((![v557] : Fin 1 → IVec S16 32) a x).toNat < S25088.size a := fun v557 k0_hw13 => k0_hw13.2

def k0_chk14 (v576 : IVec S16 32) : Prop :=
  (∀ a x, ((![v576] : Fin 1 → IVec S16 32) a x).toNat < S25088.size a) ∧
  (∀ a x, ((![v576] : Fin 1 → IVec S16 32) a x).toNat < S25088.size a)
theorem k0_idx21_inb : ∀ (v576 : IVec S16 32) (k0_hw14 : k0_chk14 v576), ∀ a x, ((![v576] : Fin 1 → IVec S16 32) a x).toNat < S25088.size a := fun v576 k0_hw14 => k0_hw14.1
theorem k0_idx22_inb : ∀ (v576 : IVec S16 32) (k0_hw14 : k0_chk14 v576), ∀ a x, ((![v576] : Fin 1 → IVec S16 32) a x).toNat < S25088.size a := fun v576 k0_hw14 => k0_hw14.2

def k0_chk15 (v595 : IVec S16 32) : Prop :=
  (∀ a x, ((![v595] : Fin 1 → IVec S16 32) a x).toNat < S25088.size a) ∧
  (∀ a x, ((![v595] : Fin 1 → IVec S16 32) a x).toNat < S25088.size a)
theorem k0_idx23_inb : ∀ (v595 : IVec S16 32) (k0_hw15 : k0_chk15 v595), ∀ a x, ((![v595] : Fin 1 → IVec S16 32) a x).toNat < S25088.size a := fun v595 k0_hw15 => k0_hw15.1
theorem k0_idx24_inb : ∀ (v595 : IVec S16 32) (k0_hw15 : k0_chk15 v595), ∀ a x, ((![v595] : Fin 1 → IVec S16 32) a x).toNat < S25088.size a := fun v595 k0_hw15 => k0_hw15.2

def k0_chk16 (v614 : IVec S16 32) : Prop :=
  (∀ a x, ((![v614] : Fin 1 → IVec S16 32) a x).toNat < S25088.size a) ∧
  (∀ a x, ((![v614] : Fin 1 → IVec S16 32) a x).toNat < S25088.size a)
theorem k0_idx25_inb : ∀ (v614 : IVec S16 32) (k0_hw16 : k0_chk16 v614), ∀ a x, ((![v614] : Fin 1 → IVec S16 32) a x).toNat < S25088.size a := fun v614 k0_hw16 => k0_hw16.1
theorem k0_idx26_inb : ∀ (v614 : IVec S16 32) (k0_hw16 : k0_chk16 v614), ∀ a x, ((![v614] : Fin 1 → IVec S16 32) a x).toNat < S25088.size a := fun v614 k0_hw16 => k0_hw16.2

def k0_chk17 (v633 : IVec S16 32) : Prop :=
  (∀ a x, ((![v633] : Fin 1 → IVec S16 32) a x).toNat < S25088.size a) ∧
  (∀ a x, ((![v633] : Fin 1 → IVec S16 32) a x).toNat < S25088.size a)
theorem k0_idx27_inb : ∀ (v633 : IVec S16 32) (k0_hw17 : k0_chk17 v633), ∀ a x, ((![v633] : Fin 1 → IVec S16 32) a x).toNat < S25088.size a := fun v633 k0_hw17 => k0_hw17.1
theorem k0_idx28_inb : ∀ (v633 : IVec S16 32) (k0_hw17 : k0_chk17 v633), ∀ a x, ((![v633] : Fin 1 → IVec S16 32) a x).toNat < S25088.size a := fun v633 k0_hw17 => k0_hw17.2

def k0_chk18 (v652 : IVec S16 32) : Prop :=
  (∀ a x, ((![v652] : Fin 1 → IVec S16 32) a x).toNat < S25088.size a) ∧
  (∀ a x, ((![v652] : Fin 1 → IVec S16 32) a x).toNat < S25088.size a)
theorem k0_idx29_inb : ∀ (v652 : IVec S16 32) (k0_hw18 : k0_chk18 v652), ∀ a x, ((![v652] : Fin 1 → IVec S16 32) a x).toNat < S25088.size a := fun v652 k0_hw18 => k0_hw18.1
theorem k0_idx30_inb : ∀ (v652 : IVec S16 32) (k0_hw18 : k0_chk18 v652), ∀ a x, ((![v652] : Fin 1 → IVec S16 32) a x).toNat < S25088.size a := fun v652 k0_hw18 => k0_hw18.2

def k0_chk19 (v671 : IVec S16 32) : Prop :=
  (∀ a x, ((![v671] : Fin 1 → IVec S16 32) a x).toNat < S25088.size a) ∧
  (∀ a x, ((![v671] : Fin 1 → IVec S16 32) a x).toNat < S25088.size a)
theorem k0_idx31_inb : ∀ (v671 : IVec S16 32) (k0_hw19 : k0_chk19 v671), ∀ a x, ((![v671] : Fin 1 → IVec S16 32) a x).toNat < S25088.size a := fun v671 k0_hw19 => k0_hw19.1
theorem k0_idx32_inb : ∀ (v671 : IVec S16 32) (k0_hw19 : k0_chk19 v671), ∀ a x, ((![v671] : Fin 1 → IVec S16 32) a x).toNat < S25088.size a := fun v671 k0_hw19 => k0_hw19.2

def k0_chk20 (v722 : IVec S16 32) : Prop :=
  (∀ a x, ((![v722] : Fin 1 → IVec S16 32) a x).toNat < S25088.size a) ∧
  (∀ a x, ((![v722] : Fin 1 → IVec S16 32) a x).toNat < S25088.size a)
theorem k0_idx33_inb : ∀ (v722 : IVec S16 32) (k0_hw20 : k0_chk20 v722), ∀ a x, ((![v722] : Fin 1 → IVec S16 32) a x).toNat < S25088.size a := fun v722 k0_hw20 => k0_hw20.1
theorem k0_idx34_inb : ∀ (v722 : IVec S16 32) (k0_hw20 : k0_chk20 v722), ∀ a x, ((![v722] : Fin 1 → IVec S16 32) a x).toNat < S25088.size a := fun v722 k0_hw20 => k0_hw20.2

def k0_chk21 (v741 : IVec S16 32) : Prop :=
  (∀ a x, ((![v741] : Fin 1 → IVec S16 32) a x).toNat < S25088.size a) ∧
  (∀ a x, ((![v741] : Fin 1 → IVec S16 32) a x).toNat < S25088.size a)
theorem k0_idx35_inb : ∀ (v741 : IVec S16 32) (k0_hw21 : k0_chk21 v741), ∀ a x, ((![v741] : Fin 1 → IVec S16 32) a x).toNat < S25088.size a := fun v741 k0_hw21 => k0_hw21.1
theorem k0_idx36_inb : ∀ (v741 : IVec S16 32) (k0_hw21 : k0_chk21 v741), ∀ a x, ((![v741] : Fin 1 → IVec S16 32) a x).toNat < S25088.size a := fun v741 k0_hw21 => k0_hw21.2

def k0_chk22 (v760 : IVec S16 32) : Prop :=
  (∀ a x, ((![v760] : Fin 1 → IVec S16 32) a x).toNat < S25088.size a) ∧
  (∀ a x, ((![v760] : Fin 1 → IVec S16 32) a x).toNat < S25088.size a)
theorem k0_idx37_inb : ∀ (v760 : IVec S16 32) (k0_hw22 : k0_chk22 v760), ∀ a x, ((![v760] : Fin 1 → IVec S16 32) a x).toNat < S25088.size a := fun v760 k0_hw22 => k0_hw22.1
theorem k0_idx38_inb : ∀ (v760 : IVec S16 32) (k0_hw22 : k0_chk22 v760), ∀ a x, ((![v760] : Fin 1 → IVec S16 32) a x).toNat < S25088.size a := fun v760 k0_hw22 => k0_hw22.2

def k0_chk23 (v779 : IVec S16 32) : Prop :=
  (∀ a x, ((![v779] : Fin 1 → IVec S16 32) a x).toNat < S25088.size a) ∧
  (∀ a x, ((![v779] : Fin 1 → IVec S16 32) a x).toNat < S25088.size a)
theorem k0_idx39_inb : ∀ (v779 : IVec S16 32) (k0_hw23 : k0_chk23 v779), ∀ a x, ((![v779] : Fin 1 → IVec S16 32) a x).toNat < S25088.size a := fun v779 k0_hw23 => k0_hw23.1
theorem k0_idx40_inb : ∀ (v779 : IVec S16 32) (k0_hw23 : k0_chk23 v779), ∀ a x, ((![v779] : Fin 1 → IVec S16 32) a x).toNat < S25088.size a := fun v779 k0_hw23 => k0_hw23.2

def k0_chk24 (v798 : IVec S16 32) : Prop :=
  (∀ a x, ((![v798] : Fin 1 → IVec S16 32) a x).toNat < S25088.size a) ∧
  (∀ a x, ((![v798] : Fin 1 → IVec S16 32) a x).toNat < S25088.size a)
theorem k0_idx41_inb : ∀ (v798 : IVec S16 32) (k0_hw24 : k0_chk24 v798), ∀ a x, ((![v798] : Fin 1 → IVec S16 32) a x).toNat < S25088.size a := fun v798 k0_hw24 => k0_hw24.1
theorem k0_idx42_inb : ∀ (v798 : IVec S16 32) (k0_hw24 : k0_chk24 v798), ∀ a x, ((![v798] : Fin 1 → IVec S16 32) a x).toNat < S25088.size a := fun v798 k0_hw24 => k0_hw24.2

def k0_chk25 (v817 : IVec S16 32) : Prop :=
  (∀ a x, ((![v817] : Fin 1 → IVec S16 32) a x).toNat < S25088.size a) ∧
  (∀ a x, ((![v817] : Fin 1 → IVec S16 32) a x).toNat < S25088.size a)
theorem k0_idx43_inb : ∀ (v817 : IVec S16 32) (k0_hw25 : k0_chk25 v817), ∀ a x, ((![v817] : Fin 1 → IVec S16 32) a x).toNat < S25088.size a := fun v817 k0_hw25 => k0_hw25.1
theorem k0_idx44_inb : ∀ (v817 : IVec S16 32) (k0_hw25 : k0_chk25 v817), ∀ a x, ((![v817] : Fin 1 → IVec S16 32) a x).toNat < S25088.size a := fun v817 k0_hw25 => k0_hw25.2

def k0_chk26 (v836 : IVec S16 32) : Prop :=
  (∀ a x, ((![v836] : Fin 1 → IVec S16 32) a x).toNat < S25088.size a) ∧
  (∀ a x, ((![v836] : Fin 1 → IVec S16 32) a x).toNat < S25088.size a)
theorem k0_idx45_inb : ∀ (v836 : IVec S16 32) (k0_hw26 : k0_chk26 v836), ∀ a x, ((![v836] : Fin 1 → IVec S16 32) a x).toNat < S25088.size a := fun v836 k0_hw26 => k0_hw26.1
theorem k0_idx46_inb : ∀ (v836 : IVec S16 32) (k0_hw26 : k0_chk26 v836), ∀ a x, ((![v836] : Fin 1 → IVec S16 32) a x).toNat < S25088.size a := fun v836 k0_hw26 => k0_hw26.2

def k0_chk27 (v855 : IVec S16 32) : Prop :=
  (∀ a x, ((![v855] : Fin 1 → IVec S16 32) a x).toNat < S25088.size a) ∧
  (∀ a x, ((![v855] : Fin 1 → IVec S16 32) a x).toNat < S25088.size a)
theorem k0_idx47_inb : ∀ (v855 : IVec S16 32) (k0_hw27 : k0_chk27 v855), ∀ a x, ((![v855] : Fin 1 → IVec S16 32) a x).toNat < S25088.size a := fun v855 k0_hw27 => k0_hw27.1
theorem k0_idx48_inb : ∀ (v855 : IVec S16 32) (k0_hw27 : k0_chk27 v855), ∀ a x, ((![v855] : Fin 1 → IVec S16 32) a x).toNat < S25088.size a := fun v855 k0_hw27 => k0_hw27.2

def k0_chk28 (v874 : IVec S16 32) : Prop :=
  (∀ a x, ((![v874] : Fin 1 → IVec S16 32) a x).toNat < S25088.size a) ∧
  (∀ a x, ((![v874] : Fin 1 → IVec S16 32) a x).toNat < S25088.size a)
theorem k0_idx49_inb : ∀ (v874 : IVec S16 32) (k0_hw28 : k0_chk28 v874), ∀ a x, ((![v874] : Fin 1 → IVec S16 32) a x).toNat < S25088.size a := fun v874 k0_hw28 => k0_hw28.1
theorem k0_idx50_inb : ∀ (v874 : IVec S16 32) (k0_hw28 : k0_chk28 v874), ∀ a x, ((![v874] : Fin 1 → IVec S16 32) a x).toNat < S25088.size a := fun v874 k0_hw28 => k0_hw28.2

def k0_chk29 (v893 : IVec S16 32) : Prop :=
  (∀ a x, ((![v893] : Fin 1 → IVec S16 32) a x).toNat < S25088.size a) ∧
  (∀ a x, ((![v893] : Fin 1 → IVec S16 32) a x).toNat < S25088.size a)
theorem k0_idx51_inb : ∀ (v893 : IVec S16 32) (k0_hw29 : k0_chk29 v893), ∀ a x, ((![v893] : Fin 1 → IVec S16 32) a x).toNat < S25088.size a := fun v893 k0_hw29 => k0_hw29.1
theorem k0_idx52_inb : ∀ (v893 : IVec S16 32) (k0_hw29 : k0_chk29 v893), ∀ a x, ((![v893] : Fin 1 → IVec S16 32) a x).toNat < S25088.size a := fun v893 k0_hw29 => k0_hw29.2

def k0_chk30 (v912 : IVec S16 32) : Prop :=
  (∀ a x, ((![v912] : Fin 1 → IVec S16 32) a x).toNat < S25088.size a) ∧
  (∀ a x, ((![v912] : Fin 1 → IVec S16 32) a x).toNat < S25088.size a)
theorem k0_idx53_inb : ∀ (v912 : IVec S16 32) (k0_hw30 : k0_chk30 v912), ∀ a x, ((![v912] : Fin 1 → IVec S16 32) a x).toNat < S25088.size a := fun v912 k0_hw30 => k0_hw30.1
theorem k0_idx54_inb : ∀ (v912 : IVec S16 32) (k0_hw30 : k0_chk30 v912), ∀ a x, ((![v912] : Fin 1 → IVec S16 32) a x).toNat < S25088.size a := fun v912 k0_hw30 => k0_hw30.2

def k0_chk31 (v931 : IVec S16 32) : Prop :=
  (∀ a x, ((![v931] : Fin 1 → IVec S16 32) a x).toNat < S25088.size a) ∧
  (∀ a x, ((![v931] : Fin 1 → IVec S16 32) a x).toNat < S25088.size a)
theorem k0_idx55_inb : ∀ (v931 : IVec S16 32) (k0_hw31 : k0_chk31 v931), ∀ a x, ((![v931] : Fin 1 → IVec S16 32) a x).toNat < S25088.size a := fun v931 k0_hw31 => k0_hw31.1
theorem k0_idx56_inb : ∀ (v931 : IVec S16 32) (k0_hw31 : k0_chk31 v931), ∀ a x, ((![v931] : Fin 1 → IVec S16 32) a x).toNat < S25088.size a := fun v931 k0_hw31 => k0_hw31.2

def k0_chk32 (v950 : IVec S16 32) : Prop :=
  (∀ a x, ((![v950] : Fin 1 → IVec S16 32) a x).toNat < S25088.size a) ∧
  (∀ a x, ((![v950] : Fin 1 → IVec S16 32) a x).toNat < S25088.size a)
theorem k0_idx57_inb : ∀ (v950 : IVec S16 32) (k0_hw32 : k0_chk32 v950), ∀ a x, ((![v950] : Fin 1 → IVec S16 32) a x).toNat < S25088.size a := fun v950 k0_hw32 => k0_hw32.1
theorem k0_idx58_inb : ∀ (v950 : IVec S16 32) (k0_hw32 : k0_chk32 v950), ∀ a x, ((![v950] : Fin 1 → IVec S16 32) a x).toNat < S25088.size a := fun v950 k0_hw32 => k0_hw32.2

def k0_chk33 (v969 : IVec S16 32) : Prop :=
  (∀ a x, ((![v969] : Fin 1 → IVec S16 32) a x).toNat < S25088.size a) ∧
  (∀ a x, ((![v969] : Fin 1 → IVec S16 32) a x).toNat < S25088.size a)
theorem k0_idx59_inb : ∀ (v969 : IVec S16 32) (k0_hw33 : k0_chk33 v969), ∀ a x, ((![v969] : Fin 1 → IVec S16 32) a x).toNat < S25088.size a := fun v969 k0_hw33 => k0_hw33.1
theorem k0_idx60_inb : ∀ (v969 : IVec S16 32) (k0_hw33 : k0_chk33 v969), ∀ a x, ((![v969] : Fin 1 → IVec S16 32) a x).toNat < S25088.size a := fun v969 k0_hw33 => k0_hw33.2

def k0_chk34 (v988 : IVec S16 32) : Prop :=
  (∀ a x, ((![v988] : Fin 1 → IVec S16 32) a x).toNat < S25088.size a) ∧
  (∀ a x, ((![v988] : Fin 1 → IVec S16 32) a x).toNat < S25088.size a)
theorem k0_idx61_inb : ∀ (v988 : IVec S16 32) (k0_hw34 : k0_chk34 v988), ∀ a x, ((![v988] : Fin 1 → IVec S16 32) a x).toNat < S25088.size a := fun v988 k0_hw34 => k0_hw34.1
theorem k0_idx62_inb : ∀ (v988 : IVec S16 32) (k0_hw34 : k0_chk34 v988), ∀ a x, ((![v988] : Fin 1 → IVec S16 32) a x).toNat < S25088.size a := fun v988 k0_hw34 => k0_hw34.2

def k0_chk35 (v1007 : IVec S16 32) : Prop :=
  (∀ a x, ((![v1007] : Fin 1 → IVec S16 32) a x).toNat < S25088.size a) ∧
  (∀ a x, ((![v1007] : Fin 1 → IVec S16 32) a x).toNat < S25088.size a)
theorem k0_idx63_inb : ∀ (v1007 : IVec S16 32) (k0_hw35 : k0_chk35 v1007), ∀ a x, ((![v1007] : Fin 1 → IVec S16 32) a x).toNat < S25088.size a := fun v1007 k0_hw35 => k0_hw35.1
theorem k0_idx64_inb : ∀ (v1007 : IVec S16 32) (k0_hw35 : k0_chk35 v1007), ∀ a x, ((![v1007] : Fin 1 → IVec S16 32) a x).toNat < S25088.size a := fun v1007 k0_hw35 => k0_hw35.2
def k0_mult7 (v22 : BitVec 32) (v25 : BitVec 32) (v28 : BitVec 32) (k0_t3 : Fin (k0_t3_loop v22 v25 v28).trips) : BitVec 32 :=
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let c2_i32_112 : BitVec 32 := 2#32
  let c0_i32_70 : BitVec 32 := 0#32
  let c1_i32_72 : BitVec 32 := 1#32
  let arg33 : BitVec 32 := Scf.iv c0_i32_70 c1_i32_72 k0_t3
  let v180 : BitVec 32 := Scalar.muli c2_i32_112 arg33
  let c2_i32_170 : BitVec 32 := 2#32
  let v255 : BitVec 32 := Scalar.addi v180 c2_i32_170
  let c1024_i32_171 : BitVec 32 := 1024#32
  let v256 : BitVec 32 := Scalar.muli v255 c1024_i32_171
  let v257 : BitVec 32 := Scalar.addi v39 v256
  let c3198976_i32_172 : BitVec 32 := 3198976#32
  let v258 : BitVec 32 := Scalar.minsi v257 c3198976_i32_172
  v258
def k0_mult8 (v22 : BitVec 32) (v25 : BitVec 32) (v28 : BitVec 32) (k0_t3 : Fin (k0_t3_loop v22 v25 v28).trips) : BitVec 32 :=
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let c2_i32_112 : BitVec 32 := 2#32
  let c0_i32_70 : BitVec 32 := 0#32
  let c1_i32_72 : BitVec 32 := 1#32
  let arg33 : BitVec 32 := Scf.iv c0_i32_70 c1_i32_72 k0_t3
  let v180 : BitVec 32 := Scalar.muli c2_i32_112 arg33
  let c2_i32_170 : BitVec 32 := 2#32
  let v255 : BitVec 32 := Scalar.addi v180 c2_i32_170
  let c1024_i32_173 : BitVec 32 := 1024#32
  let v260 : BitVec 32 := Scalar.muli v255 c1024_i32_173
  let v261 : BitVec 32 := Scalar.addi v40 v260
  let c3198976_i32_174 : BitVec 32 := 3198976#32
  let v262 : BitVec 32 := Scalar.minsi v261 c3198976_i32_174
  v262
@[reducible] def k0_t5_loop : Scf.Loop 32 :=
  let c0_i32_224 : BitVec 32 := 0#32
  let c64_i32_225 : BitVec 32 := 64#32
  let v328 : BitVec 32 := Scalar.addi c0_i32_224 c64_i32_225
  let c1_i32_226 : BitVec 32 := 1#32
  ⟨c0_i32_224, v328, c1_i32_226⟩
def k0_off8 (k0_t5 : Fin k0_t5_loop.trips) : Fin 1 → Nat :=
  let c0_i32_224 : BitVec 32 := 0#32
  let c1_i32_226 : BitVec 32 := 1#32
  let arg34 : BitVec 32 := Scf.iv c0_i32_224 c1_i32_226 k0_t5
  let c16_i32_228 : BitVec 32 := 16#32
  let v329 : BitVec 32 := Scalar.muli arg34 c16_i32_228
  let v330 : Index := Scalar.indexCast v329
  ![v330.toNat]

def k0_chk36 (v386 : IVec S16 32) : Prop :=
  (∀ a x, ((![v386] : Fin 1 → IVec S16 32) a x).toNat < S25088.size a) ∧
  (∀ a x, ((![v386] : Fin 1 → IVec S16 32) a x).toNat < S25088.size a)
theorem k0_idx65_inb : ∀ (v386 : IVec S16 32) (k0_hw36 : k0_chk36 v386), ∀ a x, ((![v386] : Fin 1 → IVec S16 32) a x).toNat < S25088.size a := fun v386 k0_hw36 => k0_hw36.1
theorem k0_idx66_inb : ∀ (v386 : IVec S16 32) (k0_hw36 : k0_chk36 v386), ∀ a x, ((![v386] : Fin 1 → IVec S16 32) a x).toNat < S25088.size a := fun v386 k0_hw36 => k0_hw36.2

def k0_chk37 (v405 : IVec S16 32) : Prop :=
  (∀ a x, ((![v405] : Fin 1 → IVec S16 32) a x).toNat < S25088.size a) ∧
  (∀ a x, ((![v405] : Fin 1 → IVec S16 32) a x).toNat < S25088.size a)
theorem k0_idx67_inb : ∀ (v405 : IVec S16 32) (k0_hw37 : k0_chk37 v405), ∀ a x, ((![v405] : Fin 1 → IVec S16 32) a x).toNat < S25088.size a := fun v405 k0_hw37 => k0_hw37.1
theorem k0_idx68_inb : ∀ (v405 : IVec S16 32) (k0_hw37 : k0_chk37 v405), ∀ a x, ((![v405] : Fin 1 → IVec S16 32) a x).toNat < S25088.size a := fun v405 k0_hw37 => k0_hw37.2

def k0_chk38 (v424 : IVec S16 32) : Prop :=
  (∀ a x, ((![v424] : Fin 1 → IVec S16 32) a x).toNat < S25088.size a) ∧
  (∀ a x, ((![v424] : Fin 1 → IVec S16 32) a x).toNat < S25088.size a)
theorem k0_idx69_inb : ∀ (v424 : IVec S16 32) (k0_hw38 : k0_chk38 v424), ∀ a x, ((![v424] : Fin 1 → IVec S16 32) a x).toNat < S25088.size a := fun v424 k0_hw38 => k0_hw38.1
theorem k0_idx70_inb : ∀ (v424 : IVec S16 32) (k0_hw38 : k0_chk38 v424), ∀ a x, ((![v424] : Fin 1 → IVec S16 32) a x).toNat < S25088.size a := fun v424 k0_hw38 => k0_hw38.2

def k0_chk39 (v443 : IVec S16 32) : Prop :=
  (∀ a x, ((![v443] : Fin 1 → IVec S16 32) a x).toNat < S25088.size a) ∧
  (∀ a x, ((![v443] : Fin 1 → IVec S16 32) a x).toNat < S25088.size a)
theorem k0_idx71_inb : ∀ (v443 : IVec S16 32) (k0_hw39 : k0_chk39 v443), ∀ a x, ((![v443] : Fin 1 → IVec S16 32) a x).toNat < S25088.size a := fun v443 k0_hw39 => k0_hw39.1
theorem k0_idx72_inb : ∀ (v443 : IVec S16 32) (k0_hw39 : k0_chk39 v443), ∀ a x, ((![v443] : Fin 1 → IVec S16 32) a x).toNat < S25088.size a := fun v443 k0_hw39 => k0_hw39.2

def k0_chk40 (v462 : IVec S16 32) : Prop :=
  (∀ a x, ((![v462] : Fin 1 → IVec S16 32) a x).toNat < S25088.size a) ∧
  (∀ a x, ((![v462] : Fin 1 → IVec S16 32) a x).toNat < S25088.size a)
theorem k0_idx73_inb : ∀ (v462 : IVec S16 32) (k0_hw40 : k0_chk40 v462), ∀ a x, ((![v462] : Fin 1 → IVec S16 32) a x).toNat < S25088.size a := fun v462 k0_hw40 => k0_hw40.1
theorem k0_idx74_inb : ∀ (v462 : IVec S16 32) (k0_hw40 : k0_chk40 v462), ∀ a x, ((![v462] : Fin 1 → IVec S16 32) a x).toNat < S25088.size a := fun v462 k0_hw40 => k0_hw40.2

def k0_chk41 (v481 : IVec S16 32) : Prop :=
  (∀ a x, ((![v481] : Fin 1 → IVec S16 32) a x).toNat < S25088.size a) ∧
  (∀ a x, ((![v481] : Fin 1 → IVec S16 32) a x).toNat < S25088.size a)
theorem k0_idx75_inb : ∀ (v481 : IVec S16 32) (k0_hw41 : k0_chk41 v481), ∀ a x, ((![v481] : Fin 1 → IVec S16 32) a x).toNat < S25088.size a := fun v481 k0_hw41 => k0_hw41.1
theorem k0_idx76_inb : ∀ (v481 : IVec S16 32) (k0_hw41 : k0_chk41 v481), ∀ a x, ((![v481] : Fin 1 → IVec S16 32) a x).toNat < S25088.size a := fun v481 k0_hw41 => k0_hw41.2

def k0_chk42 (v500 : IVec S16 32) : Prop :=
  (∀ a x, ((![v500] : Fin 1 → IVec S16 32) a x).toNat < S25088.size a) ∧
  (∀ a x, ((![v500] : Fin 1 → IVec S16 32) a x).toNat < S25088.size a)
theorem k0_idx77_inb : ∀ (v500 : IVec S16 32) (k0_hw42 : k0_chk42 v500), ∀ a x, ((![v500] : Fin 1 → IVec S16 32) a x).toNat < S25088.size a := fun v500 k0_hw42 => k0_hw42.1
theorem k0_idx78_inb : ∀ (v500 : IVec S16 32) (k0_hw42 : k0_chk42 v500), ∀ a x, ((![v500] : Fin 1 → IVec S16 32) a x).toNat < S25088.size a := fun v500 k0_hw42 => k0_hw42.2

def k0_chk43 (v519 : IVec S16 32) : Prop :=
  (∀ a x, ((![v519] : Fin 1 → IVec S16 32) a x).toNat < S25088.size a) ∧
  (∀ a x, ((![v519] : Fin 1 → IVec S16 32) a x).toNat < S25088.size a)
theorem k0_idx79_inb : ∀ (v519 : IVec S16 32) (k0_hw43 : k0_chk43 v519), ∀ a x, ((![v519] : Fin 1 → IVec S16 32) a x).toNat < S25088.size a := fun v519 k0_hw43 => k0_hw43.1
theorem k0_idx80_inb : ∀ (v519 : IVec S16 32) (k0_hw43 : k0_chk43 v519), ∀ a x, ((![v519] : Fin 1 → IVec S16 32) a x).toNat < S25088.size a := fun v519 k0_hw43 => k0_hw43.2

def k0_chk44 (v538 : IVec S16 32) : Prop :=
  (∀ a x, ((![v538] : Fin 1 → IVec S16 32) a x).toNat < S25088.size a) ∧
  (∀ a x, ((![v538] : Fin 1 → IVec S16 32) a x).toNat < S25088.size a)
theorem k0_idx81_inb : ∀ (v538 : IVec S16 32) (k0_hw44 : k0_chk44 v538), ∀ a x, ((![v538] : Fin 1 → IVec S16 32) a x).toNat < S25088.size a := fun v538 k0_hw44 => k0_hw44.1
theorem k0_idx82_inb : ∀ (v538 : IVec S16 32) (k0_hw44 : k0_chk44 v538), ∀ a x, ((![v538] : Fin 1 → IVec S16 32) a x).toNat < S25088.size a := fun v538 k0_hw44 => k0_hw44.2

def k0_chk45 (v557 : IVec S16 32) : Prop :=
  (∀ a x, ((![v557] : Fin 1 → IVec S16 32) a x).toNat < S25088.size a) ∧
  (∀ a x, ((![v557] : Fin 1 → IVec S16 32) a x).toNat < S25088.size a)
theorem k0_idx83_inb : ∀ (v557 : IVec S16 32) (k0_hw45 : k0_chk45 v557), ∀ a x, ((![v557] : Fin 1 → IVec S16 32) a x).toNat < S25088.size a := fun v557 k0_hw45 => k0_hw45.1
theorem k0_idx84_inb : ∀ (v557 : IVec S16 32) (k0_hw45 : k0_chk45 v557), ∀ a x, ((![v557] : Fin 1 → IVec S16 32) a x).toNat < S25088.size a := fun v557 k0_hw45 => k0_hw45.2

def k0_chk46 (v576 : IVec S16 32) : Prop :=
  (∀ a x, ((![v576] : Fin 1 → IVec S16 32) a x).toNat < S25088.size a) ∧
  (∀ a x, ((![v576] : Fin 1 → IVec S16 32) a x).toNat < S25088.size a)
theorem k0_idx85_inb : ∀ (v576 : IVec S16 32) (k0_hw46 : k0_chk46 v576), ∀ a x, ((![v576] : Fin 1 → IVec S16 32) a x).toNat < S25088.size a := fun v576 k0_hw46 => k0_hw46.1
theorem k0_idx86_inb : ∀ (v576 : IVec S16 32) (k0_hw46 : k0_chk46 v576), ∀ a x, ((![v576] : Fin 1 → IVec S16 32) a x).toNat < S25088.size a := fun v576 k0_hw46 => k0_hw46.2

def k0_chk47 (v595 : IVec S16 32) : Prop :=
  (∀ a x, ((![v595] : Fin 1 → IVec S16 32) a x).toNat < S25088.size a) ∧
  (∀ a x, ((![v595] : Fin 1 → IVec S16 32) a x).toNat < S25088.size a)
theorem k0_idx87_inb : ∀ (v595 : IVec S16 32) (k0_hw47 : k0_chk47 v595), ∀ a x, ((![v595] : Fin 1 → IVec S16 32) a x).toNat < S25088.size a := fun v595 k0_hw47 => k0_hw47.1
theorem k0_idx88_inb : ∀ (v595 : IVec S16 32) (k0_hw47 : k0_chk47 v595), ∀ a x, ((![v595] : Fin 1 → IVec S16 32) a x).toNat < S25088.size a := fun v595 k0_hw47 => k0_hw47.2

def k0_chk48 (v614 : IVec S16 32) : Prop :=
  (∀ a x, ((![v614] : Fin 1 → IVec S16 32) a x).toNat < S25088.size a) ∧
  (∀ a x, ((![v614] : Fin 1 → IVec S16 32) a x).toNat < S25088.size a)
theorem k0_idx89_inb : ∀ (v614 : IVec S16 32) (k0_hw48 : k0_chk48 v614), ∀ a x, ((![v614] : Fin 1 → IVec S16 32) a x).toNat < S25088.size a := fun v614 k0_hw48 => k0_hw48.1
theorem k0_idx90_inb : ∀ (v614 : IVec S16 32) (k0_hw48 : k0_chk48 v614), ∀ a x, ((![v614] : Fin 1 → IVec S16 32) a x).toNat < S25088.size a := fun v614 k0_hw48 => k0_hw48.2

def k0_chk49 (v633 : IVec S16 32) : Prop :=
  (∀ a x, ((![v633] : Fin 1 → IVec S16 32) a x).toNat < S25088.size a) ∧
  (∀ a x, ((![v633] : Fin 1 → IVec S16 32) a x).toNat < S25088.size a)
theorem k0_idx91_inb : ∀ (v633 : IVec S16 32) (k0_hw49 : k0_chk49 v633), ∀ a x, ((![v633] : Fin 1 → IVec S16 32) a x).toNat < S25088.size a := fun v633 k0_hw49 => k0_hw49.1
theorem k0_idx92_inb : ∀ (v633 : IVec S16 32) (k0_hw49 : k0_chk49 v633), ∀ a x, ((![v633] : Fin 1 → IVec S16 32) a x).toNat < S25088.size a := fun v633 k0_hw49 => k0_hw49.2

def k0_chk50 (v652 : IVec S16 32) : Prop :=
  (∀ a x, ((![v652] : Fin 1 → IVec S16 32) a x).toNat < S25088.size a) ∧
  (∀ a x, ((![v652] : Fin 1 → IVec S16 32) a x).toNat < S25088.size a)
theorem k0_idx93_inb : ∀ (v652 : IVec S16 32) (k0_hw50 : k0_chk50 v652), ∀ a x, ((![v652] : Fin 1 → IVec S16 32) a x).toNat < S25088.size a := fun v652 k0_hw50 => k0_hw50.1
theorem k0_idx94_inb : ∀ (v652 : IVec S16 32) (k0_hw50 : k0_chk50 v652), ∀ a x, ((![v652] : Fin 1 → IVec S16 32) a x).toNat < S25088.size a := fun v652 k0_hw50 => k0_hw50.2

def k0_chk51 (v671 : IVec S16 32) : Prop :=
  (∀ a x, ((![v671] : Fin 1 → IVec S16 32) a x).toNat < S25088.size a) ∧
  (∀ a x, ((![v671] : Fin 1 → IVec S16 32) a x).toNat < S25088.size a)
theorem k0_idx95_inb : ∀ (v671 : IVec S16 32) (k0_hw51 : k0_chk51 v671), ∀ a x, ((![v671] : Fin 1 → IVec S16 32) a x).toNat < S25088.size a := fun v671 k0_hw51 => k0_hw51.1
theorem k0_idx96_inb : ∀ (v671 : IVec S16 32) (k0_hw51 : k0_chk51 v671), ∀ a x, ((![v671] : Fin 1 → IVec S16 32) a x).toNat < S25088.size a := fun v671 k0_hw51 => k0_hw51.2

def k0_chk52 (v722 : IVec S16 32) : Prop :=
  (∀ a x, ((![v722] : Fin 1 → IVec S16 32) a x).toNat < S25088.size a) ∧
  (∀ a x, ((![v722] : Fin 1 → IVec S16 32) a x).toNat < S25088.size a)
theorem k0_idx97_inb : ∀ (v722 : IVec S16 32) (k0_hw52 : k0_chk52 v722), ∀ a x, ((![v722] : Fin 1 → IVec S16 32) a x).toNat < S25088.size a := fun v722 k0_hw52 => k0_hw52.1
theorem k0_idx98_inb : ∀ (v722 : IVec S16 32) (k0_hw52 : k0_chk52 v722), ∀ a x, ((![v722] : Fin 1 → IVec S16 32) a x).toNat < S25088.size a := fun v722 k0_hw52 => k0_hw52.2

def k0_chk53 (v741 : IVec S16 32) : Prop :=
  (∀ a x, ((![v741] : Fin 1 → IVec S16 32) a x).toNat < S25088.size a) ∧
  (∀ a x, ((![v741] : Fin 1 → IVec S16 32) a x).toNat < S25088.size a)
theorem k0_idx99_inb : ∀ (v741 : IVec S16 32) (k0_hw53 : k0_chk53 v741), ∀ a x, ((![v741] : Fin 1 → IVec S16 32) a x).toNat < S25088.size a := fun v741 k0_hw53 => k0_hw53.1
theorem k0_idx100_inb : ∀ (v741 : IVec S16 32) (k0_hw53 : k0_chk53 v741), ∀ a x, ((![v741] : Fin 1 → IVec S16 32) a x).toNat < S25088.size a := fun v741 k0_hw53 => k0_hw53.2

def k0_chk54 (v760 : IVec S16 32) : Prop :=
  (∀ a x, ((![v760] : Fin 1 → IVec S16 32) a x).toNat < S25088.size a) ∧
  (∀ a x, ((![v760] : Fin 1 → IVec S16 32) a x).toNat < S25088.size a)
theorem k0_idx101_inb : ∀ (v760 : IVec S16 32) (k0_hw54 : k0_chk54 v760), ∀ a x, ((![v760] : Fin 1 → IVec S16 32) a x).toNat < S25088.size a := fun v760 k0_hw54 => k0_hw54.1
theorem k0_idx102_inb : ∀ (v760 : IVec S16 32) (k0_hw54 : k0_chk54 v760), ∀ a x, ((![v760] : Fin 1 → IVec S16 32) a x).toNat < S25088.size a := fun v760 k0_hw54 => k0_hw54.2

def k0_chk55 (v779 : IVec S16 32) : Prop :=
  (∀ a x, ((![v779] : Fin 1 → IVec S16 32) a x).toNat < S25088.size a) ∧
  (∀ a x, ((![v779] : Fin 1 → IVec S16 32) a x).toNat < S25088.size a)
theorem k0_idx103_inb : ∀ (v779 : IVec S16 32) (k0_hw55 : k0_chk55 v779), ∀ a x, ((![v779] : Fin 1 → IVec S16 32) a x).toNat < S25088.size a := fun v779 k0_hw55 => k0_hw55.1
theorem k0_idx104_inb : ∀ (v779 : IVec S16 32) (k0_hw55 : k0_chk55 v779), ∀ a x, ((![v779] : Fin 1 → IVec S16 32) a x).toNat < S25088.size a := fun v779 k0_hw55 => k0_hw55.2

def k0_chk56 (v798 : IVec S16 32) : Prop :=
  (∀ a x, ((![v798] : Fin 1 → IVec S16 32) a x).toNat < S25088.size a) ∧
  (∀ a x, ((![v798] : Fin 1 → IVec S16 32) a x).toNat < S25088.size a)
theorem k0_idx105_inb : ∀ (v798 : IVec S16 32) (k0_hw56 : k0_chk56 v798), ∀ a x, ((![v798] : Fin 1 → IVec S16 32) a x).toNat < S25088.size a := fun v798 k0_hw56 => k0_hw56.1
theorem k0_idx106_inb : ∀ (v798 : IVec S16 32) (k0_hw56 : k0_chk56 v798), ∀ a x, ((![v798] : Fin 1 → IVec S16 32) a x).toNat < S25088.size a := fun v798 k0_hw56 => k0_hw56.2

def k0_chk57 (v817 : IVec S16 32) : Prop :=
  (∀ a x, ((![v817] : Fin 1 → IVec S16 32) a x).toNat < S25088.size a) ∧
  (∀ a x, ((![v817] : Fin 1 → IVec S16 32) a x).toNat < S25088.size a)
theorem k0_idx107_inb : ∀ (v817 : IVec S16 32) (k0_hw57 : k0_chk57 v817), ∀ a x, ((![v817] : Fin 1 → IVec S16 32) a x).toNat < S25088.size a := fun v817 k0_hw57 => k0_hw57.1
theorem k0_idx108_inb : ∀ (v817 : IVec S16 32) (k0_hw57 : k0_chk57 v817), ∀ a x, ((![v817] : Fin 1 → IVec S16 32) a x).toNat < S25088.size a := fun v817 k0_hw57 => k0_hw57.2

def k0_chk58 (v836 : IVec S16 32) : Prop :=
  (∀ a x, ((![v836] : Fin 1 → IVec S16 32) a x).toNat < S25088.size a) ∧
  (∀ a x, ((![v836] : Fin 1 → IVec S16 32) a x).toNat < S25088.size a)
theorem k0_idx109_inb : ∀ (v836 : IVec S16 32) (k0_hw58 : k0_chk58 v836), ∀ a x, ((![v836] : Fin 1 → IVec S16 32) a x).toNat < S25088.size a := fun v836 k0_hw58 => k0_hw58.1
theorem k0_idx110_inb : ∀ (v836 : IVec S16 32) (k0_hw58 : k0_chk58 v836), ∀ a x, ((![v836] : Fin 1 → IVec S16 32) a x).toNat < S25088.size a := fun v836 k0_hw58 => k0_hw58.2

def k0_chk59 (v855 : IVec S16 32) : Prop :=
  (∀ a x, ((![v855] : Fin 1 → IVec S16 32) a x).toNat < S25088.size a) ∧
  (∀ a x, ((![v855] : Fin 1 → IVec S16 32) a x).toNat < S25088.size a)
theorem k0_idx111_inb : ∀ (v855 : IVec S16 32) (k0_hw59 : k0_chk59 v855), ∀ a x, ((![v855] : Fin 1 → IVec S16 32) a x).toNat < S25088.size a := fun v855 k0_hw59 => k0_hw59.1
theorem k0_idx112_inb : ∀ (v855 : IVec S16 32) (k0_hw59 : k0_chk59 v855), ∀ a x, ((![v855] : Fin 1 → IVec S16 32) a x).toNat < S25088.size a := fun v855 k0_hw59 => k0_hw59.2

def k0_chk60 (v874 : IVec S16 32) : Prop :=
  (∀ a x, ((![v874] : Fin 1 → IVec S16 32) a x).toNat < S25088.size a) ∧
  (∀ a x, ((![v874] : Fin 1 → IVec S16 32) a x).toNat < S25088.size a)
theorem k0_idx113_inb : ∀ (v874 : IVec S16 32) (k0_hw60 : k0_chk60 v874), ∀ a x, ((![v874] : Fin 1 → IVec S16 32) a x).toNat < S25088.size a := fun v874 k0_hw60 => k0_hw60.1
theorem k0_idx114_inb : ∀ (v874 : IVec S16 32) (k0_hw60 : k0_chk60 v874), ∀ a x, ((![v874] : Fin 1 → IVec S16 32) a x).toNat < S25088.size a := fun v874 k0_hw60 => k0_hw60.2

def k0_chk61 (v893 : IVec S16 32) : Prop :=
  (∀ a x, ((![v893] : Fin 1 → IVec S16 32) a x).toNat < S25088.size a) ∧
  (∀ a x, ((![v893] : Fin 1 → IVec S16 32) a x).toNat < S25088.size a)
theorem k0_idx115_inb : ∀ (v893 : IVec S16 32) (k0_hw61 : k0_chk61 v893), ∀ a x, ((![v893] : Fin 1 → IVec S16 32) a x).toNat < S25088.size a := fun v893 k0_hw61 => k0_hw61.1
theorem k0_idx116_inb : ∀ (v893 : IVec S16 32) (k0_hw61 : k0_chk61 v893), ∀ a x, ((![v893] : Fin 1 → IVec S16 32) a x).toNat < S25088.size a := fun v893 k0_hw61 => k0_hw61.2

def k0_chk62 (v912 : IVec S16 32) : Prop :=
  (∀ a x, ((![v912] : Fin 1 → IVec S16 32) a x).toNat < S25088.size a) ∧
  (∀ a x, ((![v912] : Fin 1 → IVec S16 32) a x).toNat < S25088.size a)
theorem k0_idx117_inb : ∀ (v912 : IVec S16 32) (k0_hw62 : k0_chk62 v912), ∀ a x, ((![v912] : Fin 1 → IVec S16 32) a x).toNat < S25088.size a := fun v912 k0_hw62 => k0_hw62.1
theorem k0_idx118_inb : ∀ (v912 : IVec S16 32) (k0_hw62 : k0_chk62 v912), ∀ a x, ((![v912] : Fin 1 → IVec S16 32) a x).toNat < S25088.size a := fun v912 k0_hw62 => k0_hw62.2

def k0_chk63 (v931 : IVec S16 32) : Prop :=
  (∀ a x, ((![v931] : Fin 1 → IVec S16 32) a x).toNat < S25088.size a) ∧
  (∀ a x, ((![v931] : Fin 1 → IVec S16 32) a x).toNat < S25088.size a)
theorem k0_idx119_inb : ∀ (v931 : IVec S16 32) (k0_hw63 : k0_chk63 v931), ∀ a x, ((![v931] : Fin 1 → IVec S16 32) a x).toNat < S25088.size a := fun v931 k0_hw63 => k0_hw63.1
theorem k0_idx120_inb : ∀ (v931 : IVec S16 32) (k0_hw63 : k0_chk63 v931), ∀ a x, ((![v931] : Fin 1 → IVec S16 32) a x).toNat < S25088.size a := fun v931 k0_hw63 => k0_hw63.2

def k0_chk64 (v950 : IVec S16 32) : Prop :=
  (∀ a x, ((![v950] : Fin 1 → IVec S16 32) a x).toNat < S25088.size a) ∧
  (∀ a x, ((![v950] : Fin 1 → IVec S16 32) a x).toNat < S25088.size a)
theorem k0_idx121_inb : ∀ (v950 : IVec S16 32) (k0_hw64 : k0_chk64 v950), ∀ a x, ((![v950] : Fin 1 → IVec S16 32) a x).toNat < S25088.size a := fun v950 k0_hw64 => k0_hw64.1
theorem k0_idx122_inb : ∀ (v950 : IVec S16 32) (k0_hw64 : k0_chk64 v950), ∀ a x, ((![v950] : Fin 1 → IVec S16 32) a x).toNat < S25088.size a := fun v950 k0_hw64 => k0_hw64.2

def k0_chk65 (v969 : IVec S16 32) : Prop :=
  (∀ a x, ((![v969] : Fin 1 → IVec S16 32) a x).toNat < S25088.size a) ∧
  (∀ a x, ((![v969] : Fin 1 → IVec S16 32) a x).toNat < S25088.size a)
theorem k0_idx123_inb : ∀ (v969 : IVec S16 32) (k0_hw65 : k0_chk65 v969), ∀ a x, ((![v969] : Fin 1 → IVec S16 32) a x).toNat < S25088.size a := fun v969 k0_hw65 => k0_hw65.1
theorem k0_idx124_inb : ∀ (v969 : IVec S16 32) (k0_hw65 : k0_chk65 v969), ∀ a x, ((![v969] : Fin 1 → IVec S16 32) a x).toNat < S25088.size a := fun v969 k0_hw65 => k0_hw65.2

def k0_chk66 (v988 : IVec S16 32) : Prop :=
  (∀ a x, ((![v988] : Fin 1 → IVec S16 32) a x).toNat < S25088.size a) ∧
  (∀ a x, ((![v988] : Fin 1 → IVec S16 32) a x).toNat < S25088.size a)
theorem k0_idx125_inb : ∀ (v988 : IVec S16 32) (k0_hw66 : k0_chk66 v988), ∀ a x, ((![v988] : Fin 1 → IVec S16 32) a x).toNat < S25088.size a := fun v988 k0_hw66 => k0_hw66.1
theorem k0_idx126_inb : ∀ (v988 : IVec S16 32) (k0_hw66 : k0_chk66 v988), ∀ a x, ((![v988] : Fin 1 → IVec S16 32) a x).toNat < S25088.size a := fun v988 k0_hw66 => k0_hw66.2

def k0_chk67 (v1007 : IVec S16 32) : Prop :=
  (∀ a x, ((![v1007] : Fin 1 → IVec S16 32) a x).toNat < S25088.size a) ∧
  (∀ a x, ((![v1007] : Fin 1 → IVec S16 32) a x).toNat < S25088.size a)
theorem k0_idx127_inb : ∀ (v1007 : IVec S16 32) (k0_hw67 : k0_chk67 v1007), ∀ a x, ((![v1007] : Fin 1 → IVec S16 32) a x).toNat < S25088.size a := fun v1007 k0_hw67 => k0_hw67.1
theorem k0_idx128_inb : ∀ (v1007 : IVec S16 32) (k0_hw67 : k0_chk67 v1007), ∀ a x, ((![v1007] : Fin 1 → IVec S16 32) a x).toNat < S25088.size a := fun v1007 k0_hw67 => k0_hw67.2
@[reducible] def k0_t6_loop (v22 : BitVec 32) (v25 : BitVec 32) (v28 : BitVec 32) : Scf.Loop 32 :=
  let c0_i32_70 : BitVec 32 := 0#32
  let c1024_i32_18 : BitVec 32 := 1024#32
  let v32 : BitVec 32 := Scalar.muli v25 c1024_i32_18
  let c3200000_i32 : BitVec 32 := 3200000#32
  let v33 : BitVec 32 := Scalar.minsi v32 c3200000_i32
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let v41 : BitVec 32 := Scalar.subi v33 v39
  let c1024_i32_24 : BitVec 32 := 1024#32
  let v42 : BitVec 32 := Scalar.addi v41 c1024_i32_24
  let c1_i32_25 : BitVec 32 := 1#32
  let v43 : BitVec 32 := Scalar.subi v42 c1_i32_25
  let c0_i32_27 : BitVec 32 := 0#32
  let v45 : BitVec 1 := Scalar.cmpi .sgt v43 c0_i32_27
  let v46 : BitVec 32 := Scalar.extui v45
  let c0_i32_28 : BitVec 32 := 0#32
  let v47 : BitVec 1 := Scalar.cmpi .slt v43 c0_i32_28
  let v48 : BitVec 32 := Scalar.extui v47
  let v49 : BitVec 32 := Scalar.subi v46 v48
  let c1024_i32_26 : BitVec 32 := 1024#32
  let c0_i32_29 : BitVec 32 := 0#32
  let v50 : BitVec 1 := Scalar.cmpi .sgt c1024_i32_26 c0_i32_29
  let v51 : BitVec 32 := Scalar.extui v50
  let c0_i32_30 : BitVec 32 := 0#32
  let v52 : BitVec 1 := Scalar.cmpi .slt c1024_i32_26 c0_i32_30
  let v53 : BitVec 32 := Scalar.extui v52
  let v54 : BitVec 32 := Scalar.subi v51 v53
  let v55 : BitVec 1 := Scalar.cmpi .ne v49 v54
  let v56 : BitVec 32 := Scalar.remsi v43 c1024_i32_26
  let c0_i32_31 : BitVec 32 := 0#32
  let v57 : BitVec 1 := Scalar.cmpi .ne v56 c0_i32_31
  let v58 : BitVec 1 := Scalar.andi v55 v57
  let v44 : BitVec 32 := Scalar.divsi v43 c1024_i32_26
  let c1_i32_32 : BitVec 32 := 1#32
  let v59 : BitVec 32 := Scalar.subi v44 c1_i32_32
  let v60 : BitVec 32 := Scalar.select v58 v59 v44
  let c1024_i32_22 : BitVec 32 := 1024#32
  let v37 : BitVec 32 := Scalar.muli v28 c1024_i32_22
  let c3200000_i32_23 : BitVec 32 := 3200000#32
  let v38 : BitVec 32 := Scalar.minsi v37 c3200000_i32_23
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let v61 : BitVec 32 := Scalar.subi v38 v40
  let c1024_i32_33 : BitVec 32 := 1024#32
  let v62 : BitVec 32 := Scalar.addi v61 c1024_i32_33
  let c1_i32_34 : BitVec 32 := 1#32
  let v63 : BitVec 32 := Scalar.subi v62 c1_i32_34
  let c0_i32_36 : BitVec 32 := 0#32
  let v65 : BitVec 1 := Scalar.cmpi .sgt v63 c0_i32_36
  let v66 : BitVec 32 := Scalar.extui v65
  let c0_i32_37 : BitVec 32 := 0#32
  let v67 : BitVec 1 := Scalar.cmpi .slt v63 c0_i32_37
  let v68 : BitVec 32 := Scalar.extui v67
  let v69 : BitVec 32 := Scalar.subi v66 v68
  let c1024_i32_35 : BitVec 32 := 1024#32
  let c0_i32_38 : BitVec 32 := 0#32
  let v70 : BitVec 1 := Scalar.cmpi .sgt c1024_i32_35 c0_i32_38
  let v71 : BitVec 32 := Scalar.extui v70
  let c0_i32_39 : BitVec 32 := 0#32
  let v72 : BitVec 1 := Scalar.cmpi .slt c1024_i32_35 c0_i32_39
  let v73 : BitVec 32 := Scalar.extui v72
  let v74 : BitVec 32 := Scalar.subi v71 v73
  let v75 : BitVec 1 := Scalar.cmpi .ne v69 v74
  let v76 : BitVec 32 := Scalar.remsi v63 c1024_i32_35
  let c0_i32_40 : BitVec 32 := 0#32
  let v77 : BitVec 1 := Scalar.cmpi .ne v76 c0_i32_40
  let v78 : BitVec 1 := Scalar.andi v75 v77
  let v64 : BitVec 32 := Scalar.divsi v63 c1024_i32_35
  let c1_i32_41 : BitVec 32 := 1#32
  let v79 : BitVec 32 := Scalar.subi v64 c1_i32_41
  let v80 : BitVec 32 := Scalar.select v78 v79 v64
  let v81 : BitVec 32 := Scalar.maxsi v60 v80
  let c1_i32_42 : BitVec 32 := 1#32
  let v82 : BitVec 32 := Scalar.addi v81 c1_i32_42
  let c0_i32_44 : BitVec 32 := 0#32
  let v84 : BitVec 1 := Scalar.cmpi .sgt v82 c0_i32_44
  let v85 : BitVec 32 := Scalar.extui v84
  let c0_i32_45 : BitVec 32 := 0#32
  let v86 : BitVec 1 := Scalar.cmpi .slt v82 c0_i32_45
  let v87 : BitVec 32 := Scalar.extui v86
  let v88 : BitVec 32 := Scalar.subi v85 v87
  let c2_i32_43 : BitVec 32 := 2#32
  let c0_i32_46 : BitVec 32 := 0#32
  let v89 : BitVec 1 := Scalar.cmpi .sgt c2_i32_43 c0_i32_46
  let v90 : BitVec 32 := Scalar.extui v89
  let c0_i32_47 : BitVec 32 := 0#32
  let v91 : BitVec 1 := Scalar.cmpi .slt c2_i32_43 c0_i32_47
  let v92 : BitVec 32 := Scalar.extui v91
  let v93 : BitVec 32 := Scalar.subi v90 v92
  let v94 : BitVec 1 := Scalar.cmpi .ne v88 v93
  let v95 : BitVec 32 := Scalar.remsi v82 c2_i32_43
  let c0_i32_48 : BitVec 32 := 0#32
  let v96 : BitVec 1 := Scalar.cmpi .ne v95 c0_i32_48
  let v97 : BitVec 1 := Scalar.andi v94 v96
  let v83 : BitVec 32 := Scalar.divsi v82 c2_i32_43
  let c1_i32_49 : BitVec 32 := 1#32
  let v98 : BitVec 32 := Scalar.subi v83 c1_i32_49
  let v99 : BitVec 32 := Scalar.select v97 v98 v83
  let v138 : BitVec 32 := Scalar.subi v99 c0_i32_70
  let c1_i32_71 : BitVec 32 := 1#32
  let v140 : BitVec 32 := Scalar.divsi v138 c1_i32_71
  let v141 : BitVec 32 := Scalar.muli v140 c1_i32_71
  let v142 : BitVec 32 := Scalar.addi c0_i32_70 v141
  let v139 : BitVec 32 := Scalar.addi c0_i32_70 v138
  let c1_i32_73 : BitVec 32 := 1#32
  ⟨v142, v139, c1_i32_73⟩
def k0_mult9 (v22 : BitVec 32) (v25 : BitVec 32) (v28 : BitVec 32) (k0_t6 : Fin (k0_t6_loop v22 v25 v28).trips) : BitVec 32 :=
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let c2_i32_112 : BitVec 32 := 2#32
  let c0_i32_70 : BitVec 32 := 0#32
  let c1024_i32_18 : BitVec 32 := 1024#32
  let v32 : BitVec 32 := Scalar.muli v25 c1024_i32_18
  let c3200000_i32 : BitVec 32 := 3200000#32
  let v33 : BitVec 32 := Scalar.minsi v32 c3200000_i32
  let v41 : BitVec 32 := Scalar.subi v33 v39
  let c1024_i32_24 : BitVec 32 := 1024#32
  let v42 : BitVec 32 := Scalar.addi v41 c1024_i32_24
  let c1_i32_25 : BitVec 32 := 1#32
  let v43 : BitVec 32 := Scalar.subi v42 c1_i32_25
  let c0_i32_27 : BitVec 32 := 0#32
  let v45 : BitVec 1 := Scalar.cmpi .sgt v43 c0_i32_27
  let v46 : BitVec 32 := Scalar.extui v45
  let c0_i32_28 : BitVec 32 := 0#32
  let v47 : BitVec 1 := Scalar.cmpi .slt v43 c0_i32_28
  let v48 : BitVec 32 := Scalar.extui v47
  let v49 : BitVec 32 := Scalar.subi v46 v48
  let c1024_i32_26 : BitVec 32 := 1024#32
  let c0_i32_29 : BitVec 32 := 0#32
  let v50 : BitVec 1 := Scalar.cmpi .sgt c1024_i32_26 c0_i32_29
  let v51 : BitVec 32 := Scalar.extui v50
  let c0_i32_30 : BitVec 32 := 0#32
  let v52 : BitVec 1 := Scalar.cmpi .slt c1024_i32_26 c0_i32_30
  let v53 : BitVec 32 := Scalar.extui v52
  let v54 : BitVec 32 := Scalar.subi v51 v53
  let v55 : BitVec 1 := Scalar.cmpi .ne v49 v54
  let v56 : BitVec 32 := Scalar.remsi v43 c1024_i32_26
  let c0_i32_31 : BitVec 32 := 0#32
  let v57 : BitVec 1 := Scalar.cmpi .ne v56 c0_i32_31
  let v58 : BitVec 1 := Scalar.andi v55 v57
  let v44 : BitVec 32 := Scalar.divsi v43 c1024_i32_26
  let c1_i32_32 : BitVec 32 := 1#32
  let v59 : BitVec 32 := Scalar.subi v44 c1_i32_32
  let v60 : BitVec 32 := Scalar.select v58 v59 v44
  let c1024_i32_22 : BitVec 32 := 1024#32
  let v37 : BitVec 32 := Scalar.muli v28 c1024_i32_22
  let c3200000_i32_23 : BitVec 32 := 3200000#32
  let v38 : BitVec 32 := Scalar.minsi v37 c3200000_i32_23
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let v61 : BitVec 32 := Scalar.subi v38 v40
  let c1024_i32_33 : BitVec 32 := 1024#32
  let v62 : BitVec 32 := Scalar.addi v61 c1024_i32_33
  let c1_i32_34 : BitVec 32 := 1#32
  let v63 : BitVec 32 := Scalar.subi v62 c1_i32_34
  let c0_i32_36 : BitVec 32 := 0#32
  let v65 : BitVec 1 := Scalar.cmpi .sgt v63 c0_i32_36
  let v66 : BitVec 32 := Scalar.extui v65
  let c0_i32_37 : BitVec 32 := 0#32
  let v67 : BitVec 1 := Scalar.cmpi .slt v63 c0_i32_37
  let v68 : BitVec 32 := Scalar.extui v67
  let v69 : BitVec 32 := Scalar.subi v66 v68
  let c1024_i32_35 : BitVec 32 := 1024#32
  let c0_i32_38 : BitVec 32 := 0#32
  let v70 : BitVec 1 := Scalar.cmpi .sgt c1024_i32_35 c0_i32_38
  let v71 : BitVec 32 := Scalar.extui v70
  let c0_i32_39 : BitVec 32 := 0#32
  let v72 : BitVec 1 := Scalar.cmpi .slt c1024_i32_35 c0_i32_39
  let v73 : BitVec 32 := Scalar.extui v72
  let v74 : BitVec 32 := Scalar.subi v71 v73
  let v75 : BitVec 1 := Scalar.cmpi .ne v69 v74
  let v76 : BitVec 32 := Scalar.remsi v63 c1024_i32_35
  let c0_i32_40 : BitVec 32 := 0#32
  let v77 : BitVec 1 := Scalar.cmpi .ne v76 c0_i32_40
  let v78 : BitVec 1 := Scalar.andi v75 v77
  let v64 : BitVec 32 := Scalar.divsi v63 c1024_i32_35
  let c1_i32_41 : BitVec 32 := 1#32
  let v79 : BitVec 32 := Scalar.subi v64 c1_i32_41
  let v80 : BitVec 32 := Scalar.select v78 v79 v64
  let v81 : BitVec 32 := Scalar.maxsi v60 v80
  let c1_i32_42 : BitVec 32 := 1#32
  let v82 : BitVec 32 := Scalar.addi v81 c1_i32_42
  let c0_i32_44 : BitVec 32 := 0#32
  let v84 : BitVec 1 := Scalar.cmpi .sgt v82 c0_i32_44
  let v85 : BitVec 32 := Scalar.extui v84
  let c0_i32_45 : BitVec 32 := 0#32
  let v86 : BitVec 1 := Scalar.cmpi .slt v82 c0_i32_45
  let v87 : BitVec 32 := Scalar.extui v86
  let v88 : BitVec 32 := Scalar.subi v85 v87
  let c2_i32_43 : BitVec 32 := 2#32
  let c0_i32_46 : BitVec 32 := 0#32
  let v89 : BitVec 1 := Scalar.cmpi .sgt c2_i32_43 c0_i32_46
  let v90 : BitVec 32 := Scalar.extui v89
  let c0_i32_47 : BitVec 32 := 0#32
  let v91 : BitVec 1 := Scalar.cmpi .slt c2_i32_43 c0_i32_47
  let v92 : BitVec 32 := Scalar.extui v91
  let v93 : BitVec 32 := Scalar.subi v90 v92
  let v94 : BitVec 1 := Scalar.cmpi .ne v88 v93
  let v95 : BitVec 32 := Scalar.remsi v82 c2_i32_43
  let c0_i32_48 : BitVec 32 := 0#32
  let v96 : BitVec 1 := Scalar.cmpi .ne v95 c0_i32_48
  let v97 : BitVec 1 := Scalar.andi v94 v96
  let v83 : BitVec 32 := Scalar.divsi v82 c2_i32_43
  let c1_i32_49 : BitVec 32 := 1#32
  let v98 : BitVec 32 := Scalar.subi v83 c1_i32_49
  let v99 : BitVec 32 := Scalar.select v97 v98 v83
  let v138 : BitVec 32 := Scalar.subi v99 c0_i32_70
  let c1_i32_71 : BitVec 32 := 1#32
  let v140 : BitVec 32 := Scalar.divsi v138 c1_i32_71
  let v141 : BitVec 32 := Scalar.muli v140 c1_i32_71
  let v142 : BitVec 32 := Scalar.addi c0_i32_70 v141
  let c1_i32_73 : BitVec 32 := 1#32
  let arg33 : BitVec 32 := Scf.iv v142 c1_i32_73 k0_t6
  let v180 : BitVec 32 := Scalar.muli c2_i32_112 arg33
  let c1_i32_113 : BitVec 32 := 1#32
  let v181 : BitVec 32 := Scalar.addi v180 c1_i32_113
  let c1024_i32_114 : BitVec 32 := 1024#32
  let v182 : BitVec 32 := Scalar.muli v181 c1024_i32_114
  let v183 : BitVec 32 := Scalar.addi v39 v182
  let c3198976_i32_115 : BitVec 32 := 3198976#32
  let v184 : BitVec 32 := Scalar.minsi v183 c3198976_i32_115
  v184
def k0_mult10 (v22 : BitVec 32) (v25 : BitVec 32) (v28 : BitVec 32) (k0_t6 : Fin (k0_t6_loop v22 v25 v28).trips) : BitVec 32 :=
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let c2_i32_112 : BitVec 32 := 2#32
  let c0_i32_70 : BitVec 32 := 0#32
  let c1024_i32_18 : BitVec 32 := 1024#32
  let v32 : BitVec 32 := Scalar.muli v25 c1024_i32_18
  let c3200000_i32 : BitVec 32 := 3200000#32
  let v33 : BitVec 32 := Scalar.minsi v32 c3200000_i32
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let v41 : BitVec 32 := Scalar.subi v33 v39
  let c1024_i32_24 : BitVec 32 := 1024#32
  let v42 : BitVec 32 := Scalar.addi v41 c1024_i32_24
  let c1_i32_25 : BitVec 32 := 1#32
  let v43 : BitVec 32 := Scalar.subi v42 c1_i32_25
  let c0_i32_27 : BitVec 32 := 0#32
  let v45 : BitVec 1 := Scalar.cmpi .sgt v43 c0_i32_27
  let v46 : BitVec 32 := Scalar.extui v45
  let c0_i32_28 : BitVec 32 := 0#32
  let v47 : BitVec 1 := Scalar.cmpi .slt v43 c0_i32_28
  let v48 : BitVec 32 := Scalar.extui v47
  let v49 : BitVec 32 := Scalar.subi v46 v48
  let c1024_i32_26 : BitVec 32 := 1024#32
  let c0_i32_29 : BitVec 32 := 0#32
  let v50 : BitVec 1 := Scalar.cmpi .sgt c1024_i32_26 c0_i32_29
  let v51 : BitVec 32 := Scalar.extui v50
  let c0_i32_30 : BitVec 32 := 0#32
  let v52 : BitVec 1 := Scalar.cmpi .slt c1024_i32_26 c0_i32_30
  let v53 : BitVec 32 := Scalar.extui v52
  let v54 : BitVec 32 := Scalar.subi v51 v53
  let v55 : BitVec 1 := Scalar.cmpi .ne v49 v54
  let v56 : BitVec 32 := Scalar.remsi v43 c1024_i32_26
  let c0_i32_31 : BitVec 32 := 0#32
  let v57 : BitVec 1 := Scalar.cmpi .ne v56 c0_i32_31
  let v58 : BitVec 1 := Scalar.andi v55 v57
  let v44 : BitVec 32 := Scalar.divsi v43 c1024_i32_26
  let c1_i32_32 : BitVec 32 := 1#32
  let v59 : BitVec 32 := Scalar.subi v44 c1_i32_32
  let v60 : BitVec 32 := Scalar.select v58 v59 v44
  let c1024_i32_22 : BitVec 32 := 1024#32
  let v37 : BitVec 32 := Scalar.muli v28 c1024_i32_22
  let c3200000_i32_23 : BitVec 32 := 3200000#32
  let v38 : BitVec 32 := Scalar.minsi v37 c3200000_i32_23
  let v61 : BitVec 32 := Scalar.subi v38 v40
  let c1024_i32_33 : BitVec 32 := 1024#32
  let v62 : BitVec 32 := Scalar.addi v61 c1024_i32_33
  let c1_i32_34 : BitVec 32 := 1#32
  let v63 : BitVec 32 := Scalar.subi v62 c1_i32_34
  let c0_i32_36 : BitVec 32 := 0#32
  let v65 : BitVec 1 := Scalar.cmpi .sgt v63 c0_i32_36
  let v66 : BitVec 32 := Scalar.extui v65
  let c0_i32_37 : BitVec 32 := 0#32
  let v67 : BitVec 1 := Scalar.cmpi .slt v63 c0_i32_37
  let v68 : BitVec 32 := Scalar.extui v67
  let v69 : BitVec 32 := Scalar.subi v66 v68
  let c1024_i32_35 : BitVec 32 := 1024#32
  let c0_i32_38 : BitVec 32 := 0#32
  let v70 : BitVec 1 := Scalar.cmpi .sgt c1024_i32_35 c0_i32_38
  let v71 : BitVec 32 := Scalar.extui v70
  let c0_i32_39 : BitVec 32 := 0#32
  let v72 : BitVec 1 := Scalar.cmpi .slt c1024_i32_35 c0_i32_39
  let v73 : BitVec 32 := Scalar.extui v72
  let v74 : BitVec 32 := Scalar.subi v71 v73
  let v75 : BitVec 1 := Scalar.cmpi .ne v69 v74
  let v76 : BitVec 32 := Scalar.remsi v63 c1024_i32_35
  let c0_i32_40 : BitVec 32 := 0#32
  let v77 : BitVec 1 := Scalar.cmpi .ne v76 c0_i32_40
  let v78 : BitVec 1 := Scalar.andi v75 v77
  let v64 : BitVec 32 := Scalar.divsi v63 c1024_i32_35
  let c1_i32_41 : BitVec 32 := 1#32
  let v79 : BitVec 32 := Scalar.subi v64 c1_i32_41
  let v80 : BitVec 32 := Scalar.select v78 v79 v64
  let v81 : BitVec 32 := Scalar.maxsi v60 v80
  let c1_i32_42 : BitVec 32 := 1#32
  let v82 : BitVec 32 := Scalar.addi v81 c1_i32_42
  let c0_i32_44 : BitVec 32 := 0#32
  let v84 : BitVec 1 := Scalar.cmpi .sgt v82 c0_i32_44
  let v85 : BitVec 32 := Scalar.extui v84
  let c0_i32_45 : BitVec 32 := 0#32
  let v86 : BitVec 1 := Scalar.cmpi .slt v82 c0_i32_45
  let v87 : BitVec 32 := Scalar.extui v86
  let v88 : BitVec 32 := Scalar.subi v85 v87
  let c2_i32_43 : BitVec 32 := 2#32
  let c0_i32_46 : BitVec 32 := 0#32
  let v89 : BitVec 1 := Scalar.cmpi .sgt c2_i32_43 c0_i32_46
  let v90 : BitVec 32 := Scalar.extui v89
  let c0_i32_47 : BitVec 32 := 0#32
  let v91 : BitVec 1 := Scalar.cmpi .slt c2_i32_43 c0_i32_47
  let v92 : BitVec 32 := Scalar.extui v91
  let v93 : BitVec 32 := Scalar.subi v90 v92
  let v94 : BitVec 1 := Scalar.cmpi .ne v88 v93
  let v95 : BitVec 32 := Scalar.remsi v82 c2_i32_43
  let c0_i32_48 : BitVec 32 := 0#32
  let v96 : BitVec 1 := Scalar.cmpi .ne v95 c0_i32_48
  let v97 : BitVec 1 := Scalar.andi v94 v96
  let v83 : BitVec 32 := Scalar.divsi v82 c2_i32_43
  let c1_i32_49 : BitVec 32 := 1#32
  let v98 : BitVec 32 := Scalar.subi v83 c1_i32_49
  let v99 : BitVec 32 := Scalar.select v97 v98 v83
  let v138 : BitVec 32 := Scalar.subi v99 c0_i32_70
  let c1_i32_71 : BitVec 32 := 1#32
  let v140 : BitVec 32 := Scalar.divsi v138 c1_i32_71
  let v141 : BitVec 32 := Scalar.muli v140 c1_i32_71
  let v142 : BitVec 32 := Scalar.addi c0_i32_70 v141
  let c1_i32_73 : BitVec 32 := 1#32
  let arg33 : BitVec 32 := Scf.iv v142 c1_i32_73 k0_t6
  let v180 : BitVec 32 := Scalar.muli c2_i32_112 arg33
  let c1_i32_113 : BitVec 32 := 1#32
  let v181 : BitVec 32 := Scalar.addi v180 c1_i32_113
  let c1024_i32_116 : BitVec 32 := 1024#32
  let v186 : BitVec 32 := Scalar.muli v181 c1024_i32_116
  let v187 : BitVec 32 := Scalar.addi v40 v186
  let c3198976_i32_117 : BitVec 32 := 3198976#32
  let v188 : BitVec 32 := Scalar.minsi v187 c3198976_i32_117
  v188
def k0_off9 (v22 : BitVec 32) (v25 : BitVec 32) (v28 : BitVec 32) (k0_t6 : Fin (k0_t6_loop v22 v25 v28).trips) (c1_i32_113 : BitVec 32) : Fin 1 → Nat :=
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let c2_i32_112 : BitVec 32 := 2#32
  let c0_i32_70 : BitVec 32 := 0#32
  let c1024_i32_18 : BitVec 32 := 1024#32
  let v32 : BitVec 32 := Scalar.muli v25 c1024_i32_18
  let c3200000_i32 : BitVec 32 := 3200000#32
  let v33 : BitVec 32 := Scalar.minsi v32 c3200000_i32
  let v41 : BitVec 32 := Scalar.subi v33 v39
  let c1024_i32_24 : BitVec 32 := 1024#32
  let v42 : BitVec 32 := Scalar.addi v41 c1024_i32_24
  let c1_i32_25 : BitVec 32 := 1#32
  let v43 : BitVec 32 := Scalar.subi v42 c1_i32_25
  let c0_i32_27 : BitVec 32 := 0#32
  let v45 : BitVec 1 := Scalar.cmpi .sgt v43 c0_i32_27
  let v46 : BitVec 32 := Scalar.extui v45
  let c0_i32_28 : BitVec 32 := 0#32
  let v47 : BitVec 1 := Scalar.cmpi .slt v43 c0_i32_28
  let v48 : BitVec 32 := Scalar.extui v47
  let v49 : BitVec 32 := Scalar.subi v46 v48
  let c1024_i32_26 : BitVec 32 := 1024#32
  let c0_i32_29 : BitVec 32 := 0#32
  let v50 : BitVec 1 := Scalar.cmpi .sgt c1024_i32_26 c0_i32_29
  let v51 : BitVec 32 := Scalar.extui v50
  let c0_i32_30 : BitVec 32 := 0#32
  let v52 : BitVec 1 := Scalar.cmpi .slt c1024_i32_26 c0_i32_30
  let v53 : BitVec 32 := Scalar.extui v52
  let v54 : BitVec 32 := Scalar.subi v51 v53
  let v55 : BitVec 1 := Scalar.cmpi .ne v49 v54
  let v56 : BitVec 32 := Scalar.remsi v43 c1024_i32_26
  let c0_i32_31 : BitVec 32 := 0#32
  let v57 : BitVec 1 := Scalar.cmpi .ne v56 c0_i32_31
  let v58 : BitVec 1 := Scalar.andi v55 v57
  let v44 : BitVec 32 := Scalar.divsi v43 c1024_i32_26
  let c1_i32_32 : BitVec 32 := 1#32
  let v59 : BitVec 32 := Scalar.subi v44 c1_i32_32
  let v60 : BitVec 32 := Scalar.select v58 v59 v44
  let c1024_i32_22 : BitVec 32 := 1024#32
  let v37 : BitVec 32 := Scalar.muli v28 c1024_i32_22
  let c3200000_i32_23 : BitVec 32 := 3200000#32
  let v38 : BitVec 32 := Scalar.minsi v37 c3200000_i32_23
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let v61 : BitVec 32 := Scalar.subi v38 v40
  let c1024_i32_33 : BitVec 32 := 1024#32
  let v62 : BitVec 32 := Scalar.addi v61 c1024_i32_33
  let c1_i32_34 : BitVec 32 := 1#32
  let v63 : BitVec 32 := Scalar.subi v62 c1_i32_34
  let c0_i32_36 : BitVec 32 := 0#32
  let v65 : BitVec 1 := Scalar.cmpi .sgt v63 c0_i32_36
  let v66 : BitVec 32 := Scalar.extui v65
  let c0_i32_37 : BitVec 32 := 0#32
  let v67 : BitVec 1 := Scalar.cmpi .slt v63 c0_i32_37
  let v68 : BitVec 32 := Scalar.extui v67
  let v69 : BitVec 32 := Scalar.subi v66 v68
  let c1024_i32_35 : BitVec 32 := 1024#32
  let c0_i32_38 : BitVec 32 := 0#32
  let v70 : BitVec 1 := Scalar.cmpi .sgt c1024_i32_35 c0_i32_38
  let v71 : BitVec 32 := Scalar.extui v70
  let c0_i32_39 : BitVec 32 := 0#32
  let v72 : BitVec 1 := Scalar.cmpi .slt c1024_i32_35 c0_i32_39
  let v73 : BitVec 32 := Scalar.extui v72
  let v74 : BitVec 32 := Scalar.subi v71 v73
  let v75 : BitVec 1 := Scalar.cmpi .ne v69 v74
  let v76 : BitVec 32 := Scalar.remsi v63 c1024_i32_35
  let c0_i32_40 : BitVec 32 := 0#32
  let v77 : BitVec 1 := Scalar.cmpi .ne v76 c0_i32_40
  let v78 : BitVec 1 := Scalar.andi v75 v77
  let v64 : BitVec 32 := Scalar.divsi v63 c1024_i32_35
  let c1_i32_41 : BitVec 32 := 1#32
  let v79 : BitVec 32 := Scalar.subi v64 c1_i32_41
  let v80 : BitVec 32 := Scalar.select v78 v79 v64
  let v81 : BitVec 32 := Scalar.maxsi v60 v80
  let c1_i32_42 : BitVec 32 := 1#32
  let v82 : BitVec 32 := Scalar.addi v81 c1_i32_42
  let c0_i32_44 : BitVec 32 := 0#32
  let v84 : BitVec 1 := Scalar.cmpi .sgt v82 c0_i32_44
  let v85 : BitVec 32 := Scalar.extui v84
  let c0_i32_45 : BitVec 32 := 0#32
  let v86 : BitVec 1 := Scalar.cmpi .slt v82 c0_i32_45
  let v87 : BitVec 32 := Scalar.extui v86
  let v88 : BitVec 32 := Scalar.subi v85 v87
  let c2_i32_43 : BitVec 32 := 2#32
  let c0_i32_46 : BitVec 32 := 0#32
  let v89 : BitVec 1 := Scalar.cmpi .sgt c2_i32_43 c0_i32_46
  let v90 : BitVec 32 := Scalar.extui v89
  let c0_i32_47 : BitVec 32 := 0#32
  let v91 : BitVec 1 := Scalar.cmpi .slt c2_i32_43 c0_i32_47
  let v92 : BitVec 32 := Scalar.extui v91
  let v93 : BitVec 32 := Scalar.subi v90 v92
  let v94 : BitVec 1 := Scalar.cmpi .ne v88 v93
  let v95 : BitVec 32 := Scalar.remsi v82 c2_i32_43
  let c0_i32_48 : BitVec 32 := 0#32
  let v96 : BitVec 1 := Scalar.cmpi .ne v95 c0_i32_48
  let v97 : BitVec 1 := Scalar.andi v94 v96
  let v83 : BitVec 32 := Scalar.divsi v82 c2_i32_43
  let c1_i32_49 : BitVec 32 := 1#32
  let v98 : BitVec 32 := Scalar.subi v83 c1_i32_49
  let v99 : BitVec 32 := Scalar.select v97 v98 v83
  let v138 : BitVec 32 := Scalar.subi v99 c0_i32_70
  let c1_i32_71 : BitVec 32 := 1#32
  let v140 : BitVec 32 := Scalar.divsi v138 c1_i32_71
  let v141 : BitVec 32 := Scalar.muli v140 c1_i32_71
  let v142 : BitVec 32 := Scalar.addi c0_i32_70 v141
  let c1_i32_73 : BitVec 32 := 1#32
  let arg33 : BitVec 32 := Scf.iv v142 c1_i32_73 k0_t6
  let v180 : BitVec 32 := Scalar.muli c2_i32_112 arg33
  let v181 : BitVec 32 := Scalar.addi v180 c1_i32_113
  let c1024_i32_114 : BitVec 32 := 1024#32
  let v182 : BitVec 32 := Scalar.muli v181 c1024_i32_114
  let v183 : BitVec 32 := Scalar.addi v39 v182
  let c3198976_i32_115 : BitVec 32 := 3198976#32
  let v184 : BitVec 32 := Scalar.minsi v183 c3198976_i32_115
  let v185 : BitVec 32 := v184
  ![v185.toNat]
def k0_off10 (v22 : BitVec 32) (v25 : BitVec 32) (v28 : BitVec 32) (k0_t6 : Fin (k0_t6_loop v22 v25 v28).trips) (c1_i32_113 : BitVec 32) : Fin 1 → Nat :=
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let c2_i32_112 : BitVec 32 := 2#32
  let c0_i32_70 : BitVec 32 := 0#32
  let c1024_i32_18 : BitVec 32 := 1024#32
  let v32 : BitVec 32 := Scalar.muli v25 c1024_i32_18
  let c3200000_i32 : BitVec 32 := 3200000#32
  let v33 : BitVec 32 := Scalar.minsi v32 c3200000_i32
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let v41 : BitVec 32 := Scalar.subi v33 v39
  let c1024_i32_24 : BitVec 32 := 1024#32
  let v42 : BitVec 32 := Scalar.addi v41 c1024_i32_24
  let c1_i32_25 : BitVec 32 := 1#32
  let v43 : BitVec 32 := Scalar.subi v42 c1_i32_25
  let c0_i32_27 : BitVec 32 := 0#32
  let v45 : BitVec 1 := Scalar.cmpi .sgt v43 c0_i32_27
  let v46 : BitVec 32 := Scalar.extui v45
  let c0_i32_28 : BitVec 32 := 0#32
  let v47 : BitVec 1 := Scalar.cmpi .slt v43 c0_i32_28
  let v48 : BitVec 32 := Scalar.extui v47
  let v49 : BitVec 32 := Scalar.subi v46 v48
  let c1024_i32_26 : BitVec 32 := 1024#32
  let c0_i32_29 : BitVec 32 := 0#32
  let v50 : BitVec 1 := Scalar.cmpi .sgt c1024_i32_26 c0_i32_29
  let v51 : BitVec 32 := Scalar.extui v50
  let c0_i32_30 : BitVec 32 := 0#32
  let v52 : BitVec 1 := Scalar.cmpi .slt c1024_i32_26 c0_i32_30
  let v53 : BitVec 32 := Scalar.extui v52
  let v54 : BitVec 32 := Scalar.subi v51 v53
  let v55 : BitVec 1 := Scalar.cmpi .ne v49 v54
  let v56 : BitVec 32 := Scalar.remsi v43 c1024_i32_26
  let c0_i32_31 : BitVec 32 := 0#32
  let v57 : BitVec 1 := Scalar.cmpi .ne v56 c0_i32_31
  let v58 : BitVec 1 := Scalar.andi v55 v57
  let v44 : BitVec 32 := Scalar.divsi v43 c1024_i32_26
  let c1_i32_32 : BitVec 32 := 1#32
  let v59 : BitVec 32 := Scalar.subi v44 c1_i32_32
  let v60 : BitVec 32 := Scalar.select v58 v59 v44
  let c1024_i32_22 : BitVec 32 := 1024#32
  let v37 : BitVec 32 := Scalar.muli v28 c1024_i32_22
  let c3200000_i32_23 : BitVec 32 := 3200000#32
  let v38 : BitVec 32 := Scalar.minsi v37 c3200000_i32_23
  let v61 : BitVec 32 := Scalar.subi v38 v40
  let c1024_i32_33 : BitVec 32 := 1024#32
  let v62 : BitVec 32 := Scalar.addi v61 c1024_i32_33
  let c1_i32_34 : BitVec 32 := 1#32
  let v63 : BitVec 32 := Scalar.subi v62 c1_i32_34
  let c0_i32_36 : BitVec 32 := 0#32
  let v65 : BitVec 1 := Scalar.cmpi .sgt v63 c0_i32_36
  let v66 : BitVec 32 := Scalar.extui v65
  let c0_i32_37 : BitVec 32 := 0#32
  let v67 : BitVec 1 := Scalar.cmpi .slt v63 c0_i32_37
  let v68 : BitVec 32 := Scalar.extui v67
  let v69 : BitVec 32 := Scalar.subi v66 v68
  let c1024_i32_35 : BitVec 32 := 1024#32
  let c0_i32_38 : BitVec 32 := 0#32
  let v70 : BitVec 1 := Scalar.cmpi .sgt c1024_i32_35 c0_i32_38
  let v71 : BitVec 32 := Scalar.extui v70
  let c0_i32_39 : BitVec 32 := 0#32
  let v72 : BitVec 1 := Scalar.cmpi .slt c1024_i32_35 c0_i32_39
  let v73 : BitVec 32 := Scalar.extui v72
  let v74 : BitVec 32 := Scalar.subi v71 v73
  let v75 : BitVec 1 := Scalar.cmpi .ne v69 v74
  let v76 : BitVec 32 := Scalar.remsi v63 c1024_i32_35
  let c0_i32_40 : BitVec 32 := 0#32
  let v77 : BitVec 1 := Scalar.cmpi .ne v76 c0_i32_40
  let v78 : BitVec 1 := Scalar.andi v75 v77
  let v64 : BitVec 32 := Scalar.divsi v63 c1024_i32_35
  let c1_i32_41 : BitVec 32 := 1#32
  let v79 : BitVec 32 := Scalar.subi v64 c1_i32_41
  let v80 : BitVec 32 := Scalar.select v78 v79 v64
  let v81 : BitVec 32 := Scalar.maxsi v60 v80
  let c1_i32_42 : BitVec 32 := 1#32
  let v82 : BitVec 32 := Scalar.addi v81 c1_i32_42
  let c0_i32_44 : BitVec 32 := 0#32
  let v84 : BitVec 1 := Scalar.cmpi .sgt v82 c0_i32_44
  let v85 : BitVec 32 := Scalar.extui v84
  let c0_i32_45 : BitVec 32 := 0#32
  let v86 : BitVec 1 := Scalar.cmpi .slt v82 c0_i32_45
  let v87 : BitVec 32 := Scalar.extui v86
  let v88 : BitVec 32 := Scalar.subi v85 v87
  let c2_i32_43 : BitVec 32 := 2#32
  let c0_i32_46 : BitVec 32 := 0#32
  let v89 : BitVec 1 := Scalar.cmpi .sgt c2_i32_43 c0_i32_46
  let v90 : BitVec 32 := Scalar.extui v89
  let c0_i32_47 : BitVec 32 := 0#32
  let v91 : BitVec 1 := Scalar.cmpi .slt c2_i32_43 c0_i32_47
  let v92 : BitVec 32 := Scalar.extui v91
  let v93 : BitVec 32 := Scalar.subi v90 v92
  let v94 : BitVec 1 := Scalar.cmpi .ne v88 v93
  let v95 : BitVec 32 := Scalar.remsi v82 c2_i32_43
  let c0_i32_48 : BitVec 32 := 0#32
  let v96 : BitVec 1 := Scalar.cmpi .ne v95 c0_i32_48
  let v97 : BitVec 1 := Scalar.andi v94 v96
  let v83 : BitVec 32 := Scalar.divsi v82 c2_i32_43
  let c1_i32_49 : BitVec 32 := 1#32
  let v98 : BitVec 32 := Scalar.subi v83 c1_i32_49
  let v99 : BitVec 32 := Scalar.select v97 v98 v83
  let v138 : BitVec 32 := Scalar.subi v99 c0_i32_70
  let c1_i32_71 : BitVec 32 := 1#32
  let v140 : BitVec 32 := Scalar.divsi v138 c1_i32_71
  let v141 : BitVec 32 := Scalar.muli v140 c1_i32_71
  let v142 : BitVec 32 := Scalar.addi c0_i32_70 v141
  let c1_i32_73 : BitVec 32 := 1#32
  let arg33 : BitVec 32 := Scf.iv v142 c1_i32_73 k0_t6
  let v180 : BitVec 32 := Scalar.muli c2_i32_112 arg33
  let v181 : BitVec 32 := Scalar.addi v180 c1_i32_113
  let c1024_i32_116 : BitVec 32 := 1024#32
  let v186 : BitVec 32 := Scalar.muli v181 c1024_i32_116
  let v187 : BitVec 32 := Scalar.addi v40 v186
  let c3198976_i32_117 : BitVec 32 := 3198976#32
  let v188 : BitVec 32 := Scalar.minsi v187 c3198976_i32_117
  let v189 : BitVec 32 := v188
  ![v189.toNat]
@[reducible] def k0_t7_loop : Scf.Loop 32 :=
  let c0_i32_167 : BitVec 32 := 0#32
  let c64_i32 : BitVec 32 := 64#32
  let v254 : BitVec 32 := Scalar.addi c0_i32_167 c64_i32
  let c1_i32_168 : BitVec 32 := 1#32
  ⟨c0_i32_167, v254, c1_i32_168⟩
def k0_off11 (k0_t7 : Fin k0_t7_loop.trips) : Fin 1 → Nat :=
  let c0_i32_167 : BitVec 32 := 0#32
  let c1_i32_168 : BitVec 32 := 1#32
  let arg34 : BitVec 32 := Scf.iv c0_i32_167 c1_i32_168 k0_t7
  let c16_i32_228 : BitVec 32 := 16#32
  let v329 : BitVec 32 := Scalar.muli arg34 c16_i32_228
  let v330 : Index := Scalar.indexCast v329
  ![v330.toNat]

def k0_chk68 (v386 : IVec S16 32) : Prop :=
  (∀ a x, ((![v386] : Fin 1 → IVec S16 32) a x).toNat < S25088.size a) ∧
  (∀ a x, ((![v386] : Fin 1 → IVec S16 32) a x).toNat < S25088.size a)
theorem k0_idx129_inb : ∀ (v386 : IVec S16 32) (k0_hw68 : k0_chk68 v386), ∀ a x, ((![v386] : Fin 1 → IVec S16 32) a x).toNat < S25088.size a := fun v386 k0_hw68 => k0_hw68.1
theorem k0_idx130_inb : ∀ (v386 : IVec S16 32) (k0_hw68 : k0_chk68 v386), ∀ a x, ((![v386] : Fin 1 → IVec S16 32) a x).toNat < S25088.size a := fun v386 k0_hw68 => k0_hw68.2

def k0_chk69 (v405 : IVec S16 32) : Prop :=
  (∀ a x, ((![v405] : Fin 1 → IVec S16 32) a x).toNat < S25088.size a) ∧
  (∀ a x, ((![v405] : Fin 1 → IVec S16 32) a x).toNat < S25088.size a)
theorem k0_idx131_inb : ∀ (v405 : IVec S16 32) (k0_hw69 : k0_chk69 v405), ∀ a x, ((![v405] : Fin 1 → IVec S16 32) a x).toNat < S25088.size a := fun v405 k0_hw69 => k0_hw69.1
theorem k0_idx132_inb : ∀ (v405 : IVec S16 32) (k0_hw69 : k0_chk69 v405), ∀ a x, ((![v405] : Fin 1 → IVec S16 32) a x).toNat < S25088.size a := fun v405 k0_hw69 => k0_hw69.2

def k0_chk70 (v424 : IVec S16 32) : Prop :=
  (∀ a x, ((![v424] : Fin 1 → IVec S16 32) a x).toNat < S25088.size a) ∧
  (∀ a x, ((![v424] : Fin 1 → IVec S16 32) a x).toNat < S25088.size a)
theorem k0_idx133_inb : ∀ (v424 : IVec S16 32) (k0_hw70 : k0_chk70 v424), ∀ a x, ((![v424] : Fin 1 → IVec S16 32) a x).toNat < S25088.size a := fun v424 k0_hw70 => k0_hw70.1
theorem k0_idx134_inb : ∀ (v424 : IVec S16 32) (k0_hw70 : k0_chk70 v424), ∀ a x, ((![v424] : Fin 1 → IVec S16 32) a x).toNat < S25088.size a := fun v424 k0_hw70 => k0_hw70.2

def k0_chk71 (v443 : IVec S16 32) : Prop :=
  (∀ a x, ((![v443] : Fin 1 → IVec S16 32) a x).toNat < S25088.size a) ∧
  (∀ a x, ((![v443] : Fin 1 → IVec S16 32) a x).toNat < S25088.size a)
theorem k0_idx135_inb : ∀ (v443 : IVec S16 32) (k0_hw71 : k0_chk71 v443), ∀ a x, ((![v443] : Fin 1 → IVec S16 32) a x).toNat < S25088.size a := fun v443 k0_hw71 => k0_hw71.1
theorem k0_idx136_inb : ∀ (v443 : IVec S16 32) (k0_hw71 : k0_chk71 v443), ∀ a x, ((![v443] : Fin 1 → IVec S16 32) a x).toNat < S25088.size a := fun v443 k0_hw71 => k0_hw71.2

def k0_chk72 (v462 : IVec S16 32) : Prop :=
  (∀ a x, ((![v462] : Fin 1 → IVec S16 32) a x).toNat < S25088.size a) ∧
  (∀ a x, ((![v462] : Fin 1 → IVec S16 32) a x).toNat < S25088.size a)
theorem k0_idx137_inb : ∀ (v462 : IVec S16 32) (k0_hw72 : k0_chk72 v462), ∀ a x, ((![v462] : Fin 1 → IVec S16 32) a x).toNat < S25088.size a := fun v462 k0_hw72 => k0_hw72.1
theorem k0_idx138_inb : ∀ (v462 : IVec S16 32) (k0_hw72 : k0_chk72 v462), ∀ a x, ((![v462] : Fin 1 → IVec S16 32) a x).toNat < S25088.size a := fun v462 k0_hw72 => k0_hw72.2

def k0_chk73 (v481 : IVec S16 32) : Prop :=
  (∀ a x, ((![v481] : Fin 1 → IVec S16 32) a x).toNat < S25088.size a) ∧
  (∀ a x, ((![v481] : Fin 1 → IVec S16 32) a x).toNat < S25088.size a)
theorem k0_idx139_inb : ∀ (v481 : IVec S16 32) (k0_hw73 : k0_chk73 v481), ∀ a x, ((![v481] : Fin 1 → IVec S16 32) a x).toNat < S25088.size a := fun v481 k0_hw73 => k0_hw73.1
theorem k0_idx140_inb : ∀ (v481 : IVec S16 32) (k0_hw73 : k0_chk73 v481), ∀ a x, ((![v481] : Fin 1 → IVec S16 32) a x).toNat < S25088.size a := fun v481 k0_hw73 => k0_hw73.2

def k0_chk74 (v500 : IVec S16 32) : Prop :=
  (∀ a x, ((![v500] : Fin 1 → IVec S16 32) a x).toNat < S25088.size a) ∧
  (∀ a x, ((![v500] : Fin 1 → IVec S16 32) a x).toNat < S25088.size a)
theorem k0_idx141_inb : ∀ (v500 : IVec S16 32) (k0_hw74 : k0_chk74 v500), ∀ a x, ((![v500] : Fin 1 → IVec S16 32) a x).toNat < S25088.size a := fun v500 k0_hw74 => k0_hw74.1
theorem k0_idx142_inb : ∀ (v500 : IVec S16 32) (k0_hw74 : k0_chk74 v500), ∀ a x, ((![v500] : Fin 1 → IVec S16 32) a x).toNat < S25088.size a := fun v500 k0_hw74 => k0_hw74.2

def k0_chk75 (v519 : IVec S16 32) : Prop :=
  (∀ a x, ((![v519] : Fin 1 → IVec S16 32) a x).toNat < S25088.size a) ∧
  (∀ a x, ((![v519] : Fin 1 → IVec S16 32) a x).toNat < S25088.size a)
theorem k0_idx143_inb : ∀ (v519 : IVec S16 32) (k0_hw75 : k0_chk75 v519), ∀ a x, ((![v519] : Fin 1 → IVec S16 32) a x).toNat < S25088.size a := fun v519 k0_hw75 => k0_hw75.1
theorem k0_idx144_inb : ∀ (v519 : IVec S16 32) (k0_hw75 : k0_chk75 v519), ∀ a x, ((![v519] : Fin 1 → IVec S16 32) a x).toNat < S25088.size a := fun v519 k0_hw75 => k0_hw75.2

def k0_chk76 (v538 : IVec S16 32) : Prop :=
  (∀ a x, ((![v538] : Fin 1 → IVec S16 32) a x).toNat < S25088.size a) ∧
  (∀ a x, ((![v538] : Fin 1 → IVec S16 32) a x).toNat < S25088.size a)
theorem k0_idx145_inb : ∀ (v538 : IVec S16 32) (k0_hw76 : k0_chk76 v538), ∀ a x, ((![v538] : Fin 1 → IVec S16 32) a x).toNat < S25088.size a := fun v538 k0_hw76 => k0_hw76.1
theorem k0_idx146_inb : ∀ (v538 : IVec S16 32) (k0_hw76 : k0_chk76 v538), ∀ a x, ((![v538] : Fin 1 → IVec S16 32) a x).toNat < S25088.size a := fun v538 k0_hw76 => k0_hw76.2

def k0_chk77 (v557 : IVec S16 32) : Prop :=
  (∀ a x, ((![v557] : Fin 1 → IVec S16 32) a x).toNat < S25088.size a) ∧
  (∀ a x, ((![v557] : Fin 1 → IVec S16 32) a x).toNat < S25088.size a)
theorem k0_idx147_inb : ∀ (v557 : IVec S16 32) (k0_hw77 : k0_chk77 v557), ∀ a x, ((![v557] : Fin 1 → IVec S16 32) a x).toNat < S25088.size a := fun v557 k0_hw77 => k0_hw77.1
theorem k0_idx148_inb : ∀ (v557 : IVec S16 32) (k0_hw77 : k0_chk77 v557), ∀ a x, ((![v557] : Fin 1 → IVec S16 32) a x).toNat < S25088.size a := fun v557 k0_hw77 => k0_hw77.2

def k0_chk78 (v576 : IVec S16 32) : Prop :=
  (∀ a x, ((![v576] : Fin 1 → IVec S16 32) a x).toNat < S25088.size a) ∧
  (∀ a x, ((![v576] : Fin 1 → IVec S16 32) a x).toNat < S25088.size a)
theorem k0_idx149_inb : ∀ (v576 : IVec S16 32) (k0_hw78 : k0_chk78 v576), ∀ a x, ((![v576] : Fin 1 → IVec S16 32) a x).toNat < S25088.size a := fun v576 k0_hw78 => k0_hw78.1
theorem k0_idx150_inb : ∀ (v576 : IVec S16 32) (k0_hw78 : k0_chk78 v576), ∀ a x, ((![v576] : Fin 1 → IVec S16 32) a x).toNat < S25088.size a := fun v576 k0_hw78 => k0_hw78.2

def k0_chk79 (v595 : IVec S16 32) : Prop :=
  (∀ a x, ((![v595] : Fin 1 → IVec S16 32) a x).toNat < S25088.size a) ∧
  (∀ a x, ((![v595] : Fin 1 → IVec S16 32) a x).toNat < S25088.size a)
theorem k0_idx151_inb : ∀ (v595 : IVec S16 32) (k0_hw79 : k0_chk79 v595), ∀ a x, ((![v595] : Fin 1 → IVec S16 32) a x).toNat < S25088.size a := fun v595 k0_hw79 => k0_hw79.1
theorem k0_idx152_inb : ∀ (v595 : IVec S16 32) (k0_hw79 : k0_chk79 v595), ∀ a x, ((![v595] : Fin 1 → IVec S16 32) a x).toNat < S25088.size a := fun v595 k0_hw79 => k0_hw79.2

def k0_chk80 (v614 : IVec S16 32) : Prop :=
  (∀ a x, ((![v614] : Fin 1 → IVec S16 32) a x).toNat < S25088.size a) ∧
  (∀ a x, ((![v614] : Fin 1 → IVec S16 32) a x).toNat < S25088.size a)
theorem k0_idx153_inb : ∀ (v614 : IVec S16 32) (k0_hw80 : k0_chk80 v614), ∀ a x, ((![v614] : Fin 1 → IVec S16 32) a x).toNat < S25088.size a := fun v614 k0_hw80 => k0_hw80.1
theorem k0_idx154_inb : ∀ (v614 : IVec S16 32) (k0_hw80 : k0_chk80 v614), ∀ a x, ((![v614] : Fin 1 → IVec S16 32) a x).toNat < S25088.size a := fun v614 k0_hw80 => k0_hw80.2

def k0_chk81 (v633 : IVec S16 32) : Prop :=
  (∀ a x, ((![v633] : Fin 1 → IVec S16 32) a x).toNat < S25088.size a) ∧
  (∀ a x, ((![v633] : Fin 1 → IVec S16 32) a x).toNat < S25088.size a)
theorem k0_idx155_inb : ∀ (v633 : IVec S16 32) (k0_hw81 : k0_chk81 v633), ∀ a x, ((![v633] : Fin 1 → IVec S16 32) a x).toNat < S25088.size a := fun v633 k0_hw81 => k0_hw81.1
theorem k0_idx156_inb : ∀ (v633 : IVec S16 32) (k0_hw81 : k0_chk81 v633), ∀ a x, ((![v633] : Fin 1 → IVec S16 32) a x).toNat < S25088.size a := fun v633 k0_hw81 => k0_hw81.2

def k0_chk82 (v652 : IVec S16 32) : Prop :=
  (∀ a x, ((![v652] : Fin 1 → IVec S16 32) a x).toNat < S25088.size a) ∧
  (∀ a x, ((![v652] : Fin 1 → IVec S16 32) a x).toNat < S25088.size a)
theorem k0_idx157_inb : ∀ (v652 : IVec S16 32) (k0_hw82 : k0_chk82 v652), ∀ a x, ((![v652] : Fin 1 → IVec S16 32) a x).toNat < S25088.size a := fun v652 k0_hw82 => k0_hw82.1
theorem k0_idx158_inb : ∀ (v652 : IVec S16 32) (k0_hw82 : k0_chk82 v652), ∀ a x, ((![v652] : Fin 1 → IVec S16 32) a x).toNat < S25088.size a := fun v652 k0_hw82 => k0_hw82.2

def k0_chk83 (v671 : IVec S16 32) : Prop :=
  (∀ a x, ((![v671] : Fin 1 → IVec S16 32) a x).toNat < S25088.size a) ∧
  (∀ a x, ((![v671] : Fin 1 → IVec S16 32) a x).toNat < S25088.size a)
theorem k0_idx159_inb : ∀ (v671 : IVec S16 32) (k0_hw83 : k0_chk83 v671), ∀ a x, ((![v671] : Fin 1 → IVec S16 32) a x).toNat < S25088.size a := fun v671 k0_hw83 => k0_hw83.1
theorem k0_idx160_inb : ∀ (v671 : IVec S16 32) (k0_hw83 : k0_chk83 v671), ∀ a x, ((![v671] : Fin 1 → IVec S16 32) a x).toNat < S25088.size a := fun v671 k0_hw83 => k0_hw83.2

def k0_chk84 (v722 : IVec S16 32) : Prop :=
  (∀ a x, ((![v722] : Fin 1 → IVec S16 32) a x).toNat < S25088.size a) ∧
  (∀ a x, ((![v722] : Fin 1 → IVec S16 32) a x).toNat < S25088.size a)
theorem k0_idx161_inb : ∀ (v722 : IVec S16 32) (k0_hw84 : k0_chk84 v722), ∀ a x, ((![v722] : Fin 1 → IVec S16 32) a x).toNat < S25088.size a := fun v722 k0_hw84 => k0_hw84.1
theorem k0_idx162_inb : ∀ (v722 : IVec S16 32) (k0_hw84 : k0_chk84 v722), ∀ a x, ((![v722] : Fin 1 → IVec S16 32) a x).toNat < S25088.size a := fun v722 k0_hw84 => k0_hw84.2

def k0_chk85 (v741 : IVec S16 32) : Prop :=
  (∀ a x, ((![v741] : Fin 1 → IVec S16 32) a x).toNat < S25088.size a) ∧
  (∀ a x, ((![v741] : Fin 1 → IVec S16 32) a x).toNat < S25088.size a)
theorem k0_idx163_inb : ∀ (v741 : IVec S16 32) (k0_hw85 : k0_chk85 v741), ∀ a x, ((![v741] : Fin 1 → IVec S16 32) a x).toNat < S25088.size a := fun v741 k0_hw85 => k0_hw85.1
theorem k0_idx164_inb : ∀ (v741 : IVec S16 32) (k0_hw85 : k0_chk85 v741), ∀ a x, ((![v741] : Fin 1 → IVec S16 32) a x).toNat < S25088.size a := fun v741 k0_hw85 => k0_hw85.2

def k0_chk86 (v760 : IVec S16 32) : Prop :=
  (∀ a x, ((![v760] : Fin 1 → IVec S16 32) a x).toNat < S25088.size a) ∧
  (∀ a x, ((![v760] : Fin 1 → IVec S16 32) a x).toNat < S25088.size a)
theorem k0_idx165_inb : ∀ (v760 : IVec S16 32) (k0_hw86 : k0_chk86 v760), ∀ a x, ((![v760] : Fin 1 → IVec S16 32) a x).toNat < S25088.size a := fun v760 k0_hw86 => k0_hw86.1
theorem k0_idx166_inb : ∀ (v760 : IVec S16 32) (k0_hw86 : k0_chk86 v760), ∀ a x, ((![v760] : Fin 1 → IVec S16 32) a x).toNat < S25088.size a := fun v760 k0_hw86 => k0_hw86.2

def k0_chk87 (v779 : IVec S16 32) : Prop :=
  (∀ a x, ((![v779] : Fin 1 → IVec S16 32) a x).toNat < S25088.size a) ∧
  (∀ a x, ((![v779] : Fin 1 → IVec S16 32) a x).toNat < S25088.size a)
theorem k0_idx167_inb : ∀ (v779 : IVec S16 32) (k0_hw87 : k0_chk87 v779), ∀ a x, ((![v779] : Fin 1 → IVec S16 32) a x).toNat < S25088.size a := fun v779 k0_hw87 => k0_hw87.1
theorem k0_idx168_inb : ∀ (v779 : IVec S16 32) (k0_hw87 : k0_chk87 v779), ∀ a x, ((![v779] : Fin 1 → IVec S16 32) a x).toNat < S25088.size a := fun v779 k0_hw87 => k0_hw87.2

def k0_chk88 (v798 : IVec S16 32) : Prop :=
  (∀ a x, ((![v798] : Fin 1 → IVec S16 32) a x).toNat < S25088.size a) ∧
  (∀ a x, ((![v798] : Fin 1 → IVec S16 32) a x).toNat < S25088.size a)
theorem k0_idx169_inb : ∀ (v798 : IVec S16 32) (k0_hw88 : k0_chk88 v798), ∀ a x, ((![v798] : Fin 1 → IVec S16 32) a x).toNat < S25088.size a := fun v798 k0_hw88 => k0_hw88.1
theorem k0_idx170_inb : ∀ (v798 : IVec S16 32) (k0_hw88 : k0_chk88 v798), ∀ a x, ((![v798] : Fin 1 → IVec S16 32) a x).toNat < S25088.size a := fun v798 k0_hw88 => k0_hw88.2

def k0_chk89 (v817 : IVec S16 32) : Prop :=
  (∀ a x, ((![v817] : Fin 1 → IVec S16 32) a x).toNat < S25088.size a) ∧
  (∀ a x, ((![v817] : Fin 1 → IVec S16 32) a x).toNat < S25088.size a)
theorem k0_idx171_inb : ∀ (v817 : IVec S16 32) (k0_hw89 : k0_chk89 v817), ∀ a x, ((![v817] : Fin 1 → IVec S16 32) a x).toNat < S25088.size a := fun v817 k0_hw89 => k0_hw89.1
theorem k0_idx172_inb : ∀ (v817 : IVec S16 32) (k0_hw89 : k0_chk89 v817), ∀ a x, ((![v817] : Fin 1 → IVec S16 32) a x).toNat < S25088.size a := fun v817 k0_hw89 => k0_hw89.2

def k0_chk90 (v836 : IVec S16 32) : Prop :=
  (∀ a x, ((![v836] : Fin 1 → IVec S16 32) a x).toNat < S25088.size a) ∧
  (∀ a x, ((![v836] : Fin 1 → IVec S16 32) a x).toNat < S25088.size a)
theorem k0_idx173_inb : ∀ (v836 : IVec S16 32) (k0_hw90 : k0_chk90 v836), ∀ a x, ((![v836] : Fin 1 → IVec S16 32) a x).toNat < S25088.size a := fun v836 k0_hw90 => k0_hw90.1
theorem k0_idx174_inb : ∀ (v836 : IVec S16 32) (k0_hw90 : k0_chk90 v836), ∀ a x, ((![v836] : Fin 1 → IVec S16 32) a x).toNat < S25088.size a := fun v836 k0_hw90 => k0_hw90.2

def k0_chk91 (v855 : IVec S16 32) : Prop :=
  (∀ a x, ((![v855] : Fin 1 → IVec S16 32) a x).toNat < S25088.size a) ∧
  (∀ a x, ((![v855] : Fin 1 → IVec S16 32) a x).toNat < S25088.size a)
theorem k0_idx175_inb : ∀ (v855 : IVec S16 32) (k0_hw91 : k0_chk91 v855), ∀ a x, ((![v855] : Fin 1 → IVec S16 32) a x).toNat < S25088.size a := fun v855 k0_hw91 => k0_hw91.1
theorem k0_idx176_inb : ∀ (v855 : IVec S16 32) (k0_hw91 : k0_chk91 v855), ∀ a x, ((![v855] : Fin 1 → IVec S16 32) a x).toNat < S25088.size a := fun v855 k0_hw91 => k0_hw91.2

def k0_chk92 (v874 : IVec S16 32) : Prop :=
  (∀ a x, ((![v874] : Fin 1 → IVec S16 32) a x).toNat < S25088.size a) ∧
  (∀ a x, ((![v874] : Fin 1 → IVec S16 32) a x).toNat < S25088.size a)
theorem k0_idx177_inb : ∀ (v874 : IVec S16 32) (k0_hw92 : k0_chk92 v874), ∀ a x, ((![v874] : Fin 1 → IVec S16 32) a x).toNat < S25088.size a := fun v874 k0_hw92 => k0_hw92.1
theorem k0_idx178_inb : ∀ (v874 : IVec S16 32) (k0_hw92 : k0_chk92 v874), ∀ a x, ((![v874] : Fin 1 → IVec S16 32) a x).toNat < S25088.size a := fun v874 k0_hw92 => k0_hw92.2

def k0_chk93 (v893 : IVec S16 32) : Prop :=
  (∀ a x, ((![v893] : Fin 1 → IVec S16 32) a x).toNat < S25088.size a) ∧
  (∀ a x, ((![v893] : Fin 1 → IVec S16 32) a x).toNat < S25088.size a)
theorem k0_idx179_inb : ∀ (v893 : IVec S16 32) (k0_hw93 : k0_chk93 v893), ∀ a x, ((![v893] : Fin 1 → IVec S16 32) a x).toNat < S25088.size a := fun v893 k0_hw93 => k0_hw93.1
theorem k0_idx180_inb : ∀ (v893 : IVec S16 32) (k0_hw93 : k0_chk93 v893), ∀ a x, ((![v893] : Fin 1 → IVec S16 32) a x).toNat < S25088.size a := fun v893 k0_hw93 => k0_hw93.2

def k0_chk94 (v912 : IVec S16 32) : Prop :=
  (∀ a x, ((![v912] : Fin 1 → IVec S16 32) a x).toNat < S25088.size a) ∧
  (∀ a x, ((![v912] : Fin 1 → IVec S16 32) a x).toNat < S25088.size a)
theorem k0_idx181_inb : ∀ (v912 : IVec S16 32) (k0_hw94 : k0_chk94 v912), ∀ a x, ((![v912] : Fin 1 → IVec S16 32) a x).toNat < S25088.size a := fun v912 k0_hw94 => k0_hw94.1
theorem k0_idx182_inb : ∀ (v912 : IVec S16 32) (k0_hw94 : k0_chk94 v912), ∀ a x, ((![v912] : Fin 1 → IVec S16 32) a x).toNat < S25088.size a := fun v912 k0_hw94 => k0_hw94.2

def k0_chk95 (v931 : IVec S16 32) : Prop :=
  (∀ a x, ((![v931] : Fin 1 → IVec S16 32) a x).toNat < S25088.size a) ∧
  (∀ a x, ((![v931] : Fin 1 → IVec S16 32) a x).toNat < S25088.size a)
theorem k0_idx183_inb : ∀ (v931 : IVec S16 32) (k0_hw95 : k0_chk95 v931), ∀ a x, ((![v931] : Fin 1 → IVec S16 32) a x).toNat < S25088.size a := fun v931 k0_hw95 => k0_hw95.1
theorem k0_idx184_inb : ∀ (v931 : IVec S16 32) (k0_hw95 : k0_chk95 v931), ∀ a x, ((![v931] : Fin 1 → IVec S16 32) a x).toNat < S25088.size a := fun v931 k0_hw95 => k0_hw95.2

def k0_chk96 (v950 : IVec S16 32) : Prop :=
  (∀ a x, ((![v950] : Fin 1 → IVec S16 32) a x).toNat < S25088.size a) ∧
  (∀ a x, ((![v950] : Fin 1 → IVec S16 32) a x).toNat < S25088.size a)
theorem k0_idx185_inb : ∀ (v950 : IVec S16 32) (k0_hw96 : k0_chk96 v950), ∀ a x, ((![v950] : Fin 1 → IVec S16 32) a x).toNat < S25088.size a := fun v950 k0_hw96 => k0_hw96.1
theorem k0_idx186_inb : ∀ (v950 : IVec S16 32) (k0_hw96 : k0_chk96 v950), ∀ a x, ((![v950] : Fin 1 → IVec S16 32) a x).toNat < S25088.size a := fun v950 k0_hw96 => k0_hw96.2

def k0_chk97 (v969 : IVec S16 32) : Prop :=
  (∀ a x, ((![v969] : Fin 1 → IVec S16 32) a x).toNat < S25088.size a) ∧
  (∀ a x, ((![v969] : Fin 1 → IVec S16 32) a x).toNat < S25088.size a)
theorem k0_idx187_inb : ∀ (v969 : IVec S16 32) (k0_hw97 : k0_chk97 v969), ∀ a x, ((![v969] : Fin 1 → IVec S16 32) a x).toNat < S25088.size a := fun v969 k0_hw97 => k0_hw97.1
theorem k0_idx188_inb : ∀ (v969 : IVec S16 32) (k0_hw97 : k0_chk97 v969), ∀ a x, ((![v969] : Fin 1 → IVec S16 32) a x).toNat < S25088.size a := fun v969 k0_hw97 => k0_hw97.2

def k0_chk98 (v988 : IVec S16 32) : Prop :=
  (∀ a x, ((![v988] : Fin 1 → IVec S16 32) a x).toNat < S25088.size a) ∧
  (∀ a x, ((![v988] : Fin 1 → IVec S16 32) a x).toNat < S25088.size a)
theorem k0_idx189_inb : ∀ (v988 : IVec S16 32) (k0_hw98 : k0_chk98 v988), ∀ a x, ((![v988] : Fin 1 → IVec S16 32) a x).toNat < S25088.size a := fun v988 k0_hw98 => k0_hw98.1
theorem k0_idx190_inb : ∀ (v988 : IVec S16 32) (k0_hw98 : k0_chk98 v988), ∀ a x, ((![v988] : Fin 1 → IVec S16 32) a x).toNat < S25088.size a := fun v988 k0_hw98 => k0_hw98.2

def k0_chk99 (v1007 : IVec S16 32) : Prop :=
  (∀ a x, ((![v1007] : Fin 1 → IVec S16 32) a x).toNat < S25088.size a) ∧
  (∀ a x, ((![v1007] : Fin 1 → IVec S16 32) a x).toNat < S25088.size a)
theorem k0_idx191_inb : ∀ (v1007 : IVec S16 32) (k0_hw99 : k0_chk99 v1007), ∀ a x, ((![v1007] : Fin 1 → IVec S16 32) a x).toNat < S25088.size a := fun v1007 k0_hw99 => k0_hw99.1
theorem k0_idx192_inb : ∀ (v1007 : IVec S16 32) (k0_hw99 : k0_chk99 v1007), ∀ a x, ((![v1007] : Fin 1 → IVec S16 32) a x).toNat < S25088.size a := fun v1007 k0_hw99 => k0_hw99.2
def k0_mult11 (v22 : BitVec 32) (v25 : BitVec 32) (v28 : BitVec 32) (k0_t6 : Fin (k0_t6_loop v22 v25 v28).trips) : BitVec 32 :=
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let c2_i32_112 : BitVec 32 := 2#32
  let c0_i32_70 : BitVec 32 := 0#32
  let c1024_i32_18 : BitVec 32 := 1024#32
  let v32 : BitVec 32 := Scalar.muli v25 c1024_i32_18
  let c3200000_i32 : BitVec 32 := 3200000#32
  let v33 : BitVec 32 := Scalar.minsi v32 c3200000_i32
  let v41 : BitVec 32 := Scalar.subi v33 v39
  let c1024_i32_24 : BitVec 32 := 1024#32
  let v42 : BitVec 32 := Scalar.addi v41 c1024_i32_24
  let c1_i32_25 : BitVec 32 := 1#32
  let v43 : BitVec 32 := Scalar.subi v42 c1_i32_25
  let c0_i32_27 : BitVec 32 := 0#32
  let v45 : BitVec 1 := Scalar.cmpi .sgt v43 c0_i32_27
  let v46 : BitVec 32 := Scalar.extui v45
  let c0_i32_28 : BitVec 32 := 0#32
  let v47 : BitVec 1 := Scalar.cmpi .slt v43 c0_i32_28
  let v48 : BitVec 32 := Scalar.extui v47
  let v49 : BitVec 32 := Scalar.subi v46 v48
  let c1024_i32_26 : BitVec 32 := 1024#32
  let c0_i32_29 : BitVec 32 := 0#32
  let v50 : BitVec 1 := Scalar.cmpi .sgt c1024_i32_26 c0_i32_29
  let v51 : BitVec 32 := Scalar.extui v50
  let c0_i32_30 : BitVec 32 := 0#32
  let v52 : BitVec 1 := Scalar.cmpi .slt c1024_i32_26 c0_i32_30
  let v53 : BitVec 32 := Scalar.extui v52
  let v54 : BitVec 32 := Scalar.subi v51 v53
  let v55 : BitVec 1 := Scalar.cmpi .ne v49 v54
  let v56 : BitVec 32 := Scalar.remsi v43 c1024_i32_26
  let c0_i32_31 : BitVec 32 := 0#32
  let v57 : BitVec 1 := Scalar.cmpi .ne v56 c0_i32_31
  let v58 : BitVec 1 := Scalar.andi v55 v57
  let v44 : BitVec 32 := Scalar.divsi v43 c1024_i32_26
  let c1_i32_32 : BitVec 32 := 1#32
  let v59 : BitVec 32 := Scalar.subi v44 c1_i32_32
  let v60 : BitVec 32 := Scalar.select v58 v59 v44
  let c1024_i32_22 : BitVec 32 := 1024#32
  let v37 : BitVec 32 := Scalar.muli v28 c1024_i32_22
  let c3200000_i32_23 : BitVec 32 := 3200000#32
  let v38 : BitVec 32 := Scalar.minsi v37 c3200000_i32_23
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let v61 : BitVec 32 := Scalar.subi v38 v40
  let c1024_i32_33 : BitVec 32 := 1024#32
  let v62 : BitVec 32 := Scalar.addi v61 c1024_i32_33
  let c1_i32_34 : BitVec 32 := 1#32
  let v63 : BitVec 32 := Scalar.subi v62 c1_i32_34
  let c0_i32_36 : BitVec 32 := 0#32
  let v65 : BitVec 1 := Scalar.cmpi .sgt v63 c0_i32_36
  let v66 : BitVec 32 := Scalar.extui v65
  let c0_i32_37 : BitVec 32 := 0#32
  let v67 : BitVec 1 := Scalar.cmpi .slt v63 c0_i32_37
  let v68 : BitVec 32 := Scalar.extui v67
  let v69 : BitVec 32 := Scalar.subi v66 v68
  let c1024_i32_35 : BitVec 32 := 1024#32
  let c0_i32_38 : BitVec 32 := 0#32
  let v70 : BitVec 1 := Scalar.cmpi .sgt c1024_i32_35 c0_i32_38
  let v71 : BitVec 32 := Scalar.extui v70
  let c0_i32_39 : BitVec 32 := 0#32
  let v72 : BitVec 1 := Scalar.cmpi .slt c1024_i32_35 c0_i32_39
  let v73 : BitVec 32 := Scalar.extui v72
  let v74 : BitVec 32 := Scalar.subi v71 v73
  let v75 : BitVec 1 := Scalar.cmpi .ne v69 v74
  let v76 : BitVec 32 := Scalar.remsi v63 c1024_i32_35
  let c0_i32_40 : BitVec 32 := 0#32
  let v77 : BitVec 1 := Scalar.cmpi .ne v76 c0_i32_40
  let v78 : BitVec 1 := Scalar.andi v75 v77
  let v64 : BitVec 32 := Scalar.divsi v63 c1024_i32_35
  let c1_i32_41 : BitVec 32 := 1#32
  let v79 : BitVec 32 := Scalar.subi v64 c1_i32_41
  let v80 : BitVec 32 := Scalar.select v78 v79 v64
  let v81 : BitVec 32 := Scalar.maxsi v60 v80
  let c1_i32_42 : BitVec 32 := 1#32
  let v82 : BitVec 32 := Scalar.addi v81 c1_i32_42
  let c0_i32_44 : BitVec 32 := 0#32
  let v84 : BitVec 1 := Scalar.cmpi .sgt v82 c0_i32_44
  let v85 : BitVec 32 := Scalar.extui v84
  let c0_i32_45 : BitVec 32 := 0#32
  let v86 : BitVec 1 := Scalar.cmpi .slt v82 c0_i32_45
  let v87 : BitVec 32 := Scalar.extui v86
  let v88 : BitVec 32 := Scalar.subi v85 v87
  let c2_i32_43 : BitVec 32 := 2#32
  let c0_i32_46 : BitVec 32 := 0#32
  let v89 : BitVec 1 := Scalar.cmpi .sgt c2_i32_43 c0_i32_46
  let v90 : BitVec 32 := Scalar.extui v89
  let c0_i32_47 : BitVec 32 := 0#32
  let v91 : BitVec 1 := Scalar.cmpi .slt c2_i32_43 c0_i32_47
  let v92 : BitVec 32 := Scalar.extui v91
  let v93 : BitVec 32 := Scalar.subi v90 v92
  let v94 : BitVec 1 := Scalar.cmpi .ne v88 v93
  let v95 : BitVec 32 := Scalar.remsi v82 c2_i32_43
  let c0_i32_48 : BitVec 32 := 0#32
  let v96 : BitVec 1 := Scalar.cmpi .ne v95 c0_i32_48
  let v97 : BitVec 1 := Scalar.andi v94 v96
  let v83 : BitVec 32 := Scalar.divsi v82 c2_i32_43
  let c1_i32_49 : BitVec 32 := 1#32
  let v98 : BitVec 32 := Scalar.subi v83 c1_i32_49
  let v99 : BitVec 32 := Scalar.select v97 v98 v83
  let v138 : BitVec 32 := Scalar.subi v99 c0_i32_70
  let c1_i32_71 : BitVec 32 := 1#32
  let v140 : BitVec 32 := Scalar.divsi v138 c1_i32_71
  let v141 : BitVec 32 := Scalar.muli v140 c1_i32_71
  let v142 : BitVec 32 := Scalar.addi c0_i32_70 v141
  let c1_i32_73 : BitVec 32 := 1#32
  let arg33 : BitVec 32 := Scf.iv v142 c1_i32_73 k0_t6
  let v180 : BitVec 32 := Scalar.muli c2_i32_112 arg33
  let c2_i32_170 : BitVec 32 := 2#32
  let v255 : BitVec 32 := Scalar.addi v180 c2_i32_170
  let c1024_i32_171 : BitVec 32 := 1024#32
  let v256 : BitVec 32 := Scalar.muli v255 c1024_i32_171
  let v257 : BitVec 32 := Scalar.addi v39 v256
  let c3198976_i32_172 : BitVec 32 := 3198976#32
  let v258 : BitVec 32 := Scalar.minsi v257 c3198976_i32_172
  v258
def k0_mult12 (v22 : BitVec 32) (v25 : BitVec 32) (v28 : BitVec 32) (k0_t6 : Fin (k0_t6_loop v22 v25 v28).trips) : BitVec 32 :=
  let c1_i32_19 : BitVec 32 := 1#32
  let v34 : BitVec 32 := Scalar.subi v25 c1_i32_19
  let c0_i32_20 : BitVec 32 := 0#32
  let v35 : BitVec 32 := Scalar.maxsi v34 c0_i32_20
  let c1024_i32_21 : BitVec 32 := 1024#32
  let v36 : BitVec 32 := Scalar.muli v35 c1024_i32_21
  let v40 : BitVec 32 := v36
  let c2_i32_112 : BitVec 32 := 2#32
  let c0_i32_70 : BitVec 32 := 0#32
  let c1024_i32_18 : BitVec 32 := 1024#32
  let v32 : BitVec 32 := Scalar.muli v25 c1024_i32_18
  let c3200000_i32 : BitVec 32 := 3200000#32
  let v33 : BitVec 32 := Scalar.minsi v32 c3200000_i32
  let c1_i32_16 : BitVec 32 := 1#32
  let v29 : BitVec 32 := Scalar.subi v22 c1_i32_16
  let c0_i32_17 : BitVec 32 := 0#32
  let v30 : BitVec 32 := Scalar.maxsi v29 c0_i32_17
  let c1024_i32 : BitVec 32 := 1024#32
  let v31 : BitVec 32 := Scalar.muli v30 c1024_i32
  let v39 : BitVec 32 := v31
  let v41 : BitVec 32 := Scalar.subi v33 v39
  let c1024_i32_24 : BitVec 32 := 1024#32
  let v42 : BitVec 32 := Scalar.addi v41 c1024_i32_24
  let c1_i32_25 : BitVec 32 := 1#32
  let v43 : BitVec 32 := Scalar.subi v42 c1_i32_25
  let c0_i32_27 : BitVec 32 := 0#32
  let v45 : BitVec 1 := Scalar.cmpi .sgt v43 c0_i32_27
  let v46 : BitVec 32 := Scalar.extui v45
  let c0_i32_28 : BitVec 32 := 0#32
  let v47 : BitVec 1 := Scalar.cmpi .slt v43 c0_i32_28
  let v48 : BitVec 32 := Scalar.extui v47
  let v49 : BitVec 32 := Scalar.subi v46 v48
  let c1024_i32_26 : BitVec 32 := 1024#32
  let c0_i32_29 : BitVec 32 := 0#32
  let v50 : BitVec 1 := Scalar.cmpi .sgt c1024_i32_26 c0_i32_29
  let v51 : BitVec 32 := Scalar.extui v50
  let c0_i32_30 : BitVec 32 := 0#32
  let v52 : BitVec 1 := Scalar.cmpi .slt c1024_i32_26 c0_i32_30
  let v53 : BitVec 32 := Scalar.extui v52
  let v54 : BitVec 32 := Scalar.subi v51 v53
  let v55 : BitVec 1 := Scalar.cmpi .ne v49 v54
  let v56 : BitVec 32 := Scalar.remsi v43 c1024_i32_26
  let c0_i32_31 : BitVec 32 := 0#32
  let v57 : BitVec 1 := Scalar.cmpi .ne v56 c0_i32_31
  let v58 : BitVec 1 := Scalar.andi v55 v57
  let v44 : BitVec 32 := Scalar.divsi v43 c1024_i32_26
  let c1_i32_32 : BitVec 32 := 1#32
  let v59 : BitVec 32 := Scalar.subi v44 c1_i32_32
  let v60 : BitVec 32 := Scalar.select v58 v59 v44
  let c1024_i32_22 : BitVec 32 := 1024#32
  let v37 : BitVec 32 := Scalar.muli v28 c1024_i32_22
  let c3200000_i32_23 : BitVec 32 := 3200000#32
  let v38 : BitVec 32 := Scalar.minsi v37 c3200000_i32_23
  let v61 : BitVec 32 := Scalar.subi v38 v40
  let c1024_i32_33 : BitVec 32 := 1024#32
  let v62 : BitVec 32 := Scalar.addi v61 c1024_i32_33
  let c1_i32_34 : BitVec 32 := 1#32
  let v63 : BitVec 32 := Scalar.subi v62 c1_i32_34
  let c0_i32_36 : BitVec 32 := 0#32
  let v65 : BitVec 1 := Scalar.cmpi .sgt v63 c0_i32_36
  let v66 : BitVec 32 := Scalar.extui v65
  let c0_i32_37 : BitVec 32 := 0#32
  let v67 : BitVec 1 := Scalar.cmpi .slt v63 c0_i32_37
  let v68 : BitVec 32 := Scalar.extui v67
  let v69 : BitVec 32 := Scalar.subi v66 v68
  let c1024_i32_35 : BitVec 32 := 1024#32
  let c0_i32_38 : BitVec 32 := 0#32
  let v70 : BitVec 1 := Scalar.cmpi .sgt c1024_i32_35 c0_i32_38
  let v71 : BitVec 32 := Scalar.extui v70
  let c0_i32_39 : BitVec 32 := 0#32
  let v72 : BitVec 1 := Scalar.cmpi .slt c1024_i32_35 c0_i32_39
  let v73 : BitVec 32 := Scalar.extui v72
  let v74 : BitVec 32 := Scalar.subi v71 v73
  let v75 : BitVec 1 := Scalar.cmpi .ne v69 v74
  let v76 : BitVec 32 := Scalar.remsi v63 c1024_i32_35
  let c0_i32_40 : BitVec 32 := 0#32
  let v77 : BitVec 1 := Scalar.cmpi .ne v76 c0_i32_40
  let v78 : BitVec 1 := Scalar.andi v75 v77
  let v64 : BitVec 32 := Scalar.divsi v63 c1024_i32_35
  let c1_i32_41 : BitVec 32 := 1#32
  let v79 : BitVec 32 := Scalar.subi v64 c1_i32_41
  let v80 : BitVec 32 := Scalar.select v78 v79 v64
  let v81 : BitVec 32 := Scalar.maxsi v60 v80
  let c1_i32_42 : BitVec 32 := 1#32
  let v82 : BitVec 32 := Scalar.addi v81 c1_i32_42
  let c0_i32_44 : BitVec 32 := 0#32
  let v84 : BitVec 1 := Scalar.cmpi .sgt v82 c0_i32_44
  let v85 : BitVec 32 := Scalar.extui v84
  let c0_i32_45 : BitVec 32 := 0#32
  let v86 : BitVec 1 := Scalar.cmpi .slt v82 c0_i32_45
  let v87 : BitVec 32 := Scalar.extui v86
  let v88 : BitVec 32 := Scalar.subi v85 v87
  let c2_i32_43 : BitVec 32 := 2#32
  let c0_i32_46 : BitVec 32 := 0#32
  let v89 : BitVec 1 := Scalar.cmpi .sgt c2_i32_43 c0_i32_46
  let v90 : BitVec 32 := Scalar.extui v89
  let c0_i32_47 : BitVec 32 := 0#32
  let v91 : BitVec 1 := Scalar.cmpi .slt c2_i32_43 c0_i32_47
  let v92 : BitVec 32 := Scalar.extui v91
  let v93 : BitVec 32 := Scalar.subi v90 v92
  let v94 : BitVec 1 := Scalar.cmpi .ne v88 v93
  let v95 : BitVec 32 := Scalar.remsi v82 c2_i32_43
  let c0_i32_48 : BitVec 32 := 0#32
  let v96 : BitVec 1 := Scalar.cmpi .ne v95 c0_i32_48
  let v97 : BitVec 1 := Scalar.andi v94 v96
  let v83 : BitVec 32 := Scalar.divsi v82 c2_i32_43
  let c1_i32_49 : BitVec 32 := 1#32
  let v98 : BitVec 32 := Scalar.subi v83 c1_i32_49
  let v99 : BitVec 32 := Scalar.select v97 v98 v83
  let v138 : BitVec 32 := Scalar.subi v99 c0_i32_70
  let c1_i32_71 : BitVec 32 := 1#32
  let v140 : BitVec 32 := Scalar.divsi v138 c1_i32_71
  let v141 : BitVec 32 := Scalar.muli v140 c1_i32_71
  let v142 : BitVec 32 := Scalar.addi c0_i32_70 v141
  let c1_i32_73 : BitVec 32 := 1#32
  let arg33 : BitVec 32 := Scf.iv v142 c1_i32_73 k0_t6
  let v180 : BitVec 32 := Scalar.muli c2_i32_112 arg33
  let c2_i32_170 : BitVec 32 := 2#32
  let v255 : BitVec 32 := Scalar.addi v180 c2_i32_170
  let c1024_i32_173 : BitVec 32 := 1024#32
  let v260 : BitVec 32 := Scalar.muli v255 c1024_i32_173
  let v261 : BitVec 32 := Scalar.addi v40 v260
  let c3198976_i32_174 : BitVec 32 := 3198976#32
  let v262 : BitVec 32 := Scalar.minsi v261 c3198976_i32_174
  v262

def k0_chk3 (v22 : BitVec 32) (v25 : BitVec 32) (v28 : BitVec 32) : Prop :=
  ((k0_t3_loop v22 v25 v28).OK) ∧
  (∀ k0_t3 : Fin (k0_t3_loop v22 v25 v28).trips, 8 ∣ (k0_mult5 v22 v25 v28 k0_t3).toNat) ∧
  (∀ k0_t3 : Fin (k0_t3_loop v22 v25 v28).trips, 8 ∣ (k0_mult6 v22 v25 v28 k0_t3).toNat) ∧
  (∀ k0_t3 : Fin (k0_t3_loop v22 v25 v28).trips, ∀ (r : Fin 2), ∀ a, (k0_off5 v22 v25 v28 k0_t3 (BitVec.ofNat 32 (1 + r.val))) a + S1024.size a ≤ S3200000.size a) ∧
  (∀ k0_t3 : Fin (k0_t3_loop v22 v25 v28).trips, ∀ (r : Fin 2), ∀ a, (k0_off6 v22 v25 v28 k0_t3 (BitVec.ofNat 32 (1 + r.val))) a + S1024.size a ≤ S3200000.size a) ∧
  (∀ k0_t3 : Fin (k0_t3_loop v22 v25 v28).trips, 8 ∣ (k0_mult7 v22 v25 v28 k0_t3).toNat) ∧
  (∀ k0_t3 : Fin (k0_t3_loop v22 v25 v28).trips, 8 ∣ (k0_mult8 v22 v25 v28 k0_t3).toNat) ∧
  ((k0_t6_loop v22 v25 v28).OK) ∧
  (∀ k0_t6 : Fin (k0_t6_loop v22 v25 v28).trips, 8 ∣ (k0_mult9 v22 v25 v28 k0_t6).toNat) ∧
  (∀ k0_t6 : Fin (k0_t6_loop v22 v25 v28).trips, 8 ∣ (k0_mult10 v22 v25 v28 k0_t6).toNat) ∧
  (∀ k0_t6 : Fin (k0_t6_loop v22 v25 v28).trips, ∀ (r : Fin 2), ∀ a, (k0_off9 v22 v25 v28 k0_t6 (BitVec.ofNat 32 (1 + r.val))) a + S1024.size a ≤ S3200000.size a) ∧
  (∀ k0_t6 : Fin (k0_t6_loop v22 v25 v28).trips, ∀ (r : Fin 2), ∀ a, (k0_off10 v22 v25 v28 k0_t6 (BitVec.ofNat 32 (1 + r.val))) a + S1024.size a ≤ S3200000.size a) ∧
  (∀ k0_t6 : Fin (k0_t6_loop v22 v25 v28).trips, 8 ∣ (k0_mult11 v22 v25 v28 k0_t6).toNat) ∧
  (∀ k0_t6 : Fin (k0_t6_loop v22 v25 v28).trips, 8 ∣ (k0_mult12 v22 v25 v28 k0_t6).toNat)
theorem k0_t3_ok : ∀ (v22 : BitVec 32) (v25 : BitVec 32) (v28 : BitVec 32) (k0_hw3 : k0_chk3 v22 v25 v28), (k0_t3_loop v22 v25 v28).OK := fun v22 v25 v28 k0_hw3 => k0_hw3.1
theorem k0_mult5_dvd : ∀ (v22 : BitVec 32) (v25 : BitVec 32) (v28 : BitVec 32) (k0_hw3 : k0_chk3 v22 v25 v28) (k0_t3 : Fin (k0_t3_loop v22 v25 v28).trips), 8 ∣ (k0_mult5 v22 v25 v28 k0_t3).toNat := fun v22 v25 v28 k0_hw3 k0_t3 => k0_hw3.2.1 k0_t3
theorem k0_mult6_dvd : ∀ (v22 : BitVec 32) (v25 : BitVec 32) (v28 : BitVec 32) (k0_hw3 : k0_chk3 v22 v25 v28) (k0_t3 : Fin (k0_t3_loop v22 v25 v28).trips), 8 ∣ (k0_mult6 v22 v25 v28 k0_t3).toNat := fun v22 v25 v28 k0_hw3 k0_t3 => k0_hw3.2.2.1 k0_t3
theorem k0_off5_inb : ∀ (v22 : BitVec 32) (v25 : BitVec 32) (v28 : BitVec 32) (k0_hw3 : k0_chk3 v22 v25 v28) (k0_t3 : Fin (k0_t3_loop v22 v25 v28).trips), ∀ (r : Fin 2), ∀ a, (k0_off5 v22 v25 v28 k0_t3 (BitVec.ofNat 32 (1 + r.val))) a + S1024.size a ≤ S3200000.size a := fun v22 v25 v28 k0_hw3 k0_t3 r => k0_hw3.2.2.2.1 k0_t3 r
theorem k0_off6_inb : ∀ (v22 : BitVec 32) (v25 : BitVec 32) (v28 : BitVec 32) (k0_hw3 : k0_chk3 v22 v25 v28) (k0_t3 : Fin (k0_t3_loop v22 v25 v28).trips), ∀ (r : Fin 2), ∀ a, (k0_off6 v22 v25 v28 k0_t3 (BitVec.ofNat 32 (1 + r.val))) a + S1024.size a ≤ S3200000.size a := fun v22 v25 v28 k0_hw3 k0_t3 r => k0_hw3.2.2.2.2.1 k0_t3 r
theorem k0_mult7_dvd : ∀ (v22 : BitVec 32) (v25 : BitVec 32) (v28 : BitVec 32) (k0_hw3 : k0_chk3 v22 v25 v28) (k0_t3 : Fin (k0_t3_loop v22 v25 v28).trips), 8 ∣ (k0_mult7 v22 v25 v28 k0_t3).toNat := fun v22 v25 v28 k0_hw3 k0_t3 => k0_hw3.2.2.2.2.2.1 k0_t3
theorem k0_mult8_dvd : ∀ (v22 : BitVec 32) (v25 : BitVec 32) (v28 : BitVec 32) (k0_hw3 : k0_chk3 v22 v25 v28) (k0_t3 : Fin (k0_t3_loop v22 v25 v28).trips), 8 ∣ (k0_mult8 v22 v25 v28 k0_t3).toNat := fun v22 v25 v28 k0_hw3 k0_t3 => k0_hw3.2.2.2.2.2.2.1 k0_t3
theorem k0_t6_ok : ∀ (v22 : BitVec 32) (v25 : BitVec 32) (v28 : BitVec 32) (k0_hw3 : k0_chk3 v22 v25 v28), (k0_t6_loop v22 v25 v28).OK := fun v22 v25 v28 k0_hw3 => k0_hw3.2.2.2.2.2.2.2.1
theorem k0_mult9_dvd : ∀ (v22 : BitVec 32) (v25 : BitVec 32) (v28 : BitVec 32) (k0_hw3 : k0_chk3 v22 v25 v28) (k0_t6 : Fin (k0_t6_loop v22 v25 v28).trips), 8 ∣ (k0_mult9 v22 v25 v28 k0_t6).toNat := fun v22 v25 v28 k0_hw3 k0_t6 => k0_hw3.2.2.2.2.2.2.2.2.1 k0_t6
theorem k0_mult10_dvd : ∀ (v22 : BitVec 32) (v25 : BitVec 32) (v28 : BitVec 32) (k0_hw3 : k0_chk3 v22 v25 v28) (k0_t6 : Fin (k0_t6_loop v22 v25 v28).trips), 8 ∣ (k0_mult10 v22 v25 v28 k0_t6).toNat := fun v22 v25 v28 k0_hw3 k0_t6 => k0_hw3.2.2.2.2.2.2.2.2.2.1 k0_t6
theorem k0_off9_inb : ∀ (v22 : BitVec 32) (v25 : BitVec 32) (v28 : BitVec 32) (k0_hw3 : k0_chk3 v22 v25 v28) (k0_t6 : Fin (k0_t6_loop v22 v25 v28).trips), ∀ (r : Fin 2), ∀ a, (k0_off9 v22 v25 v28 k0_t6 (BitVec.ofNat 32 (1 + r.val))) a + S1024.size a ≤ S3200000.size a := fun v22 v25 v28 k0_hw3 k0_t6 r => k0_hw3.2.2.2.2.2.2.2.2.2.2.1 k0_t6 r
theorem k0_off10_inb : ∀ (v22 : BitVec 32) (v25 : BitVec 32) (v28 : BitVec 32) (k0_hw3 : k0_chk3 v22 v25 v28) (k0_t6 : Fin (k0_t6_loop v22 v25 v28).trips), ∀ (r : Fin 2), ∀ a, (k0_off10 v22 v25 v28 k0_t6 (BitVec.ofNat 32 (1 + r.val))) a + S1024.size a ≤ S3200000.size a := fun v22 v25 v28 k0_hw3 k0_t6 r => k0_hw3.2.2.2.2.2.2.2.2.2.2.2.1 k0_t6 r
theorem k0_mult11_dvd : ∀ (v22 : BitVec 32) (v25 : BitVec 32) (v28 : BitVec 32) (k0_hw3 : k0_chk3 v22 v25 v28) (k0_t6 : Fin (k0_t6_loop v22 v25 v28).trips), 8 ∣ (k0_mult11 v22 v25 v28 k0_t6).toNat := fun v22 v25 v28 k0_hw3 k0_t6 => k0_hw3.2.2.2.2.2.2.2.2.2.2.2.2.1 k0_t6
theorem k0_mult12_dvd : ∀ (v22 : BitVec 32) (v25 : BitVec 32) (v28 : BitVec 32) (k0_hw3 : k0_chk3 v22 v25 v28) (k0_t6 : Fin (k0_t6_loop v22 v25 v28).trips), 8 ∣ (k0_mult12 v22 v25 v28 k0_t6).toNat := fun v22 v25 v28 k0_hw3 k0_t6 => k0_hw3.2.2.2.2.2.2.2.2.2.2.2.2.2 k0_t6

@[reducible] def k0_t8_loop : Scf.Loop 32 :=
  let c0_i32_224 : BitVec 32 := 0#32
  let c64_i32_225 : BitVec 32 := 64#32
  let v328 : BitVec 32 := Scalar.addi c0_i32_224 c64_i32_225
  let c1_i32_226 : BitVec 32 := 1#32
  ⟨c0_i32_224, v328, c1_i32_226⟩
def k0_off12 (k0_t8 : Fin k0_t8_loop.trips) : Fin 1 → Nat :=
  let c0_i32_224 : BitVec 32 := 0#32
  let c1_i32_226 : BitVec 32 := 1#32
  let arg34 : BitVec 32 := Scf.iv c0_i32_224 c1_i32_226 k0_t8
  let c16_i32_228 : BitVec 32 := 16#32
  let v329 : BitVec 32 := Scalar.muli arg34 c16_i32_228
  let v330 : Index := Scalar.indexCast v329
  ![v330.toNat]

def k0_chk100 (v386 : IVec S16 32) : Prop :=
  (∀ a x, ((![v386] : Fin 1 → IVec S16 32) a x).toNat < S25088.size a) ∧
  (∀ a x, ((![v386] : Fin 1 → IVec S16 32) a x).toNat < S25088.size a)
theorem k0_idx193_inb : ∀ (v386 : IVec S16 32) (k0_hw100 : k0_chk100 v386), ∀ a x, ((![v386] : Fin 1 → IVec S16 32) a x).toNat < S25088.size a := fun v386 k0_hw100 => k0_hw100.1
theorem k0_idx194_inb : ∀ (v386 : IVec S16 32) (k0_hw100 : k0_chk100 v386), ∀ a x, ((![v386] : Fin 1 → IVec S16 32) a x).toNat < S25088.size a := fun v386 k0_hw100 => k0_hw100.2

def k0_chk101 (v405 : IVec S16 32) : Prop :=
  (∀ a x, ((![v405] : Fin 1 → IVec S16 32) a x).toNat < S25088.size a) ∧
  (∀ a x, ((![v405] : Fin 1 → IVec S16 32) a x).toNat < S25088.size a)
theorem k0_idx195_inb : ∀ (v405 : IVec S16 32) (k0_hw101 : k0_chk101 v405), ∀ a x, ((![v405] : Fin 1 → IVec S16 32) a x).toNat < S25088.size a := fun v405 k0_hw101 => k0_hw101.1
theorem k0_idx196_inb : ∀ (v405 : IVec S16 32) (k0_hw101 : k0_chk101 v405), ∀ a x, ((![v405] : Fin 1 → IVec S16 32) a x).toNat < S25088.size a := fun v405 k0_hw101 => k0_hw101.2

def k0_chk102 (v424 : IVec S16 32) : Prop :=
  (∀ a x, ((![v424] : Fin 1 → IVec S16 32) a x).toNat < S25088.size a) ∧
  (∀ a x, ((![v424] : Fin 1 → IVec S16 32) a x).toNat < S25088.size a)
theorem k0_idx197_inb : ∀ (v424 : IVec S16 32) (k0_hw102 : k0_chk102 v424), ∀ a x, ((![v424] : Fin 1 → IVec S16 32) a x).toNat < S25088.size a := fun v424 k0_hw102 => k0_hw102.1
theorem k0_idx198_inb : ∀ (v424 : IVec S16 32) (k0_hw102 : k0_chk102 v424), ∀ a x, ((![v424] : Fin 1 → IVec S16 32) a x).toNat < S25088.size a := fun v424 k0_hw102 => k0_hw102.2

def k0_chk103 (v443 : IVec S16 32) : Prop :=
  (∀ a x, ((![v443] : Fin 1 → IVec S16 32) a x).toNat < S25088.size a) ∧
  (∀ a x, ((![v443] : Fin 1 → IVec S16 32) a x).toNat < S25088.size a)
theorem k0_idx199_inb : ∀ (v443 : IVec S16 32) (k0_hw103 : k0_chk103 v443), ∀ a x, ((![v443] : Fin 1 → IVec S16 32) a x).toNat < S25088.size a := fun v443 k0_hw103 => k0_hw103.1
theorem k0_idx200_inb : ∀ (v443 : IVec S16 32) (k0_hw103 : k0_chk103 v443), ∀ a x, ((![v443] : Fin 1 → IVec S16 32) a x).toNat < S25088.size a := fun v443 k0_hw103 => k0_hw103.2

def k0_chk104 (v462 : IVec S16 32) : Prop :=
  (∀ a x, ((![v462] : Fin 1 → IVec S16 32) a x).toNat < S25088.size a) ∧
  (∀ a x, ((![v462] : Fin 1 → IVec S16 32) a x).toNat < S25088.size a)
theorem k0_idx201_inb : ∀ (v462 : IVec S16 32) (k0_hw104 : k0_chk104 v462), ∀ a x, ((![v462] : Fin 1 → IVec S16 32) a x).toNat < S25088.size a := fun v462 k0_hw104 => k0_hw104.1
theorem k0_idx202_inb : ∀ (v462 : IVec S16 32) (k0_hw104 : k0_chk104 v462), ∀ a x, ((![v462] : Fin 1 → IVec S16 32) a x).toNat < S25088.size a := fun v462 k0_hw104 => k0_hw104.2

def k0_chk105 (v481 : IVec S16 32) : Prop :=
  (∀ a x, ((![v481] : Fin 1 → IVec S16 32) a x).toNat < S25088.size a) ∧
  (∀ a x, ((![v481] : Fin 1 → IVec S16 32) a x).toNat < S25088.size a)
theorem k0_idx203_inb : ∀ (v481 : IVec S16 32) (k0_hw105 : k0_chk105 v481), ∀ a x, ((![v481] : Fin 1 → IVec S16 32) a x).toNat < S25088.size a := fun v481 k0_hw105 => k0_hw105.1
theorem k0_idx204_inb : ∀ (v481 : IVec S16 32) (k0_hw105 : k0_chk105 v481), ∀ a x, ((![v481] : Fin 1 → IVec S16 32) a x).toNat < S25088.size a := fun v481 k0_hw105 => k0_hw105.2

def k0_chk106 (v500 : IVec S16 32) : Prop :=
  (∀ a x, ((![v500] : Fin 1 → IVec S16 32) a x).toNat < S25088.size a) ∧
  (∀ a x, ((![v500] : Fin 1 → IVec S16 32) a x).toNat < S25088.size a)
theorem k0_idx205_inb : ∀ (v500 : IVec S16 32) (k0_hw106 : k0_chk106 v500), ∀ a x, ((![v500] : Fin 1 → IVec S16 32) a x).toNat < S25088.size a := fun v500 k0_hw106 => k0_hw106.1
theorem k0_idx206_inb : ∀ (v500 : IVec S16 32) (k0_hw106 : k0_chk106 v500), ∀ a x, ((![v500] : Fin 1 → IVec S16 32) a x).toNat < S25088.size a := fun v500 k0_hw106 => k0_hw106.2

def k0_chk107 (v519 : IVec S16 32) : Prop :=
  (∀ a x, ((![v519] : Fin 1 → IVec S16 32) a x).toNat < S25088.size a) ∧
  (∀ a x, ((![v519] : Fin 1 → IVec S16 32) a x).toNat < S25088.size a)
theorem k0_idx207_inb : ∀ (v519 : IVec S16 32) (k0_hw107 : k0_chk107 v519), ∀ a x, ((![v519] : Fin 1 → IVec S16 32) a x).toNat < S25088.size a := fun v519 k0_hw107 => k0_hw107.1
theorem k0_idx208_inb : ∀ (v519 : IVec S16 32) (k0_hw107 : k0_chk107 v519), ∀ a x, ((![v519] : Fin 1 → IVec S16 32) a x).toNat < S25088.size a := fun v519 k0_hw107 => k0_hw107.2

def k0_chk108 (v538 : IVec S16 32) : Prop :=
  (∀ a x, ((![v538] : Fin 1 → IVec S16 32) a x).toNat < S25088.size a) ∧
  (∀ a x, ((![v538] : Fin 1 → IVec S16 32) a x).toNat < S25088.size a)
theorem k0_idx209_inb : ∀ (v538 : IVec S16 32) (k0_hw108 : k0_chk108 v538), ∀ a x, ((![v538] : Fin 1 → IVec S16 32) a x).toNat < S25088.size a := fun v538 k0_hw108 => k0_hw108.1
theorem k0_idx210_inb : ∀ (v538 : IVec S16 32) (k0_hw108 : k0_chk108 v538), ∀ a x, ((![v538] : Fin 1 → IVec S16 32) a x).toNat < S25088.size a := fun v538 k0_hw108 => k0_hw108.2

def k0_chk109 (v557 : IVec S16 32) : Prop :=
  (∀ a x, ((![v557] : Fin 1 → IVec S16 32) a x).toNat < S25088.size a) ∧
  (∀ a x, ((![v557] : Fin 1 → IVec S16 32) a x).toNat < S25088.size a)
theorem k0_idx211_inb : ∀ (v557 : IVec S16 32) (k0_hw109 : k0_chk109 v557), ∀ a x, ((![v557] : Fin 1 → IVec S16 32) a x).toNat < S25088.size a := fun v557 k0_hw109 => k0_hw109.1
theorem k0_idx212_inb : ∀ (v557 : IVec S16 32) (k0_hw109 : k0_chk109 v557), ∀ a x, ((![v557] : Fin 1 → IVec S16 32) a x).toNat < S25088.size a := fun v557 k0_hw109 => k0_hw109.2

def k0_chk110 (v576 : IVec S16 32) : Prop :=
  (∀ a x, ((![v576] : Fin 1 → IVec S16 32) a x).toNat < S25088.size a) ∧
  (∀ a x, ((![v576] : Fin 1 → IVec S16 32) a x).toNat < S25088.size a)
theorem k0_idx213_inb : ∀ (v576 : IVec S16 32) (k0_hw110 : k0_chk110 v576), ∀ a x, ((![v576] : Fin 1 → IVec S16 32) a x).toNat < S25088.size a := fun v576 k0_hw110 => k0_hw110.1
theorem k0_idx214_inb : ∀ (v576 : IVec S16 32) (k0_hw110 : k0_chk110 v576), ∀ a x, ((![v576] : Fin 1 → IVec S16 32) a x).toNat < S25088.size a := fun v576 k0_hw110 => k0_hw110.2

def k0_chk111 (v595 : IVec S16 32) : Prop :=
  (∀ a x, ((![v595] : Fin 1 → IVec S16 32) a x).toNat < S25088.size a) ∧
  (∀ a x, ((![v595] : Fin 1 → IVec S16 32) a x).toNat < S25088.size a)
theorem k0_idx215_inb : ∀ (v595 : IVec S16 32) (k0_hw111 : k0_chk111 v595), ∀ a x, ((![v595] : Fin 1 → IVec S16 32) a x).toNat < S25088.size a := fun v595 k0_hw111 => k0_hw111.1
theorem k0_idx216_inb : ∀ (v595 : IVec S16 32) (k0_hw111 : k0_chk111 v595), ∀ a x, ((![v595] : Fin 1 → IVec S16 32) a x).toNat < S25088.size a := fun v595 k0_hw111 => k0_hw111.2

def k0_chk112 (v614 : IVec S16 32) : Prop :=
  (∀ a x, ((![v614] : Fin 1 → IVec S16 32) a x).toNat < S25088.size a) ∧
  (∀ a x, ((![v614] : Fin 1 → IVec S16 32) a x).toNat < S25088.size a)
theorem k0_idx217_inb : ∀ (v614 : IVec S16 32) (k0_hw112 : k0_chk112 v614), ∀ a x, ((![v614] : Fin 1 → IVec S16 32) a x).toNat < S25088.size a := fun v614 k0_hw112 => k0_hw112.1
theorem k0_idx218_inb : ∀ (v614 : IVec S16 32) (k0_hw112 : k0_chk112 v614), ∀ a x, ((![v614] : Fin 1 → IVec S16 32) a x).toNat < S25088.size a := fun v614 k0_hw112 => k0_hw112.2

def k0_chk113 (v633 : IVec S16 32) : Prop :=
  (∀ a x, ((![v633] : Fin 1 → IVec S16 32) a x).toNat < S25088.size a) ∧
  (∀ a x, ((![v633] : Fin 1 → IVec S16 32) a x).toNat < S25088.size a)
theorem k0_idx219_inb : ∀ (v633 : IVec S16 32) (k0_hw113 : k0_chk113 v633), ∀ a x, ((![v633] : Fin 1 → IVec S16 32) a x).toNat < S25088.size a := fun v633 k0_hw113 => k0_hw113.1
theorem k0_idx220_inb : ∀ (v633 : IVec S16 32) (k0_hw113 : k0_chk113 v633), ∀ a x, ((![v633] : Fin 1 → IVec S16 32) a x).toNat < S25088.size a := fun v633 k0_hw113 => k0_hw113.2

def k0_chk114 (v652 : IVec S16 32) : Prop :=
  (∀ a x, ((![v652] : Fin 1 → IVec S16 32) a x).toNat < S25088.size a) ∧
  (∀ a x, ((![v652] : Fin 1 → IVec S16 32) a x).toNat < S25088.size a)
theorem k0_idx221_inb : ∀ (v652 : IVec S16 32) (k0_hw114 : k0_chk114 v652), ∀ a x, ((![v652] : Fin 1 → IVec S16 32) a x).toNat < S25088.size a := fun v652 k0_hw114 => k0_hw114.1
theorem k0_idx222_inb : ∀ (v652 : IVec S16 32) (k0_hw114 : k0_chk114 v652), ∀ a x, ((![v652] : Fin 1 → IVec S16 32) a x).toNat < S25088.size a := fun v652 k0_hw114 => k0_hw114.2

def k0_chk115 (v671 : IVec S16 32) : Prop :=
  (∀ a x, ((![v671] : Fin 1 → IVec S16 32) a x).toNat < S25088.size a) ∧
  (∀ a x, ((![v671] : Fin 1 → IVec S16 32) a x).toNat < S25088.size a)
theorem k0_idx223_inb : ∀ (v671 : IVec S16 32) (k0_hw115 : k0_chk115 v671), ∀ a x, ((![v671] : Fin 1 → IVec S16 32) a x).toNat < S25088.size a := fun v671 k0_hw115 => k0_hw115.1
theorem k0_idx224_inb : ∀ (v671 : IVec S16 32) (k0_hw115 : k0_chk115 v671), ∀ a x, ((![v671] : Fin 1 → IVec S16 32) a x).toNat < S25088.size a := fun v671 k0_hw115 => k0_hw115.2

def k0_chk116 (v722 : IVec S16 32) : Prop :=
  (∀ a x, ((![v722] : Fin 1 → IVec S16 32) a x).toNat < S25088.size a) ∧
  (∀ a x, ((![v722] : Fin 1 → IVec S16 32) a x).toNat < S25088.size a)
theorem k0_idx225_inb : ∀ (v722 : IVec S16 32) (k0_hw116 : k0_chk116 v722), ∀ a x, ((![v722] : Fin 1 → IVec S16 32) a x).toNat < S25088.size a := fun v722 k0_hw116 => k0_hw116.1
theorem k0_idx226_inb : ∀ (v722 : IVec S16 32) (k0_hw116 : k0_chk116 v722), ∀ a x, ((![v722] : Fin 1 → IVec S16 32) a x).toNat < S25088.size a := fun v722 k0_hw116 => k0_hw116.2

def k0_chk117 (v741 : IVec S16 32) : Prop :=
  (∀ a x, ((![v741] : Fin 1 → IVec S16 32) a x).toNat < S25088.size a) ∧
  (∀ a x, ((![v741] : Fin 1 → IVec S16 32) a x).toNat < S25088.size a)
theorem k0_idx227_inb : ∀ (v741 : IVec S16 32) (k0_hw117 : k0_chk117 v741), ∀ a x, ((![v741] : Fin 1 → IVec S16 32) a x).toNat < S25088.size a := fun v741 k0_hw117 => k0_hw117.1
theorem k0_idx228_inb : ∀ (v741 : IVec S16 32) (k0_hw117 : k0_chk117 v741), ∀ a x, ((![v741] : Fin 1 → IVec S16 32) a x).toNat < S25088.size a := fun v741 k0_hw117 => k0_hw117.2

def k0_chk118 (v760 : IVec S16 32) : Prop :=
  (∀ a x, ((![v760] : Fin 1 → IVec S16 32) a x).toNat < S25088.size a) ∧
  (∀ a x, ((![v760] : Fin 1 → IVec S16 32) a x).toNat < S25088.size a)
theorem k0_idx229_inb : ∀ (v760 : IVec S16 32) (k0_hw118 : k0_chk118 v760), ∀ a x, ((![v760] : Fin 1 → IVec S16 32) a x).toNat < S25088.size a := fun v760 k0_hw118 => k0_hw118.1
theorem k0_idx230_inb : ∀ (v760 : IVec S16 32) (k0_hw118 : k0_chk118 v760), ∀ a x, ((![v760] : Fin 1 → IVec S16 32) a x).toNat < S25088.size a := fun v760 k0_hw118 => k0_hw118.2

def k0_chk119 (v779 : IVec S16 32) : Prop :=
  (∀ a x, ((![v779] : Fin 1 → IVec S16 32) a x).toNat < S25088.size a) ∧
  (∀ a x, ((![v779] : Fin 1 → IVec S16 32) a x).toNat < S25088.size a)
theorem k0_idx231_inb : ∀ (v779 : IVec S16 32) (k0_hw119 : k0_chk119 v779), ∀ a x, ((![v779] : Fin 1 → IVec S16 32) a x).toNat < S25088.size a := fun v779 k0_hw119 => k0_hw119.1
theorem k0_idx232_inb : ∀ (v779 : IVec S16 32) (k0_hw119 : k0_chk119 v779), ∀ a x, ((![v779] : Fin 1 → IVec S16 32) a x).toNat < S25088.size a := fun v779 k0_hw119 => k0_hw119.2

def k0_chk120 (v798 : IVec S16 32) : Prop :=
  (∀ a x, ((![v798] : Fin 1 → IVec S16 32) a x).toNat < S25088.size a) ∧
  (∀ a x, ((![v798] : Fin 1 → IVec S16 32) a x).toNat < S25088.size a)
theorem k0_idx233_inb : ∀ (v798 : IVec S16 32) (k0_hw120 : k0_chk120 v798), ∀ a x, ((![v798] : Fin 1 → IVec S16 32) a x).toNat < S25088.size a := fun v798 k0_hw120 => k0_hw120.1
theorem k0_idx234_inb : ∀ (v798 : IVec S16 32) (k0_hw120 : k0_chk120 v798), ∀ a x, ((![v798] : Fin 1 → IVec S16 32) a x).toNat < S25088.size a := fun v798 k0_hw120 => k0_hw120.2

def k0_chk121 (v817 : IVec S16 32) : Prop :=
  (∀ a x, ((![v817] : Fin 1 → IVec S16 32) a x).toNat < S25088.size a) ∧
  (∀ a x, ((![v817] : Fin 1 → IVec S16 32) a x).toNat < S25088.size a)
theorem k0_idx235_inb : ∀ (v817 : IVec S16 32) (k0_hw121 : k0_chk121 v817), ∀ a x, ((![v817] : Fin 1 → IVec S16 32) a x).toNat < S25088.size a := fun v817 k0_hw121 => k0_hw121.1
theorem k0_idx236_inb : ∀ (v817 : IVec S16 32) (k0_hw121 : k0_chk121 v817), ∀ a x, ((![v817] : Fin 1 → IVec S16 32) a x).toNat < S25088.size a := fun v817 k0_hw121 => k0_hw121.2

def k0_chk122 (v836 : IVec S16 32) : Prop :=
  (∀ a x, ((![v836] : Fin 1 → IVec S16 32) a x).toNat < S25088.size a) ∧
  (∀ a x, ((![v836] : Fin 1 → IVec S16 32) a x).toNat < S25088.size a)
theorem k0_idx237_inb : ∀ (v836 : IVec S16 32) (k0_hw122 : k0_chk122 v836), ∀ a x, ((![v836] : Fin 1 → IVec S16 32) a x).toNat < S25088.size a := fun v836 k0_hw122 => k0_hw122.1
theorem k0_idx238_inb : ∀ (v836 : IVec S16 32) (k0_hw122 : k0_chk122 v836), ∀ a x, ((![v836] : Fin 1 → IVec S16 32) a x).toNat < S25088.size a := fun v836 k0_hw122 => k0_hw122.2

def k0_chk123 (v855 : IVec S16 32) : Prop :=
  (∀ a x, ((![v855] : Fin 1 → IVec S16 32) a x).toNat < S25088.size a) ∧
  (∀ a x, ((![v855] : Fin 1 → IVec S16 32) a x).toNat < S25088.size a)
theorem k0_idx239_inb : ∀ (v855 : IVec S16 32) (k0_hw123 : k0_chk123 v855), ∀ a x, ((![v855] : Fin 1 → IVec S16 32) a x).toNat < S25088.size a := fun v855 k0_hw123 => k0_hw123.1
theorem k0_idx240_inb : ∀ (v855 : IVec S16 32) (k0_hw123 : k0_chk123 v855), ∀ a x, ((![v855] : Fin 1 → IVec S16 32) a x).toNat < S25088.size a := fun v855 k0_hw123 => k0_hw123.2

def k0_chk124 (v874 : IVec S16 32) : Prop :=
  (∀ a x, ((![v874] : Fin 1 → IVec S16 32) a x).toNat < S25088.size a) ∧
  (∀ a x, ((![v874] : Fin 1 → IVec S16 32) a x).toNat < S25088.size a)
theorem k0_idx241_inb : ∀ (v874 : IVec S16 32) (k0_hw124 : k0_chk124 v874), ∀ a x, ((![v874] : Fin 1 → IVec S16 32) a x).toNat < S25088.size a := fun v874 k0_hw124 => k0_hw124.1
theorem k0_idx242_inb : ∀ (v874 : IVec S16 32) (k0_hw124 : k0_chk124 v874), ∀ a x, ((![v874] : Fin 1 → IVec S16 32) a x).toNat < S25088.size a := fun v874 k0_hw124 => k0_hw124.2

def k0_chk125 (v893 : IVec S16 32) : Prop :=
  (∀ a x, ((![v893] : Fin 1 → IVec S16 32) a x).toNat < S25088.size a) ∧
  (∀ a x, ((![v893] : Fin 1 → IVec S16 32) a x).toNat < S25088.size a)
theorem k0_idx243_inb : ∀ (v893 : IVec S16 32) (k0_hw125 : k0_chk125 v893), ∀ a x, ((![v893] : Fin 1 → IVec S16 32) a x).toNat < S25088.size a := fun v893 k0_hw125 => k0_hw125.1
theorem k0_idx244_inb : ∀ (v893 : IVec S16 32) (k0_hw125 : k0_chk125 v893), ∀ a x, ((![v893] : Fin 1 → IVec S16 32) a x).toNat < S25088.size a := fun v893 k0_hw125 => k0_hw125.2

def k0_chk126 (v912 : IVec S16 32) : Prop :=
  (∀ a x, ((![v912] : Fin 1 → IVec S16 32) a x).toNat < S25088.size a) ∧
  (∀ a x, ((![v912] : Fin 1 → IVec S16 32) a x).toNat < S25088.size a)
theorem k0_idx245_inb : ∀ (v912 : IVec S16 32) (k0_hw126 : k0_chk126 v912), ∀ a x, ((![v912] : Fin 1 → IVec S16 32) a x).toNat < S25088.size a := fun v912 k0_hw126 => k0_hw126.1
theorem k0_idx246_inb : ∀ (v912 : IVec S16 32) (k0_hw126 : k0_chk126 v912), ∀ a x, ((![v912] : Fin 1 → IVec S16 32) a x).toNat < S25088.size a := fun v912 k0_hw126 => k0_hw126.2

def k0_chk127 (v931 : IVec S16 32) : Prop :=
  (∀ a x, ((![v931] : Fin 1 → IVec S16 32) a x).toNat < S25088.size a) ∧
  (∀ a x, ((![v931] : Fin 1 → IVec S16 32) a x).toNat < S25088.size a)
theorem k0_idx247_inb : ∀ (v931 : IVec S16 32) (k0_hw127 : k0_chk127 v931), ∀ a x, ((![v931] : Fin 1 → IVec S16 32) a x).toNat < S25088.size a := fun v931 k0_hw127 => k0_hw127.1
theorem k0_idx248_inb : ∀ (v931 : IVec S16 32) (k0_hw127 : k0_chk127 v931), ∀ a x, ((![v931] : Fin 1 → IVec S16 32) a x).toNat < S25088.size a := fun v931 k0_hw127 => k0_hw127.2

def k0_chk128 (v950 : IVec S16 32) : Prop :=
  (∀ a x, ((![v950] : Fin 1 → IVec S16 32) a x).toNat < S25088.size a) ∧
  (∀ a x, ((![v950] : Fin 1 → IVec S16 32) a x).toNat < S25088.size a)
theorem k0_idx249_inb : ∀ (v950 : IVec S16 32) (k0_hw128 : k0_chk128 v950), ∀ a x, ((![v950] : Fin 1 → IVec S16 32) a x).toNat < S25088.size a := fun v950 k0_hw128 => k0_hw128.1
theorem k0_idx250_inb : ∀ (v950 : IVec S16 32) (k0_hw128 : k0_chk128 v950), ∀ a x, ((![v950] : Fin 1 → IVec S16 32) a x).toNat < S25088.size a := fun v950 k0_hw128 => k0_hw128.2

def k0_chk129 (v969 : IVec S16 32) : Prop :=
  (∀ a x, ((![v969] : Fin 1 → IVec S16 32) a x).toNat < S25088.size a) ∧
  (∀ a x, ((![v969] : Fin 1 → IVec S16 32) a x).toNat < S25088.size a)
theorem k0_idx251_inb : ∀ (v969 : IVec S16 32) (k0_hw129 : k0_chk129 v969), ∀ a x, ((![v969] : Fin 1 → IVec S16 32) a x).toNat < S25088.size a := fun v969 k0_hw129 => k0_hw129.1
theorem k0_idx252_inb : ∀ (v969 : IVec S16 32) (k0_hw129 : k0_chk129 v969), ∀ a x, ((![v969] : Fin 1 → IVec S16 32) a x).toNat < S25088.size a := fun v969 k0_hw129 => k0_hw129.2

def k0_chk130 (v988 : IVec S16 32) : Prop :=
  (∀ a x, ((![v988] : Fin 1 → IVec S16 32) a x).toNat < S25088.size a) ∧
  (∀ a x, ((![v988] : Fin 1 → IVec S16 32) a x).toNat < S25088.size a)
theorem k0_idx253_inb : ∀ (v988 : IVec S16 32) (k0_hw130 : k0_chk130 v988), ∀ a x, ((![v988] : Fin 1 → IVec S16 32) a x).toNat < S25088.size a := fun v988 k0_hw130 => k0_hw130.1
theorem k0_idx254_inb : ∀ (v988 : IVec S16 32) (k0_hw130 : k0_chk130 v988), ∀ a x, ((![v988] : Fin 1 → IVec S16 32) a x).toNat < S25088.size a := fun v988 k0_hw130 => k0_hw130.2

def k0_chk131 (v1007 : IVec S16 32) : Prop :=
  (∀ a x, ((![v1007] : Fin 1 → IVec S16 32) a x).toNat < S25088.size a) ∧
  (∀ a x, ((![v1007] : Fin 1 → IVec S16 32) a x).toNat < S25088.size a)
theorem k0_idx255_inb : ∀ (v1007 : IVec S16 32) (k0_hw131 : k0_chk131 v1007), ∀ a x, ((![v1007] : Fin 1 → IVec S16 32) a x).toNat < S25088.size a := fun v1007 k0_hw131 => k0_hw131.1
theorem k0_idx256_inb : ∀ (v1007 : IVec S16 32) (k0_hw131 : k0_chk131 v1007), ∀ a x, ((![v1007] : Fin 1 → IVec S16 32) a x).toNat < S25088.size a := fun v1007 k0_hw131 => k0_hw131.2
@[reducible] def k0_t9_loop : Scf.Loop 32 :=
  let c0_i32_107 : BitVec 32 := 0#32
  let c392_i32_108 : BitVec 32 := 392#32
  let v175 : BitVec 32 := Scalar.addi c0_i32_107 c392_i32_108
  let c1_i32_109 : BitVec 32 := 1#32
  ⟨c0_i32_107, v175, c1_i32_109⟩
def k0_off13 (k0_t9 : Fin k0_t9_loop.trips) (c0_i32_112 : BitVec 32) : Fin 1 → Nat :=
  let c4_i32 : BitVec 32 := 4#32
  let c0_i32_107 : BitVec 32 := 0#32
  let c1_i32_109 : BitVec 32 := 1#32
  let arg33 : BitVec 32 := Scf.iv c0_i32_107 c1_i32_109 k0_t9
  let v180 : BitVec 32 := Scalar.muli c4_i32 arg33
  let v181 : BitVec 32 := Scalar.addi v180 c0_i32_112
  let c16_i32_113 : BitVec 32 := 16#32
  let v182 : BitVec 32 := Scalar.muli v181 c16_i32_113
  let v183 : Index := Scalar.indexCast v182
  ![v183.toNat]
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c16_i32 : BitVec 32 := 16#32
  let v176 : BitVec 32 := Scalar.muli v2 c16_i32
  v176
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c1563_i32 : BitVec 32 := 1563#32
  let v3 : BitVec 32 := Scalar.addi v2 c1563_i32
  let c16_i32_111 : BitVec 32 := 16#32
  let v178 : BitVec 32 := Scalar.muli v3 c16_i32_111
  v178
def k0_off14 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c16_i32 : BitVec 32 := 16#32
  let v176 : BitVec 32 := Scalar.muli v2 c16_i32
  let v177 : BitVec 32 := v176
  ![v177.toNat]
def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c1563_i32 : BitVec 32 := 1563#32
  let v3 : BitVec 32 := Scalar.addi v2 c1563_i32
  let c16_i32_111 : BitVec 32 := 16#32
  let v178 : BitVec 32 := Scalar.muli v3 c16_i32_111
  let v179 : BitVec 32 := v178
  ![v179.toNat]
abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3200000x3 : Shape := ⟨2, ![3200000, 3]⟩
abbrev S3200000 : Shape := ⟨1, ![3200000]⟩
abbrev S3x16 : Shape := ⟨2, ![3, 16]⟩
abbrev S16 : Shape := ⟨1, ![16]⟩
abbrev S16x16 : Shape := ⟨2, ![16, 16]⟩
abbrev S3200000x16 : Shape := ⟨2, ![3200000, 16]⟩
abbrev S1x16 : Shape := ⟨2, ![1, 16]⟩
abbrev S_ : Shape := ⟨0, ![]⟩
abbrev S100000 : Shape := ⟨1, ![100000]⟩
abbrev S1x3200000x1 : Shape := ⟨3, ![1, 3200000, 1]⟩
abbrev S100000x1x1 : Shape := ⟨3, ![100000, 1, 1]⟩
abbrev S100000x3200000x1 : Shape := ⟨3, ![100000, 3200000, 1]⟩
abbrev S1x3200000x16 : Shape := ⟨3, ![1, 3200000, 16]⟩
abbrev S100000x3200000x16 : Shape := ⟨3, ![100000, 3200000, 16]⟩
abbrev S100000x16 : Shape := ⟨2, ![100000, 16]⟩

abbrev nBuf : Space → Nat
  | .hbm => 52
  | .vmem => 0
  | .smem => 0
  | _ => 0

abbrev bufTy : (tb : Table) → Fin (tcTables nBuf tb) → BufTy
  | .hbm, ⟨0, _⟩ => ⟨S3200000x3, .f32⟩
  | .hbm, ⟨1, _⟩ => ⟨S3200000, .i32⟩
  | .hbm, ⟨2, _⟩ => ⟨S3x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S3200000x16, .f32⟩
  | .hbm, ⟨9, _⟩ => ⟨S1x16, .f32⟩
  | .hbm, ⟨10, _⟩ => ⟨S3200000x16, .f32⟩
  | .hbm, ⟨11, _⟩ => ⟨S3200000x16, .f32⟩
  | .hbm, ⟨12, _⟩ => ⟨S_, .f32⟩
  | .hbm, ⟨13, _⟩ => ⟨S3200000x16, .f32⟩
  | .hbm, ⟨14, _⟩ => ⟨S3200000x16, .f32⟩
  | .hbm, ⟨15, _⟩ => ⟨S100000, .i32⟩
  | .hbm, ⟨16, _⟩ => ⟨S1x3200000x1, .i32⟩
  | .hbm, ⟨17, _⟩ => ⟨S100000x1x1, .i32⟩
  | .hbm, ⟨18, _⟩ => ⟨S100000x3200000x1, .i32⟩
  | .hbm, ⟨19, _⟩ => ⟨S100000x3200000x1, .i32⟩
  | .hbm, ⟨20, _⟩ => ⟨S100000x3200000x1, .i1⟩
  | .hbm, ⟨21, _⟩ => ⟨S1x3200000x16, .f32⟩
  | .hbm, ⟨22, _⟩ => ⟨S_, .f32⟩
  | .hbm, ⟨23, _⟩ => ⟨S_, .f32⟩
  | .hbm, ⟨24, _⟩ => ⟨S100000x3200000x16, .i1⟩
  | .hbm, ⟨25, _⟩ => ⟨S100000x3200000x16, .f32⟩
  | .hbm, ⟨26, _⟩ => ⟨S100000x3200000x16, .f32⟩
  | .hbm, ⟨27, _⟩ => ⟨S100000x3200000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S_, .f32⟩
  | .hbm, ⟨32, _⟩ => ⟨S100000x16, .f32⟩
  | .hbm, ⟨33, _⟩ => ⟨S100000x16, .i1⟩
  | .hbm, ⟨34, _⟩ => ⟨S_, .f32⟩
  | .hbm, ⟨35, _⟩ => ⟨S_, .f32⟩
  | .hbm, ⟨36, _⟩ => ⟨S100000x16, .f32⟩
  | .hbm, ⟨37, _⟩ => ⟨S100000x16, .f32⟩
  | .hbm, ⟨38, _⟩ => ⟨S100000x16, .f32⟩
  | .hbm, ⟨39, _⟩ => ⟨S1x16, .f32⟩
  | .hbm, ⟨40, _⟩ => ⟨S100000x16, .f32⟩
  | .hbm, ⟨41, _⟩ => ⟨S100000x16, .f32⟩
  | .hbm, ⟨42, _⟩ => ⟨S_, .f32⟩
  | .hbm, ⟨43, _⟩ => ⟨S100000x16, .f32⟩
  | .hbm, ⟨44, _⟩ => ⟨S100000x16, .f32⟩
  | .hbm, ⟨45, _⟩ => ⟨S100000x16, .f32⟩
  | .hbm, ⟨46, _⟩ => ⟨S1x16, .f32⟩
  | .hbm, ⟨47, _⟩ => ⟨S100000x16, .f32⟩
  | .hbm, ⟨48, _⟩ => ⟨S100000x16, .f32⟩
  | .hbm, ⟨49, _⟩ => ⟨S_, .f32⟩
  | .hbm, ⟨50, _⟩ => ⟨S100000x16, .f32⟩
  | .hbm, ⟨51, _⟩ => ⟨S100000x16, .f32⟩
  | _, _ => ⟨S3200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Proof.RefValue.lean ====
/-
  The reference's result, element by element, on the extended reals: the maximum over the points of a segment of the
  first layer, minus infinity where there are none and then zero, under the two dense layers.
-/
module

public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Idealize.ShloMosaic
open scoped BigOperators

variable (pts : FVec Ideal S3200000x3 .f32) (ids : IVec S3200000 32) (w1 : FVec Ideal S3x16 .f32) (b1 : FVec Ideal S16 .f32)
  (w2 : FVec Ideal S16x16 .f32) (b2 : FVec Ideal S16 .f32) (w3 : FVec Ideal S16x16 .f32) (b3 : FVec Ideal S16 .f32)

/-- The first layer. -/
def fc1 : FVec Ideal S3200000x16 .f32 :=
  maximumf (addf (Host.dotGeneral dot_S3200000x3_S3x16_S3200000x16_1_0_0_1_n_n none pts w1) (broadcastInDim S3200000x16 ![0, 1] bcast_S1x16_S3200000x16_0_1 (broadcastInDim S1x16 ![1] bcast_S16_S1x16_1 b1))) (broadcastInDim S3200000x16 ![] bcast_S_S3200000x16 (constant S_ .f32 0x00000000#32))

/-- Whether a point is a segment's. -/
def member : IVec S100000x3200000x1 1 :=
  cmpi .eq (broadcastInDim S100000x3200000x1 ![0, 1, 2] bcast_S1x3200000x1_S100000x3200000x1_0_1_2 (broadcastInDim S1x3200000x1 ![1] bcast_S3200000_S1x3200000x1_1 ids)) (broadcastInDim S100000x3200000x1 ![0, 1, 2] bcast_S100000x1x1_S100000x3200000x1_0_1_2 (broadcastInDim S100000x1x1 ![0] bcast_S100000_S100000x1x1_0 (iotaInDim S100000 32 0)))

/-- The pool before empty segments are set to zero. -/
def rawPool : FVec Ideal S100000x16 .f32 :=
  Host.reduce FloatOps.maximumf (select (broadcastInDim S100000x3200000x16 ![0, 1, 2] bcast_S100000x3200000x1_S100000x3200000x16_0_1_2 (member ids)) (broadcastInDim S100000x3200000x16 ![0, 1, 2] bcast_S1x3200000x16_S100000x3200000x16_0_1_2 (broadcastInDim S1x3200000x16 ![1, 2] bcast_S3200000x16_S1x3200000x16_1_2 (fc1 pts w1 b1))) (broadcastInDim S100000x3200000x16 ![] bcast_S_S100000x3200000x16 (id (constant (F := Ideal) S_ .f32 0xFF800000#32)))) (constant S_ .f32 0xFF800000#32) reducesTo_S100000x3200000x16_S100000x16_d1 h_S_

/-- The pool, from the raw one. -/
def fixPool (p : FVec Ideal S100000x16 .f32) : FVec Ideal S100000x16 .f32 :=
  select (cmpf .olt (Host.absf p) (broadcastInDim S100000x16 ![] bcast_S_S100000x16 (constant S_ .f32 0x7F800000#32))) p (broadcastInDim S100000x16 ![] bcast_S_S100000x16 (id (constant (F := Ideal) S_ .f32 0x00000000#32)))

/-- The two dense layers over a pool. -/
def dense (p : FVec Ideal S100000x16 .f32) : FVec Ideal S100000x16 .f32 :=
  maximumf (addf (Host.dotGeneral dot_S100000x16_S16x16_S100000x16_1_0_0_1_n_n none (maximumf (addf (Host.dotGeneral dot_S100000x16_S16x16_S100000x16_1_0_0_1_n_n none p w2) (broadcastInDim S100000x16 ![0, 1] bcast_S1x16_S100000x16_0_1 (broadcastInDim S1x16 ![1] bcast_S16_S1x16_1 b2))) (broadcastInDim S100000x16 ![] bcast_S_S100000x16 (constant S_ .f32 0x00000000#32))) w3) (broadcastInDim S100000x16 ![0, 1] bcast_S1x16_S100000x16_0_1 (broadcastInDim S1x16 ![1] bcast_S16_S1x16_1 b3))) (broadcastInDim S100000x16 ![] bcast_S_S100000x16 (constant S_ .f32 0x00000000#32))

theorem fc1_eq (p : Fin 3200000) (l : Fin 16) : fc1 pts w1 b1 (ix2 p l) = max ((∑ k : Fin 3, pts (ix2 p k) * w1 (ix2 k l)) + b1 (ix1 l)) 0 := by
  pointwise [fc1]

theorem member_eq (g : Fin 100000) (p : Fin 3200000) : member ids (ix3 g p 0) = IntOp.cmpi .eq (ids (ix1 p)) (BitVec.ofNat 32 g.val) := by
  pointwise [member]

theorem top_eq : Ideal.ofBits .f32 0x7F800000#32 = (⊤ : EReal) := by simp [Ideal.ofBits, Ideal.ieee]

theorem bot_eq : Ideal.ofBits .f32 0xFF800000#32 = (⊥ : EReal) := by simp [Ideal.ofBits, Ideal.ieee]

theorem zero_eq : Ideal.ofBits .f32 0x00000000#32 = (0 : EReal) := by simp [Ideal.ofBits, Ideal.ieee]

theorem rawPool_eq (g : Fin 100000) (l : Fin 16) : rawPool pts ids w1 b1 (ix2 g l) = Finset.univ.fold max (⊥ : EReal)
    (fun p : Fin 3200000 => if ids (ix1 p) = BitVec.ofNat 32 g.val then fc1 pts w1 b1 (ix2 p l) else ⊥) := by
  pointwise [rawPool]
  rw [bot_eq]
  refine Finset.fold_congr fun p _ => ?_
  rw [member_eq]
  by_cases h : ids (ix1 p) = BitVec.ofNat 32 g.val
  · rw [if_pos h, h]; exact Scalar.select_of_eq_one (Scalar.cmpi_eq_self _) _ _
  · rw [if_neg h]
    refine (Scalar.select_of_ne_one (fun e => ?_) _ _).trans bot_eq
    have e' : BitVec.ofBool (ids (ix1 p) == BitVec.ofNat 32 g.val) = 1#1 := e
    rw [beq_eq_false_iff_ne.2 h] at e'
    exact absurd e' (by decide)

theorem fixPool_eq (q : FVec Ideal S100000x16 .f32) (g : Fin 100000) (l : Fin 16) : fixPool q (ix2 g l) = if max (q (ix2 g l)) (-q (ix2 g l)) < (⊤ : EReal) then q (ix2 g l) else 0 := by
  pointwise [fixPool]
  rw [top_eq]
  exact if_congr Iff.rfl rfl zero_eq

theorem dense_eq (q : FVec Ideal S100000x16 .f32) (g : Fin 100000) (c : Fin 16) : dense w2 b2 w3 b3 q (ix2 g c) =
    max ((∑ k, max ((∑ j, q (ix2 g j) * w2 (ix2 j k)) + b2 (ix1 k)) 0 * w3 (ix2 k c)) + b3 (ix1 c)) 0 := by
  pointwise [dense]

end Cert.Proof.Ref
-- ==== Proof.Precondition.lean ====
/-
  The precondition read: its side conditions, and what it says of the arguments, that the ids are in order and the
  points, the first weights and the first bias finite.
-/
module

public import proofs.«01_k».proof.Pre_sorted_and_finite
public import Idealize.ShloMosaic.Lib.Pointwise
public import Idealize.ShloMosaic.Lib.ReduceAll

@[expose] public section

set_option maxRecDepth 16384

noncomputable section

namespace Cert.Proof.Pre

open Cert.Pre_sorted_and_finite
open Idealize.ShloMosaic

theorem slices_0 : S3200000.Slices ![0] S3199999 := by decide
theorem slices_1 : S3200000.Slices ![1] S3199999 := by decide
theorem reducesTo_ids : S3199999.ReducesTo [0] S_ := by decide
theorem h_S_ : 0 < S_.numel := by decide
theorem bcast_pts : S_.BroadcastsInDim S3200000x3 (![] : Fin 0 → Fin S3200000x3.rank) := by decide
theorem reducesTo_pts : S3200000x3.ReducesTo [0, 1] S_ := by decide
theorem bcast_w1 : S_.BroadcastsInDim S3x16 (![] : Fin 0 → Fin S3x16.rank) := by decide
theorem reducesTo_w1 : S3x16.ReducesTo [0, 1] S_ := by decide
theorem bcast_b1 : S_.BroadcastsInDim S16 (![] : Fin 0 → Fin S16.rank) := by decide
theorem reducesTo_b1 : S16.ReducesTo [0] S_ := by decide

instance facts : Cert.Pre_sorted_and_finite.Facts where
  slices_S3200000_S3199999_0 := slices_0
  slices_S3200000_S3199999_1 := slices_1
  reducesTo_S3199999_S_d0 := reducesTo_ids
  h_S_ := h_S_
  bcast_S_S3200000x3 := bcast_pts
  reducesTo_S3200000x3_S_d0_1 := reducesTo_pts
  bcast_S_S3x16 := bcast_w1
  reducesTo_S3x16_S_d0_1 := reducesTo_w1
  bcast_S_S16 := bcast_b1
  reducesTo_S16_S_d0 := reducesTo_b1

variable (pts : FVec Ideal S3200000x3 .f32) (ids : IVec S3200000 32) (w1 : FVec Ideal S3x16 .f32) (b1 : FVec Ideal S16 .f32)
  (w2 : FVec Ideal S16x16 .f32) (b2 : FVec Ideal S16 .f32) (w3 : FVec Ideal S16x16 .f32) (b3 : FVec Ideal S16 .f32)

theorem andi_one {a b : BitVec 1} (h : IntOp.andi a b = 1#1) : a = 1#1 ∧ b = 1#1 := by
  revert a b; decide

theorem ofBool_one {b : Bool} (h : BitVec.ofBool b = 1#1) : b = true := by
  revert b; decide

/-- A comparison of a magnitude with infinity that holds: the value is finite. -/
theorem finite_of (x y : EReal) (hy : y = ⊤) (h : Ideal.cmp .olt (max x (-x)) y = 1#1) : x ≠ ⊤ ∧ x ≠ ⊥ := by
  subst hy
  have h' : max x (-x) < ⊤ := by
    by_contra hn
    have : Ideal.cmp .olt (max x (-x)) ⊤ = 0#1 := by simp [Ideal.cmp, hn]
    rw [this] at h; exact absurd h (by decide)
  refine ⟨fun e => ?_, fun e => ?_⟩ <;> subst e <;> simp at h'

instance : Subsingleton S_.Idx := ⟨fun a b => funext fun i => i.elim0⟩

theorem top_eq : Ideal.ofBits .f32 0x7F800000#32 = (⊤ : EReal) := by simp [Ideal.ofBits, Ideal.ieee]

/-- What the precondition says. -/
structure Says : Prop where
  step : ∀ k : Fin 3199999, (ids (ix1 ⟨k.val, by omega⟩)).toInt ≤ (ids (ix1 ⟨k.val + 1, by omega⟩)).toInt
  pts : ∀ i, pts i ≠ (⊤ : EReal) ∧ pts i ≠ (⊥ : EReal)
  w1 : ∀ i, w1 i ≠ (⊤ : EReal) ∧ w1 i ≠ (⊥ : EReal)
  b1 : ∀ i, b1 i ≠ (⊤ : EReal) ∧ b1 i ≠ (⊥ : EReal)

theorem slice0 (k : Fin 3199999) : extractStridedSlice S3199999 ![0] ids slices_0 (ix1 k) = ids (ix1 ⟨k.val, by omega⟩) := by
  pointwise

theorem slice1 (k : Fin 3199999) : extractStridedSlice S3199999 ![1] ids slices_1 (ix1 k) = ids (ix1 ⟨k.val + 1, by omega⟩) := by
  pointwise
  exact congrArg (fun n => ids (ix1 n)) (Fin.ext (Nat.add_comm 1 k.val))

theorem read_pre (h : fn (F := Ideal) pts ids w1 b1 w2 b2 w3 b3 = fun _ => 1#1) : Says pts ids w1 b1 := by
  have h0 := congrFun h ix0
  obtain ⟨hi, hr⟩ := andi_one (a := _) (b := _) h0
  obtain ⟨hpw, hb⟩ := andi_one (a := _) (b := _) hr
  obtain ⟨hp, hw⟩ := andi_one (a := _) (b := _) hpw
  refine ⟨fun k => ?_, fun i => finite_of _ _ top_eq (Host.reduce_andi_all _ _ _ _ _ hp i),
    fun i => finite_of _ _ top_eq (Host.reduce_andi_all _ _ _ _ _ hw i), fun i => finite_of _ _ top_eq (Host.reduce_andi_all _ _ _ _ _ hb i)⟩
  have e := Host.reduce_andi_all _ _ _ _ _ hi (ix1 k)
  have e' : IntOp.cmpi .sle (extractStridedSlice S3199999 ![0] ids slices_0 (ix1 k)) (extractStridedSlice S3199999 ![1] ids slices_1 (ix1 k)) = 1#1 := e
  rw [slice0, slice1] at e'
  have e2 := ofBool_one e'
  simpa [BitVec.sle] using e2

end Cert.Proof.Pre
-- ==== Proof.Base.lean ====
/-
  What every module of the pool call's proof opens with: the program as the launch theorem reads it, the resource
  algebra, and `holds`: "this memref reads `a`", at a share, with the memory rules restated over it. A statement over
  `holds` names no buffer's contents, only what is read there, so one proof serves every memref of a shape.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-- The pipelined call's rounds. -/
abbrev EP : Emb (UR sig nD τ) (MT nD τ sig (HIx 1) (Elt F) ℕ UU ℕ) :=
  (Emb.inl : Emb (UR sig nD τ) (UR sig nD τ × Counters)).trans embR

/-! ## A memref at what it reads -/

variable {c : Thread nD τ} {sp : Space} {s : Shape} {e : EltTy}

/-- The memref's elements, at share `q`, reading `a`. -/
def holds (c : Thread nD τ) {sp : Space} {s : Shape} {e : EltTy} (m : Memref sig c.2.kind sp s e) (q : PosShare TreeShare)
    (a : Vec F s e) : sProp 𝕄 :=
  iprop(∃ f, (m.view.loc c ↦[m.view.set]{q} f) ∗ ⌜m.view.read (Elt F) f = a⌝)

theorem holds_intro (m : Memref sig c.2.kind sp s e) (q : PosShare TreeShare) (f : Buf (Elt F) (m.view.loc c)) :
    (m.view.loc c ↦[m.view.set]{q} f : sProp 𝕄) ⊢ holds c m q (m.view.read (Elt F) f) := by
  unfold holds
  iintro H
  iexists f
  isplitl [H]; · iexact H
  ipureintro; rfl

instance (m : Memref sig c.2.kind sp s e) (q : PosShare TreeShare) (a : Vec F s e) :
    Storable (upEmb : UEmb _ 𝕄) (holds c m q a) := by unfold holds; infer_instance

variable [FloatOps F]

/-- A load of a rectangle. -/
theorem wp_load_holds {cs : CoreSpace} {m : Memref sig c.2.kind cs s e} {q : PosShare TreeShare} {a : Vec F s e} {α : Type}
    {Q : α → sProp 𝕄} {r : Rect s} {hl : m.view.LoadsAt r} {k : (r.shape.Idx → Elt F e) → Prog (TpuEff nD τ sig (Elt F) Λ₀ c.2) α} :
    holds c m q a ⊢ iprop((holds c m q a -∗ wp frame (wpE (defs₀ (F := F)) 𝒱₀ c none) Set.univ (k (fun x => a (r.emb x))) Q)
      -∗ wp frame (wpE (defs₀ (F := F)) 𝒱₀ c none) Set.univ (.op (.load m r hl) k) Q) := by
  unfold holds
  iintro ⟨%f, H, %hf⟩ Hk
  iapply (wp_load (defs := defs₀ (F := F)) 𝒱₀ c none Set.univ (m.view.setOn_subset_set _)) $$ H
  iintro H
  subst hf
  iapply Hk
  iexists f
  isplitl [H]; · iexact H
  ipureintro; rfl

/-- A store over a rectangle: what is read afterwards is given by the caller. -/
theorem wp_store_holds {cs : CoreSpace} {m : Memref sig c.2.kind cs s e} {a : Vec F s e} {α : Type}
    {Q : α → sProp 𝕄} {r : Rect s} {w : r.shape.Idx → Elt F e} {hx : (m.access r).Stores Finset.univ}
    {hm : (Finset.univ : Finset r.shape.Idx) = Finset.univ ∨ ∀ a, r.stride a = 1} {k : PUnit → Prog (TpuEff nD τ sig (Elt F) Λ₀ c.2) α}
    (b : Vec F s e) (hin : ∀ x, b (r.emb x) = w x) (hout : ∀ y, y ∉ r.set → b y = a y) :
    holds c m fullShare a ⊢ iprop((holds c m fullShare b -∗ wp frame (wpE (defs₀ (F := F)) 𝒱₀ c none) Set.univ (k ⟨⟩) Q)
      -∗ wp frame (wpE (defs₀ (F := F)) 𝒱₀ c none) Set.univ (.op (.store m r w Finset.univ hx hm) k) Q) := by
  unfold holds
  iintro ⟨%f, H, %hf⟩ Hk
  iapply (wp_store (defs := defs₀ (F := F)) 𝒱₀ c none Set.univ (m := m) (r := r) (S := m.view.set) (f := f) (m.view.set_slice_subset r)) $$ H
  iintro H
  subst hf
  iapply Hk
  iexists _
  isplitl [H]; · iexact H
  ipureintro
  funext y
  by_cases hy : y ∈ r.set
  · rw [← Rect.map_emb_univ] at hy
    obtain ⟨x, -, rfl⟩ := Finset.mem_map.mp hy
    rw [hin]
    exact View.read_slice_write_emb (v := m.view) r f w (Finset.mem_univ x)
  · rw [hout y hy]
    exact View.read_slice_write_of_not_mem (v := m.view) r f w Finset.univ (by rwa [Rect.map_emb_univ])

end Cert.Proof.Pool
-- ==== Proof.Points.lean ====
/-
  What the pool call does to one accumulator, with no program in it: a point has a value in each of 16 lanes and a row
  of the accumulator, and taking the point in takes the maximum into the 16 words of that row. Everything is over an
  abstract float interpretation `F`.
-/
module

public import proofs.«01_k».proof.Proof.Base

@[expose] public section

noncomputable section

namespace Cert.Proof.Pool

open Cert.KernelIdeal Cert.KernelIdeal.Gen
open Idealize.ShloMosaic

variable {F : FTy → Type}

/-- Index `i` of a rank-one shape of `n` elements (cut off at the last one). -/
def ix1 (n : ℕ) (h : 0 < n) (i : ℕ) : (⟨1, ![n]⟩ : Shape).Idx :=
  fun a => ⟨min i (n - 1), by have : a = 0 := Fin.eq_zero a; subst this; show min i (n - 1) < n; omega⟩

theorem ix1_val (n : ℕ) (h : 0 < n) (i : ℕ) (hi : i < n) (a : Fin 1) : (ix1 n h i a).val = i := by
  show min i (n - 1) = i; omega

theorem eq_ix1 (n : ℕ) (h : 0 < n) (x : (⟨1, ![n]⟩ : Shape).Idx) : x = ix1 n h (x 0).val := by
  funext a
  have : a = 0 := Fin.eq_zero a
  subst this
  have hx : (x 0).val < n := (x 0).isLt
  exact Fin.ext (ix1_val n h _ hx 0).symm

/-- Lane `l` of a 16-vector. -/
abbrev lane (l : ℕ) : S16.Idx := ix1 16 (by decide) l

/-- Word `i` of a scalar stream of `3200000`. -/
abbrev strm {α : Type} (a : S3200000.Idx → α) (i : ℕ) : α := a (ix1 3200000 (by decide) i)

section Float
variable [FloatOps F]

/-- Maximum of `v` into the 16 words of `f` from word `a` on. -/
def upd (a : ℕ) (v : Vec F S16 .f32) (f : Vec F S25088 .f32) : Vec F S25088 .f32 :=
  fun j => if a ≤ (j 0).val ∧ (j 0).val < a + 16 then FloatOps.maximumf (f j) (v (lane ((j 0).val - a))) else f j

/-- The points of a list taken in, one after the other: point `p` has value `val p` and starts at word `16 * row p`. -/
def proc (row : ℕ → ℕ) (val : ℕ → Vec F S16 .f32) (L : List ℕ) (f : Vec F S25088 .f32) : Vec F S25088 .f32 :=
  L.foldl (fun f p => upd (16 * row p) (val p) f) f

theorem proc_nil (row : ℕ → ℕ) (val : ℕ → Vec F S16 .f32) (f : Vec F S25088 .f32) : proc row val [] f = f := rfl

theorem proc_append (row : ℕ → ℕ) (val : ℕ → Vec F S16 .f32) (L L' : List ℕ) (f : Vec F S25088 .f32) :
    proc row val (L ++ L') f = proc row val L' (proc row val L f) := List.foldl_append

/-- A point's value: the affine map's 16 lanes, in the order the kernel adds. -/
def pointVal (w0 w1 w2 w3 : Vec F S16 .f32) (x y z : F .f32) : Vec F S16 .f32 :=
  addf (addf (mulf (broadcast S16 x) w0) (mulf (broadcast S16 y) w1)) (addf (mulf (broadcast S16 z) w2) w3)

end Float

/-! ## Rows -/

/-- Where a point of id `id` goes in a window of `n` rows from id `lo`: its row, or row 1567 outside the window. -/
def slotW (lo n id : BitVec 32) : BitVec 32 :=
  if (BitVec.ofBool ((0#32).sle (id - lo))) &&& (BitVec.ofBool ((id - lo).slt n)) = 1#1 then id - lo else 1567#32

/-- The same as a number. -/
def slot (lo n id : BitVec 32) : ℕ := (slotW lo n id).toNat

theorem slot_lt (lo n id : BitVec 32) (hn : n.toNat ≤ 1567) : slot lo n id < 1568 := by
  unfold slot slotW
  split
  · rename_i h
    have h2 : (id - lo).slt n = true := by
      by_contra hc
      simp only [Bool.not_eq_true] at hc
      rw [hc] at h
      revert h
      cases (0#32).sle (id - lo) <;> decide
    have h1 : (0#32).sle (id - lo) = true := by
      by_contra hc
      simp only [Bool.not_eq_true] at hc
      rw [hc] at h
      revert h
      cases (id - lo).slt n <;> decide
    rw [BitVec.slt_iff_toInt_lt] at h2
    rw [BitVec.sle_iff_toInt_le] at h1
    simp only [BitVec.toInt_zero] at h1
    have e1 := BitVec.toInt_eq_toNat_cond (id - lo)
    have e2 := BitVec.toInt_eq_toNat_cond n
    split at e1 <;> split at e2 <;> omega
  · decide

theorem slotW_lane (lo n : BitVec 32) (v12 : IVec S16 32) (hv12 : ∀ x, v12 x = BitVec.ofNat 32 (x 0).val) (hn : n.toNat ≤ 1567)
    (id : BitVec 32) (x : S16.Idx) : (slotW lo n id * 16#32 + v12 x).toNat = 16 * slot lo n id + (x 0).val := by
  have h := slot_lt lo n id hn
  have hx : (x 0).val < 16 := (x 0).isLt
  rw [hv12 x, BitVec.toNat_add, BitVec.toNat_mul, BitVec.toNat_ofNat, BitVec.toNat_ofNat]
  unfold slot at *
  omega

end Cert.Proof.Pool
-- ==== Proof.Group.lean ====
/-
  Sixteen points at a time. The inner loop's body loads sixteen ids and coordinates for each of the two windows, and
  takes point after point into the accumulators: even points into the first, odd points into the second. The printed
  body is run once, over any memrefs; the second copy of the loop is the same body at the other half of the buffers.
-/
module

public import proofs.«01_k».proof.Proof.Points

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A scatter of maxima into sixteen consecutive words -/

omit [FloatOps F] in
/-- Writing `w` at the words `a + k`, over a list of lanes `k`. -/
theorem foldl_place {α : Type} (a : ℕ) (w : ℕ → α) (i : Fin 16 → S25088.Idx) (hi : ∀ k, (i k 0).val = a + k.val) :
    ∀ (L : List (Fin 16)) (f : S25088.Idx → α) (j : S25088.Idx),
      L.foldl (fun g k => fun j => if (∀ b, (j b).val = (i k b).val) then w k.val else g j) f j
        = if ∃ k ∈ L, (j 0).val = a + k.val then w ((j 0).val - a) else f j
  | [], f, j => by simp
  | k :: L, f, j => by
    rw [List.foldl_cons, foldl_place a w i hi L]
    by_cases h : ∃ k' ∈ L, (j 0).val = a + k'.val
    · obtain ⟨k', hk', e⟩ := h
      rw [if_pos ⟨k', hk', e⟩, if_pos ⟨k', List.mem_cons_of_mem _ hk', e⟩]
    · rw [if_neg h]
      by_cases hk : (j 0).val = a + k.val
      · rw [if_pos (⟨k, List.mem_cons_self, hk⟩ : ∃ k' ∈ k :: L, (j 0).val = a + k'.val), if_pos]
        · congr 1; omega
        · intro b; rw [Fin.eq_zero b, hk]; exact (hi k).symm
      · rw [if_neg, if_neg]
        · rintro ⟨k', hk', e⟩
          rcases List.mem_cons.mp hk' with rfl | hk'
          · exact hk e
          · exact h ⟨k', hk', e⟩
        · intro hb; exact hk ((hb 0).trans (hi k))

/-- The scatter of the maxima with `v` at the words `a`, …, `a + 15` is `upd`. -/
theorem storeIdx_max (a : ℕ) (v : Vec F S16 .f32) (f : Vec F S25088 .f32) (idx : IVec S16 32) (w : Vec F S16 .f32) (mask : IVec S16 1)
    (h : ∀ b x, ((![idx] : Fin 1 → IVec S16 32) b x).toNat < S25088.size b)
    (hidx : ∀ x, (idx x).toNat = a + (x 0).val) (hm : ∀ x, mask x = 1#1)
    (hw : w = maximumf (loadIdx f (![idx] : Fin 1 → IVec S16 32) h) v) :
    storeIdx f (![idx] : Fin 1 → IVec S16 32) w mask false h = upd a v f := by
  have hval : ∀ k : Fin 16, (idxAt (s := S25088) (![idx] : Fin 1 → IVec S16 32) h (lane k.val) 0).val = a + k.val := by
    intro k
    exact (hidx (lane k.val)).trans (by rw [ix1_val 16 _ k.val k.isLt])
  funext j
  have hof : ∀ k : Fin 16, (Shape.ofLane (d := ![16]) k : S16.Idx) = lane k.val := by
    intro k; funext b
    rw [Fin.eq_zero b]
    exact Fin.ext (ix1_val 16 (by decide) k.val k.isLt 0).symm
  have hstep : storeIdx f (![idx] : Fin 1 → IVec S16 32) w mask false h j
      = (List.finRange 16).foldl (fun g (k : Fin 16) => fun j => if (∀ b, (j b).val = (idxAt (s := S25088) (![idx] : Fin 1 → IVec S16 32) h (lane k.val) b).val)
          then w (lane k.val) else g j) f j := by
    unfold storeIdx
    show (List.finRange 16).foldl _ f j = _
    refine congrFun (congrArg (fun st => List.foldl st f (List.finRange 16)) ?_) j
    funext g k
    dsimp only
    refine (if_pos ?_).trans ?_
    · rw [hof k]; exact hm _
    · rw [hof k]
      funext j
      by_cases hP : ∀ a : Fin 1, (j a).val = (idxAt (s := S25088) ![idx] h (lane k.val) a).val
      · exact (if_pos hP).trans ((if_neg (by decide)).trans (if_pos hP).symm)
      · exact (if_neg hP).trans (if_neg hP).symm
  rw [hstep, foldl_place a (fun l => w (lane l)) _ hval]
  unfold upd
  by_cases hj : a ≤ (j 0).val ∧ (j 0).val < a + 16
  · have hl : (j 0).val - a < 16 := by omega
    rw [if_pos ⟨⟨(j 0).val - a, hl⟩, List.mem_finRange _, by show (j 0).val = a + ((j 0).val - a); omega⟩, if_pos hj, hw]
    show FloatOps.maximumf (f (idxAt (s := S25088) _ h (lane ((j 0).val - a)))) _ = _
    have e : idxAt (s := S25088) (![idx] : Fin 1 → IVec S16 32) h (lane ((j 0).val - a)) = j := by
      funext b
      rw [Fin.eq_zero b]
      exact Fin.ext ((hval ⟨_, hl⟩).trans (by show a + ((j 0).val - a) = (j 0).val; omega))
    rw [e]
  · rw [if_neg, if_neg hj]
    rintro ⟨k, -, e⟩
    have := k.isLt
    omega

/-! ## Steps over four accumulators -/

variable {c : Thread nD τ}

/-- One pair: the gather of sixteen words, their maxima with `v`, and the scatter back. -/
theorem wp_max_holds {m : Memref sig c.2.kind .vmem S25088 .f32} {f : Vec F S25088 .f32} {α : Type} {Q : α → sProp 𝕄}
    {idx : IVec S16 32} {h h' : ∀ b x, ((![idx] : Fin 1 → IVec S16 32) b x).toNat < S25088.size b} {hl : m.view.Loads}
    {g : Vec F S16 .f32 → Vec F S16 .f32} {mask : IVec S16 1} {hs : (m.access (.whole S25088)).Stores Finset.univ}
    {k : PUnit → Prog (TpuEff nD τ sig (Elt F) Λ₀ c.2) α} (a : ℕ) (v : Vec F S16 .f32)
    (hidx : ∀ x, (idx x).toNat = a + (x 0).val) (hm : ∀ x, mask x = 1#1) (hg : ∀ w, g w = maximumf w v) :
    holds c m fullShare f ⊢ iprop((holds c m fullShare (upd a v f) -∗ wp frame (wpE (defs₀ (F := F)) 𝒱₀ c none) Set.univ (k ⟨⟩) Q)
      -∗ wp frame (wpE (defs₀ (F := F)) 𝒱₀ c none) Set.univ
        (SparseCore.vectorLoadIdx m (![idx] : Fin 1 → IVec S16 32) h hl >>= fun w =>
          SparseCore.vectorStoreIdx m (![idx] : Fin 1 → IVec S16 32) (g w) mask false h' hs >>= k) Q) := by
  unfold holds
  iintro ⟨%b, H, %hb⟩ Hk
  have hw : (m.access (.whole S25088)).read (Elt F) b = f := by
    rw [← hb]; funext x
    show m.view.read (Elt F) b ((Rect.whole S25088).emb x) = _
    rw [Rect.emb_whole_apply]
  have hset : (m.access (.whole S25088)).set = m.view.set := by
    show (m.view.slice (Rect.whole S25088)).set = _
    rw [View.set_slice, Rect.set_whole]; rfl
  iapply (SparseCore.wp_vectorLoadIdx (defs := defs₀ (F := F)) 𝒱₀ c none Set.univ (base := m) (q := fullShare) (f := b) (S := m.view.set) (le_of_eq hset)) $$ H
  iintro H
  ihave H' := (Entails.of_eq (show (m.view.loc c ↦[m.view.set]{fullShare} b : sProp 𝕄)
      = (m.access (.whole S25088)).loc c ↦[(m.access (.whole S25088)).set]{fullShare} b by rw [hset])) $$ H
  iapply (SparseCore.wp_vectorStoreIdx (defs := defs₀ (F := F)) 𝒱₀ c none Set.univ (base := m) (f := b)) $$ H'
  iintro H
  iapply Hk
  iexists _
  isplitl [H]
  · iapply (Entails.of_eq (show ((m.access (.whole S25088)).loc c ↦[(m.access (.whole S25088)).set]{fullShare} _ : sProp 𝕄)
      = (m.view.loc c ↦[m.view.set]{fullShare} _) by rw [hset])) $$ H
  ipureintro
  rw [hw, storeIdx_max a v f idx _ mask _ hidx hm (hg _)]
  funext y
  have hy : (Rect.whole S25088).emb y = y := Rect.emb_whole_apply ..
  conv_lhs => rw [← hy]
  exact View.read_slice_write_emb (v := m.view) (Rect.whole S25088) b _ (Finset.mem_univ y)

/-- A chunk buffer: its first 1024 words read `a`, whatever the rest reads. -/
def chunk (c : Thread nD τ) {sp : Space} {e : EltTy} (m : Memref sig c.2.kind sp S1040 e) (a : ℕ → Elt F e) : sProp 𝕄 :=
  iprop(∃ v, holds c m fullShare v ∗ ⌜∀ i, (i 0).val < 1024 → v i = a (i 0).val⌝)

instance {sp : Space} {e : EltTy} (m : Memref sig c.2.kind sp S1040 e) (a : ℕ → Elt F e) :
    Storable (upEmb : UEmb _ 𝕄) (chunk c m a) := by unfold chunk; infer_instance

/-- A load of sixteen words of a chunk buffer. -/
theorem wp_load_chunk {e : EltTy} {m : Memref sig c.2.kind .vmem S1040 e} {a : ℕ → Elt F e} {α : Type} {Q : α → sProp 𝕄}
    {off : Fin 1 → ℕ} {inb : ∀ b, off b + S16.size b ≤ S1040.size b} {hl : m.view.LoadsAt (Rect.unit (s := S1040) off S16.size inb).toLoadRect}
    {k : (S16.Idx → Elt F e) → Prog (TpuEff nD τ sig (Elt F) Λ₀ c.2) α} (b : ℕ) (hoff : off 0 = b) (hb : b + 16 ≤ 1024) :
    chunk c m a ⊢ iprop((chunk c m a -∗ wp frame (wpE (defs₀ (F := F)) 𝒱₀ c none) Set.univ (k fun x => a (b + (x 0).val)) Q)
      -∗ wp frame (wpE (defs₀ (F := F)) 𝒱₀ c none) Set.univ (.op (.load m (Rect.unit (s := S1040) off S16.size inb).toLoadRect hl) k) Q) := by
  unfold chunk
  iintro ⟨%v, H, %hv⟩ Hk
  iapply (wp_load_holds (r := Rect.unit (s := S1040) off S16.size inb)) $$ H
  iintro H
  have e : (fun x : S16.Idx => v ((Rect.unit (s := S1040) off S16.size inb).emb x)) = fun x => a (b + (x 0).val) := by
    funext x
    have hx : (x 0).val < 16 := (x 0).isLt
    have h0 : ((Rect.unit (s := S1040) off S16.size inb).emb x 0).val = b + (x 0).val := by
      show off 0 + 1 * (x 0).val = _
      omega
    rw [hv _ (by omega), h0]
  ihave Hk' := Hk $$ [H]
  · iexists v
    isplitl [H]; · iexact H
    ipureintro; exact hv
  iapply (Entails.of_eq (congrArg (fun w => wp frame (wpE (defs₀ (F := F)) 𝒱₀ c none) Set.univ (k w) Q) e.symm)) $$ Hk'

end Cert.Proof.Pool
-- ==== Proof.GroupRun.lean ====
/-
  The sixteen-point body, run once over any memrefs: what it does to the four accumulators.
-/
module

public import proofs.«01_k».proof.Proof.Group

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Steps over four accumulators and a rest -/

section Steps
variable {c : Thread nD τ} {α : Type}
variable {P : sProp (MT nD τ sig (HIx 1) (Elt F) ℕ UU ℕ)}
variable {Q : α → sProp (MT nD τ sig (HIx 1) (Elt F) ℕ UU ℕ)}

/-- The four accumulators (first and second of one window, first and second of the other) at what they hold. -/
def accs (c : Thread nD τ) (m0 m1 n0 n1 : Memref sig c.2.kind .vmem S25088 .f32) (a0 a1 b0 b1 : Vec F S25088 .f32) : sProp 𝕄 :=
  iprop(holds c m0 fullShare a0 ∗ holds c m1 fullShare a1 ∗ holds c n0 fullShare b0 ∗ holds c n1 fullShare b1)

/-- A side condition that holds. -/
theorem wp_assume_true {p : Prop} {dp : Decidable p} {k : PLift p → Prog (TpuEff nD τ sig (Elt F) Λ₀ c.2) α} {R : sProp 𝕄} (h : p)
    (hk : R ⊢ wp frame (wpE (defs₀ (F := F)) 𝒱₀ c none) Set.univ (k ⟨h⟩) Q) :
    R ⊢ wp frame (wpE (defs₀ (F := F)) 𝒱₀ c none) Set.univ (.op (.assume p dp) k) Q := by
  exact hk.trans (wp_assume 𝒱₀ c none Set.univ h)

/-- `C` is a conjunct of `P` that can be taken out and put back. -/
def Has (P C : sProp 𝕄) : Prop := ∃ R : sProp 𝕄, (P ⊢ iprop(C ∗ R)) ∧ (iprop(C ∗ R) ⊢ P)

omit [FloatOps F] in
theorem Has.here {A B : sProp 𝕄} : Has iprop(A ∗ B) A := ⟨B, .rfl, .rfl⟩

omit [FloatOps F] in
theorem Has.last {A : sProp 𝕄} : Has A A :=
  ⟨iprop(emp), by iintro H; isplitl [H]; · iexact H
                  · iempintro, by iintro ⟨H, -⟩; iexact H⟩

omit [FloatOps F] in
theorem Has.left {A B C : sProp 𝕄} : Has A C → Has iprop(A ∗ B) C
  | ⟨R, h, h'⟩ => ⟨iprop(R ∗ B),
    by iintro ⟨HA, HB⟩; ihave ⟨HC, HR⟩ := h $$ HA; isplitl [HC]; · iexact HC
       isplitl [HR]; · iexact HR
       iexact HB,
    by iintro ⟨HC, HR, HB⟩; isplitl [HC HR]
       · iapply h'; isplitl [HC]; · iexact HC
         iexact HR
       iexact HB⟩

omit [FloatOps F] in
theorem Has.right {A B C : sProp 𝕄} : Has B C → Has iprop(A ∗ B) C
  | ⟨R, h, h'⟩ => ⟨iprop(A ∗ R),
    by iintro ⟨HA, HB⟩; ihave ⟨HC, HR⟩ := h $$ HB; isplitl [HC]; · iexact HC
       isplitl [HA]; · iexact HA
       iexact HR,
    by iintro ⟨HC, HA, HR⟩; isplitl [HA]; · iexact HA
       iapply h'; isplitl [HC]; · iexact HC
       iexact HR⟩

/-- A load of sixteen words of a chunk buffer among what is held. -/
theorem load_step {e : EltTy} {m : Memref sig c.2.kind .vmem S1040 e} {a : ℕ → Elt F e}
    {off : Fin 1 → ℕ} {inb : ∀ b, off b + S16.size b ≤ S1040.size b} {hl : m.view.LoadsAt (Rect.unit (s := S1040) off S16.size inb).toLoadRect}
    {k : (S16.Idx → Elt F e) → Prog (TpuEff nD τ sig (Elt F) Λ₀ c.2) α} (b : ℕ) (hoff : off 0 = b) (hb : b + 16 ≤ 1024)
    (hP : Has P (chunk c m a))
    (hk : P ⊢ wp frame (wpE (defs₀ (F := F)) 𝒱₀ c none) Set.univ (k fun x => a (b + (x 0).val)) Q) :
    P ⊢ wp frame (wpE (defs₀ (F := F)) 𝒱₀ c none) Set.univ (.op (.load m (Rect.unit (s := S1040) off S16.size inb).toLoadRect hl) k) Q := by
  obtain ⟨R, h, h'⟩ := hP
  refine h.trans ?_
  iintro ⟨H, R⟩
  iapply (wp_load_chunk b hoff hb) $$ H
  iintro H
  iapply hk
  iapply h'
  isplitl [H]; · iexact H
  iexact R

variable {m0 m1 n0 n1 : Memref sig c.2.kind .vmem S25088 .f32} {a0 a1 b0 b1 : Vec F S25088 .f32}
  {idx : IVec S16 32} {h h' : ∀ b x, ((![idx] : Fin 1 → IVec S16 32) b x).toNat < S25088.size b}
  {g : Vec F S16 .f32 → Vec F S16 .f32} {mask : IVec S16 1}
  {k : PUnit → Prog (TpuEff nD τ sig (Elt F) Λ₀ c.2) α}
  {lo n id : BitVec 32} {v12 : IVec S16 32} {v : Vec F S16 .f32}

theorem pairA0 (hn : n.toNat ≤ 1567) (hv12 : ∀ x, v12 x = BitVec.ofNat 32 (x 0).val)
    {hl : m0.view.LoadsAt (Rect.whole S25088).toLoadRect} {hl' : m0.view.LoadsAt (Rect.whole S25088).toLoadRect} {hs : (m0.access (.whole S25088)).Stores Finset.univ}
    {hmm} (hidx : ∀ x, idx x = slotW lo n id * 16#32 + v12 x) (hm : ∀ x, mask x = 1#1) (hg : ∀ w, g w = maximumf w v)
    (hk : iprop(accs c m0 m1 n0 n1 (upd (16 * slot lo n id) v a0) a1 b0 b1 ∗ P) ⊢ wp frame (wpE (defs₀ (F := F)) 𝒱₀ c none) Set.univ (k ⟨⟩) Q) :
    iprop(accs c m0 m1 n0 n1 a0 a1 b0 b1 ∗ P) ⊢ wp frame (wpE (defs₀ (F := F)) 𝒱₀ c none) Set.univ
      (.op (.load m0 (Rect.whole S25088).toLoadRect hl) fun w => .op (.load m0 (Rect.whole S25088).toLoadRect hl') fun w' =>
        .op (.store m0 (.whole S25088) (storeIdx w' (![idx] : Fin 1 → IVec S16 32) (g (loadIdx w (![idx] : Fin 1 → IVec S16 32) h)) mask false h') Finset.univ hs hmm) k) Q := by
  unfold accs
  iintro ⟨⟨H0, H1, H2, H3⟩, P⟩
  iapply (wp_max_holds (c := c) (m := m0) (idx := idx) (h := h) (h' := h') (g := g) (mask := mask) (k := k) (16 * slot lo n id) v
    (fun x => by rw [hidx x]; exact slotW_lane lo n v12 hv12 hn id x) hm hg (hs := hs) (hl := View.loads_vmem h_S25088)) $$ H0
  iintro H0
  iapply hk
  unfold accs
  isplitl [H0 H1 H2 H3]
  · isplitl [H0]; · iexact H0
    isplitl [H1]; · iexact H1
    isplitl [H2]; · iexact H2
    iexact H3
  iexact P

theorem pairA1 (hn : n.toNat ≤ 1567) (hv12 : ∀ x, v12 x = BitVec.ofNat 32 (x 0).val)
    {hl : m1.view.LoadsAt (Rect.whole S25088).toLoadRect} {hl' : m1.view.LoadsAt (Rect.whole S25088).toLoadRect} {hs : (m1.access (.whole S25088)).Stores Finset.univ}
    {hmm} (hidx : ∀ x, idx x = slotW lo n id * 16#32 + v12 x) (hm : ∀ x, mask x = 1#1) (hg : ∀ w, g w = maximumf w v)
    (hk : iprop(accs c m0 m1 n0 n1 a0 (upd (16 * slot lo n id) v a1) b0 b1 ∗ P) ⊢ wp frame (wpE (defs₀ (F := F)) 𝒱₀ c none) Set.univ (k ⟨⟩) Q) :
    iprop(accs c m0 m1 n0 n1 a0 a1 b0 b1 ∗ P) ⊢ wp frame (wpE (defs₀ (F := F)) 𝒱₀ c none) Set.univ
      (.op (.load m1 (Rect.whole S25088).toLoadRect hl) fun w => .op (.load m1 (Rect.whole S25088).toLoadRect hl') fun w' =>
        .op (.store m1 (.whole S25088) (storeIdx w' (![idx] : Fin 1 → IVec S16 32) (g (loadIdx w (![idx] : Fin 1 → IVec S16 32) h)) mask false h') Finset.univ hs hmm) k) Q := by
  unfold accs
  iintro ⟨⟨H0, H1, H2, H3⟩, P⟩
  iapply (wp_max_holds (c := c) (m := m1) (idx := idx) (h := h) (h' := h') (g := g) (mask := mask) (k := k) (16 * slot lo n id) v
    (fun x => by rw [hidx x]; exact slotW_lane lo n v12 hv12 hn id x) hm hg (hs := hs) (hl := View.loads_vmem h_S25088)) $$ H1
  iintro H1
  iapply hk
  unfold accs
  isplitl [H0 H1 H2 H3]
  · isplitl [H0]; · iexact H0
    isplitl [H1]; · iexact H1
    isplitl [H2]; · iexact H2
    iexact H3
  iexact P

theorem pairB0 (hn : n.toNat ≤ 1567) (hv12 : ∀ x, v12 x = BitVec.ofNat 32 (x 0).val)
    {hl : n0.view.LoadsAt (Rect.whole S25088).toLoadRect} {hl' : n0.view.LoadsAt (Rect.whole S25088).toLoadRect} {hs : (n0.access (.whole S25088)).Stores Finset.univ}
    {hmm} (hidx : ∀ x, idx x = slotW lo n id * 16#32 + v12 x) (hm : ∀ x, mask x = 1#1) (hg : ∀ w, g w = maximumf w v)
    (hk : iprop(accs c m0 m1 n0 n1 a0 a1 (upd (16 * slot lo n id) v b0) b1 ∗ P) ⊢ wp frame (wpE (defs₀ (F := F)) 𝒱₀ c none) Set.univ (k ⟨⟩) Q) :
    iprop(accs c m0 m1 n0 n1 a0 a1 b0 b1 ∗ P) ⊢ wp frame (wpE (defs₀ (F := F)) 𝒱₀ c none) Set.univ
      (.op (.load n0 (Rect.whole S25088).toLoadRect hl) fun w => .op (.load n0 (Rect.whole S25088).toLoadRect hl') fun w' =>
        .op (.store n0 (.whole S25088) (storeIdx w' (![idx] : Fin 1 → IVec S16 32) (g (loadIdx w (![idx] : Fin 1 → IVec S16 32) h)) mask false h') Finset.univ hs hmm) k) Q := by
  unfold accs
  iintro ⟨⟨H0, H1, H2, H3⟩, P⟩
  iapply (wp_max_holds (c := c) (m := n0) (idx := idx) (h := h) (h' := h') (g := g) (mask := mask) (k := k) (16 * slot lo n id) v
    (fun x => by rw [hidx x]; exact slotW_lane lo n v12 hv12 hn id x) hm hg (hs := hs) (hl := View.loads_vmem h_S25088)) $$ H2
  iintro H2
  iapply hk
  unfold accs
  isplitl [H0 H1 H2 H3]
  · isplitl [H0]; · iexact H0
    isplitl [H1]; · iexact H1
    isplitl [H2]; · iexact H2
    iexact H3
  iexact P

theorem pairB1 (hn : n.toNat ≤ 1567) (hv12 : ∀ x, v12 x = BitVec.ofNat 32 (x 0).val)
    {hl : n1.view.LoadsAt (Rect.whole S25088).toLoadRect} {hl' : n1.view.LoadsAt (Rect.whole S25088).toLoadRect} {hs : (n1.access (.whole S25088)).Stores Finset.univ}
    {hmm} (hidx : ∀ x, idx x = slotW lo n id * 16#32 + v12 x) (hm : ∀ x, mask x = 1#1) (hg : ∀ w, g w = maximumf w v)
    (hk : iprop(accs c m0 m1 n0 n1 a0 a1 b0 (upd (16 * slot lo n id) v b1) ∗ P) ⊢ wp frame (wpE (defs₀ (F := F)) 𝒱₀ c none) Set.univ (k ⟨⟩) Q) :
    iprop(accs c m0 m1 n0 n1 a0 a1 b0 b1 ∗ P) ⊢ wp frame (wpE (defs₀ (F := F)) 𝒱₀ c none) Set.univ
      (.op (.load n1 (Rect.whole S25088).toLoadRect hl) fun w => .op (.load n1 (Rect.whole S25088).toLoadRect hl') fun w' =>
        .op (.store n1 (.whole S25088) (storeIdx w' (![idx] : Fin 1 → IVec S16 32) (g (loadIdx w (![idx] : Fin 1 → IVec S16 32) h)) mask false h') Finset.univ hs hmm) k) Q := by
  unfold accs
  iintro ⟨⟨H0, H1, H2, H3⟩, P⟩
  iapply (wp_max_holds (c := c) (m := n1) (idx := idx) (h := h) (h' := h') (g := g) (mask := mask) (k := k) (16 * slot lo n id) v
    (fun x => by rw [hidx x]; exact slotW_lane lo n v12 hv12 hn id x) hm hg (hs := hs) (hl := View.loads_vmem h_S25088)) $$ H3
  iintro H3
  iapply hk
  unfold accs
  isplitl [H0 H1 H2 H3]
  · isplitl [H0]; · iexact H0
    isplitl [H1]; · iexact H1
    isplitl [H2]; · iexact H2
    iexact H3
  iexact P

/-- The gather of a pair alone. -/
theorem loadA1 {k : (S25088.Idx → F .f32) → Prog (TpuEff nD τ sig (Elt F) Λ₀ c.2) α} {hl : m1.view.LoadsAt (Rect.whole S25088).toLoadRect}
    (hk : iprop(accs c m0 m1 n0 n1 a0 a1 b0 b1 ∗ P) ⊢ wp frame (wpE (defs₀ (F := F)) 𝒱₀ c none) Set.univ (k a1) Q) :
    iprop(accs c m0 m1 n0 n1 a0 a1 b0 b1 ∗ P) ⊢ wp frame (wpE (defs₀ (F := F)) 𝒱₀ c none) Set.univ
      (.op (.load m1 (Rect.whole S25088).toLoadRect hl) k) Q := by
  have e : (fun x => a1 ((Rect.whole S25088).emb x)) = a1 := by funext x; rw [Rect.emb_whole_apply]
  unfold accs at *
  iintro ⟨⟨H0, H1, H2, H3⟩, P⟩
  iapply (wp_load_holds (r := Rect.whole S25088) (m := m1) (hl := hl)) $$ H1
  iintro H1
  iapply (Entails.of_eq (congrArg (fun w => wp frame (wpE (defs₀ (F := F)) 𝒱₀ c none) Set.univ (k w) Q) e.symm))
  iapply hk
  isplitl [H0 H1 H2 H3]
  · isplitl [H0]; · iexact H0
    isplitl [H1]; · iexact H1
    isplitl [H2]; · iexact H2
    iexact H3
  iexact P

/-- The scatter of a pair alone. -/
theorem storeA1 (hn : n.toNat ≤ 1567) (hv12 : ∀ x, v12 x = BitVec.ofNat 32 (x 0).val)
    {hl' : m1.view.LoadsAt (Rect.whole S25088).toLoadRect} {hs : (m1.access (.whole S25088)).Stores Finset.univ}
    {hmm} {u : Vec F S16 .f32} (hidx : ∀ x, idx x = slotW lo n id * 16#32 + v12 x) (hm : ∀ x, mask x = 1#1)
    (hg : u = maximumf (loadIdx a1 (![idx] : Fin 1 → IVec S16 32) h) v)
    (hk : iprop(accs c m0 m1 n0 n1 a0 (upd (16 * slot lo n id) v a1) b0 b1 ∗ P) ⊢ wp frame (wpE (defs₀ (F := F)) 𝒱₀ c none) Set.univ (k ⟨⟩) Q) :
    iprop(accs c m0 m1 n0 n1 a0 a1 b0 b1 ∗ P) ⊢ wp frame (wpE (defs₀ (F := F)) 𝒱₀ c none) Set.univ
      (.op (.load m1 (Rect.whole S25088).toLoadRect hl') fun w' =>
        .op (.store m1 (.whole S25088) (storeIdx w' (![idx] : Fin 1 → IVec S16 32) u mask false h') Finset.univ hs hmm) k) Q := by
  refine loadA1 ?_
  unfold accs at *
  iintro ⟨⟨H0, H1, H2, H3⟩, P⟩
  iapply (wp_store_holds (c := c) (m := m1) (r := Rect.whole S25088) (upd (16 * slot lo n id) v a1)
    (fun x => by
      rw [Rect.emb_whole_apply]
      exact congrFun (storeIdx_max (16 * slot lo n id) v a1 idx u mask h'
        (fun x => by rw [hidx x]; exact slotW_lane lo n v12 hv12 hn id x) hm hg).symm x)
    (fun y hy => absurd (by rw [Rect.set_whole]; exact Finset.mem_univ y) hy) (hx := hs) (hm := hmm)) $$ H1
  iintro H1
  iapply hk
  isplitl [H0 H1 H2 H3]
  · isplitl [H0]; · iexact H0
    isplitl [H1]; · iexact H1
    isplitl [H2]; · iexact H2
    iexact H3
  iexact P

theorem chk_holds {lo n id : BitVec 32} {v12 : IVec S16 32} {idx : IVec S16 32} (hn : n.toNat ≤ 1567) (hv12 : ∀ x, v12 x = BitVec.ofNat 32 (x 0).val)
    (hidx : ∀ x, idx x = slotW lo n id * 16#32 + v12 x) : k0_chk4 idx := by
  have key : ∀ (a : Fin 1) (x : S16.Idx), ((![idx] : Fin 1 → IVec S16 32) a x).toNat < S25088.size a := by
    intro a x
    have ha : a = 0 := Fin.eq_zero a
    subst ha
    show (idx x).toNat < 25088
    have hs := slot_lt lo n id hn
    have hx : (x 0).val < 16 := (x 0).isLt
    rw [hidx x, slotW_lane lo n v12 hv12 hn id x]
    omega
  exact ⟨key, key⟩

end Steps

/-! ## The body -/

theorem off7_eq (t : Fin k0_t4_loop.trips) : k0_off7 t 0 = 16 * t.val := by
  have ht : t.val < 64 := t.isLt.trans_le (by decide)
  show (Scalar.indexCast (Scalar.muli (Scf.iv 0#32 1#32 t) 16#32)).toNat = _
  show (((0#32 + BitVec.ofNat 32 t.val * 1#32) * 16#32 : BitVec 32)).toNat = _
  rw [BitVec.toNat_mul, BitVec.toNat_add, BitVec.toNat_mul]
  simp only [BitVec.toNat_ofNat]
  omega

/-- The points of group `t` with parity `par`, in the order the body takes them. -/
def grp (par t : ℕ) : List ℕ := (List.range 8).map fun j => 16 * t + (2 * j + par)

/-- What a body holds of one window's chunk: its four buffers. -/
def chunks (c : Thread nD τ) (mx my mz : Memref sig c.2.kind .vmem S1040 .f32) (mi : Memref sig c.2.kind .vmem S1040 .i32)
    (x y z : ℕ → F .f32) (i : ℕ → BitVec 32) : sProp 𝕄 :=
  iprop(chunk c mx x ∗ chunk c my y ∗ chunk c mz z ∗ chunk c mi i)

set_option maxHeartbeats 400000 in
set_option maxRecDepth 100000 in
theorem group_run (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (v2 : BitVec 32) (v3 : BitVec 32) (v5 : Vec F S16 .f32) (v7 : Vec F S16 .f32) (v9 : Vec F S16 .f32) (v11 : Vec F S16 .f32) (v12 : IVec S16 32) (v22 : BitVec 32) (v25 : BitVec 32) (v28 : BitVec 32) (k0_hw3 : k0_chk3 v22 v25 v28) (v39 : BitVec 32) (v40 : BitVec 32) (k0_t3 : Fin (k0_t3_loop v22 v25 v28).trips) (v180 : BitVec 32)
    (hv12 : ∀ x, v12 x = BitVec.ofNat 32 (x 0).val) (t : Fin k0_t4_loop.trips)
    (xA yA zA xB yB zB : ℕ → F .f32) (iA iB : ℕ → BitVec 32) (a0 a1 b0 b1 : Vec F S25088 .f32) (Q : Unit → sProp 𝕄)
    (hQ : iprop(accs (d, .scVector ((i 0).castLE hcore0) ((i 1).castLE hsub0)) arg27 arg28 arg29 arg30
        (proc (fun p => slot v2 1563#32 (iA p)) (fun p => pointVal v5 v7 v9 v11 (xA p) (yA p) (zA p)) (grp 0 t.val) a0)
        (proc (fun p => slot v2 1563#32 (iA p)) (fun p => pointVal v5 v7 v9 v11 (xA p) (yA p) (zA p)) (grp 1 t.val) a1)
        (proc (fun p => slot v3 1562#32 (iB p)) (fun p => pointVal v5 v7 v9 v11 (xB p) (yB p) (zB p)) (grp 0 t.val) b0)
        (proc (fun p => slot v3 1562#32 (iB p)) (fun p => pointVal v5 v7 v9 v11 (xB p) (yB p) (zB p)) (grp 1 t.val) b1)
      ∗ chunks (d, .scVector ((i 0).castLE hcore0) ((i 1).castLE hsub0)) arg11 arg12 arg13 arg14 xA yA zA iA
      ∗ chunks (d, .scVector ((i 0).castLE hcore0) ((i 1).castLE hsub0)) arg19 arg20 arg21 arg22 xB yB zB iB) ⊢ Q ()) :
    iprop(accs (d, .scVector ((i 0).castLE hcore0) ((i 1).castLE hsub0)) arg27 arg28 arg29 arg30 a0 a1 b0 b1
      ∗ chunks (d, .scVector ((i 0).castLE hcore0) ((i 1).castLE hsub0)) arg11 arg12 arg13 arg14 xA yA zA iA
      ∗ chunks (d, .scVector ((i 0).castLE hcore0) ((i 1).castLE hsub0)) arg19 arg20 arg21 arg22 xB yB zB iB)
      ⊢ wp frame (wpE (defs₀ (F := F)) 𝒱₀ (d, .scVector ((i 0).castLE hcore0) ((i 1).castLE hsub0)) none) Set.univ
        (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 v22 v25 v28 k0_hw3 v39 v40 k0_t3 v180 t ()) Q := by
  have hA : (1563#32 : BitVec 32).toNat ≤ 1567 := by decide
  have hB : (1562#32 : BitVec 32).toNat ≤ 1567 := by decide
  have ht : t.val < 64 := t.isLt.trans_le (by decide)
  have hoff : k0_off7 t 0 = 16 * t.val := off7_eq t
  have hb : 16 * t.val + 16 ≤ 1024 := by omega
  unfold k0_t4_body chunks
  simp only [k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton,
    k0_part12_eq_skeleton, k0_part13_eq_skeleton, k0_part14_eq_skeleton]
  refine load_step (c := (d, .scVector ((i 0).castLE hcore0) ((i 1).castLE hsub0))) (m := arg14) (a := iA) (16 * t.val) hoff hb (.right (.left (.right (.right (.right .last))))) ?_
  refine load_step (c := (d, .scVector ((i 0).castLE hcore0) ((i 1).castLE hsub0))) (m := arg11) (a := xA) (16 * t.val) hoff hb (.right (.left .here)) ?_
  refine load_step (c := (d, .scVector ((i 0).castLE hcore0) ((i 1).castLE hsub0))) (m := arg12) (a := yA) (16 * t.val) hoff hb (.right (.left (.right .here))) ?_
  refine load_step (c := (d, .scVector ((i 0).castLE hcore0) ((i 1).castLE hsub0))) (m := arg13) (a := zA) (16 * t.val) hoff hb (.right (.left (.right (.right .here)))) ?_
  refine load_step (c := (d, .scVector ((i 0).castLE hcore0) ((i 1).castLE hsub0))) (m := arg22) (a := iB) (16 * t.val) hoff hb (.right (.right (.right (.right (.right .last))))) ?_
  refine load_step (c := (d, .scVector ((i 0).castLE hcore0) ((i 1).castLE hsub0))) (m := arg19) (a := xB) (16 * t.val) hoff hb (.right (.right .here)) ?_
  refine load_step (c := (d, .scVector ((i 0).castLE hcore0) ((i 1).castLE hsub0))) (m := arg20) (a := yB) (16 * t.val) hoff hb (.right (.right (.right .here))) ?_
  refine load_step (c := (d, .scVector ((i 0).castLE hcore0) ((i 1).castLE hsub0))) (m := arg21) (a := zB) (16 * t.val) hoff hb (.right (.right (.right (.right .here)))) ?_
  refine wp_assume_true (chk_holds (lo := v2) (n := 1563#32) (id := iA (16 * t.val + 0)) hA hv12 (fun _ => rfl)) ?_
  refine wp_assume_true (chk_holds (lo := v3) (n := 1562#32) (id := iB (16 * t.val + 0)) hB hv12 (fun _ => rfl)) ?_
  refine wp_assume_true (chk_holds (lo := v2) (n := 1563#32) (id := iA (16 * t.val + 1)) hA hv12 (fun _ => rfl)) ?_
  refine wp_assume_true (chk_holds (lo := v3) (n := 1562#32) (id := iB (16 * t.val + 1)) hB hv12 (fun _ => rfl)) ?_
  refine wp_assume_true (chk_holds (lo := v2) (n := 1563#32) (id := iA (16 * t.val + 2)) hA hv12 (fun _ => rfl)) ?_
  refine wp_assume_true (chk_holds (lo := v3) (n := 1562#32) (id := iB (16 * t.val + 2)) hB hv12 (fun _ => rfl)) ?_
  refine wp_assume_true (chk_holds (lo := v2) (n := 1563#32) (id := iA (16 * t.val + 3)) hA hv12 (fun _ => rfl)) ?_
  refine wp_assume_true (chk_holds (lo := v3) (n := 1562#32) (id := iB (16 * t.val + 3)) hB hv12 (fun _ => rfl)) ?_
  refine wp_assume_true (chk_holds (lo := v2) (n := 1563#32) (id := iA (16 * t.val + 4)) hA hv12 (fun _ => rfl)) ?_
  refine wp_assume_true (chk_holds (lo := v3) (n := 1562#32) (id := iB (16 * t.val + 4)) hB hv12 (fun _ => rfl)) ?_
  refine wp_assume_true (chk_holds (lo := v2) (n := 1563#32) (id := iA (16 * t.val + 5)) hA hv12 (fun _ => rfl)) ?_
  refine wp_assume_true (chk_holds (lo := v3) (n := 1562#32) (id := iB (16 * t.val + 5)) hB hv12 (fun _ => rfl)) ?_
  refine wp_assume_true (chk_holds (lo := v2) (n := 1563#32) (id := iA (16 * t.val + 6)) hA hv12 (fun _ => rfl)) ?_
  refine wp_assume_true (chk_holds (lo := v3) (n := 1562#32) (id := iB (16 * t.val + 6)) hB hv12 (fun _ => rfl)) ?_
  refine wp_assume_true (chk_holds (lo := v2) (n := 1563#32) (id := iA (16 * t.val + 7)) hA hv12 (fun _ => rfl)) ?_
  refine wp_assume_true (chk_holds (lo := v3) (n := 1562#32) (id := iB (16 * t.val + 7)) hB hv12 (fun _ => rfl)) ?_
  refine pairA0 hA hv12 (lo := v2) (n := 1563#32) (id := iA (16 * t.val + 0)) (v := pointVal v5 v7 v9 v11 (xA (16 * t.val + 0)) (yA (16 * t.val + 0)) (zA (16 * t.val + 0))) (fun _ => rfl) (fun _ => rfl) (fun _ => rfl) ?_
  refine pairB0 hB hv12 (lo := v3) (n := 1562#32) (id := iB (16 * t.val + 0)) (v := pointVal v5 v7 v9 v11 (xB (16 * t.val + 0)) (yB (16 * t.val + 0)) (zB (16 * t.val + 0))) (fun _ => rfl) (fun _ => rfl) (fun _ => rfl) ?_
  refine pairA1 hA hv12 (lo := v2) (n := 1563#32) (id := iA (16 * t.val + 1)) (v := pointVal v5 v7 v9 v11 (xA (16 * t.val + 1)) (yA (16 * t.val + 1)) (zA (16 * t.val + 1))) (fun _ => rfl) (fun _ => rfl) (fun _ => rfl) ?_
  refine pairB1 hB hv12 (lo := v3) (n := 1562#32) (id := iB (16 * t.val + 1)) (v := pointVal v5 v7 v9 v11 (xB (16 * t.val + 1)) (yB (16 * t.val + 1)) (zB (16 * t.val + 1))) (fun _ => rfl) (fun _ => rfl) (fun _ => rfl) ?_
  refine pairA0 hA hv12 (lo := v2) (n := 1563#32) (id := iA (16 * t.val + 2)) (v := pointVal v5 v7 v9 v11 (xA (16 * t.val + 2)) (yA (16 * t.val + 2)) (zA (16 * t.val + 2))) (fun _ => rfl) (fun _ => rfl) (fun _ => rfl) ?_
  refine pairB0 hB hv12 (lo := v3) (n := 1562#32) (id := iB (16 * t.val + 2)) (v := pointVal v5 v7 v9 v11 (xB (16 * t.val + 2)) (yB (16 * t.val + 2)) (zB (16 * t.val + 2))) (fun _ => rfl) (fun _ => rfl) (fun _ => rfl) ?_
  refine pairA1 hA hv12 (lo := v2) (n := 1563#32) (id := iA (16 * t.val + 3)) (v := pointVal v5 v7 v9 v11 (xA (16 * t.val + 3)) (yA (16 * t.val + 3)) (zA (16 * t.val + 3))) (fun _ => rfl) (fun _ => rfl) (fun _ => rfl) ?_
  refine pairB1 hB hv12 (lo := v3) (n := 1562#32) (id := iB (16 * t.val + 3)) (v := pointVal v5 v7 v9 v11 (xB (16 * t.val + 3)) (yB (16 * t.val + 3)) (zB (16 * t.val + 3))) (fun _ => rfl) (fun _ => rfl) (fun _ => rfl) ?_
  refine pairA0 hA hv12 (lo := v2) (n := 1563#32) (id := iA (16 * t.val + 4)) (v := pointVal v5 v7 v9 v11 (xA (16 * t.val + 4)) (yA (16 * t.val + 4)) (zA (16 * t.val + 4))) (fun _ => rfl) (fun _ => rfl) (fun _ => rfl) ?_
  refine pairB0 hB hv12 (lo := v3) (n := 1562#32) (id := iB (16 * t.val + 4)) (v := pointVal v5 v7 v9 v11 (xB (16 * t.val + 4)) (yB (16 * t.val + 4)) (zB (16 * t.val + 4))) (fun _ => rfl) (fun _ => rfl) (fun _ => rfl) ?_
  refine pairA1 hA hv12 (lo := v2) (n := 1563#32) (id := iA (16 * t.val + 5)) (v := pointVal v5 v7 v9 v11 (xA (16 * t.val + 5)) (yA (16 * t.val + 5)) (zA (16 * t.val + 5))) (fun _ => rfl) (fun _ => rfl) (fun _ => rfl) ?_
  refine pairB1 hB hv12 (lo := v3) (n := 1562#32) (id := iB (16 * t.val + 5)) (v := pointVal v5 v7 v9 v11 (xB (16 * t.val + 5)) (yB (16 * t.val + 5)) (zB (16 * t.val + 5))) (fun _ => rfl) (fun _ => rfl) (fun _ => rfl) ?_
  refine pairA0 hA hv12 (lo := v2) (n := 1563#32) (id := iA (16 * t.val + 6)) (v := pointVal v5 v7 v9 v11 (xA (16 * t.val + 6)) (yA (16 * t.val + 6)) (zA (16 * t.val + 6))) (fun _ => rfl) (fun _ => rfl) (fun _ => rfl) ?_
  refine pairB0 hB hv12 (lo := v3) (n := 1562#32) (id := iB (16 * t.val + 6)) (v := pointVal v5 v7 v9 v11 (xB (16 * t.val + 6)) (yB (16 * t.val + 6)) (zB (16 * t.val + 6))) (fun _ => rfl) (fun _ => rfl) (fun _ => rfl) ?_
  refine pairA1 hA hv12 (lo := v2) (n := 1563#32) (id := iA (16 * t.val + 7)) (v := pointVal v5 v7 v9 v11 (xA (16 * t.val + 7)) (yA (16 * t.val + 7)) (zA (16 * t.val + 7))) (fun _ => rfl) (fun _ => rfl) (fun _ => rfl) ?_
  refine pairB1 hB hv12 (lo := v3) (n := 1562#32) (id := iB (16 * t.val + 7)) (v := pointVal v5 v7 v9 v11 (xB (16 * t.val + 7)) (yB (16 * t.val + 7)) (zB (16 * t.val + 7))) (fun _ => rfl) (fun _ => rfl) (fun _ => rfl) ?_
  refine wp_assume_true (chk_holds (lo := v2) (n := 1563#32) (id := iA (16 * t.val + 8)) hA hv12 (fun _ => rfl)) ?_
  refine wp_assume_true (chk_holds (lo := v3) (n := 1562#32) (id := iB (16 * t.val + 8)) hB hv12 (fun _ => rfl)) ?_
  refine wp_assume_true (chk_holds (lo := v2) (n := 1563#32) (id := iA (16 * t.val + 9)) hA hv12 (fun _ => rfl)) ?_
  refine wp_assume_true (chk_holds (lo := v3) (n := 1562#32) (id := iB (16 * t.val + 9)) hB hv12 (fun _ => rfl)) ?_
  refine wp_assume_true (chk_holds (lo := v2) (n := 1563#32) (id := iA (16 * t.val + 10)) hA hv12 (fun _ => rfl)) ?_
  refine wp_assume_true (chk_holds (lo := v3) (n := 1562#32) (id := iB (16 * t.val + 10)) hB hv12 (fun _ => rfl)) ?_
  refine wp_assume_true (chk_holds (lo := v2) (n := 1563#32) (id := iA (16 * t.val + 11)) hA hv12 (fun _ => rfl)) ?_
  refine wp_assume_true (chk_holds (lo := v3) (n := 1562#32) (id := iB (16 * t.val + 11)) hB hv12 (fun _ => rfl)) ?_
  refine wp_assume_true (chk_holds (lo := v2) (n := 1563#32) (id := iA (16 * t.val + 12)) hA hv12 (fun _ => rfl)) ?_
  refine wp_assume_true (chk_holds (lo := v3) (n := 1562#32) (id := iB (16 * t.val + 12)) hB hv12 (fun _ => rfl)) ?_
  refine wp_assume_true (chk_holds (lo := v2) (n := 1563#32) (id := iA (16 * t.val + 13)) hA hv12 (fun _ => rfl)) ?_
  refine wp_assume_true (chk_holds (lo := v3) (n := 1562#32) (id := iB (16 * t.val + 13)) hB hv12 (fun _ => rfl)) ?_
  refine wp_assume_true (chk_holds (lo := v2) (n := 1563#32) (id := iA (16 * t.val + 14)) hA hv12 (fun _ => rfl)) ?_
  refine wp_assume_true (chk_holds (lo := v3) (n := 1562#32) (id := iB (16 * t.val + 14)) hB hv12 (fun _ => rfl)) ?_
  refine wp_assume_true (chk_holds (lo := v2) (n := 1563#32) (id := iA (16 * t.val + 15)) hA hv12 (fun _ => rfl)) ?_
  refine wp_assume_true (chk_holds (lo := v3) (n := 1562#32) (id := iB (16 * t.val + 15)) hB hv12 (fun _ => rfl)) ?_
  refine pairA0 hA hv12 (lo := v2) (n := 1563#32) (id := iA (16 * t.val + 8)) (v := pointVal v5 v7 v9 v11 (xA (16 * t.val + 8)) (yA (16 * t.val + 8)) (zA (16 * t.val + 8))) (fun _ => rfl) (fun _ => rfl) (fun _ => rfl) ?_
  refine pairB0 hB hv12 (lo := v3) (n := 1562#32) (id := iB (16 * t.val + 8)) (v := pointVal v5 v7 v9 v11 (xB (16 * t.val + 8)) (yB (16 * t.val + 8)) (zB (16 * t.val + 8))) (fun _ => rfl) (fun _ => rfl) (fun _ => rfl) ?_
  refine pairA1 hA hv12 (lo := v2) (n := 1563#32) (id := iA (16 * t.val + 9)) (v := pointVal v5 v7 v9 v11 (xA (16 * t.val + 9)) (yA (16 * t.val + 9)) (zA (16 * t.val + 9))) (fun _ => rfl) (fun _ => rfl) (fun _ => rfl) ?_
  refine pairB1 hB hv12 (lo := v3) (n := 1562#32) (id := iB (16 * t.val + 9)) (v := pointVal v5 v7 v9 v11 (xB (16 * t.val + 9)) (yB (16 * t.val + 9)) (zB (16 * t.val + 9))) (fun _ => rfl) (fun _ => rfl) (fun _ => rfl) ?_
  refine pairA0 hA hv12 (lo := v2) (n := 1563#32) (id := iA (16 * t.val + 10)) (v := pointVal v5 v7 v9 v11 (xA (16 * t.val + 10)) (yA (16 * t.val + 10)) (zA (16 * t.val + 10))) (fun _ => rfl) (fun _ => rfl) (fun _ => rfl) ?_
  refine pairB0 hB hv12 (lo := v3) (n := 1562#32) (id := iB (16 * t.val + 10)) (v := pointVal v5 v7 v9 v11 (xB (16 * t.val + 10)) (yB (16 * t.val + 10)) (zB (16 * t.val + 10))) (fun _ => rfl) (fun _ => rfl) (fun _ => rfl) ?_
  refine pairA1 hA hv12 (lo := v2) (n := 1563#32) (id := iA (16 * t.val + 11)) (v := pointVal v5 v7 v9 v11 (xA (16 * t.val + 11)) (yA (16 * t.val + 11)) (zA (16 * t.val + 11))) (fun _ => rfl) (fun _ => rfl) (fun _ => rfl) ?_
  refine pairB1 hB hv12 (lo := v3) (n := 1562#32) (id := iB (16 * t.val + 11)) (v := pointVal v5 v7 v9 v11 (xB (16 * t.val + 11)) (yB (16 * t.val + 11)) (zB (16 * t.val + 11))) (fun _ => rfl) (fun _ => rfl) (fun _ => rfl) ?_
  refine pairA0 hA hv12 (lo := v2) (n := 1563#32) (id := iA (16 * t.val + 12)) (v := pointVal v5 v7 v9 v11 (xA (16 * t.val + 12)) (yA (16 * t.val + 12)) (zA (16 * t.val + 12))) (fun _ => rfl) (fun _ => rfl) (fun _ => rfl) ?_
  refine pairB0 hB hv12 (lo := v3) (n := 1562#32) (id := iB (16 * t.val + 12)) (v := pointVal v5 v7 v9 v11 (xB (16 * t.val + 12)) (yB (16 * t.val + 12)) (zB (16 * t.val + 12))) (fun _ => rfl) (fun _ => rfl) (fun _ => rfl) ?_
  refine pairA1 hA hv12 (lo := v2) (n := 1563#32) (id := iA (16 * t.val + 13)) (v := pointVal v5 v7 v9 v11 (xA (16 * t.val + 13)) (yA (16 * t.val + 13)) (zA (16 * t.val + 13))) (fun _ => rfl) (fun _ => rfl) (fun _ => rfl) ?_
  refine pairB1 hB hv12 (lo := v3) (n := 1562#32) (id := iB (16 * t.val + 13)) (v := pointVal v5 v7 v9 v11 (xB (16 * t.val + 13)) (yB (16 * t.val + 13)) (zB (16 * t.val + 13))) (fun _ => rfl) (fun _ => rfl) (fun _ => rfl) ?_
  refine pairA0 hA hv12 (lo := v2) (n := 1563#32) (id := iA (16 * t.val + 14)) (v := pointVal v5 v7 v9 v11 (xA (16 * t.val + 14)) (yA (16 * t.val + 14)) (zA (16 * t.val + 14))) (fun _ => rfl) (fun _ => rfl) (fun _ => rfl) ?_
  refine pairB0 hB hv12 (lo := v3) (n := 1562#32) (id := iB (16 * t.val + 14)) (v := pointVal v5 v7 v9 v11 (xB (16 * t.val + 14)) (yB (16 * t.val + 14)) (zB (16 * t.val + 14))) (fun _ => rfl) (fun _ => rfl) (fun _ => rfl) ?_
  refine loadA1 ?_
  refine storeA1 hA hv12 (lo := v2) (n := 1563#32) (id := iA (16 * t.val + 15)) (v := pointVal v5 v7 v9 v11 (xA (16 * t.val + 15)) (yA (16 * t.val + 15)) (zA (16 * t.val + 15))) (fun _ => rfl) (fun _ => rfl) rfl ?_
  refine pairB1 hB hv12 (lo := v3) (n := 1562#32) (id := iB (16 * t.val + 15)) (v := pointVal v5 v7 v9 v11 (xB (16 * t.val + 15)) (yB (16 * t.val + 15)) (zB (16 * t.val + 15))) (fun _ => rfl) (fun _ => rfl) (fun _ => rfl) ?_
  show _ ⊢ iprop(|={Set.univ}[frame]=> Q ())
  refine hQ.trans ?_
  iintro H
  imodintro
  iexact H

end Cert.Proof.Pool
-- ==== Proof.Copies.lean ====
/-
  The chunk copies: eight outstanding on one semaphore, each taking 1024 words of a stream into a chunk buffer. A step
  rule issues the next one, one waits for one more, and the last wait hands back every buffer, filled, with the words
  of the streams that were lent.
-/
module

public import proofs.«01_k».proof.Proof.GroupRun

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable {c : Thread nD τ} {e : EltTy}

/-! ## The pieces -/

theorem inb_of {n : ℕ} (h : n + 1024 ≤ 3200000) : ∀ b, (![n] : Fin 1 → ℕ) b + S1024.size b ≤ S3200000.size b := by
  intro b; rw [Fin.eq_zero b]; exact h

/-- The elements of a stream's words `n`, …, `n + 1023`. -/
def wset (c : Thread nD τ) (m : Memref sig c.2.kind .hbm S3200000 e) (n : ℕ) : Finset (Idx (m.view.loc c)) :=
  if h : n + 1024 ≤ 3200000 then (m.view.slice (Rect.unit (s := S3200000) ![n] S1024.size (inb_of h))).set else ∅

theorem wset_eq (m : Memref sig c.2.kind .hbm S3200000 e) (n : ℕ) {off : Fin 1 → ℕ} {inb : ∀ b, off b + S1024.size b ≤ S3200000.size b}
    (h : off 0 = n) : (m.view.slice (Rect.unit (s := S3200000) off S1024.size inb)).set = wset c m n := by
  have ho : off = ![n] := by funext b; rw [Fin.eq_zero b]; exact h
  subst ho
  have hn : n + 1024 ≤ 3200000 := inb 0
  unfold wset
  rw [dif_pos hn]

theorem wset_sub (m : Memref sig c.2.kind .hbm S3200000 e) (n : ℕ) : wset c m n ⊆ m.view.set := by
  unfold wset
  split
  · exact m.view.set_slice_subset _
  · exact Finset.empty_subset _

/-- A stream, held at a share. -/
def src (c : Thread nD τ) (m : Memref sig c.2.kind .hbm S3200000 e) (q : PosShare TreeShare) (f : Buf (Elt F) (m.view.loc c)) : sProp 𝕄 :=
  iprop(m.view.loc c ↦[m.view.set]{q} f)

/-- What is left of it while the words from `n` on are lent to a copy. -/
def lent (c : Thread nD τ) (m : Memref sig c.2.kind .hbm S3200000 e) (q : PosShare TreeShare) (f : Buf (Elt F) (m.view.loc c)) (n : ℕ) : sProp 𝕄 :=
  iprop(m.view.loc c ↦[m.view.set \ wset c m n]{q} f)

/-- What the copy delivers: the buffer filled and the words lent. -/
def del (c : Thread nD τ) (dst : Memref sig c.2.kind .vmem S1040 e) (m : Memref sig c.2.kind .hbm S3200000 e) (q : PosShare TreeShare)
    (f : Buf (Elt F) (m.view.loc c)) (n : ℕ) : sProp 𝕄 :=
  iprop(chunk c dst (fun j => strm (m.view.read (Elt F) f) (n + j)) ∗ (m.view.loc c ↦[wset c m n]{q} f))

instance storable_del (dst : Memref sig c.2.kind .vmem S1040 e) (m : Memref sig c.2.kind .hbm S3200000 e) (q : PosShare TreeShare)
    (f : Buf (Elt F) (m.view.loc c)) (n : ℕ) : Storable (upEmb : UEmb _ 𝕄) (del c dst m q f n) := by unfold del; infer_instance

/-- A chunk buffer with a stream beside it, before the copy: the buffer holds anything. -/
def idle (c : Thread nD τ) (dst : Memref sig c.2.kind .vmem S1040 e) (m : Memref sig c.2.kind .hbm S3200000 e) (q : PosShare TreeShare)
    (f : Buf (Elt F) (m.view.loc c)) : sProp 𝕄 :=
  iprop((∃ v, holds c dst fullShare v) ∗ src c m q f)

/-- After it: the buffer filled, the stream whole again. -/
def full (c : Thread nD τ) (dst : Memref sig c.2.kind .vmem S1040 e) (m : Memref sig c.2.kind .hbm S3200000 e) (q : PosShare TreeShare)
    (f : Buf (Elt F) (m.view.loc c)) (n : ℕ) : sProp 𝕄 :=
  iprop(chunk c dst (fun j => strm (m.view.read (Elt F) f) (n + j)) ∗ src c m q f)

theorem del_full (dst : Memref sig c.2.kind .vmem S1040 e) (m : Memref sig c.2.kind .hbm S3200000 e) (q : PosShare TreeShare)
    (f : Buf (Elt F) (m.view.loc c)) (n : ℕ) : iprop(del c dst m q f n ∗ lent c m q f n) ⊢ full c dst m q f n := by
  unfold del lent full src
  iintro ⟨⟨H, Hw⟩, Hl⟩
  isplitl [H]; · iexact H
  iapply (pointsTo_split_subset (q := q) (f := f) (wset_sub m n)).2
  isplitl [Hw]; · iexact Hw
  iexact Hl

theorem full_idle (dst : Memref sig c.2.kind .vmem S1040 e) (m : Memref sig c.2.kind .hbm S3200000 e) (q : PosShare TreeShare)
    (f : Buf (Elt F) (m.view.loc c)) (n : ℕ) : full c dst m q f n ⊢ idle c dst m q f := by
  unfold full idle chunk
  iintro ⟨⟨%v, H, -⟩, Hs⟩
  isplitl [H]
  · iexists v; iexact H
  iexact Hs

/-! ## The steps -/

/-- The deliveries of a round of eight copies. -/
abbrev dels (c : Thread nD τ) (dx dy dz : Memref sig c.2.kind .vmem S1040 .f32) (di : Memref sig c.2.kind .vmem S1040 .i32)
    (ex ey ez : Memref sig c.2.kind .vmem S1040 .f32) (ei : Memref sig c.2.kind .vmem S1040 .i32)
    (mx my mz : Memref sig c.2.kind .hbm S3200000 .f32) (mi : Memref sig c.2.kind .hbm S3200000 .i32)
    (qA qB : PosShare TreeShare) (fx : Buf (Elt F) (mx.view.loc c)) (fy : Buf (Elt F) (my.view.loc c))
    (fz : Buf (Elt F) (mz.view.loc c)) (fi : Buf (Elt F) (mi.view.loc c)) (nA nB : ℕ) : Fin 8 → sProp 𝕄 :=
  ![del c dx mx qA fx nA, del c dy my qA fy nA, del c dz mz qA fz nA, del c di mi qA fi nA,
    del c ex mx qB fx nB, del c ey my qB fy nB, del c ez mz qB fz nB, del c ei mi qB fi nB]

variable [FloatOps F] {α : Type} {Q : α → sProp (MT nD τ sig (HIx 1) (Elt F) ℕ UU ℕ)}

abbrev EC : UEmb Counters (MT nD τ sig (HIx 1) (Elt F) ℕ UU ℕ) := countersEmb

/-- The next copy of a round is issued: its buffer and the words it reads go, the rest of the stream stays. -/
theorem issue_step {sm : DmaSem sig} {dst : Memref sig c.2.kind .vmem S1040 e} {m : Memref sig c.2.kind .hbm S3200000 e}
    {q : PosShare TreeShare} {f : Buf (Elt F) (m.view.loc c)} {D : Fin 8 → sProp 𝕄} (j n : ℕ) (hj : j < 8)
    {off : Fin 1 → ℕ} {inb : ∀ b, off b + S1024.size b ≤ S3200000.size b} {inb' : ∀ b, (![0] : Fin 1 → ℕ) b + S1024.size b ≤ S1040.size b}
    {h1 : ∀ a, (Rect.unit (s := S3200000) off S1024.size inb).stride a = 1} {h2 : ∀ a, (Rect.unit (s := S1040) ![0] S1024.size inb').stride a = 1}
    {hsrc} {hdst} {hsem}
    {k : PUnit → Prog (TpuEff nD τ sig (Elt F) Λ₀ c.2) α} {L R : sProp 𝕄}
    (hoff : off 0 = n) (hD : D ⟨j, hj⟩ = del c dst m q f n)
    (hN : (dst.slice (Rect.unit (s := S1040) ![0] S1024.size inb') h2).view.dmaCredit = 32768)
    (hk : iprop(Batch EC c (.dma sm) (default : HIx 1) 32768 D (j + 1) 0 ∗ (lent c m q f n ∗ L) ∗ R)
      ⊢ wp frame (wpE (defs₀ (F := F)) 𝒱₀ c none) Set.univ (k ⟨⟩) Q) :
    iprop(Batch EC c (.dma sm) (default : HIx 1) 32768 D j 0 ∗ L ∗ idle c dst m q f ∗ R)
      ⊢ wp frame (wpE (defs₀ (F := F)) 𝒱₀ c none) Set.univ
        (.op (.enqueueDmaAs (m.slice (Rect.unit (s := S3200000) off S1024.size inb) h1)
          (.here (dst.slice (Rect.unit (s := S1040) ![0] S1024.size inb') h2)) .same (.dma sm) hsrc hdst hsem) k) Q := by
  unfold idle src holds
  iintro ⟨HB, HL, ⟨⟨%v, %g, Hd, %hg⟩, Hs⟩, HR⟩
  ihave Hs := (pointsTo_split_subset (q := q) (f := f) (wset_sub m n)).1 $$ Hs
  icases Hs with ⟨Hw, Hl⟩
  have hset := wset_eq (c := c) m n (inb := inb) hoff
  ihave Hw := (Entails.of_eq (show (m.view.loc c ↦[wset c m n]{q} f : sProp 𝕄)
    = (m.view.loc c ↦[(m.view.slice (Rect.unit (s := S3200000) off S1024.size inb)).set]{q} f) by rw [hset])) $$ Hw
  iapply (wp_dmaBatch EC 𝒱₀ c none (default : HIx 1) 32768 (src := m.slice (Rect.unit (s := S3200000) off S1024.size inb) h1)
    (dst := dst.slice (Rect.unit (s := S1040) ![0] S1024.size inb') h2) (sm := .dma sm) (q := q) (fs := f) (Sd := dst.view.set) (fd := g)
    (D := D) (j := j) (u := 0) hN (dst.view.set_slice_subset _) hj (Nat.zero_le _) ?_) $$ [HB Hd Hw]
  · rw [hD]
    unfold del chunk holds
    iintro ⟨Hd, Hw⟩
    isplitl [Hd]
    · iexists _
      isplitl [Hd]
      · iexists _
        isplitl [Hd]; · iexact Hd
        ipureintro; rfl
      ipureintro
      intro x hx
      have e1 : x = (Rect.unit (s := S1040) ![0] S1024.size inb').emb (ix1 1024 (by decide) (x 0).val) := by
        funext b
        rw [Fin.eq_zero b]
        refine Fin.ext ?_
        show (x 0).val = 0 + 1 * min (x 0).val (1024 - 1)
        omega
      have hn : n + 1024 ≤ 3200000 := hoff ▸ inb 0
      have e2 : (Rect.unit (s := S3200000) off S1024.size inb).emb (ix1 1024 (by decide) (x 0).val)
          = ix1 3200000 (by decide) (n + (x 0).val) := by
        funext b
        rw [Fin.eq_zero b]
        refine Fin.ext ?_
        show off 0 + 1 * min (x 0).val (1024 - 1) = min (n + (x 0).val) (3200000 - 1)
        omega
      conv_lhs => rw [e1]
      refine (View.read_slice_write_emb (v := dst.view) (Rect.unit (s := S1040) ![0] S1024.size inb') g _
        (Finset.mem_univ (ix1 1024 (by decide) (x 0).val))).trans ?_
      show m.view.read (Elt F) f ((Rect.unit (s := S3200000) off S1024.size inb).emb (ix1 1024 (by decide) (x 0).val)) = _
      rw [e2]
    · iapply (Entails.of_eq (show (m.view.loc c ↦[wset c m n]{q} f : sProp 𝕄)
        = (m.view.loc c ↦[(m.view.slice (Rect.unit (s := S3200000) off S1024.size inb)).set]{q} f) by rw [hset]).symm) $$ Hw
  · isplitl [Hw]; · iexact Hw
    isplitl [Hd]; · iexact Hd
    iexact HB
  iintro HB
  iapply hk
  isplitl [HB]; · iexact HB
  isplitl [Hl HL]
  · isplitl [Hl]; · unfold lent; iexact Hl
    iexact HL
  iexact HR

/-- What the thread owes, whatever waits it has recorded beyond `W` at the null index. -/
def ows (c : Thread nD τ) (O : CellTallies nD τ sig (HIx 1)) (W : Waits sig (HIx 1)) : sProp 𝕄 :=
  iprop(MayWaits c (default : HIx 1) O ∗ ∃ W', ⌜∀ p ∈ W', p ∈ W ∨ p.2 = none⌝ ∗ owes c O W')

/-- A wait of a round, not its last. -/
theorem wait_step {O : CellTallies nD τ sig (HIx 1)} {W : Waits sig (HIx 1)} {sem : DmaSem sig} {sp sp' : Space} {s s' : Shape} {e' : EltTy}
    {srcw : Memref sig c.2.kind sp' s' e'} {dstw : Memref sig c.2.kind sp s e} {hsrc : srcw.view.WordExact} {hdst : dstw.view.WordExact}
    {D : Fin 8 → sProp 𝕄} {u : ℕ} {k : PUnit → Prog (TpuEff nD τ sig (Elt F) Λ₀ c.2) α} {R : sProp 𝕄}
    (hN : dstw.view.dmaCredit = 32768) (hu : u + 32768 < 32768 * 8)
    (hk : iprop(Batch EC c (.dma sem) (default : HIx 1) 32768 D 8 (u + 32768) ∗ ows c O W ∗ R)
      ⊢ wp frame (wpE (defs₀ (F := F)) 𝒱₀ c none) Set.univ (k ⟨⟩) Q) :
    iprop(Batch EC c (.dma sem) (default : HIx 1) 32768 D 8 u ∗ ows c O W ∗ R)
      ⊢ wp frame (wpE (defs₀ (F := F)) 𝒱₀ c none) Set.univ (.op (.waitDma2 sem srcw dstw hsrc hdst) k) Q := by
  unfold ows
  iintro ⟨HB, ⟨#Hmw, %W', %hW, HO⟩, HR⟩
  iapply (wp_waitBatchO EC 𝒱₀ c none (default : HIx 1) (N := 32768) hN hu) $$ [HB HO]
  · isplitl [HB]; · iexact HB
    isplitl [HO]; · iexact HO
    iapply (MayWaits.elim (SemLoc.dma sem)) $$ Hmw
  iintro ⟨HB, HO⟩
  iapply hk
  isplitl [HB]; · iexact HB
  unfold ows
  isplitr [HR]
  · isplitr; · iexact Hmw
    iexists _
    isplitr; rotate_left; · iexact HO
    ipureintro
    intro p hp
    rcases Finset.mem_insert.mp hp with rfl | hp
    · exact .inr rfl
    · exact hW p hp
  iexact HR

/-- The last wait of a round: everything delivered comes back, the semaphore at zero. -/
theorem wait_last {O : CellTallies nD τ sig (HIx 1)} {W : Waits sig (HIx 1)} {sem : DmaSem sig} {sp sp' : Space} {s s' : Shape} {e' : EltTy}
    {srcw : Memref sig c.2.kind sp' s' e'} {dstw : Memref sig c.2.kind sp s e} {hsrc : srcw.view.WordExact} {hdst : dstw.view.WordExact}
    {D : Fin 8 → sProp 𝕄} {k : PUnit → Prog (TpuEff nD τ sig (Elt F) Λ₀ c.2) α} {R : sProp 𝕄}
    (hN : dstw.view.dmaCredit = 32768)
    (hk : iprop((D 0 ∗ D 1 ∗ D 2 ∗ D 3 ∗ D 4 ∗ D 5 ∗ D 6 ∗ D 7) ∗ semVal (c, .dma sem) 0 ∗ ows c O W ∗ R)
      ⊢ wp frame (wpE (defs₀ (F := F)) 𝒱₀ c none) Set.univ (k ⟨⟩) Q) :
    iprop(Batch EC c (.dma sem) (default : HIx 1) 32768 D 8 229376 ∗ ows c O W ∗ R)
      ⊢ wp frame (wpE (defs₀ (F := F)) 𝒱₀ c none) Set.univ (.op (.waitDma2 sem srcw dstw hsrc hdst) k) Q := by
  unfold ows
  iintro ⟨HB, ⟨#Hmw, %W', %hW, HO⟩, HR⟩
  iapply (wp_waitBatchLastO EC 𝒱₀ c none (default : HIx 1) (N := 32768) hN (by decide) (u := 229376) (show 229376 + 32768 = 32768 * 8 by decide)) $$ [HB HO]
  · isplitl [HB]; · iexact HB
    isplitl [HO]; · iexact HO
    iapply (MayWaits.elim (SemLoc.dma sem)) $$ Hmw
  iintro ⟨HD, Hs, HO⟩
  iapply hk
  isplitl [HD]
  · iapply (Entails.of_eq (show bigSep Finset.univ D = iprop(D 0 ∗ D 1 ∗ D 2 ∗ D 3 ∗ D 4 ∗ D 5 ∗ D 6 ∗ D 7) by
      rw [bigSep_pending_zero, bigSep_pending_step D 0 (by decide), bigSep_pending_step D 1 (by decide), bigSep_pending_step D 2 (by decide),
        bigSep_pending_step D 3 (by decide), bigSep_pending_step D 4 (by decide), bigSep_pending_step D 5 (by decide),
        bigSep_pending_step D 6 (by decide), bigSep_pending_last D 7 (by decide) rfl]; rfl)) $$ HD
  isplitl [Hs]; · iexact Hs
  unfold ows
  isplitr [HR]
  · isplitr; · iexact Hmw
    iexists _
    isplitr; rotate_left; · iexact HO
    ipureintro
    intro p hp
    rcases Finset.mem_insert.mp hp with rfl | hp
    · exact .inr rfl
    · exact hW p hp
  iexact HR

/-- A round begins: the semaphore at zero becomes a batch of which nothing is issued. -/
theorem round_start {sem : DmaSem sig} {D : Fin 8 → sProp 𝕄} [∀ t, Storable (upEmb : UEmb _ 𝕄) (D t)] {R : sProp 𝕄}
    {p : Prog (TpuEff nD τ sig (Elt F) Λ₀ c.2) α}
    (hk : iprop(Batch EC c (.dma sem) (default : HIx 1) 32768 D 0 0 ∗ emp ∗ R) ⊢ wp frame (wpE (defs₀ (F := F)) 𝒱₀ c none) Set.univ p Q) :
    iprop(semVal (c, .dma sem) 0 ∗ R) ⊢ wp frame (wpE (defs₀ (F := F)) 𝒱₀ c none) Set.univ p Q := by
  refine BIBase.Entails.trans ?_ (Idealize.SL.Sem.fupd_wp _ _ Set.univ p Q)
  iintro ⟨Hs, HR⟩
  imod (batch_alloc' EC c (default : HIx 1) 32768 D (E := Set.univ)) $$ Hs with HB
  imodintro
  iapply hk
  isplitl [HB]; · iexact HB
  isplitr; · iempintro
  iexact HR

end Cert.Proof.Pool
-- ==== Proof.GroupLoop.lean ====
/-
  A chunk's points, group by group: the two loops of sixty-four trips, each over the buffers that a round of copies
  has filled.
-/
module

public import proofs.«01_k».proof.Proof.Copies

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-- The points of a chunk that one of the two accumulators takes, in the order it takes them. -/
def grps (par n : ℕ) : List ℕ := (List.range n).flatMap (grp par)

theorem grps_succ (par n : ℕ) : grps par (n + 1) = grps par n ++ grp par n := by
  unfold grps; rw [List.range_succ, List.flatMap_append]; simp

/-- The counted loop at the head of a program. -/
theorem loop_step {c : Thread nD τ} {σ α : Type} {Q : α → sProp (MT nD τ sig (HIx 1) (Elt F) ℕ UU ℕ)} {lb ub st : BitVec 32} {hok : Scf.OK lb ub st} {init : σ}
    {body : Fin (Scf.trips lb ub st) → σ → Prog (TpuEff nD τ sig (Elt F) Λ₀ c.2) σ} {kk : σ → Prog (TpuEff nD τ sig (Elt F) Λ₀ c.2) α}
    (I : ℕ → σ → sProp (MT nD τ sig (HIx 1) (Elt F) ℕ UU ℕ)) {P : sProp (MT nD τ sig (HIx 1) (Elt F) ℕ UU ℕ)} (hP : P ⊢ I 0 init)
    (hbody : ∀ (k : Fin (Scf.trips lb ub st)) (acc : σ), I k acc ⊢ wp frame (wpE (defs₀ (F := F)) 𝒱₀ c none) Set.univ (body k acc) (I (k.val + 1)))
    (hk : ∀ acc, I (Scf.trips lb ub st) acc ⊢ wp frame (wpE (defs₀ (F := F)) 𝒱₀ c none) Set.univ (kk acc) Q) :
    P ⊢ wp frame (wpE (defs₀ (F := F)) 𝒱₀ c none) Set.univ (Scf.for lb ub st hok init body >>= kk) Q := by
  refine hP.trans ?_
  iintro HI
  iapply (Scf.wp_for_bind frame (wpE (defs₀ (F := F)) 𝒱₀ c none) Set.univ lb ub st hok init body I hbody) $$ HI
  iintro %acc HI
  iapply (hk acc) $$ HI

/-- A part of a program at its head, then the rest. -/
theorem part_step {c : Thread nD τ} {α β : Type} {Q : β → sProp (MT nD τ sig (HIx 1) (Elt F) ℕ UU ℕ)}
    {p : Prog (TpuEff nD τ sig (Elt F) Λ₀ c.2) α} {kk : α → Prog (TpuEff nD τ sig (Elt F) Λ₀ c.2) β} {P : sProp (MT nD τ sig (HIx 1) (Elt F) ℕ UU ℕ)}
    (h : P ⊢ wp frame (wpE (defs₀ (F := F)) 𝒱₀ c none) Set.univ p
      (fun x => wp frame (wpE (defs₀ (F := F)) 𝒱₀ c none) Set.univ (kk x) Q)) :
    P ⊢ wp frame (wpE (defs₀ (F := F)) 𝒱₀ c none) Set.univ (p >>= kk) Q := by
  rw [wp_bind]; exact h

/-- A program that has come to its end. -/
theorem ret_step {c : Thread nD τ} {α : Type} {Q : α → sProp (MT nD τ sig (HIx 1) (Elt F) ℕ UU ℕ)} {x : α}
    {P : sProp (MT nD τ sig (HIx 1) (Elt F) ℕ UU ℕ)} (h : P ⊢ Q x) :
    P ⊢ wp frame (wpE (defs₀ (F := F)) 𝒱₀ c none) Set.univ (Prog.ret x : Prog (TpuEff nD τ sig (Elt F) Λ₀ c.2) α) Q := by
  show _ ⊢ iprop(|={Set.univ}[frame]=> Q x)
  refine h.trans ?_
  iintro H
  imodintro
  iexact H

/-- What the loop over a chunk's groups holds after `t` of them. -/
def grpSt (c : Thread nD τ) (ax ay az : Memref sig c.2.kind .vmem S1040 .f32) (ai : Memref sig c.2.kind .vmem S1040 .i32)
    (bx b_y bz : Memref sig c.2.kind .vmem S1040 .f32) (bi : Memref sig c.2.kind .vmem S1040 .i32)
    (m0 m1 n0 n1 : Memref sig c.2.kind .vmem S25088 .f32) (v2 v3 : BitVec 32) (v5 v7 v9 v11 : Vec F S16 .f32)
    (xA yA zA xB yB zB : ℕ → F .f32) (iA iB : ℕ → BitVec 32) (a0 a1 b0 b1 : Vec F S25088 .f32) (t : ℕ) : sProp 𝕄 :=
  iprop(accs c m0 m1 n0 n1
        (proc (fun p => slot v2 1563#32 (iA p)) (fun p => pointVal v5 v7 v9 v11 (xA p) (yA p) (zA p)) (grps 0 t) a0)
        (proc (fun p => slot v2 1563#32 (iA p)) (fun p => pointVal v5 v7 v9 v11 (xA p) (yA p) (zA p)) (grps 1 t) a1)
        (proc (fun p => slot v3 1562#32 (iB p)) (fun p => pointVal v5 v7 v9 v11 (xB p) (yB p) (zB p)) (grps 0 t) b0)
        (proc (fun p => slot v3 1562#32 (iB p)) (fun p => pointVal v5 v7 v9 v11 (xB p) (yB p) (zB p)) (grps 1 t) b1)
      ∗ chunks c ax ay az ai xA yA zA iA ∗ chunks c bx b_y bz bi xB yB zB iB)

section
variable {c : Thread nD τ} {α : Type} {Q : α → sProp (MT nD τ sig (HIx 1) (Elt F) ℕ UU ℕ)}

theorem frame_run {P : sProp (MT nD τ sig (HIx 1) (Elt F) ℕ UU ℕ)} {Q' : α → sProp (MT nD τ sig (HIx 1) (Elt F) ℕ UU ℕ)} {R : sProp (MT nD τ sig (HIx 1) (Elt F) ℕ UU ℕ)}
    {p : Prog (TpuEff nD τ sig (Elt F) Λ₀ c.2) α}
    (h : P ⊢ wp frame (wpE (defs₀ (F := F)) 𝒱₀ c none) Set.univ p Q') (hQ : ∀ x, iprop(Q' x ∗ R) ⊢ Q x) :
    iprop(P ∗ R) ⊢ wp frame (wpE (defs₀ (F := F)) 𝒱₀ c none) Set.univ p Q := by
  iintro ⟨HP, HR⟩
  ihave H := h $$ HP
  iapply (wp_wand frame (wpE (defs₀ (F := F)) 𝒱₀ c none) Set.univ) $$ H
  iintro %x H
  iapply hQ
  isplitl [H]; · iexact H
  iexact HR
end

/-- A trip of the first loop. -/
theorem t4_trip (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (v2 : BitVec 32) (v3 : BitVec 32) (v5 : Vec F S16 .f32) (v7 : Vec F S16 .f32) (v9 : Vec F S16 .f32) (v11 : Vec F S16 .f32) (v12 : IVec S16 32) (v22 : BitVec 32) (v25 : BitVec 32) (v28 : BitVec 32) (k0_hw3 : k0_chk3 v22 v25 v28) (v39 : BitVec 32) (v40 : BitVec 32) (k0_t3 : Fin (k0_t3_loop v22 v25 v28).trips) (v180 : BitVec 32)
    (hv12 : ∀ x, v12 x = BitVec.ofNat 32 (x 0).val)
    (xA yA zA xB yB zB : ℕ → F .f32) (iA iB : ℕ → BitVec 32) (a0 a1 b0 b1 : Vec F S25088 .f32) (t : Fin k0_t4_loop.trips) (u : Unit) :
    grpSt (d, .scVector ((i 0).castLE hcore0) ((i 1).castLE hsub0)) arg11 arg12 arg13 arg14 arg19 arg20 arg21 arg22 arg27 arg28 arg29 arg30 v2 v3 v5 v7 v9 v11 xA yA zA xB yB zB iA iB a0 a1 b0 b1 t.val
      ⊢ wp frame (wpE (defs₀ (F := F)) 𝒱₀ (d, .scVector ((i 0).castLE hcore0) ((i 1).castLE hsub0)) none) Set.univ
        (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 v22 v25 v28 k0_hw3 v39 v40 k0_t3 v180 t u)
        (fun _ => grpSt (d, .scVector ((i 0).castLE hcore0) ((i 1).castLE hsub0)) arg11 arg12 arg13 arg14 arg19 arg20 arg21 arg22 arg27 arg28 arg29 arg30 v2 v3 v5 v7 v9 v11 xA yA zA xB yB zB iA iB a0 a1 b0 b1 (t.val + 1)) := by
  have key := (group_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 v22 v25 v28 k0_hw3 v39 v40 k0_t3 v180 hv12 t xA yA zA xB yB zB iA iB
    (proc (fun p => slot v2 1563#32 (iA p)) (fun p => pointVal v5 v7 v9 v11 (xA p) (yA p) (zA p)) (grps 0 t.val) a0)
    (proc (fun p => slot v2 1563#32 (iA p)) (fun p => pointVal v5 v7 v9 v11 (xA p) (yA p) (zA p)) (grps 1 t.val) a1)
    (proc (fun p => slot v3 1562#32 (iB p)) (fun p => pointVal v5 v7 v9 v11 (xB p) (yB p) (zB p)) (grps 0 t.val) b0)
    (proc (fun p => slot v3 1562#32 (iB p)) (fun p => pointVal v5 v7 v9 v11 (xB p) (yB p) (zB p)) (grps 1 t.val) b1)
    (fun _ => grpSt (d, .scVector ((i 0).castLE hcore0) ((i 1).castLE hsub0)) arg11 arg12 arg13 arg14 arg19 arg20 arg21 arg22 arg27 arg28 arg29 arg30 v2 v3 v5 v7 v9 v11 xA yA zA xB yB zB iA iB a0 a1 b0 b1 (t.val + 1)) (by
      unfold grpSt
      rw [grps_succ, grps_succ, proc_append, proc_append, proc_append, proc_append]))
  exact key

set_option maxHeartbeats 4000000 in
set_option maxRecDepth 100000 in
/-- The second loop's body is the first's over the other buffers. -/
theorem t5_eq (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (v2 : BitVec 32) (v3 : BitVec 32) (v5 : Vec F S16 .f32) (v7 : Vec F S16 .f32) (v9 : Vec F S16 .f32) (v11 : Vec F S16 .f32) (v12 : IVec S16 32) (v22 : BitVec 32) (v25 : BitVec 32) (v28 : BitVec 32) (k0_hw3 : k0_chk3 v22 v25 v28) (v39 : BitVec 32) (v40 : BitVec 32) (k0_t3 : Fin (k0_t3_loop v22 v25 v28).trips) (v180 : BitVec 32) :
    (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 : Fin k0_t5_loop.trips → Unit → Prog (TpuEff nD τ sig (Elt F) Λ₀ (.scVector ((i 0).castLE hcore0) ((i 1).castLE hsub0))) Unit)
      = k0_t4_body i arg2 harg2 arg3 harg3 arg4 harg4 arg5 harg5 arg6 harg6 arg7 harg7 arg8 harg8 arg9 harg9 arg10 harg10 arg15 harg15 arg16 harg16 arg17 harg17 arg18 harg18 arg11 harg11 arg12 harg12 arg13 harg13 arg14 harg14 arg23 harg23 arg24 harg24 arg25 harg25 arg26 harg26 arg19 harg19 arg20 harg20 arg21 harg21 arg22 harg22 arg27 harg27 arg28 harg28 arg29 harg29 arg30 harg30 arg31 arg32 v180_r0 v180_r1 v180_r2 v180_r3 v2 v3 v5 v7 v9 v11 v12 v22 v25 v28 k0_hw3 v39 v40 k0_t3 v180 := rfl

/-- A trip of the second loop. -/
theorem t5_trip (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (v2 : BitVec 32) (v3 : BitVec 32) (v5 : Vec F S16 .f32) (v7 : Vec F S16 .f32) (v9 : Vec F S16 .f32) (v11 : Vec F S16 .f32) (v12 : IVec S16 32) (v22 : BitVec 32) (v25 : BitVec 32) (v28 : BitVec 32) (k0_hw3 : k0_chk3 v22 v25 v28) (v39 : BitVec 32) (v40 : BitVec 32) (k0_t3 : Fin (k0_t3_loop v22 v25 v28).trips) (v180 : BitVec 32)
    (hv12 : ∀ x, v12 x = BitVec.ofNat 32 (x 0).val)
    (xA yA zA xB yB zB : ℕ → F .f32) (iA iB : ℕ → BitVec 32) (a0 a1 b0 b1 : Vec F S25088 .f32) (t : Fin k0_t5_loop.trips) (u : Unit) :
    grpSt (d, .scVector ((i 0).castLE hcore0) ((i 1).castLE hsub0)) arg15 arg16 arg17 arg18 arg23 arg24 arg25 arg26 arg27 arg28 arg29 arg30 v2 v3 v5 v7 v9 v11 xA yA zA xB yB zB iA iB a0 a1 b0 b1 t.val
      ⊢ wp frame (wpE (defs₀ (F := F)) 𝒱₀ (d, .scVector ((i 0).castLE hcore0) ((i 1).castLE hsub0)) none) Set.univ
        (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 t u)
        (fun _ => grpSt (d, .scVector ((i 0).castLE hcore0) ((i 1).castLE hsub0)) arg15 arg16 arg17 arg18 arg23 arg24 arg25 arg26 arg27 arg28 arg29 arg30 v2 v3 v5 v7 v9 v11 xA yA zA xB yB zB iA iB a0 a1 b0 b1 (t.val + 1)) := by
  rw [t5_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 v22 v25 v28 k0_hw3 v39 v40 k0_t3 v180]
  exact t4_trip d i arg2 harg2 arg3 harg3 arg4 harg4 arg5 harg5 arg6 harg6 arg7 harg7 arg8 harg8 arg9 harg9 arg10 harg10 arg15 harg15 arg16 harg16 arg17 harg17 arg18 harg18 arg11 harg11 arg12 harg12 arg13 harg13 arg14 harg14 arg23 harg23 arg24 harg24 arg25 harg25 arg26 harg26 arg19 harg19 arg20 harg20 arg21 harg21 arg22 harg22 arg27 harg27 arg28 harg28 arg29 harg29 arg30 harg30 arg31 arg32 v180_r0 v180_r1 v180_r2 v180_r3 v2 v3 v5 v7 v9 v11 v12 v22 v25 v28 k0_hw3 v39 v40 k0_t3 v180 hv12 xA yA zA xB yB zB iA iB a0 a1 b0 b1 t u

end Cert.Proof.Pool
-- ==== Proof.Rows.lean ====
/-
  The accumulators row by row: cleared before the points come, and the two of a window merged after them; and the copies
  that are waited for at once.
-/
module

public import proofs.«01_k».proof.Proof.GroupLoop

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-- The first `n` words of `b`, the others of `a`. -/
def rowTo (n : ℕ) (b a : Vec F S25088 .f32) : Vec F S25088 .f32 := fun x => if (x 0).val < n then b x else a x

omit [FloatOps F] in
theorem rowTo_zero (b a : Vec F S25088 .f32) : rowTo 0 b a = a := by funext x; unfold rowTo; simp

omit [FloatOps F] in
theorem rowTo_all (n : ℕ) (hn : 25088 ≤ n) (b a : Vec F S25088 .f32) : rowTo n b a = b := by
  funext x; unfold rowTo
  have hx : (x 0).val < 25088 := (x 0).isLt
  rw [if_pos (by omega)]

section Steps
variable {c : Thread nD τ} {α : Type} {Q : α → sProp (MT nD τ sig (HIx 1) (Elt F) ℕ UU ℕ)} {B C D R : sProp (MT nD τ sig (HIx 1) (Elt F) ℕ UU ℕ)}

/-- A store of sixteen words that moves the border of `rowTo` on. -/
theorem wp_store_row {m : Memref sig c.2.kind .vmem S25088 .f32} {a b : Vec F S25088 .f32} {off : Fin 1 → ℕ} {inb : ∀ x, off x + S16.size x ≤ S25088.size x}
    {w : Vec F S16 .f32} {hx : (m.access (Rect.unit (s := S25088) off S16.size inb)).Stores Finset.univ} {hm}
    {k : PUnit → Prog (TpuEff nD τ sig (Elt F) Λ₀ c.2) α} (n : ℕ) (hoff : off 0 = n)
    (hw : ∀ x, b ((Rect.unit (s := S25088) off S16.size inb).emb x) = w x) :
    holds c m fullShare (rowTo n b a) ⊢ iprop((holds c m fullShare (rowTo (n + 16) b a) -∗ wp frame (wpE (defs₀ (F := F)) 𝒱₀ c none) Set.univ (k ⟨⟩) Q)
      -∗ wp frame (wpE (defs₀ (F := F)) 𝒱₀ c none) Set.univ (.op (.store m (Rect.unit (s := S25088) off S16.size inb) w Finset.univ hx hm) k) Q) := by
  refine wp_store_holds (rowTo (n + 16) b a) (fun x => ?_) (fun y hy => ?_)
  · rw [← hw x]
    unfold rowTo
    rw [if_pos]
    have h : ((Rect.unit (s := S25088) off S16.size inb).emb x 0).val = n + (x 0).val := by
      show off 0 + 1 * (x 0).val = _
      omega
    have hx : (x 0).val < 16 := (x 0).isLt
    omega
  · unfold rowTo
    by_cases h1 : (y 0).val < n
    · rw [if_pos h1, if_pos (by omega)]
    · by_cases h2 : (y 0).val < n + 16
      · refine absurd ?_ hy
        rw [← Rect.map_emb_univ]
        refine Finset.mem_map.mpr ⟨lane ((y 0).val - n), Finset.mem_univ _, ?_⟩
        funext z
        rw [Fin.eq_zero z]
        refine Fin.ext ?_
        show off 0 + 1 * min ((y 0).val - n) (16 - 1) = _
        omega
      · rw [if_neg h1, if_neg h2]

/-- A row of the accumulator at the front is cleared; it goes to the back. -/
theorem clear_step {m : Memref sig c.2.kind .vmem S25088 .f32} {a : Vec F S25088 .f32} {z : F .f32} {off : Fin 1 → ℕ}
    {inb : ∀ x, off x + S16.size x ≤ S25088.size x} {hl : m.view.LoadsAt (Rect.unit (s := S25088) off S16.size inb).toLoadRect}
    {w : Vec F S16 .f32} {hx : (m.access (Rect.unit (s := S25088) off S16.size inb)).Stores Finset.univ} {hm}
    {k : PUnit → Prog (TpuEff nD τ sig (Elt F) Λ₀ c.2) α} (n : ℕ) (hoff : off 0 = n) (hw : ∀ x, w x = z)
    (hk : iprop(B ∗ C ∗ D ∗ holds c m fullShare (rowTo (n + 16) (fun _ => z) a)) ⊢ wp frame (wpE (defs₀ (F := F)) 𝒱₀ c none) Set.univ (k ⟨⟩) Q) :
    iprop(holds c m fullShare (rowTo n (fun _ => z) a) ∗ B ∗ C ∗ D) ⊢ wp frame (wpE (defs₀ (F := F)) 𝒱₀ c none) Set.univ
      (.op (.load m (Rect.unit (s := S25088) off S16.size inb).toLoadRect hl) fun _ => .op (.store m (Rect.unit (s := S25088) off S16.size inb) w Finset.univ hx hm) k) Q := by
  iintro ⟨H, HB, HC, HD⟩
  iapply (wp_load_holds (r := Rect.unit (s := S25088) off S16.size inb)) $$ H
  iintro H
  iapply (wp_store_row n hoff (fun x => (hw x).symm)) $$ H
  iintro H
  iapply hk
  isplitl [HB]; · iexact HB
  isplitl [HC]; · iexact HC
  isplitl [HD]; · iexact HD
  iexact H

/-- A row of the first accumulator at the front becomes the maximum with the second's; the pair goes to the back. -/
theorem merge_step {m m' : Memref sig c.2.kind .vmem S25088 .f32} {a a' : Vec F S25088 .f32} {off : Fin 1 → ℕ}
    {inb : ∀ x, off x + S16.size x ≤ S25088.size x} {hl : m.view.LoadsAt (Rect.unit (s := S25088) off S16.size inb).toLoadRect}
    {hl' : m'.view.LoadsAt (Rect.unit (s := S25088) off S16.size inb).toLoadRect}
    {hl'' : m.view.LoadsAt (Rect.unit (s := S25088) off S16.size inb).toLoadRect}
    {g : Vec F S16 .f32 → Vec F S16 .f32 → Vec F S16 .f32} {hx : (m.access (Rect.unit (s := S25088) off S16.size inb)).Stores Finset.univ} {hm}
    {k : PUnit → Prog (TpuEff nD τ sig (Elt F) Λ₀ c.2) α} (n : ℕ) (hoff : off 0 = n) (hg : ∀ v w, g v w = maximumf v w)
    (hk : iprop(C ∗ D ∗ holds c m fullShare (rowTo (n + 16) (maximumf a a') a) ∗ holds c m' fullShare a')
      ⊢ wp frame (wpE (defs₀ (F := F)) 𝒱₀ c none) Set.univ (k ⟨⟩) Q) :
    iprop(holds c m fullShare (rowTo n (maximumf a a') a) ∗ holds c m' fullShare a' ∗ C ∗ D) ⊢ wp frame (wpE (defs₀ (F := F)) 𝒱₀ c none) Set.univ
      (.op (.load m (Rect.unit (s := S25088) off S16.size inb).toLoadRect hl) fun v =>
        .op (.load m' (Rect.unit (s := S25088) off S16.size inb).toLoadRect hl') fun w =>
        .op (.load m (Rect.unit (s := S25088) off S16.size inb).toLoadRect hl'') fun _ =>
        .op (.store m (Rect.unit (s := S25088) off S16.size inb) (g v w) Finset.univ hx hm) k) Q := by
  iintro ⟨H, H', HC, HD⟩
  iapply (wp_load_holds (r := Rect.unit (s := S25088) off S16.size inb)) $$ H
  iintro H
  iapply (wp_load_holds (r := Rect.unit (s := S25088) off S16.size inb)) $$ H'
  iintro H'
  iapply (wp_load_holds (r := Rect.unit (s := S25088) off S16.size inb)) $$ H
  iintro H
  iapply (wp_store_row n hoff (fun x => ?_)) $$ H
  · rw [hg]
    show FloatOps.maximumf _ _ = FloatOps.maximumf _ _
    congr 1
    unfold rowTo
    refine (if_neg ?_).symm
    show ¬ (off 0 + 1 * (x 0).val < n)
    omega
  iintro H
  iapply hk
  isplitl [HC]; · iexact HC
  isplitl [HD]; · iexact HD
  isplitl [H]; · iexact H
  iexact H'

/-- A copy waited for at once: the destination reads what the source reads. -/
theorem copy_step {sp sp' spw spw' : Space} {s sw sw' : Shape} {e ew ew' : EltTy} {src : Memref sig c.2.kind sp s e} {dst : Memref sig c.2.kind sp' s e}
    {srcw : Memref sig c.2.kind spw' sw' ew'} {dstw : Memref sig c.2.kind spw sw ew}
    {sem : DmaSem sig} {hsrc : src.view.WordExact} {hdst : dst.view.WordExact} {hsem} {hsrcw : srcw.view.WordExact} {hdstw : dstw.view.WordExact}
    {q : PosShare TreeShare} {f : Buf (Elt F) (src.view.loc c)} {b : Vec F s e} {O : CellTallies nD τ sig (HIx 1)} {W : Waits sig (HIx 1)}
    {k : PUnit → Prog (TpuEff nD τ sig (Elt F) Λ₀ c.2) α} (N : ℕ) (hN : dst.view.dmaCredit = N) (hN0 : 0 < N) (hN' : dstw.view.dmaCredit = N)
    (hk : iprop((src.view.loc c ↦[src.view.set]{q} f) ∗ holds c dst fullShare (src.view.read (Elt F) f) ∗ semVal (c, .dma sem) 0 ∗ ows c O W ∗ R)
      ⊢ wp frame (wpE (defs₀ (F := F)) 𝒱₀ c none) Set.univ (k ⟨⟩) Q) :
    iprop((src.view.loc c ↦[src.view.set]{q} f) ∗ holds c dst fullShare b ∗ semVal (c, .dma sem) 0 ∗ ows c O W ∗ R)
      ⊢ wp frame (wpE (defs₀ (F := F)) 𝒱₀ c none) Set.univ
        (.op (.enqueueDmaAs src (.here dst) .same (.dma sem) hsrc hdst hsem) fun _ => .op (.waitDma2 sem srcw dstw hsrcw hdstw) k) Q := by
  unfold holds ows
  iintro ⟨Hs, ⟨%g, Hd, -⟩, Hv, ⟨#Hmw, %W', %hW, HO⟩, HR⟩
  iapply (wp_dmaLocal EC 𝒱₀ c none (src := src) (dst := dst) (sm := .dma sem) (default : HIx 1) N hN hN0 (Finset.Subset.refl _)) $$ [Hs Hd Hv]
  · isplitl [Hs]; · iexact Hs
    isplitl [Hd]; · iexact Hd
    iexact Hv
  iintro HF
  iapply (wp_waitLocalO EC 𝒱₀ c none (default : HIx 1) hN') $$ [HF HO]
  · isplitl [HF]; · iexact HF
    isplitl [HO]; · iexact HO
    iapply (MayWaits.elim (SemLoc.dma sem)) $$ Hmw
  iintro ⟨⟨Hd, Hs⟩, Hv, HO⟩
  iapply hk
  unfold holds ows
  isplitl [Hs]; · iexact Hs
  isplitl [Hd]
  · iexists _
    isplitl [Hd]; · iexact Hd
    ipureintro
    exact View.read_write_univ ..
  isplitl [Hv]; · iexact Hv
  isplitl [HO]
  · isplitr; · iexact Hmw
    iexists _
    isplitr; rotate_left; · iexact HO
    ipureintro
    intro p hp
    rcases Finset.mem_insert.mp hp with rfl | hp
    · exact .inr rfl
    · exact hW p hp
  iexact HR

/-- The same out of a part of a memref held whole. -/
theorem copy_part_step {sp sp' spw spw' : Space} {s0 sw sw' : Shape} {e ew ew' : EltTy} {m : Memref sig c.2.kind sp s0 e} {r : Rect s0}
    {h1 : ∀ a, r.stride a = 1} {dst : Memref sig c.2.kind sp' r.shape e}
    {srcw : Memref sig c.2.kind spw' sw' ew'} {dstw : Memref sig c.2.kind spw sw ew}
    {sem : DmaSem sig} {hsrc : (m.slice r h1).view.WordExact} {hdst : dst.view.WordExact} {hsem} {hsrcw : srcw.view.WordExact} {hdstw : dstw.view.WordExact}
    {q : PosShare TreeShare} {a : Vec F s0 e} {b : Vec F r.shape e} {O : CellTallies nD τ sig (HIx 1)} {W : Waits sig (HIx 1)}
    {k : PUnit → Prog (TpuEff nD τ sig (Elt F) Λ₀ c.2) α} (N : ℕ) (hN : dst.view.dmaCredit = N) (hN0 : 0 < N) (hN' : dstw.view.dmaCredit = N)
    (hk : iprop(holds c m q a ∗ holds c dst fullShare (fun x => a (r.emb x)) ∗ semVal (c, .dma sem) 0 ∗ ows c O W ∗ R)
      ⊢ wp frame (wpE (defs₀ (F := F)) 𝒱₀ c none) Set.univ (k ⟨⟩) Q) :
    iprop(holds c m q a ∗ holds c dst fullShare b ∗ semVal (c, .dma sem) 0 ∗ ows c O W ∗ R)
      ⊢ wp frame (wpE (defs₀ (F := F)) 𝒱₀ c none) Set.univ
        (.op (.enqueueDmaAs (m.slice r h1) (.here dst) .same (.dma sem) hsrc hdst hsem) fun _ => .op (.waitDma2 sem srcw dstw hsrcw hdstw) k) Q := by
  conv_lhs => unfold holds
  iintro ⟨⟨%f, H, %hf⟩, HR⟩
  ihave H := (pointsTo_split_subset (q := q) (f := f) (m.view.set_slice_subset r)).1 $$ H
  icases H with ⟨Hw, Hl⟩
  iapply (copy_step (c := c) (src := m.slice r h1) (f := f) (R := iprop((m.view.loc c ↦[m.view.set \ (m.view.slice r).set]{q} f) ∗ R)) N hN hN0 hN' ?_) $$ [Hw HR Hl]
  · refine BIBase.Entails.trans ?_ hk
    iintro ⟨Hs, Hd, Hv, HO, Hl, HR⟩
    isplitl [Hs Hl]
    · unfold holds
      iexists f
      isplitl [Hs Hl]
      · iapply (pointsTo_split_subset (q := q) (f := f) (m.view.set_slice_subset r)).2
        isplitl [Hs]; · iexact Hs
        iexact Hl
      ipureintro; exact hf
    subst hf
    isplitl [Hd]; · iexact Hd
    isplitl [Hv]; · iexact Hv
    isplitl [HO]; · iexact HO
    iexact HR
  · icases HR with ⟨H1, H2, H3, H4⟩
    isplitl [Hw]; · iexact Hw
    isplitl [H1]; · unfold holds; iexact H1
    isplitl [H2]; · iexact H2
    isplitl [H3]; · iexact H3
    isplitl [Hl]; · iexact Hl
    iexact H4

end Steps

/-- Zero, as the accumulators are cleared to. -/
def zer : F .f32 := Scalar.ofBits .f32 0x00000000#32

set_option maxHeartbeats 400000 in
set_option maxRecDepth 100000 in
/-- A trip of the clearing loop. -/
theorem t1_trip (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (k : Fin k0_t1_loop.trips) (u : Unit) (a0 a1 b0 b1 : Vec F S25088 .f32) :
    iprop(holds (d, .scVector ((i 0).castLE hcore0) ((i 1).castLE hsub0)) arg27 fullShare (rowTo (64 * k.val) (fun _ => zer) a0) ∗ holds (d, .scVector ((i 0).castLE hcore0) ((i 1).castLE hsub0)) arg28 fullShare (rowTo (64 * k.val) (fun _ => zer) a1) ∗ holds (d, .scVector ((i 0).castLE hcore0) ((i 1).castLE hsub0)) arg29 fullShare (rowTo (64 * k.val) (fun _ => zer) b0) ∗ holds (d, .scVector ((i 0).castLE hcore0) ((i 1).castLE hsub0)) arg30 fullShare (rowTo (64 * k.val) (fun _ => zer) b1))
      ⊢ wp frame (wpE (defs₀ (F := F)) 𝒱₀ (d, .scVector ((i 0).castLE hcore0) ((i 1).castLE hsub0)) none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 k u)
        (fun _ => iprop(holds (d, .scVector ((i 0).castLE hcore0) ((i 1).castLE hsub0)) arg27 fullShare (rowTo (64 * (k.val + 1)) (fun _ => zer) a0) ∗ holds (d, .scVector ((i 0).castLE hcore0) ((i 1).castLE hsub0)) arg28 fullShare (rowTo (64 * (k.val + 1)) (fun _ => zer) a1) ∗ holds (d, .scVector ((i 0).castLE hcore0) ((i 1).castLE hsub0)) arg29 fullShare (rowTo (64 * (k.val + 1)) (fun _ => zer) b0) ∗ holds (d, .scVector ((i 0).castLE hcore0) ((i 1).castLE hsub0)) arg30 fullShare (rowTo (64 * (k.val + 1)) (fun _ => zer) b1))) := by
  have h (r : Fin 4) : k0_off1 k (BitVec.ofNat 32 r.val) 0 = 64 * k.val + 16 * r.val := congrFun (k0_off1_eq k r) 0
  have hz (x : S16.Idx) : (k0_pay470 (F := F)) x = zer := rfl
  unfold k0_t1_body
  simp only [k0_part1_eq_skeleton]
  refine part_step (c := (d, .scVector ((i 0).castLE hcore0) ((i 1).castLE hsub0))) ?_
  unfold k0_part1_skel
  -- row 0
  refine clear_step (c := (d, .scVector ((i 0).castLE hcore0) ((i 1).castLE hsub0))) (64 * k.val + 0) (h 0) hz ?_
  refine clear_step (c := (d, .scVector ((i 0).castLE hcore0) ((i 1).castLE hsub0))) (64 * k.val + 0) (h 0) hz ?_
  refine clear_step (c := (d, .scVector ((i 0).castLE hcore0) ((i 1).castLE hsub0))) (64 * k.val + 0) (h 0) hz ?_
  refine clear_step (c := (d, .scVector ((i 0).castLE hcore0) ((i 1).castLE hsub0))) (64 * k.val + 0) (h 0) hz ?_
  -- row 1
  refine clear_step (c := (d, .scVector ((i 0).castLE hcore0) ((i 1).castLE hsub0))) (64 * k.val + 16) (h 1) hz ?_
  refine clear_step (c := (d, .scVector ((i 0).castLE hcore0) ((i 1).castLE hsub0))) (64 * k.val + 16) (h 1) hz ?_
  refine clear_step (c := (d, .scVector ((i 0).castLE hcore0) ((i 1).castLE hsub0))) (64 * k.val + 16) (h 1) hz ?_
  refine clear_step (c := (d, .scVector ((i 0).castLE hcore0) ((i 1).castLE hsub0))) (64 * k.val + 16) (h 1) hz ?_
  -- row 2
  refine clear_step (c := (d, .scVector ((i 0).castLE hcore0) ((i 1).castLE hsub0))) (64 * k.val + 32) (h 2) hz ?_
  refine clear_step (c := (d, .scVector ((i 0).castLE hcore0) ((i 1).castLE hsub0))) (64 * k.val + 32) (h 2) hz ?_
  refine clear_step (c := (d, .scVector ((i 0).castLE hcore0) ((i 1).castLE hsub0))) (64 * k.val + 32) (h 2) hz ?_
  refine clear_step (c := (d, .scVector ((i 0).castLE hcore0) ((i 1).castLE hsub0))) (64 * k.val + 32) (h 2) hz ?_
  refine ret_step ?_
  -- row 3
  refine clear_step (c := (d, .scVector ((i 0).castLE hcore0) ((i 1).castLE hsub0))) (64 * k.val + 48) (h 3) hz ?_
  refine clear_step (c := (d, .scVector ((i 0).castLE hcore0) ((i 1).castLE hsub0))) (64 * k.val + 48) (h 3) hz ?_
  refine clear_step (c := (d, .scVector ((i 0).castLE hcore0) ((i 1).castLE hsub0))) (64 * k.val + 48) (h 3) hz ?_
  refine clear_step (c := (d, .scVector ((i 0).castLE hcore0) ((i 1).castLE hsub0))) (64 * k.val + 48) (h 3) hz ?_
  refine ret_step ?_
  rw [show 64 * (k.val + 1) = 64 * k.val + 48 + 16 by omega]

set_option maxHeartbeats 400000 in
set_option maxRecDepth 100000 in
/-- A trip of the merging loop. -/
theorem t9_trip (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (v2 : BitVec 32) (v3 : BitVec 32) (k : Fin k0_t9_loop.trips) (u : Unit) (a0 a1 b0 b1 : Vec F S25088 .f32) :
    iprop(holds (d, .scVector ((i 0).castLE hcore0) ((i 1).castLE hsub0)) arg27 fullShare (rowTo (64 * k.val) (maximumf a0 a1) a0) ∗ holds (d, .scVector ((i 0).castLE hcore0) ((i 1).castLE hsub0)) arg28 fullShare a1 ∗ holds (d, .scVector ((i 0).castLE hcore0) ((i 1).castLE hsub0)) arg29 fullShare (rowTo (64 * k.val) (maximumf b0 b1) b0) ∗ holds (d, .scVector ((i 0).castLE hcore0) ((i 1).castLE hsub0)) arg30 fullShare b1)
      ⊢ wp frame (wpE (defs₀ (F := F)) 𝒱₀ (d, .scVector ((i 0).castLE hcore0) ((i 1).castLE hsub0)) none) Set.univ (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 k u)
        (fun _ => iprop(holds (d, .scVector ((i 0).castLE hcore0) ((i 1).castLE hsub0)) arg27 fullShare (rowTo (64 * (k.val + 1)) (maximumf a0 a1) a0) ∗ holds (d, .scVector ((i 0).castLE hcore0) ((i 1).castLE hsub0)) arg28 fullShare a1 ∗ holds (d, .scVector ((i 0).castLE hcore0) ((i 1).castLE hsub0)) arg29 fullShare (rowTo (64 * (k.val + 1)) (maximumf b0 b1) b0) ∗ holds (d, .scVector ((i 0).castLE hcore0) ((i 1).castLE hsub0)) arg30 fullShare b1)) := by
  have h (r : Fin 4) : k0_off13 k (BitVec.ofNat 32 r.val) 0 = 64 * k.val + 16 * r.val := congrFun (k0_off13_eq k r) 0
  unfold k0_t9_body
  simp only [k0_part64_eq_skeleton]
  refine part_step (c := (d, .scVector ((i 0).castLE hcore0) ((i 1).castLE hsub0))) ?_
  unfold k0_part64_skel
  refine merge_step (c := (d, .scVector ((i 0).castLE hcore0) ((i 1).castLE hsub0))) (g := k0_pay461) (64 * k.val + 0) (h 0) (fun _ _ => rfl) ?_
  refine merge_step (c := (d, .scVector ((i 0).castLE hcore0) ((i 1).castLE hsub0))) (g := k0_pay462) (64 * k.val + 0) (h 0) (fun _ _ => rfl) ?_
  refine merge_step (c := (d, .scVector ((i 0).castLE hcore0) ((i 1).castLE hsub0))) (g := k0_pay463) (64 * k.val + 16) (h 1) (fun _ _ => rfl) ?_
  refine merge_step (c := (d, .scVector ((i 0).castLE hcore0) ((i 1).castLE hsub0))) (g := k0_pay464) (64 * k.val + 16) (h 1) (fun _ _ => rfl) ?_
  refine merge_step (c := (d, .scVector ((i 0).castLE hcore0) ((i 1).castLE hsub0))) (g := k0_pay465) (64 * k.val + 32) (h 2) (fun _ _ => rfl) ?_
  refine ret_step ?_
  refine merge_step (c := (d, .scVector ((i 0).castLE hcore0) ((i 1).castLE hsub0))) (g := k0_pay479) (64 * k.val + 32) (h 2) (fun _ _ => rfl) ?_
  refine merge_step (c := (d, .scVector ((i 0).castLE hcore0) ((i 1).castLE hsub0))) (g := k0_pay480) (64 * k.val + 48) (h 3) (fun _ _ => rfl) ?_
  refine merge_step (c := (d, .scVector ((i 0).castLE hcore0) ((i 1).castLE hsub0))) (g := k0_pay481) (64 * k.val + 48) (h 3) (fun _ _ => rfl) ?_
  refine ret_step ?_
  rw [show 64 * (k.val + 1) = 64 * k.val + 48 + 16 by omega]

end Cert.Proof.Pool
-- ==== Proof.Words.lean ====
/-
  The run's words as numbers: where the windows' chunks start, how many rounds the chunk loop runs, and the side conditions.
-/
module

public import proofs.«01_k».proof.Proof.Base

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

open Idealize.ShloMosaic.Affine

/-- Where a window's chunks start, from the number of strided ids below its first id. -/
def bse (v : BitVec 32) : BitVec 32 := Scalar.muli (Scalar.maxsi (Scalar.subi v 1#32) 0#32) 1024#32

/-- Where a window's chunks end. -/
def fin' (v : BitVec 32) : BitVec 32 := Scalar.minsi (Scalar.muli v 1024#32) 3200000#32

/-- The quotient rounded down, as the program writes it. -/
def fdiv (x d : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- How many chunks a window has. -/
def nch (b e : BitVec 32) : BitVec 32 := fdiv (Scalar.subi (Scalar.addi (Scalar.subi (fin' e) (bse b)) 1024#32) 1#32) 1024#32

/-- How many rounds of two the chunk loop runs. -/
def nhw (v22 v25 v28 : BitVec 32) : BitVec 32 := fdiv (Scalar.addi (Scalar.maxsi (nch v22 v25) (nch v25 v28)) 1#32) 2#32

/-- The word the loop stops at. -/
def stp (v22 v25 v28 : BitVec 32) : BitVec 32 := Scalar.addi 0#32 (Scalar.muli (Scalar.divsi (Scalar.subi (nhw v22 v25 v28) 0#32) 1#32) 1#32)

theorem t3_loop_eq (v22 v25 v28 : BitVec 32) : k0_t3_loop v22 v25 v28 = ⟨0#32, stp v22 v25 v28, 1#32⟩ := rfl
theorem t6_loop_eq (v22 v25 v28 : BitVec 32) : k0_t6_loop v22 v25 v28 = ⟨stp v22 v25 v28, Scalar.addi 0#32 (Scalar.subi (nhw v22 v25 v28) 0#32), 1#32⟩ := rfl

theorem isInt_bse {v : BitVec 32} {a : ℕ} (hv : v = BitVec.ofNat 32 a) (ha : a ≤ 3125) : IsInt (bse v) (1024 * (a - 1 : ℕ) : ℤ) := by
  subst hv
  exact muli (maxsi (subi (ofNat (e := a) a (by omega)) (ofNat (e := 1) 1 (by omega)) ⟨rfl, by omega, by omega⟩) (ofNat (e := 0) 0 (by omega)) rfl)
    (ofNat (e := 1024) 1024 (by omega)) (by omega)

theorem isInt_fin {v : BitVec 32} {a : ℕ} (hv : v = BitVec.ofNat 32 a) (ha : a ≤ 3125) : IsInt (fin' v) (1024 * a : ℤ) := by
  subst hv
  exact minsi (muli (ofNat (e := a) a (by omega)) (ofNat (e := 1024) 1024 (by omega)) ⟨rfl, by omega, by omega⟩)
    (ofNat (e := 3200000) 3200000 (by omega)) (by omega)

theorem isInt_fdiv {x d : BitVec 32} {ex ed : ℤ} (hx : IsInt x ex) (hd : IsInt d ed) (h : 0 < ex ∧ 0 < ed ∧ ex < 2 ^ 31) : IsInt (fdiv x d) (ex / ed) := by
  have z : IsInt 0#32 0 := ofNat (e := 0) 0 (by omega)
  have e1 : IsInt (Scalar.subi (Scalar.extui (Scalar.cmpi .sgt x 0#32)) (Scalar.extui (Scalar.cmpi .slt x 0#32))) 1 :=
    subi (extui_holds (e := 1) (sgt_holds hx z h.1) rfl) (extui_fails (e := 0) (slt_fails hx z (by omega)) rfl) (by omega)
  have e2 : IsInt (Scalar.subi (Scalar.extui (Scalar.cmpi .sgt d 0#32)) (Scalar.extui (Scalar.cmpi .slt d 0#32))) 1 :=
    subi (extui_holds (e := 1) (sgt_holds hd z h.2.1) rfl) (extui_fails (e := 0) (slt_fails hd z (by omega)) rfl) (by omega)
  have hd' : IsInt (Scalar.divsi x d) (ex / ed) := divsi hx hd ⟨rfl, h.1.le, h.2.1⟩
  have h1 : 0 ≤ ex / ed := Int.ediv_nonneg h.1.le h.2.1.le
  have h2 : ex / ed ≤ ex := Int.ediv_le_self _ h.1.le
  refine select_fails ?_ (subi hd' (ofNat (e := 1) 1 (by omega)) ⟨rfl, by omega, by omega⟩) hd' rfl
  have := ne_fails e1 e2 rfl
  intro hh
  apply this
  revert hh
  generalize Scalar.cmpi .ne _ _ = p
  generalize Scalar.cmpi .ne _ _ = q
  show p &&& q = 1#1 → p = 1#1
  revert p q
  decide

theorem isInt_nch {v w : BitVec 32} {a b : ℕ} (hv : v = BitVec.ofNat 32 a) (hw : w = BitVec.ofNat 32 b) (hab : a ≤ b) (hb : b ≤ 3125) :
    IsInt (nch v w) ((b - (a - 1) : ℕ) : ℤ) := by
  have h := isInt_fdiv (subi (addi (subi (isInt_fin hw hb) (isInt_bse hv (by omega)) ⟨rfl, by omega, by omega⟩) (ofNat (e := 1024) 1024 (by omega)) ⟨rfl, by omega, by omega⟩)
    (ofNat (e := 1) 1 (by omega)) ⟨rfl, by omega, by omega⟩) (ofNat (e := 1024) 1024 (by omega)) (by omega)
  exact relit h (by omega)

/-- The number of rounds, from the three counts. -/
def rounds (a b e : ℕ) : ℕ := (max (b - (a - 1)) (e - (b - 1)) + 1) / 2

section
variable {v22 v25 v28 : BitVec 32} {a b e : ℕ} (h22 : v22 = BitVec.ofNat 32 a) (h25 : v25 = BitVec.ofNat 32 b) (h28 : v28 = BitVec.ofNat 32 e)
  (hab : a ≤ b) (hbe : b ≤ e) (he : e ≤ 3125)
include h22 h25 h28 hab hbe he

theorem rounds_le : rounds a b e ≤ 1563 := by unfold rounds; omega

theorem isInt_nhw : IsInt (nhw v22 v25 v28) (rounds a b e : ℤ) := by
  have h := isInt_fdiv (addi (maxsi (isInt_nch h22 h25 hab (by omega)) (isInt_nch h25 h28 hbe he) rfl) (ofNat (e := 1) 1 (by omega)) ⟨rfl, by omega, by omega⟩)
    (ofNat (e := 2) 2 (by omega)) (by omega)
  refine relit h ?_
  unfold rounds
  omega

theorem isInt_stp : IsInt (stp v22 v25 v28) (rounds a b e : ℤ) := by
  have hr := rounds_le h22 h25 h28 hab hbe he
  have z : IsInt 0#32 0 := ofNat (e := 0) 0 (by omega)
  have o : IsInt 1#32 1 := ofNat (e := 1) 1 (by omega)
  exact addi z (muli (divsi_one (subi (isInt_nhw h22 h25 h28 hab hbe he) z ⟨rfl, by omega, by omega⟩) o ⟨rfl, rfl⟩) o ⟨rfl, by omega, by omega⟩) (by omega)

theorem t3_trips : (k0_t3_loop v22 v25 v28).trips = rounds a b e := by
  have h := isInt_stp h22 h25 h28 hab hbe he
  unfold IsInt at h
  rw [t3_loop_eq]
  show (((stp v22 v25 v28).toInt - (0#32).toInt + (1#32).toInt - 1) / (1#32).toInt).toNat = _
  rw [h, show (0#32).toInt = 0 from rfl, show (1#32).toInt = 1 from rfl]
  omega

theorem t6_trips : (k0_t6_loop v22 v25 v28).trips = 0 := by
  have hr := rounds_le h22 h25 h28 hab hbe he
  have z : IsInt 0#32 0 := ofNat (e := 0) 0 (by omega)
  have h := isInt_stp h22 h25 h28 hab hbe he
  have h' : IsInt (Scalar.addi 0#32 (Scalar.subi (nhw v22 v25 v28) 0#32)) (rounds a b e : ℤ) :=
    addi z (subi (isInt_nhw h22 h25 h28 hab hbe he) z ⟨rfl, by omega, by omega⟩) (by omega)
  unfold IsInt at h h'
  rw [t6_loop_eq]
  show (((Scalar.addi 0#32 (Scalar.subi (nhw v22 v25 v28) 0#32)).toInt - (stp v22 v25 v28).toInt + (1#32).toInt - 1) / (1#32).toInt).toNat = _
  rw [h, h', show (1#32).toInt = 1 from rfl]
  omega

end

/-- Where chunk `i` of a window starts, from the number of strided ids below its first id. -/
def chunkAt (a i : ℕ) : ℕ := min (1024 * (a - 1) + 1024 * i) 3198976

theorem toNat_of_isInt {x : BitVec 32} {n : ℕ} (h : IsInt x (n : ℤ)) : x.toNat = n := by
  have hx := BitVec.toInt_eq_toNat_cond x
  unfold IsInt at h
  split at hx <;> omega

/-- The word a chunk starts at, as the program computes it. -/
def offW (v : BitVec 32) (k : ℕ) (r : BitVec 32) : BitVec 32 :=
  Scalar.minsi (Scalar.addi (bse v) (Scalar.muli (Scalar.addi (Scalar.muli 2#32 (Scf.iv 0#32 1#32 k)) r) 1024#32)) 3198976#32

theorem offW_toNat {v : BitVec 32} {a k r : ℕ} (hv : v = BitVec.ofNat 32 a) (ha : a ≤ 3125) (hk : k < 1563) (hr : r ≤ 2) :
    (offW v k (BitVec.ofNat 32 r)).toNat = chunkAt a (2 * k + r) := by
  refine toNat_of_isInt (minsi (addi (isInt_bse hv ha) (muli (addi (muli (ofNat (e := 2) 2 (by omega))
    (iv (ofNat (e := 0) 0 (by omega)) (ofNat (e := 1) 1 (by omega)) k ⟨rfl, by omega, by omega⟩) ⟨rfl, by omega, by omega⟩)
    (ofNat (e := r) r (by omega)) ⟨rfl, by omega, by omega⟩) (ofNat (e := 1024) 1024 (by omega)) ⟨rfl, by omega, by omega⟩) ⟨rfl, by omega, by omega⟩)
    (ofNat (e := 3198976) 3198976 (by omega)) ?_)
  unfold chunkAt
  omega

theorem chunkAt_dvd (a i : ℕ) : 8 ∣ chunkAt a i := by unfold chunkAt; omega
theorem chunkAt_le (a i : ℕ) : chunkAt a i ≤ 3198976 := by unfold chunkAt; omega

/-- The word the first chunk starts at, as the program computes it. -/
def off0W (v : BitVec 32) : BitVec 32 := Scalar.minsi (Scalar.addi (bse v) 0#32) 3198976#32

theorem off0W_toNat {v : BitVec 32} {a : ℕ} (hv : v = BitVec.ofNat 32 a) (ha : a ≤ 3125) : (off0W v).toNat = chunkAt a 0 := by
  refine toNat_of_isInt (minsi (addi (isInt_bse hv ha) (ofNat (e := 0) 0 (by omega)) ⟨rfl, by omega, by omega⟩) (ofNat (e := 3198976) 3198976 (by omega)) ?_)
  unfold chunkAt
  omega

theorem bse_dvd {v : BitVec 32} {a : ℕ} (hv : v = BitVec.ofNat 32 a) (ha : a ≤ 3125) : 8 ∣ (bse v).toNat := by
  rw [toNat_of_isInt (n := 1024 * (a - 1)) (relit (isInt_bse hv ha) (by push_cast; omega))]
  omega

theorem off3_eq {v : BitVec 32} {a : ℕ} (hv : v = BitVec.ofNat 32 a) (ha : a ≤ 3125) : k0_off3 v 0 = chunkAt a 0 := off0W_toNat hv ha
theorem off4_eq {v : BitVec 32} {a : ℕ} (hv : v = BitVec.ofNat 32 a) (ha : a ≤ 3125) : k0_off4 v 0 = chunkAt a 0 := off0W_toNat hv ha

theorem chk1_holds {v : BitVec 32} {a : ℕ} (hv : v = BitVec.ofNat 32 a) (ha : a ≤ 3125) : k0_chk1 v := by
  refine ⟨bse_dvd hv ha, ?_, fun x => ?_⟩
  · show 8 ∣ (off0W v).toNat
    rw [off0W_toNat hv ha]; exact chunkAt_dvd _ _
  · rw [Fin.eq_zero x, off3_eq hv ha]
    exact Nat.add_le_add_right (chunkAt_le _ _) 1024

theorem chk2_holds {v : BitVec 32} {a : ℕ} (hv : v = BitVec.ofNat 32 a) (ha : a ≤ 3125) : k0_chk2 v := by
  refine ⟨bse_dvd hv ha, ?_, fun x => ?_⟩
  · show 8 ∣ (off0W v).toNat
    rw [off0W_toNat hv ha]; exact chunkAt_dvd _ _
  · rw [Fin.eq_zero x, off4_eq hv ha]
    exact Nat.add_le_add_right (chunkAt_le _ _) 1024

section
variable {v22 v25 v28 : BitVec 32} {a b e : ℕ} (h22 : v22 = BitVec.ofNat 32 a) (h25 : v25 = BitVec.ofNat 32 b) (h28 : v28 = BitVec.ofNat 32 e)
  (hab : a ≤ b) (hbe : b ≤ e) (he : e ≤ 3125)
include h22 h25 h28 hab hbe he

theorem off5_eq (k : Fin (k0_t3_loop v22 v25 v28).trips) (r : Fin 2) :
    k0_off5 v22 v25 v28 k (BitVec.ofNat 32 (1 + r.val)) 0 = chunkAt a (2 * k.val + 1 + r.val) := by
  have hk := Nat.lt_of_lt_of_eq k.isLt (t3_trips h22 h25 h28 hab hbe he)
  have hr := rounds_le h22 h25 h28 hab hbe he
  rw [Nat.add_assoc]
  exact offW_toNat h22 (by omega) (by omega) (by omega)

theorem off6_eq (k : Fin (k0_t3_loop v22 v25 v28).trips) (r : Fin 2) :
    k0_off6 v22 v25 v28 k (BitVec.ofNat 32 (1 + r.val)) 0 = chunkAt b (2 * k.val + 1 + r.val) := by
  have hk := Nat.lt_of_lt_of_eq k.isLt (t3_trips h22 h25 h28 hab hbe he)
  have hr := rounds_le h22 h25 h28 hab hbe he
  rw [Nat.add_assoc]
  exact offW_toNat h25 (by omega) (by omega) (by omega)

theorem chk3_holds : k0_chk3 v22 v25 v28 := by
  have hr := rounds_le h22 h25 h28 hab hbe he
  have h3 := t3_trips h22 h25 h28 hab hbe he
  have h6 := t6_trips h22 h25 h28 hab hbe he
  have k3 : ∀ k : Fin (k0_t3_loop v22 v25 v28).trips, k.val < 1563 := fun k => by have := k.isLt; omega
  have k6 : Fin (k0_t6_loop v22 v25 v28).trips → False := fun k => by have := k.isLt; omega
  have hm1 : ∀ (k : Fin (k0_t3_loop v22 v25 v28).trips) (r : ℕ) (hr : r ≤ 2), 8 ∣ (offW v22 k.val (BitVec.ofNat 32 r)).toNat := fun k r hr => by
    rw [offW_toNat h22 (by omega) (k3 k) hr]; exact chunkAt_dvd _ _
  have hm2 : ∀ (k : Fin (k0_t3_loop v22 v25 v28).trips) (r : ℕ) (hr : r ≤ 2), 8 ∣ (offW v25 k.val (BitVec.ofNat 32 r)).toNat := fun k r hr => by
    rw [offW_toNat h25 (by omega) (k3 k) hr]; exact chunkAt_dvd _ _
  refine ⟨⟨?_, ?_⟩, fun k => hm1 k 1 (by omega), fun k => hm2 k 1 (by omega), fun k r x => ?_, fun k r x => ?_, fun k => hm1 k 2 (by omega), fun k => hm2 k 2 (by omega),
    ⟨?_, ?_⟩, fun k => (k6 k).elim, fun k => (k6 k).elim, fun k => (k6 k).elim, fun k => (k6 k).elim, fun k => (k6 k).elim, fun k => (k6 k).elim⟩
  · show 0 < (1#32).toInt; decide
  · show (0#32).toInt + ((k0_t3_loop v22 v25 v28).trips : ℤ) * (1#32).toInt < 2 ^ 31
    rw [h3, show (0#32).toInt = 0 from rfl, show (1#32).toInt = 1 from rfl]; omega
  · rw [Fin.eq_zero x, off5_eq h22 h25 h28 hab hbe he]; exact Nat.add_le_add_right (chunkAt_le _ _) 1024
  · rw [Fin.eq_zero x, off6_eq h22 h25 h28 hab hbe he]; exact Nat.add_le_add_right (chunkAt_le _ _) 1024
  · show 0 < (1#32).toInt; decide
  · show (stp v22 v25 v28).toInt + ((k0_t6_loop v22 v25 v28).trips : ℤ) * (1#32).toInt < 2 ^ 31
    have h := isInt_stp h22 h25 h28 hab hbe he
    unfold IsInt at h
    rw [h6, h, show (1#32).toInt = 1 from rfl]; omega

end

end Cert.Proof.Pool
-- ==== Proof.Counts.lean ====
/-
  How many of the strided ids lie below a bound: sixteen lanes counted apart, then added up.
-/
module

public import proofs.«01_k».proof.Proof.Rows
public import proofs.«01_k».proof.Proof.Words

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-- One where the id lies below the bound. -/
def below (S : ℕ → BitVec 32) (b : BitVec 32) (k : ℕ) : ℕ := if (S k).slt b then 1 else 0

/-- How many of the strided ids lie below the bound. -/
def cnt (S : ℕ → BitVec 32) (b : BitVec 32) : ℕ := ∑ k ∈ Finset.range 3200, below S b k

/-- The lanes after `t` trips. -/
def cnts (S : ℕ → BitVec 32) (b : BitVec 32) (t : ℕ) : IVec S16 32 := fun x => BitVec.ofNat 32 (∑ j ∈ Finset.range t, below S b (16 * j + (x 0).val))

theorem below_mono (S : ℕ → BitVec 32) {b b' : BitVec 32} (h : b.toInt ≤ b'.toInt) (k : ℕ) : below S b k ≤ below S b' k := by
  unfold below
  by_cases hb : (S k).slt b = true
  · have hb' : (S k).slt b' = true := by rw [BitVec.slt_iff_toInt_lt] at *; omega
    rw [if_pos hb, if_pos hb']
  · rw [if_neg hb]; exact Nat.zero_le _

theorem cnt_mono (S : ℕ → BitVec 32) {b b' : BitVec 32} (h : b.toInt ≤ b'.toInt) : cnt S b ≤ cnt S b' :=
  Finset.sum_le_sum fun k _ => below_mono S h k

theorem cnt_le (S : ℕ → BitVec 32) (b : BitVec 32) (hS : ∀ k, 3125 ≤ k → k < 3200 → S k = 1073741824#32) (hb : b.toInt ≤ 1073741824) : cnt S b ≤ 3125 := by
  unfold cnt
  rw [show (3200 : ℕ) = 3125 + 75 from rfl, Finset.sum_range_add]
  have h0 : ∑ x ∈ Finset.range 75, below S b (3125 + x) = 0 := by
    refine Finset.sum_eq_zero fun x hx => ?_
    have hx := Finset.mem_range.mp hx
    unfold below
    rw [hS _ (by omega) (by omega), if_neg]
    rw [BitVec.slt_iff_toInt_lt]
    have : (1073741824#32).toInt = 1073741824 := by decide
    omega
  rw [h0, Nat.add_zero]
  refine (Finset.sum_le_card_nsmul _ _ 1 fun k _ => ?_).trans ?_
  · unfold below; split <;> omega
  · simp

theorem sum_lanes (f : ℕ → ℕ) (t : ℕ) : ∑ l ∈ Finset.range 16, ∑ j ∈ Finset.range t, f (16 * j + l) = ∑ k ∈ Finset.range (16 * t), f k := by
  induction t with
  | zero => simp
  | succ t ih =>
    rw [show 16 * (t + 1) = 16 * t + 16 by ring, Finset.sum_range_add, ← ih, ← Finset.sum_add_distrib]
    exact Finset.sum_congr rfl fun l _ => Finset.sum_range_succ _ _

/-- The lanes added up. -/
theorem scan_last (f : ℕ → ℕ) (v : IVec S16 32) (hv : ∀ x, v x = BitVec.ofNat 32 (f (x 0).val)) :
    extractAt ![15] (scan .sum v) inpos_S16_p15 = BitVec.ofNat 32 (∑ l ∈ Finset.range 16, f l) := by
  have hL : ((List.finRange 16).filter fun k => decide (0 < k.val ∧ k.val ≤ 15)) = [1, 2, 3, 4, 5, 6, 7, 8, 9, 10, 11, 12, 13, 14, 15] := by decide
  show ((List.finRange 16).filter fun k => decide (0 < k.val ∧ k.val ≤ 15)).foldl (fun r (k : Fin 16) => r + v (Shape.ofLane (d := ![16]) k)) (v (Shape.ofLane (d := ![16]) (0 : Fin 16))) = _
  rw [hL]
  simp only [List.foldl_cons, List.foldl_nil, hv, Finset.sum_range_succ, Finset.sum_range_zero, Nat.zero_add, BitVec.ofNat_add]
  rfl

theorem cnts_last (S : ℕ → BitVec 32) (b : BitVec 32) : extractAt ![15] (scan .sum (cnts S b 200)) inpos_S16_p15 = BitVec.ofNat 32 (cnt S b) := by
  rw [scan_last (fun l => ∑ j ∈ Finset.range 200, below S b (16 * j + l)) (cnts S b 200) (fun x => rfl), sum_lanes]
  rfl

theorem cnts_zero (S : ℕ → BitVec 32) (b : BitVec 32) : cnts S b 0 = k0_pay471 := by
  funext x; unfold cnts; simp; rfl

/-- One more trip. -/
theorem cnts_succ (S : ℕ → BitVec 32) (b : BitVec 32) (t : ℕ) :
    cnts S b (t + 1) = addi (cnts S b t) (select (cmpi .slt (fun x : S16.Idx => S (16 * t + (x 0).val)) (broadcast S16 b)) k0_pay472 k0_pay471) := by
  funext x
  show BitVec.ofNat 32 (∑ j ∈ Finset.range (t + 1), below S b (16 * j + (x 0).val)) = cnts S b t x
    + (if BitVec.ofBool ((S (16 * t + (x 0).val)).slt b) = 1#1 then 1#32 else 0#32)
  rw [Finset.sum_range_succ, BitVec.ofNat_add]
  congr 1
  unfold below
  cases (S (16 * t + (x 0).val)).slt b <;> rfl

/-- A tile's first id. -/
def segA (i : grid0.Coords) : BitVec 32 := Scalar.muli (Scalar.addi (Scalar.muli (BitVec.ofNat 32 (i 1).val) 2#32) (BitVec.ofNat 32 (i 0).val)) 3125#32
/-- The first id of its second window. -/
def segB (i : grid0.Coords) : BitVec 32 := Scalar.addi (segA i) 1563#32
/-- The next tile's first id. -/
def segE (i : grid0.Coords) : BitVec 32 := Scalar.addi (segA i) 3125#32

/-- A tile's number. -/
def tid (i : grid0.Coords) : ℕ := 2 * (i 1).val + (i 0).val

theorem tid_lt (i : grid0.Coords) : tid i < 32 := by
  have h1 : (i 1).val < 16 := (i 1).isLt
  have h0 : (i 0).val < 2 := (i 0).isLt
  unfold tid; omega

theorem isInt_segA (i : grid0.Coords) : Affine.IsInt (segA i) (3125 * tid i : ℕ) := by
  have h1 : (i 1).val < 16 := (i 1).isLt
  have h0 : (i 0).val < 2 := (i 0).isLt
  unfold tid
  exact Affine.muli (Affine.addi (Affine.muli (Affine.ofNat (e := (i 1).val) _ (by omega)) (Affine.ofNat (e := 2) 2 (by omega)) ⟨rfl, by omega, by omega⟩)
    (Affine.ofNat (e := (i 0).val) _ (by omega)) ⟨rfl, by omega, by omega⟩) (Affine.ofNat (e := 3125) 3125 (by omega)) (by push_cast; omega)
theorem isInt_segB (i : grid0.Coords) : Affine.IsInt (segB i) (3125 * tid i + 1563 : ℕ) := by
  have := tid_lt i
  exact Affine.addi (isInt_segA i) (Affine.ofNat (e := 1563) 1563 (by omega)) (by push_cast; omega)
theorem isInt_segE (i : grid0.Coords) : Affine.IsInt (segE i) (3125 * tid i + 3125 : ℕ) := by
  have := tid_lt i
  exact Affine.addi (isInt_segA i) (Affine.ofNat (e := 3125) 3125 (by omega)) (by push_cast; omega)

/-- The strided ids by number. -/
abbrev subs (a : Vec F S3200 .i32) (k : ℕ) : BitVec 32 := a (ix1 3200 (by decide) k)

section
variable (S : ℕ → BitVec 32) (i : grid0.Coords) (hS : ∀ k, 3125 ≤ k → k < 3200 → S k = 1073741824#32)
theorem cnt_AB : cnt S (segA i) ≤ cnt S (segB i) := cnt_mono S (by
  have h1 := isInt_segA i; have h2 := isInt_segB i; unfold Affine.IsInt at h1 h2; omega)
theorem cnt_BE : cnt S (segB i) ≤ cnt S (segE i) := cnt_mono S (by
  have h1 := isInt_segB i; have h2 := isInt_segE i; unfold Affine.IsInt at h1 h2; omega)
include hS in
theorem cnt_E : cnt S (segE i) ≤ 3125 := cnt_le S _ hS (by
  have h2 := isInt_segE i; have := tid_lt i; unfold Affine.IsInt at h2; omega)
end

set_option maxHeartbeats 400000 in
set_option maxRecDepth 100000 in
/-- A trip of the counting loop. -/
theorem t2_trip (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (k : Fin k0_t2_loop.trips) (a : Vec F S3200 .i32) :
    holds (d, .scVector ((i 0).castLE hcore0) ((i 1).castLE hsub0)) arg9 fullShare a
      ⊢ wp frame (wpE (defs₀ (F := F)) 𝒱₀ (d, .scVector ((i 0).castLE hcore0) ((i 1).castLE hsub0)) none) Set.univ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 k (cnts (subs a) (segA i) k.val, cnts (subs a) (segB i) k.val, cnts (subs a) (segE i) k.val))
        (fun acc => iprop(⌜acc = (cnts (subs a) (segA i) (k.val + 1), cnts (subs a) (segB i) (k.val + 1), cnts (subs a) (segE i) (k.val + 1))⌝ ∗ holds (d, .scVector ((i 0).castLE hcore0) ((i 1).castLE hsub0)) arg9 fullShare a)) := by
  have hk : k.val < 200 := Nat.lt_of_lt_of_le k.isLt k0_t2_abs.2.1
  have h : k0_off2 k 0 = 16 * k.val := congrFun (k0_off2_eq k) 0
  have e : (fun x : S16.Idx => a ((Rect.unit (s := S3200) (k0_off2 k) S16.size (k0_off2_inb k)).emb x)) = fun x => subs a (16 * k.val + (x 0).val) := by
    funext x
    have hx : (x 0).val < 16 := (x 0).isLt
    congr 1
    funext z
    rw [Fin.eq_zero z]
    refine Fin.ext ?_
    show k0_off2 k 0 + 1 * (x 0).val = min (16 * k.val + (x 0).val) (3200 - 1)
    omega
  unfold k0_t2_body
  iintro H
  iapply (wp_load_holds (c := (d, .scVector ((i 0).castLE hcore0) ((i 1).castLE hsub0))) (r := Rect.unit (s := S3200) (k0_off2 k) S16.size (k0_off2_inb k))) $$ H
  iintro H
  iapply (ret_step (c := (d, .scVector ((i 0).castLE hcore0) ((i 1).castLE hsub0))) (P := holds (d, .scVector ((i 0).castLE hcore0) ((i 1).castLE hsub0)) arg9 fullShare a) ?_) $$ H
  iintro H
  isplitr; rotate_left; · iexact H
  ipureintro
  rw [cnts_succ, cnts_succ, cnts_succ]
  exact congrArg (fun v => (k0_pay473 i (cnts (subs a) (segA i) k.val) v, k0_pay474 i (cnts (subs a) (segB i) k.val) v, k0_pay475 i (cnts (subs a) (segE i) k.val) v)) e

end Cert.Proof.Pool
-- ==== Proof.Rounds.lean ====
/-
  A round of copies as a whole: what is held before it, while it is in flight, and after it.
-/
module

public import proofs.«01_k».proof.Proof.GroupLoop

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

/-- The four chunk buffers of a window. -/
structure Bufs (c : Thread nD τ) where
  x : Memref sig c.2.kind .vmem S1040 .f32
  y : Memref sig c.2.kind .vmem S1040 .f32
  z : Memref sig c.2.kind .vmem S1040 .f32
  i : Memref sig c.2.kind .vmem S1040 .i32

/-- The four streams, with what they hold. -/
structure Strms (F : FTy → Type) (c : Thread nD τ) where
  x : Memref sig c.2.kind .hbm S3200000 .f32
  y : Memref sig c.2.kind .hbm S3200000 .f32
  z : Memref sig c.2.kind .hbm S3200000 .f32
  i : Memref sig c.2.kind .hbm S3200000 .i32
  fx : Buf (Elt F) (x.view.loc c)
  fy : Buf (Elt F) (y.view.loc c)
  fz : Buf (Elt F) (z.view.loc c)
  fi : Buf (Elt F) (i.view.loc c)

section
variable {c : Thread nD τ} (sem : DmaSem sig) (A B : Bufs c) (s : Strms F c) (qA qB : PosShare TreeShare) (nA nB : ℕ)

def Strms.X : Vec F S3200000 .f32 := s.x.view.read (Elt F) s.fx
def Strms.Y : Vec F S3200000 .f32 := s.y.view.read (Elt F) s.fy
def Strms.Z : Vec F S3200000 .f32 := s.z.view.read (Elt F) s.fz
def Strms.I : Vec F S3200000 .i32 := s.i.view.read (Elt F) s.fi

/-- What the round's copies deliver. -/
def dels2 : Fin 8 → sProp 𝕄 := dels c A.x A.y A.z A.i B.x B.y B.z B.i s.x s.y s.z s.i qA qB s.fx s.fy s.fz s.fi nA nB

/-- What is left of the streams while the round is in flight. -/
def lents : sProp 𝕄 :=
  iprop(lent c s.i qB s.fi nB ∗ lent c s.z qB s.fz nB ∗ lent c s.y qB s.fy nB ∗ lent c s.x qB s.fx nB
    ∗ lent c s.i qA s.fi nA ∗ lent c s.z qA s.fz nA ∗ lent c s.y qA s.fy nA ∗ lent c s.x qA s.fx nA ∗ emp)

/-- The buffers and streams of a round before it. -/
def idles : sProp 𝕄 :=
  iprop(idle c A.x s.x qA s.fx ∗ idle c A.y s.y qA s.fy ∗ idle c A.z s.z qA s.fz ∗ idle c A.i s.i qA s.fi
    ∗ idle c B.x s.x qB s.fx ∗ idle c B.y s.y qB s.fy ∗ idle c B.z s.z qB s.fz ∗ idle c B.i s.i qB s.fi)

/-- A round in flight, nothing waited for. -/
def flight : sProp 𝕄 :=
  iprop(Batch EC c (.dma sem) (default : HIx 1) 32768 (dels2 A B s qA qB nA nB) 8 0 ∗ lents s qA qB nA nB)

/-- The streams of a round, whole. -/
def srcs : sProp 𝕄 :=
  iprop((src c s.x qA s.fx ∗ src c s.y qA s.fy ∗ src c s.z qA s.fz ∗ src c s.i qA s.fi)
    ∗ (src c s.x qB s.fx ∗ src c s.y qB s.fy ∗ src c s.z qB s.fz ∗ src c s.i qB s.fi))

/-- A window's buffers filled from word `n` on. -/
def filled (n : ℕ) : sProp 𝕄 :=
  chunks c A.x A.y A.z A.i (fun j => strm s.X (n + j)) (fun j => strm s.Y (n + j)) (fun j => strm s.Z (n + j)) (fun j => strm s.I (n + j))

instance : ∀ t, Storable (upEmb : UEmb _ 𝕄) (dels2 A B s qA qB nA nB t) := by
  intro t
  fin_cases t <;> exact storable_del _ _ _ _ _

theorem idles_open {R : sProp (MT nD τ sig (HIx 1) (Elt F) ℕ UU ℕ)} : iprop(idles A B s qA qB ∗ R) ⊢
    iprop(idle c A.x s.x qA s.fx ∗ idle c A.y s.y qA s.fy ∗ idle c A.z s.z qA s.fz ∗ idle c A.i s.i qA s.fi
      ∗ idle c B.x s.x qB s.fx ∗ idle c B.y s.y qB s.fy ∗ idle c B.z s.z qB s.fz ∗ idle c B.i s.i qB s.fi ∗ R) := by
  unfold idles
  iintro ⟨⟨H0, H1, H2, H3, H4, H5, H6, H7⟩, HR⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HR

theorem flight_done {R : sProp (MT nD τ sig (HIx 1) (Elt F) ℕ UU ℕ)} :
    iprop((del c A.x s.x qA s.fx nA ∗ del c A.y s.y qA s.fy nA ∗ del c A.z s.z qA s.fz nA ∗ del c A.i s.i qA s.fi nA
      ∗ del c B.x s.x qB s.fx nB ∗ del c B.y s.y qB s.fy nB ∗ del c B.z s.z qB s.fz nB ∗ del c B.i s.i qB s.fi nB) ∗ lents s qA qB nA nB)
      ⊢ iprop(filled A s nA ∗ filled B s nB ∗ srcs s qA qB) := by
  unfold lents filled chunks srcs
  iintro ⟨⟨D0, D1, D2, D3, D4, D5, D6, D7⟩, L7, L6, L5, L4, L3, L2, L1, L0, -⟩
  ihave H0 := (del_full A.x s.x qA s.fx nA) $$ [D0 L0]; · isplitl [D0]; · iexact D0
                                                          iexact L0
  ihave H1 := (del_full A.y s.y qA s.fy nA) $$ [D1 L1]; · isplitl [D1]; · iexact D1
                                                          iexact L1
  ihave H2 := (del_full A.z s.z qA s.fz nA) $$ [D2 L2]; · isplitl [D2]; · iexact D2
                                                          iexact L2
  ihave H3 := (del_full A.i s.i qA s.fi nA) $$ [D3 L3]; · isplitl [D3]; · iexact D3
                                                          iexact L3
  ihave H4 := (del_full B.x s.x qB s.fx nB) $$ [D4 L4]; · isplitl [D4]; · iexact D4
                                                          iexact L4
  ihave H5 := (del_full B.y s.y qB s.fy nB) $$ [D5 L5]; · isplitl [D5]; · iexact D5
                                                          iexact L5
  ihave H6 := (del_full B.z s.z qB s.fz nB) $$ [D6 L6]; · isplitl [D6]; · iexact D6
                                                          iexact L6
  ihave H7 := (del_full B.i s.i qB s.fi nB) $$ [D7 L7]; · isplitl [D7]; · iexact D7
                                                          iexact L7
  unfold full
  icases H0 with ⟨H0, S0⟩
  icases H1 with ⟨H1, S1⟩
  icases H2 with ⟨H2, S2⟩
  icases H3 with ⟨H3, S3⟩
  icases H4 with ⟨H4, S4⟩
  icases H5 with ⟨H5, S5⟩
  icases H6 with ⟨H6, S6⟩
  icases H7 with ⟨H7, S7⟩
  isplitl [H0 H1 H2 H3]
  · isplitl [H0]; · iexact H0
    isplitl [H1]; · iexact H1
    isplitl [H2]; · iexact H2
    iexact H3
  isplitl [H4 H5 H6 H7]
  · isplitl [H4]; · iexact H4
    isplitl [H5]; · iexact H5
    isplitl [H6]; · iexact H6
    iexact H7
  isplitl [S0 S1 S2 S3]
  · isplitl [S0]; · iexact S0
    isplitl [S1]; · iexact S1
    isplitl [S2]; · iexact S2
    iexact S3
  isplitl [S4]; · iexact S4
  isplitl [S5]; · iexact S5
  isplitl [S6]; · iexact S6
  iexact S7

theorem chunk_any {e : EltTy} (m : Memref sig c.2.kind .vmem S1040 e) (a : ℕ → Elt F e) : chunk c m a ⊢ iprop(∃ v, holds c m fullShare v) := by
  unfold chunk
  iintro ⟨%v, H, -⟩
  iexists v; iexact H

/-- Filled buffers beside whole streams are as before a round. -/
theorem again (n m : ℕ) : iprop(filled A s n ∗ filled B s m ∗ srcs s qA qB) ⊢ idles A B s qA qB := by
  unfold filled chunks srcs idles idle
  iintro ⟨⟨H0, H1, H2, H3⟩, ⟨H4, H5, H6, H7⟩, ⟨S0, S1, S2, S3⟩, S4, S5, S6, S7⟩
  isplitl [H0 S0]
  · isplitl [H0]; · iapply chunk_any $$ H0
    iexact S0
  isplitl [H1 S1]
  · isplitl [H1]; · iapply chunk_any $$ H1
    iexact S1
  isplitl [H2 S2]
  · isplitl [H2]; · iapply chunk_any $$ H2
    iexact S2
  isplitl [H3 S3]
  · isplitl [H3]; · iapply chunk_any $$ H3
    iexact S3
  isplitl [H4 S4]
  · isplitl [H4]; · iapply chunk_any $$ H4
    iexact S4
  isplitl [H5 S5]
  · isplitl [H5]; · iapply chunk_any $$ H5
    iexact S5
  isplitl [H6 S6]
  · isplitl [H6]; · iapply chunk_any $$ H6
    iexact S6
  isplitl [H7]; · iapply chunk_any $$ H7
  iexact S7

end

end Cert.Proof.Pool
-- ==== Proof.ChunkLoop.lean ====
/-
  The chunk loop's body: two rounds of copies, one always in flight while the other's points are taken in.
-/
module

public import proofs.«01_k».proof.Proof.Rounds

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-- The first `k` chunks' points that one accumulator takes, taken in: the chunk `i` starts at word `off i`. -/
def taken (lo n : BitVec 32) (w0 w1 w2 w3 : Vec F S16 .f32) (X Y Z : Vec F S3200000 .f32) (I : Vec F S3200000 .i32) (off : ℕ → ℕ) (par : ℕ)
    (k : ℕ) (a : Vec F S25088 .f32) : Vec F S25088 .f32 :=
  (List.range k).foldl (fun a i => proc (fun p => slot lo n (strm I (off i + p)))
    (fun p => pointVal w0 w1 w2 w3 (strm X (off i + p)) (strm Y (off i + p)) (strm Z (off i + p))) (grps par 64) a) a

theorem taken_succ (lo n : BitVec 32) (w0 w1 w2 w3 : Vec F S16 .f32) (X Y Z : Vec F S3200000 .f32) (I : Vec F S3200000 .i32) (off : ℕ → ℕ)
    (par k : ℕ) (a : Vec F S25088 .f32) :
    taken lo n w0 w1 w2 w3 X Y Z I off par (k + 1) a = proc (fun p => slot lo n (strm I (off k + p)))
      (fun p => pointVal w0 w1 w2 w3 (strm X (off k + p)) (strm Y (off k + p)) (strm Z (off k + p))) (grps par 64)
      (taken lo n w0 w1 w2 w3 X Y Z I off par k a) := by
  unfold taken; rw [List.range_succ, List.foldl_append, List.foldl_cons, List.foldl_nil]

/-- The accumulators after `k` chunks of either window. -/
def accsAt (c : Thread nD τ) (m0 m1 n0 n1 : Memref sig c.2.kind .vmem S25088 .f32) (v2 v3 : BitVec 32) (v5 v7 v9 v11 : Vec F S16 .f32)
    (s : Strms F c) (nA nB : ℕ → ℕ) (a0 a1 b0 b1 : Vec F S25088 .f32) (k : ℕ) : sProp 𝕄 :=
  accs c m0 m1 n0 n1 (taken v2 1563#32 v5 v7 v9 v11 s.X s.Y s.Z s.I nA 0 k a0) (taken v2 1563#32 v5 v7 v9 v11 s.X s.Y s.Z s.I nA 1 k a1)
    (taken v3 1562#32 v5 v7 v9 v11 s.X s.Y s.Z s.I nB 0 k b0) (taken v3 1562#32 v5 v7 v9 v11 s.X s.Y s.Z s.I nB 1 k b1)

/-- What the chunk loop holds at its trip `k`: the round for chunk `2 * k` in flight, the other buffers free, `2 * k` chunks taken in. -/
def t3Inv (c : Thread nD τ) (semP semQ : DmaSem sig) (A0 B0 A1 B1 : Bufs c) (m0 m1 n0 n1 : Memref sig c.2.kind .vmem S25088 .f32)
    (v2 v3 : BitVec 32) (v5 v7 v9 v11 : Vec F S16 .f32) (s : Strms F c) (qA qB rA rB : PosShare TreeShare) (nA nB : ℕ → ℕ)
    (O : CellTallies nD τ sig (HIx 1)) (W : Waits sig (HIx 1)) (a0 a1 b0 b1 : Vec F S25088 .f32) (k : ℕ) : sProp 𝕄 :=
  iprop(flight semP A0 B0 s qA qB (nA (2 * k)) (nB (2 * k)) ∗ semVal (c, .dma semQ) 0 ∗ idles A1 B1 s rA rB ∗ ows c O W
    ∗ accsAt c m0 m1 n0 n1 v2 v3 v5 v7 v9 v11 s nA nB a0 a1 b0 b1 (2 * k))

/-- From a finished round to the loop over its groups: the accumulators and the filled buffers, with the rest beside. -/
theorem to_groups {c : Thread nD τ} {m0 m1 n0 n1 : Memref sig c.2.kind .vmem S25088 .f32} {v2 v3 : BitVec 32} {v5 v7 v9 v11 : Vec F S16 .f32}
    {s : Strms F c} {nA nB : ℕ → ℕ} {a0 a1 b0 b1 : Vec F S25088 .f32} {k : ℕ} (A B : Bufs c) {qA qB : PosShare TreeShare} {S O R : sProp (MT nD τ sig (HIx 1) (Elt F) ℕ UU ℕ)} :
    iprop((del c A.x s.x qA s.fx (nA k) ∗ del c A.y s.y qA s.fy (nA k) ∗ del c A.z s.z qA s.fz (nA k) ∗ del c A.i s.i qA s.fi (nA k)
      ∗ del c B.x s.x qB s.fx (nB k) ∗ del c B.y s.y qB s.fy (nB k) ∗ del c B.z s.z qB s.fz (nB k) ∗ del c B.i s.i qB s.fi (nB k))
      ∗ S ∗ O ∗ lents s qA qB (nA k) (nB k) ∗ accsAt c m0 m1 n0 n1 v2 v3 v5 v7 v9 v11 s nA nB a0 a1 b0 b1 k ∗ R)
    ⊢ iprop((accsAt c m0 m1 n0 n1 v2 v3 v5 v7 v9 v11 s nA nB a0 a1 b0 b1 k ∗ filled A s (nA k) ∗ filled B s (nB k))
      ∗ S ∗ O ∗ srcs s qA qB ∗ R) := by
  iintro ⟨HD, HS, HO, HL, HA, HR⟩
  ihave H := (flight_done A B s qA qB (nA k) (nB k) (R := iprop(emp))) $$ [HD HL]
  · isplitl [HD]; · iexact HD
    iexact HL
  icases H with ⟨H1, H2, H3⟩
  isplitl [HA H1 H2]
  · isplitl [HA]; · iexact HA
    isplitl [H1]; · iexact H1
    iexact H2
  isplitl [HS]; · iexact HS
  isplitl [HO]; · iexact HO
  isplitl [H3]; · iexact H3
  iexact HR

/-- The loop over a round's groups, as the accumulators and buffers see it. -/
theorem groups_start {c : Thread nD τ} {m0 m1 n0 n1 : Memref sig c.2.kind .vmem S25088 .f32} {v2 v3 : BitVec 32} {v5 v7 v9 v11 : Vec F S16 .f32}
    {s : Strms F c} {nA nB : ℕ → ℕ} {a0 a1 b0 b1 : Vec F S25088 .f32} {k : ℕ} (A B : Bufs c) :
    iprop(accsAt c m0 m1 n0 n1 v2 v3 v5 v7 v9 v11 s nA nB a0 a1 b0 b1 k ∗ filled A s (nA k) ∗ filled B s (nB k))
      ⊢ grpSt c A.x A.y A.z A.i B.x B.y B.z B.i m0 m1 n0 n1 v2 v3 v5 v7 v9 v11
        (fun j => strm s.X (nA k + j)) (fun j => strm s.Y (nA k + j)) (fun j => strm s.Z (nA k + j))
        (fun j => strm s.X (nB k + j)) (fun j => strm s.Y (nB k + j)) (fun j => strm s.Z (nB k + j))
        (fun j => strm s.I (nA k + j)) (fun j => strm s.I (nB k + j))
        (taken v2 1563#32 v5 v7 v9 v11 s.X s.Y s.Z s.I nA 0 k a0) (taken v2 1563#32 v5 v7 v9 v11 s.X s.Y s.Z s.I nA 1 k a1)
        (taken v3 1562#32 v5 v7 v9 v11 s.X s.Y s.Z s.I nB 0 k b0) (taken v3 1562#32 v5 v7 v9 v11 s.X s.Y s.Z s.I nB 1 k b1) 0 := by
  unfold accsAt filled grpSt
  rw [show grps 0 0 = [] from rfl, show grps 1 0 = [] from rfl, proc_nil, proc_nil, proc_nil, proc_nil]

theorem groups_end {c : Thread nD τ} {m0 m1 n0 n1 : Memref sig c.2.kind .vmem S25088 .f32} {v2 v3 : BitVec 32} {v5 v7 v9 v11 : Vec F S16 .f32}
    {s : Strms F c} {nA nB : ℕ → ℕ} {a0 a1 b0 b1 : Vec F S25088 .f32} {k : ℕ} (A B : Bufs c) :
    grpSt c A.x A.y A.z A.i B.x B.y B.z B.i m0 m1 n0 n1 v2 v3 v5 v7 v9 v11
        (fun j => strm s.X (nA k + j)) (fun j => strm s.Y (nA k + j)) (fun j => strm s.Z (nA k + j))
        (fun j => strm s.X (nB k + j)) (fun j => strm s.Y (nB k + j)) (fun j => strm s.Z (nB k + j))
        (fun j => strm s.I (nA k + j)) (fun j => strm s.I (nB k + j))
        (taken v2 1563#32 v5 v7 v9 v11 s.X s.Y s.Z s.I nA 0 k a0) (taken v2 1563#32 v5 v7 v9 v11 s.X s.Y s.Z s.I nA 1 k a1)
        (taken v3 1562#32 v5 v7 v9 v11 s.X s.Y s.Z s.I nB 0 k b0) (taken v3 1562#32 v5 v7 v9 v11 s.X s.Y s.Z s.I nB 1 k b1) 64
      ⊢ iprop(accsAt c m0 m1 n0 n1 v2 v3 v5 v7 v9 v11 s nA nB a0 a1 b0 b1 (k + 1) ∗ filled A s (nA k) ∗ filled B s (nB k)) := by
  unfold accsAt
  rw [taken_succ, taken_succ, taken_succ, taken_succ]
  unfold filled grpSt
  exact .rfl

set_option maxHeartbeats 400000 in
set_option maxRecDepth 100000 in
/-- A trip of the chunk loop. -/
theorem t3_trip (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (v2 : BitVec 32) (v3 : BitVec 32) (v5 : Vec F S16 .f32) (v7 : Vec F S16 .f32) (v9 : Vec F S16 .f32) (v11 : Vec F S16 .f32) (v12 : IVec S16 32) (v22 : BitVec 32) (v25 : BitVec 32) (k0_hw2 : k0_chk2 v25) (v28 : BitVec 32) (k0_hw3 : k0_chk3 v22 v25 v28) (v39 : BitVec 32) (v40 : BitVec 32) (v99 : BitVec 32)
    (hv12 : ∀ x, v12 x = BitVec.ofNat 32 (x 0).val) (k : Fin (k0_t3_loop v22 v25 v28).trips) (u : Unit)
    (fx : Buf (Elt F) (arg2.view.loc (d, .scVector ((i 0).castLE hcore0) ((i 1).castLE hsub0)))) (fy : Buf (Elt F) (arg3.view.loc (d, .scVector ((i 0).castLE hcore0) ((i 1).castLE hsub0))))
    (fz : Buf (Elt F) (arg4.view.loc (d, .scVector ((i 0).castLE hcore0) ((i 1).castLE hsub0)))) (fi : Buf (Elt F) (arg5.view.loc (d, .scVector ((i 0).castLE hcore0) ((i 1).castLE hsub0))))
    (qA qB rA rB : PosShare TreeShare) (nA nB : ℕ → ℕ)
    (hA : ∀ r : Fin 2, k0_off5 v22 v25 v28 k (BitVec.ofNat 32 (1 + r.val)) 0 = nA (2 * k.val + 1 + r.val))
    (hB : ∀ r : Fin 2, k0_off6 v22 v25 v28 k (BitVec.ofNat 32 (1 + r.val)) 0 = nB (2 * k.val + 1 + r.val))
    (O : CellTallies nD τ sig (HIx 1)) (W : Waits sig (HIx 1)) (a0 a1 b0 b1 : Vec F S25088 .f32) (s : Strms F (d, .scVector ((i 0).castLE hcore0) ((i 1).castLE hsub0)))
    (hs : s = ⟨arg2, arg3, arg4, arg5, fx, fy, fz, fi⟩) :
    t3Inv (d, .scVector ((i 0).castLE hcore0) ((i 1).castLE hsub0)) arg31.sem arg32.sem ⟨arg11, arg12, arg13, arg14⟩ ⟨arg19, arg20, arg21, arg22⟩ ⟨arg15, arg16, arg17, arg18⟩ ⟨arg23, arg24, arg25, arg26⟩ arg27 arg28 arg29 arg30 v2 v3 v5 v7 v9 v11 s qA qB rA rB nA nB O W a0 a1 b0 b1 k.val
      ⊢ wp frame (wpE (defs₀ (F := F)) 𝒱₀ (d, .scVector ((i 0).castLE hcore0) ((i 1).castLE hsub0)) none) Set.univ
        (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 v22 v25 k0_hw2 v28 k0_hw3 v39 v40 v99 k u)
        (fun _ => t3Inv (d, .scVector ((i 0).castLE hcore0) ((i 1).castLE hsub0)) arg31.sem arg32.sem ⟨arg11, arg12, arg13, arg14⟩ ⟨arg19, arg20, arg21, arg22⟩ ⟨arg15, arg16, arg17, arg18⟩ ⟨arg23, arg24, arg25, arg26⟩ arg27 arg28 arg29 arg30 v2 v3 v5 v7 v9 v11 s qA qB rA rB nA nB O W a0 a1 b0 b1 (k.val + 1)) := by
  subst hs
  have hA1 := hA 0
  have hA2 := hA 1
  have hB1 := hB 0
  have hB2 := hB 1
  unfold k0_t3_body t3Inv
  simp only [k0_part28_eq_skeleton, k0_part29_eq_skeleton, k0_part30_eq_skeleton, k0_part31_eq_skeleton, k0_part32_eq_skeleton]
  refine part_step (c := (d, .scVector ((i 0).castLE hcore0) ((i 1).castLE hsub0))) ?_
  unfold k0_part28_skel
  -- the round for the next chunk is issued into the other buffers
  have e1 : iprop(flight (c := (d, .scVector ((i 0).castLE hcore0) ((i 1).castLE hsub0))) arg31.sem ⟨arg11, arg12, arg13, arg14⟩ ⟨arg19, arg20, arg21, arg22⟩ ⟨arg2, arg3, arg4, arg5, fx, fy, fz, fi⟩ qA qB (nA (2 * k.val)) (nB (2 * k.val)) ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB
      ∗ ows (d, .scVector ((i 0).castLE hcore0) ((i 1).castLE hsub0)) O W ∗ accsAt (d, .scVector ((i 0).castLE hcore0) ((i 1).castLE hsub0)) arg27 arg28 arg29 arg30 v2 v3 v5 v7 v9 v11 ⟨arg2, arg3, arg4, arg5, fx, fy, fz, fi⟩ nA nB a0 a1 b0 b1 (2 * k.val))
    ⊢ iprop(semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ flight (c := (d, .scVector ((i 0).castLE hcore0) ((i 1).castLE hsub0))) arg31.sem ⟨arg11, arg12, arg13, arg14⟩ ⟨arg19, arg20, arg21, arg22⟩ ⟨arg2, arg3, arg4, arg5, fx, fy, fz, fi⟩ qA qB (nA (2 * k.val)) (nB (2 * k.val)) ∗ ows (d, .scVector ((i 0).castLE hcore0) ((i 1).castLE hsub0)) O W ∗ accsAt (d, .scVector ((i 0).castLE hcore0) ((i 1).castLE hsub0)) arg27 arg28 arg29 arg30 v2 v3 v5 v7 v9 v11 ⟨arg2, arg3, arg4, arg5, fx, fy, fz, fi⟩ nA nB a0 a1 b0 b1 (2 * k.val)) := by
    iintro ⟨H1, H2, H3, H4⟩
    isplitl [H2]; · iexact H2
    isplitl [H3]; · iexact H3
    isplitl [H1]; · iexact H1
    iexact H4
  refine e1.trans ?_
  clear e1
  refine (sep_mono .rfl (idles_open (c := (d, .scVector ((i 0).castLE hcore0) ((i 1).castLE hsub0))) ⟨arg15, arg16, arg17, arg18⟩ ⟨arg23, arg24, arg25, arg26⟩ ⟨arg2, arg3, arg4, arg5, fx, fy, fz, fi⟩ rA rB)).trans ?_
  refine round_start (c := (d, .scVector ((i 0).castLE hcore0) ((i 1).castLE hsub0))) (D := (dels2 (c := (d, .scVector ((i 0).castLE hcore0) ((i 1).castLE hsub0))) ⟨arg15, arg16, arg17, arg18⟩ ⟨arg23, arg24, arg25, arg26⟩ ⟨arg2, arg3, arg4, arg5, fx, fy, fz, fi⟩ rA rB (nA (2 * k.val + 1)) (nB (2 * k.val + 1)))) ?_
  refine issue_step (c := (d, .scVector ((i 0).castLE hcore0) ((i 1).castLE hsub0))) (dst := arg15) (m := arg2) (q := rA) (f := fx) 0 (nA (2 * k.val + 1)) (by decide) hA1 rfl rfl ?_
  refine issue_step (c := (d, .scVector ((i 0).castLE hcore0) ((i 1).castLE hsub0))) (dst := arg16) (m := arg3) (q := rA) (f := fy) 1 (nA (2 * k.val + 1)) (by decide) hA1 rfl rfl ?_
  refine issue_step (c := (d, .scVector ((i 0).castLE hcore0) ((i 1).castLE hsub0))) (dst := arg17) (m := arg4) (q := rA) (f := fz) 2 (nA (2 * k.val + 1)) (by decide) hA1 rfl rfl ?_
  refine issue_step (c := (d, .scVector ((i 0).castLE hcore0) ((i 1).castLE hsub0))) (dst := arg18) (m := arg5) (q := rA) (f := fi) 3 (nA (2 * k.val + 1)) (by decide) hA1 rfl rfl ?_
  refine issue_step (c := (d, .scVector ((i 0).castLE hcore0) ((i 1).castLE hsub0))) (dst := arg23) (m := arg2) (q := rB) (f := fx) 4 (nB (2 * k.val + 1)) (by decide) hB1 rfl rfl ?_
  refine issue_step (c := (d, .scVector ((i 0).castLE hcore0) ((i 1).castLE hsub0))) (dst := arg24) (m := arg3) (q := rB) (f := fy) 5 (nB (2 * k.val + 1)) (by decide) hB1 rfl rfl ?_
  refine ret_step ?_
  refine part_step (c := (d, .scVector ((i 0).castLE hcore0) ((i 1).castLE hsub0))) ?_
  unfold k0_part29_skel
  refine issue_step (c := (d, .scVector ((i 0).castLE hcore0) ((i 1).castLE hsub0))) (dst := arg25) (m := arg4) (q := rB) (f := fz) 6 (nB (2 * k.val + 1)) (by decide) hB1 rfl rfl ?_
  refine issue_step (c := (d, .scVector ((i 0).castLE hcore0) ((i 1).castLE hsub0))) (dst := arg26) (m := arg5) (q := rB) (f := fi) 7 (nB (2 * k.val + 1)) (by decide) hB1 rfl rfl ?_
  -- the round in flight is waited for
  have e2 : iprop(Batch EC (d, .scVector ((i 0).castLE hcore0) ((i 1).castLE hsub0)) (.dma arg32.sem) (default : HIx 1) 32768 (dels2 (c := (d, .scVector ((i 0).castLE hcore0) ((i 1).castLE hsub0))) ⟨arg15, arg16, arg17, arg18⟩ ⟨arg23, arg24, arg25, arg26⟩ ⟨arg2, arg3, arg4, arg5, fx, fy, fz, fi⟩ rA rB (nA (2 * k.val + 1)) (nB (2 * k.val + 1))) 8 0 ∗ lents (c := (d, .scVector ((i 0).castLE hcore0) ((i 1).castLE hsub0))) ⟨arg2, arg3, arg4, arg5, fx, fy, fz, fi⟩ rA rB (nA (2 * k.val + 1)) (nB (2 * k.val + 1)) ∗ flight (c := (d, .scVector ((i 0).castLE hcore0) ((i 1).castLE hsub0))) arg31.sem ⟨arg11, arg12, arg13, arg14⟩ ⟨arg19, arg20, arg21, arg22⟩ ⟨arg2, arg3, arg4, arg5, fx, fy, fz, fi⟩ qA qB (nA (2 * k.val)) (nB (2 * k.val))
      ∗ ows (d, .scVector ((i 0).castLE hcore0) ((i 1).castLE hsub0)) O W ∗ accsAt (d, .scVector ((i 0).castLE hcore0) ((i 1).castLE hsub0)) arg27 arg28 arg29 arg30 v2 v3 v5 v7 v9 v11 ⟨arg2, arg3, arg4, arg5, fx, fy, fz, fi⟩ nA nB a0 a1 b0 b1 (2 * k.val))
    ⊢ iprop(Batch EC (d, .scVector ((i 0).castLE hcore0) ((i 1).castLE hsub0)) (.dma arg31.sem) (default : HIx 1) 32768 (dels2 (c := (d, .scVector ((i 0).castLE hcore0) ((i 1).castLE hsub0))) ⟨arg11, arg12, arg13, arg14⟩ ⟨arg19, arg20, arg21, arg22⟩ ⟨arg2, arg3, arg4, arg5, fx, fy, fz, fi⟩ qA qB (nA (2 * k.val)) (nB (2 * k.val))) 8 0 ∗ ows (d, .scVector ((i 0).castLE hcore0) ((i 1).castLE hsub0)) O W ∗ lents (c := (d, .scVector ((i 0).castLE hcore0) ((i 1).castLE hsub0))) ⟨arg2, arg3, arg4, arg5, fx, fy, fz, fi⟩ qA qB (nA (2 * k.val)) (nB (2 * k.val)) ∗ accsAt (d, .scVector ((i 0).castLE hcore0) ((i 1).castLE hsub0)) arg27 arg28 arg29 arg30 v2 v3 v5 v7 v9 v11 ⟨arg2, arg3, arg4, arg5, fx, fy, fz, fi⟩ nA nB a0 a1 b0 b1 (2 * k.val)
      ∗ flight (c := (d, .scVector ((i 0).castLE hcore0) ((i 1).castLE hsub0))) arg32.sem ⟨arg15, arg16, arg17, arg18⟩ ⟨arg23, arg24, arg25, arg26⟩ ⟨arg2, arg3, arg4, arg5, fx, fy, fz, fi⟩ rA rB (nA (2 * k.val + 1)) (nB (2 * k.val + 1))) := by
    unfold flight
    iintro ⟨H1, H2, ⟨H3, H4⟩, H5, H6⟩
    isplitl [H3]; · iexact H3
    isplitl [H5]; · iexact H5
    isplitl [H4]; · iexact H4
    isplitl [H6]; · iexact H6
    isplitl [H1]; · iexact H1
    iexact H2
  refine e2.trans ?_
  clear e2
  refine wait_step (c := (d, .scVector ((i 0).castLE hcore0) ((i 1).castLE hsub0))) rfl (by decide) ?_
  refine wait_step (c := (d, .scVector ((i 0).castLE hcore0) ((i 1).castLE hsub0))) rfl (by decide) ?_
  refine wait_step (c := (d, .scVector ((i 0).castLE hcore0) ((i 1).castLE hsub0))) rfl (by decide) ?_
  refine wait_step (c := (d, .scVector ((i 0).castLE hcore0) ((i 1).castLE hsub0))) rfl (by decide) ?_
  refine wait_step (c := (d, .scVector ((i 0).castLE hcore0) ((i 1).castLE hsub0))) rfl (by decide) ?_
  refine ret_step ?_
  refine part_step (c := (d, .scVector ((i 0).castLE hcore0) ((i 1).castLE hsub0))) ?_
  unfold k0_part30_skel
  refine wait_step (c := (d, .scVector ((i 0).castLE hcore0) ((i 1).castLE hsub0))) rfl (by decide) ?_
  refine wait_step (c := (d, .scVector ((i 0).castLE hcore0) ((i 1).castLE hsub0))) rfl (by decide) ?_
  refine wait_last (c := (d, .scVector ((i 0).castLE hcore0) ((i 1).castLE hsub0))) rfl ?_
  refine (to_groups (c := (d, .scVector ((i 0).castLE hcore0) ((i 1).castLE hsub0))) (k := 2 * k.val) ⟨arg11, arg12, arg13, arg14⟩ ⟨arg19, arg20, arg21, arg22⟩).trans ?_
  refine loop_step (c := (d, .scVector ((i 0).castLE hcore0) ((i 1).castLE hsub0))) (fun t _ => iprop(grpSt (d, .scVector ((i 0).castLE hcore0) ((i 1).castLE hsub0)) arg11 arg12 arg13 arg14 arg19 arg20 arg21 arg22 arg27 arg28 arg29 arg30 v2 v3 v5 v7 v9 v11
      _ _ _ _ _ _ _ _ _ _ _ _ t ∗ _)) (sep_mono (groups_start (c := (d, .scVector ((i 0).castLE hcore0) ((i 1).castLE hsub0))) ⟨arg11, arg12, arg13, arg14⟩ ⟨arg19, arg20, arg21, arg22⟩) .rfl)
    (fun t u => frame_run (t4_trip d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 v22 v25 v28 k0_hw3 v39 v40 k _ hv12 _ _ _ _ _ _ _ _ _ _ _ _ t u) (fun _ => .rfl)) (fun _ => ?_)
  refine (sep_mono (groups_end (c := (d, .scVector ((i 0).castLE hcore0) ((i 1).castLE hsub0))) (k := 2 * k.val) ⟨arg11, arg12, arg13, arg14⟩ ⟨arg19, arg20, arg21, arg22⟩) .rfl).trans ?_
  -- the next round is issued into the buffers just used
  have e3 : iprop((accsAt (d, .scVector ((i 0).castLE hcore0) ((i 1).castLE hsub0)) arg27 arg28 arg29 arg30 v2 v3 v5 v7 v9 v11 ⟨arg2, arg3, arg4, arg5, fx, fy, fz, fi⟩ nA nB a0 a1 b0 b1 (2 * k.val + 1) ∗ filled (c := (d, .scVector ((i 0).castLE hcore0) ((i 1).castLE hsub0))) ⟨arg11, arg12, arg13, arg14⟩ ⟨arg2, arg3, arg4, arg5, fx, fy, fz, fi⟩ (nA (2 * k.val)) ∗ filled (c := (d, .scVector ((i 0).castLE hcore0) ((i 1).castLE hsub0))) ⟨arg19, arg20, arg21, arg22⟩ ⟨arg2, arg3, arg4, arg5, fx, fy, fz, fi⟩ (nB (2 * k.val))) ∗ semVal ((d, .scVector ((i 0).castLE hcore0) ((i 1).castLE hsub0)), SemLoc.dma arg31.sem) 0 ∗ ows (d, .scVector ((i 0).castLE hcore0) ((i 1).castLE hsub0)) O W ∗ srcs (c := (d, .scVector ((i 0).castLE hcore0) ((i 1).castLE hsub0))) ⟨arg2, arg3, arg4, arg5, fx, fy, fz, fi⟩ qA qB
      ∗ flight (c := (d, .scVector ((i 0).castLE hcore0) ((i 1).castLE hsub0))) arg32.sem ⟨arg15, arg16, arg17, arg18⟩ ⟨arg23, arg24, arg25, arg26⟩ ⟨arg2, arg3, arg4, arg5, fx, fy, fz, fi⟩ rA rB (nA (2 * k.val + 1)) (nB (2 * k.val + 1)))
    ⊢ iprop(semVal ((d, .scVector ((i 0).castLE hcore0) ((i 1).castLE hsub0)), SemLoc.dma arg31.sem) 0 ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ flight (c := (d, .scVector ((i 0).castLE hcore0) ((i 1).castLE hsub0))) arg32.sem ⟨arg15, arg16, arg17, arg18⟩ ⟨arg23, arg24, arg25, arg26⟩ ⟨arg2, arg3, arg4, arg5, fx, fy, fz, fi⟩ rA rB (nA (2 * k.val + 1)) (nB (2 * k.val + 1)) ∗ ows (d, .scVector ((i 0).castLE hcore0) ((i 1).castLE hsub0)) O W ∗ accsAt (d, .scVector ((i 0).castLE hcore0) ((i 1).castLE hsub0)) arg27 arg28 arg29 arg30 v2 v3 v5 v7 v9 v11 ⟨arg2, arg3, arg4, arg5, fx, fy, fz, fi⟩ nA nB a0 a1 b0 b1 (2 * k.val + 1)) := by
    iintro ⟨⟨H1, H2, H3⟩, H4, H5, H6, H7⟩
    isplitl [H4]; · iexact H4
    isplitl [H2 H3 H6]
    · iapply (again (c := (d, .scVector ((i 0).castLE hcore0) ((i 1).castLE hsub0))) ⟨arg11, arg12, arg13, arg14⟩ ⟨arg19, arg20, arg21, arg22⟩ ⟨arg2, arg3, arg4, arg5, fx, fy, fz, fi⟩ qA qB)
      isplitl [H2]; · iexact H2
      isplitl [H3]; · iexact H3
      iexact H6
    isplitl [H7]; · iexact H7
    isplitl [H5]; · iexact H5
    iexact H1
  refine e3.trans ?_
  clear e3
  refine (sep_mono .rfl (idles_open (c := (d, .scVector ((i 0).castLE hcore0) ((i 1).castLE hsub0))) ⟨arg11, arg12, arg13, arg14⟩ ⟨arg19, arg20, arg21, arg22⟩ ⟨arg2, arg3, arg4, arg5, fx, fy, fz, fi⟩ qA qB)).trans ?_
  refine round_start (c := (d, .scVector ((i 0).castLE hcore0) ((i 1).castLE hsub0))) (D := (dels2 (c := (d, .scVector ((i 0).castLE hcore0) ((i 1).castLE hsub0))) ⟨arg11, arg12, arg13, arg14⟩ ⟨arg19, arg20, arg21, arg22⟩ ⟨arg2, arg3, arg4, arg5, fx, fy, fz, fi⟩ qA qB (nA (2 * (k.val + 1))) (nB (2 * (k.val + 1))))) ?_
  refine issue_step (c := (d, .scVector ((i 0).castLE hcore0) ((i 1).castLE hsub0))) (dst := arg11) (m := arg2) (q := qA) (f := fx) 0 (nA (2 * (k.val + 1))) (by decide) hA2 rfl rfl ?_
  refine issue_step (c := (d, .scVector ((i 0).castLE hcore0) ((i 1).castLE hsub0))) (dst := arg12) (m := arg3) (q := qA) (f := fy) 1 (nA (2 * (k.val + 1))) (by decide) hA2 rfl rfl ?_
  refine ret_step ?_
  refine part_step (c := (d, .scVector ((i 0).castLE hcore0) ((i 1).castLE hsub0))) ?_
  unfold k0_part31_skel
  refine issue_step (c := (d, .scVector ((i 0).castLE hcore0) ((i 1).castLE hsub0))) (dst := arg13) (m := arg4) (q := qA) (f := fz) 2 (nA (2 * (k.val + 1))) (by decide) hA2 rfl rfl ?_
  refine issue_step (c := (d, .scVector ((i 0).castLE hcore0) ((i 1).castLE hsub0))) (dst := arg14) (m := arg5) (q := qA) (f := fi) 3 (nA (2 * (k.val + 1))) (by decide) hA2 rfl rfl ?_
  refine issue_step (c := (d, .scVector ((i 0).castLE hcore0) ((i 1).castLE hsub0))) (dst := arg19) (m := arg2) (q := qB) (f := fx) 4 (nB (2 * (k.val + 1))) (by decide) hB2 rfl rfl ?_
  refine issue_step (c := (d, .scVector ((i 0).castLE hcore0) ((i 1).castLE hsub0))) (dst := arg20) (m := arg3) (q := qB) (f := fy) 5 (nB (2 * (k.val + 1))) (by decide) hB2 rfl rfl ?_
  refine issue_step (c := (d, .scVector ((i 0).castLE hcore0) ((i 1).castLE hsub0))) (dst := arg21) (m := arg4) (q := qB) (f := fz) 6 (nB (2 * (k.val + 1))) (by decide) hB2 rfl rfl ?_
  refine issue_step (c := (d, .scVector ((i 0).castLE hcore0) ((i 1).castLE hsub0))) (dst := arg22) (m := arg5) (q := qB) (f := fi) 7 (nB (2 * (k.val + 1))) (by decide) hB2 rfl rfl ?_
  -- and the other is waited for
  have e4 : iprop(Batch EC (d, .scVector ((i 0).castLE hcore0) ((i 1).castLE hsub0)) (.dma arg31.sem) (default : HIx 1) 32768 (dels2 (c := (d, .scVector ((i 0).castLE hcore0) ((i 1).castLE hsub0))) ⟨arg11, arg12, arg13, arg14⟩ ⟨arg19, arg20, arg21, arg22⟩ ⟨arg2, arg3, arg4, arg5, fx, fy, fz, fi⟩ qA qB (nA (2 * (k.val + 1))) (nB (2 * (k.val + 1)))) 8 0 ∗ lents (c := (d, .scVector ((i 0).castLE hcore0) ((i 1).castLE hsub0))) ⟨arg2, arg3, arg4, arg5, fx, fy, fz, fi⟩ qA qB (nA (2 * (k.val + 1))) (nB (2 * (k.val + 1))) ∗ flight (c := (d, .scVector ((i 0).castLE hcore0) ((i 1).castLE hsub0))) arg32.sem ⟨arg15, arg16, arg17, arg18⟩ ⟨arg23, arg24, arg25, arg26⟩ ⟨arg2, arg3, arg4, arg5, fx, fy, fz, fi⟩ rA rB (nA (2 * k.val + 1)) (nB (2 * k.val + 1))
      ∗ ows (d, .scVector ((i 0).castLE hcore0) ((i 1).castLE hsub0)) O W ∗ accsAt (d, .scVector ((i 0).castLE hcore0) ((i 1).castLE hsub0)) arg27 arg28 arg29 arg30 v2 v3 v5 v7 v9 v11 ⟨arg2, arg3, arg4, arg5, fx, fy, fz, fi⟩ nA nB a0 a1 b0 b1 (2 * k.val + 1))
    ⊢ iprop(Batch EC (d, .scVector ((i 0).castLE hcore0) ((i 1).castLE hsub0)) (.dma arg32.sem) (default : HIx 1) 32768 (dels2 (c := (d, .scVector ((i 0).castLE hcore0) ((i 1).castLE hsub0))) ⟨arg15, arg16, arg17, arg18⟩ ⟨arg23, arg24, arg25, arg26⟩ ⟨arg2, arg3, arg4, arg5, fx, fy, fz, fi⟩ rA rB (nA (2 * k.val + 1)) (nB (2 * k.val + 1))) 8 0 ∗ ows (d, .scVector ((i 0).castLE hcore0) ((i 1).castLE hsub0)) O W ∗ lents (c := (d, .scVector ((i 0).castLE hcore0) ((i 1).castLE hsub0))) ⟨arg2, arg3, arg4, arg5, fx, fy, fz, fi⟩ rA rB (nA (2 * k.val + 1)) (nB (2 * k.val + 1)) ∗ accsAt (d, .scVector ((i 0).castLE hcore0) ((i 1).castLE hsub0)) arg27 arg28 arg29 arg30 v2 v3 v5 v7 v9 v11 ⟨arg2, arg3, arg4, arg5, fx, fy, fz, fi⟩ nA nB a0 a1 b0 b1 (2 * k.val + 1)
      ∗ flight (c := (d, .scVector ((i 0).castLE hcore0) ((i 1).castLE hsub0))) arg31.sem ⟨arg11, arg12, arg13, arg14⟩ ⟨arg19, arg20, arg21, arg22⟩ ⟨arg2, arg3, arg4, arg5, fx, fy, fz, fi⟩ qA qB (nA (2 * (k.val + 1))) (nB (2 * (k.val + 1)))) := by
    unfold flight
    iintro ⟨H1, H2, ⟨H3, H4⟩, H5, H6⟩
    isplitl [H3]; · iexact H3
    isplitl [H5]; · iexact H5
    isplitl [H4]; · iexact H4
    isplitl [H6]; · iexact H6
    isplitl [H1]; · iexact H1
    iexact H2
  refine e4.trans ?_
  clear e4
  refine wait_step (c := (d, .scVector ((i 0).castLE hcore0) ((i 1).castLE hsub0))) rfl (by decide) ?_
  refine wait_step (c := (d, .scVector ((i 0).castLE hcore0) ((i 1).castLE hsub0))) rfl (by decide) ?_
  refine ret_step ?_
  refine part_step (c := (d, .scVector ((i 0).castLE hcore0) ((i 1).castLE hsub0))) ?_
  unfold k0_part32_skel
  refine wait_step (c := (d, .scVector ((i 0).castLE hcore0) ((i 1).castLE hsub0))) rfl (by decide) ?_
  refine wait_step (c := (d, .scVector ((i 0).castLE hcore0) ((i 1).castLE hsub0))) rfl (by decide) ?_
  refine wait_step (c := (d, .scVector ((i 0).castLE hcore0) ((i 1).castLE hsub0))) rfl (by decide) ?_
  refine wait_step (c := (d, .scVector ((i 0).castLE hcore0) ((i 1).castLE hsub0))) rfl (by decide) ?_
  refine wait_step (c := (d, .scVector ((i 0).castLE hcore0) ((i 1).castLE hsub0))) rfl (by decide) ?_
  refine wait_last (c := (d, .scVector ((i 0).castLE hcore0) ((i 1).castLE hsub0))) rfl ?_
  refine (to_groups (c := (d, .scVector ((i 0).castLE hcore0) ((i 1).castLE hsub0))) (k := 2 * k.val + 1) ⟨arg15, arg16, arg17, arg18⟩ ⟨arg23, arg24, arg25, arg26⟩).trans ?_
  refine loop_step (c := (d, .scVector ((i 0).castLE hcore0) ((i 1).castLE hsub0))) (fun t _ => iprop(grpSt (d, .scVector ((i 0).castLE hcore0) ((i 1).castLE hsub0)) arg15 arg16 arg17 arg18 arg23 arg24 arg25 arg26 arg27 arg28 arg29 arg30 v2 v3 v5 v7 v9 v11
      _ _ _ _ _ _ _ _ _ _ _ _ t ∗ _)) (sep_mono (groups_start (c := (d, .scVector ((i 0).castLE hcore0) ((i 1).castLE hsub0))) ⟨arg15, arg16, arg17, arg18⟩ ⟨arg23, arg24, arg25, arg26⟩) .rfl)
    (fun t u => frame_run (t5_trip d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 v22 v25 v28 k0_hw3 v39 v40 k 0#32 hv12 _ _ _ _ _ _ _ _ _ _ _ _ t u) (fun _ => .rfl)) (fun _ => ?_)
  refine (sep_mono (groups_end (c := (d, .scVector ((i 0).castLE hcore0) ((i 1).castLE hsub0))) (k := 2 * k.val + 1) ⟨arg15, arg16, arg17, arg18⟩ ⟨arg23, arg24, arg25, arg26⟩) .rfl).trans ?_
  refine ret_step ?_
  refine ret_step ?_
  iintro ⟨⟨H1, H2, H3⟩, H4, H5, H6, H7⟩
  isplitl [H7]; · iexact H7
  isplitl [H4]; · iexact H4
  isplitl [H2 H3 H6]
  · iapply (again (c := (d, .scVector ((i 0).castLE hcore0) ((i 1).castLE hsub0))) ⟨arg15, arg16, arg17, arg18⟩ ⟨arg23, arg24, arg25, arg26⟩ ⟨arg2, arg3, arg4, arg5, fx, fy, fz, fi⟩ rA rB)
    isplitl [H2]; · iexact H2
    isplitl [H3]; · iexact H3
    iexact H6
  isplitl [H5]; · iexact H5
  iexact H1

end Cert.Proof.Pool
-- ==== Proof.TileStart.lean ====
/-
  The start of a tile's run: the strided ids and the weights come in, the accumulators are cleared, the ids counted.
-/
module

public import proofs.«01_k».proof.Proof.Counts
public import proofs.«01_k».proof.Proof.ChunkLoop

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-- Row `0` of the weights. -/
def wv0 (a : Vec F S4x16 .f32) : Vec F S16 .f32 := k0_pay466 fun x => a ((Rect.unit (s := S4x16) ![0, 0] S1x16.size inb_S4x16_S1x16_0_0).emb x)
/-- Row `1` of the weights. -/
def wv1 (a : Vec F S4x16 .f32) : Vec F S16 .f32 := k0_pay467 fun x => a ((Rect.unit (s := S4x16) ![1, 0] S1x16.size inb_S4x16_S1x16_1_0).emb x)
/-- Row `2` of the weights. -/
def wv2 (a : Vec F S4x16 .f32) : Vec F S16 .f32 := k0_pay468 fun x => a ((Rect.unit (s := S4x16) ![2, 0] S1x16.size inb_S4x16_S1x16_2_0).emb x)
/-- Row `3` of the weights: the bias. -/
def wv3 (a : Vec F S4x16 .f32) : Vec F S16 .f32 := k0_pay469 fun x => a ((Rect.unit (s := S4x16) ![3, 0] S1x16.size inb_S4x16_S1x16_3_0).emb x)

/-- A load of a memref among what is held. -/
theorem load_has {c : Thread nD τ} {α : Type} {P : sProp (MT nD τ sig (HIx 1) (Elt F) ℕ UU ℕ)} {Q : α → sProp (MT nD τ sig (HIx 1) (Elt F) ℕ UU ℕ)}
    {cs : CoreSpace} {s : Shape} {e : EltTy} {m : Memref sig c.2.kind cs s e} {q : PosShare TreeShare} {a : Vec F s e}
    {r : Rect s} {hl : m.view.LoadsAt r} {k : (r.shape.Idx → Elt F e) → Prog (TpuEff nD τ sig (Elt F) Λ₀ c.2) α}
    (hP : Has P (holds c m q a)) (hk : P ⊢ wp frame (wpE (defs₀ (F := F)) 𝒱₀ c none) Set.univ (k fun x => a (r.emb x)) Q) :
    P ⊢ wp frame (wpE (defs₀ (F := F)) 𝒱₀ c none) Set.univ (.op (.load m r hl) k) Q := by
  obtain ⟨R, h, h'⟩ := hP
  refine h.trans ?_
  iintro ⟨H, R⟩
  iapply (wp_load_holds (r := r)) $$ H
  iintro H
  iapply hk
  iapply h'
  isplitl [H]; · iexact H
  iexact R

omit [FloatOps F] in
/-- What is only known is taken out. -/
theorem pure_step {p : Prop} {R X : sProp (MT nD τ sig (HIx 1) (Elt F) ℕ UU ℕ)} (h : p → R ⊢ X) : iprop(⌜p⌝ ∗ R) ⊢ X := by
  iintro ⟨%hp, H⟩
  iapply (h hp) $$ H

omit [FloatOps F] in
theorem accs_zero {c : Thread nD τ} (m0 m1 n0 n1 : Memref sig c.2.kind .vmem S25088 .f32) (a0 a1 b0 b1 z0 z1 y0 y1 : Vec F S25088 .f32) :
    (accs c m0 m1 n0 n1 a0 a1 b0 b1 : sProp 𝕄) = iprop(holds c m0 fullShare (rowTo (64 * 0) z0 a0) ∗ holds c m1 fullShare (rowTo (64 * 0) z1 a1)
      ∗ holds c n0 fullShare (rowTo (64 * 0) y0 b0) ∗ holds c n1 fullShare (rowTo (64 * 0) y1 b1)) := by
  rw [Nat.mul_zero, rowTo_zero, rowTo_zero, rowTo_zero, rowTo_zero]; rfl

omit [FloatOps F] in
theorem accs_all {c : Thread nD τ} (n : ℕ) (hn : n = 392) (m0 m1 n0 n1 : Memref sig c.2.kind .vmem S25088 .f32) (a0 a1 b0 b1 z0 z1 y0 y1 : Vec F S25088 .f32) :
    iprop(holds c m0 fullShare (rowTo (64 * n) z0 a0) ∗ holds c m1 fullShare (rowTo (64 * n) z1 a1)
      ∗ holds c n0 fullShare (rowTo (64 * n) y0 b0) ∗ holds c n1 fullShare (rowTo (64 * n) y1 b1)) = (accs c m0 m1 n0 n1 z0 z1 y0 y1 : sProp 𝕄) := by
  have h : 25088 ≤ 64 * n := by omega
  rw [rowTo_all _ h, rowTo_all _ h, rowTo_all _ h, rowTo_all _ h]; rfl

set_option maxHeartbeats 400000 in
set_option maxRecDepth 100000 in
theorem part65_run (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (f6 : Buf (Elt F) (arg6.view.loc (d, .scVector ((i 0).castLE hcore0) ((i 1).castLE hsub0)))) (f7 : Buf (Elt F) (arg7.view.loc (d, .scVector ((i 0).castLE hcore0) ((i 1).castLE hsub0)))) (q6 q7 : PosShare TreeShare)
    (O : CellTallies nD τ sig (HIx 1)) (W : Waits sig (HIx 1)) (b9 : Vec F S3200 .i32) (b10 : Vec F S4x16 .f32) (a0 a1 b0 b1 : Vec F S25088 .f32)
    {R : sProp (MT nD τ sig (HIx 1) (Elt F) ℕ UU ℕ)} {Q : _ → sProp (MT nD τ sig (HIx 1) (Elt F) ℕ UU ℕ)}
    (hc : k0_chk1 (extractAt ![15] (k0_pay476 (cnts (subs (arg6.view.read (Elt F) f6)) (segA i) 200)) inpos_S16_p15))
    (hk : ∀ hw, iprop((arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ accs (d, .scVector ((i 0).castLE hcore0) ((i 1).castLE hsub0)) arg27 arg28 arg29 arg30 (fun _ => zer) (fun _ => zer) (fun _ => zer) (fun _ => zer) ∗ R)
      ⊢ Q ⟨segA i, segB i, wv0 (arg7.view.read (Elt F) f7), wv1 (arg7.view.read (Elt F) f7), wv2 (arg7.view.read (Elt F) f7), wv3 (arg7.view.read (Elt F) f7), iota .scVector S16 32 [0] iota_S16_d0_w32_scVector,
        (cnts (subs (arg6.view.read (Elt F) f6)) (segB i) 200), (cnts (subs (arg6.view.read (Elt F) f6)) (segE i) 200), (extractAt ![15] (k0_pay476 (cnts (subs (arg6.view.read (Elt F) f6)) (segA i) 200)) inpos_S16_p15), hw⟩) :
    iprop((arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare b9 ∗ holds (d, .scVector ((i 0).castLE hcore0) ((i 1).castLE hsub0)) arg10 fullShare b10 ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ accs (d, .scVector ((i 0).castLE hcore0) ((i 1).castLE hsub0)) arg27 arg28 arg29 arg30 a0 a1 b0 b1 ∗ R)
      ⊢ wp frame (wpE (defs₀ (F := F)) 𝒱₀ (d, .scVector ((i 0).castLE hcore0) ((i 1).castLE hsub0)) none) Set.univ (k0_part65_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3) Q := by
  unfold k0_part65_skel
  refine BIBase.Entails.trans (show iprop((arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare b9 ∗ holds (d, .scVector ((i 0).castLE hcore0) ((i 1).castLE hsub0)) arg10 fullShare b10 ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ accs (d, .scVector ((i 0).castLE hcore0) ((i 1).castLE hsub0)) arg27 arg28 arg29 arg30 a0 a1 b0 b1 ∗ R)
      ⊢ iprop((arg6.view.loc (d, .scVector ((i 0).castLE hcore0) ((i 1).castLE hsub0)) ↦[arg6.view.set]{q6} f6) ∗ holds (d, .scVector ((i 0).castLE hcore0) ((i 1).castLE hsub0)) arg9 fullShare b9 ∗ semVal ((d, .scVector ((i 0).castLE hcore0) ((i 1).castLE hsub0)), SemLoc.dma v180_r0.sem) 0 ∗ ows (d, .scVector ((i 0).castLE hcore0) ((i 1).castLE hsub0)) O W ∗ (arg7.view.loc (d, .scVector ((i 0).castLE hcore0) ((i 1).castLE hsub0)) ↦[arg7.view.set]{q7} f7) ∗ holds (d, .scVector ((i 0).castLE hcore0) ((i 1).castLE hsub0)) arg10 fullShare b10 ∗ semVal ((d, .scVector ((i 0).castLE hcore0) ((i 1).castLE hsub0)), SemLoc.dma v180_r1.sem) 0 ∗ accs (d, .scVector ((i 0).castLE hcore0) ((i 1).castLE hsub0)) arg27 arg28 arg29 arg30 a0 a1 b0 b1 ∗ R) from ?_) ?_
  · iintro ⟨H0, H1, H2, H3, H4, H5, H6, H7, H8⟩
    isplitl [H0]; · iexact H0
    isplitl [H2]; · iexact H2
    isplitl [H4]; · iexact H4
    isplitl [H6]; · iexact H6
    isplitl [H1]; · iexact H1
    isplitl [H3]; · iexact H3
    isplitl [H5]; · iexact H5
    isplitl [H7]; · iexact H7
    iexact H8
  refine copy_step (c := (d, .scVector ((i 0).castLE hcore0) ((i 1).castLE hsub0))) 102400 rfl (by decide) rfl ?_
  refine BIBase.Entails.trans (show iprop((arg6.view.loc (d, .scVector ((i 0).castLE hcore0) ((i 1).castLE hsub0)) ↦[arg6.view.set]{q6} f6) ∗ holds (d, .scVector ((i 0).castLE hcore0) ((i 1).castLE hsub0)) arg9 fullShare (arg6.view.read (Elt F) f6) ∗ semVal ((d, .scVector ((i 0).castLE hcore0) ((i 1).castLE hsub0)), SemLoc.dma v180_r0.sem) 0 ∗ ows (d, .scVector ((i 0).castLE hcore0) ((i 1).castLE hsub0)) O W ∗ (arg7.view.loc (d, .scVector ((i 0).castLE hcore0) ((i 1).castLE hsub0)) ↦[arg7.view.set]{q7} f7) ∗ holds (d, .scVector ((i 0).castLE hcore0) ((i 1).castLE hsub0)) arg10 fullShare b10 ∗ semVal ((d, .scVector ((i 0).castLE hcore0) ((i 1).castLE hsub0)), SemLoc.dma v180_r1.sem) 0 ∗ accs (d, .scVector ((i 0).castLE hcore0) ((i 1).castLE hsub0)) arg27 arg28 arg29 arg30 a0 a1 b0 b1 ∗ R)
      ⊢ iprop((arg7.view.loc (d, .scVector ((i 0).castLE hcore0) ((i 1).castLE hsub0)) ↦[arg7.view.set]{q7} f7) ∗ holds (d, .scVector ((i 0).castLE hcore0) ((i 1).castLE hsub0)) arg10 fullShare b10 ∗ semVal ((d, .scVector ((i 0).castLE hcore0) ((i 1).castLE hsub0)), SemLoc.dma v180_r1.sem) 0 ∗ ows (d, .scVector ((i 0).castLE hcore0) ((i 1).castLE hsub0)) O W ∗ (arg6.view.loc (d, .scVector ((i 0).castLE hcore0) ((i 1).castLE hsub0)) ↦[arg6.view.set]{q6} f6) ∗ holds (d, .scVector ((i 0).castLE hcore0) ((i 1).castLE hsub0)) arg9 fullShare (arg6.view.read (Elt F) f6) ∗ semVal ((d, .scVector ((i 0).castLE hcore0) ((i 1).castLE hsub0)), SemLoc.dma v180_r0.sem) 0 ∗ accs (d, .scVector ((i 0).castLE hcore0) ((i 1).castLE hsub0)) arg27 arg28 arg29 arg30 a0 a1 b0 b1 ∗ R) from ?_) ?_
  · iintro ⟨H0, H1, H2, H3, H4, H5, H6, H7, H8⟩
    isplitl [H4]; · iexact H4
    isplitl [H5]; · iexact H5
    isplitl [H6]; · iexact H6
    isplitl [H3]; · iexact H3
    isplitl [H0]; · iexact H0
    isplitl [H1]; · iexact H1
    isplitl [H2]; · iexact H2
    isplitl [H7]; · iexact H7
    iexact H8
  refine copy_step (c := (d, .scVector ((i 0).castLE hcore0) ((i 1).castLE hsub0))) 2048 rfl (by decide) rfl ?_
  refine load_has (c := (d, .scVector ((i 0).castLE hcore0) ((i 1).castLE hsub0))) (.right .here) ?_
  refine load_has (c := (d, .scVector ((i 0).castLE hcore0) ((i 1).castLE hsub0))) (.right .here) ?_
  refine load_has (c := (d, .scVector ((i 0).castLE hcore0) ((i 1).castLE hsub0))) (.right .here) ?_
  refine load_has (c := (d, .scVector ((i 0).castLE hcore0) ((i 1).castLE hsub0))) (.right .here) ?_
  refine BIBase.Entails.trans (show iprop((arg7.view.loc (d, .scVector ((i 0).castLE hcore0) ((i 1).castLE hsub0)) ↦[arg7.view.set]{q7} f7) ∗ holds (d, .scVector ((i 0).castLE hcore0) ((i 1).castLE hsub0)) arg10 fullShare (arg7.view.read (Elt F) f7) ∗ semVal ((d, .scVector ((i 0).castLE hcore0) ((i 1).castLE hsub0)), SemLoc.dma v180_r1.sem) 0 ∗ ows (d, .scVector ((i 0).castLE hcore0) ((i 1).castLE hsub0)) O W ∗ (arg6.view.loc (d, .scVector ((i 0).castLE hcore0) ((i 1).castLE hsub0)) ↦[arg6.view.set]{q6} f6) ∗ holds (d, .scVector ((i 0).castLE hcore0) ((i 1).castLE hsub0)) arg9 fullShare (arg6.view.read (Elt F) f6) ∗ semVal ((d, .scVector ((i 0).castLE hcore0) ((i 1).castLE hsub0)), SemLoc.dma v180_r0.sem) 0 ∗ accs (d, .scVector ((i 0).castLE hcore0) ((i 1).castLE hsub0)) arg27 arg28 arg29 arg30 a0 a1 b0 b1 ∗ R)
      ⊢ iprop(accs (d, .scVector ((i 0).castLE hcore0) ((i 1).castLE hsub0)) arg27 arg28 arg29 arg30 a0 a1 b0 b1 ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ R) from ?_) ?_
  · iintro ⟨H0, H1, H2, H3, H4, H5, H6, H7, H8⟩
    isplitl [H7]; · iexact H7
    isplitl [H4]; · iexact H4
    isplitl [H0]; · iexact H0
    isplitl [H5]; · iexact H5
    isplitl [H1]; · iexact H1
    isplitl [H6]; · iexact H6
    isplitl [H2]; · iexact H2
    isplitl [H3]; · iexact H3
    iexact H8
  refine (sep_mono (Entails.of_eq (accs_zero (c := (d, .scVector ((i 0).castLE hcore0) ((i 1).castLE hsub0))) arg27 arg28 arg29 arg30 a0 a1 b0 b1 (fun _ => zer) (fun _ => zer) (fun _ => zer) (fun _ => zer))) .rfl).trans ?_
  refine loop_step (c := (d, .scVector ((i 0).castLE hcore0) ((i 1).castLE hsub0))) (fun t _ => iprop((holds (d, .scVector ((i 0).castLE hcore0) ((i 1).castLE hsub0)) arg27 fullShare (rowTo (64 * t) (fun _ => zer) a0) ∗ holds (d, .scVector ((i 0).castLE hcore0) ((i 1).castLE hsub0)) arg28 fullShare (rowTo (64 * t) (fun _ => zer) a1) ∗ holds (d, .scVector ((i 0).castLE hcore0) ((i 1).castLE hsub0)) arg29 fullShare (rowTo (64 * t) (fun _ => zer) b0) ∗ holds (d, .scVector ((i 0).castLE hcore0) ((i 1).castLE hsub0)) arg30 fullShare (rowTo (64 * t) (fun _ => zer) b1)) ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ R)) .rfl
    (fun t u => frame_run (t1_trip d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 t u a0 a1 b0 b1) (fun _ => .rfl)) (fun _ => ?_)
  refine (sep_mono (Entails.of_eq (accs_all (c := (d, .scVector ((i 0).castLE hcore0) ((i 1).castLE hsub0))) _ rfl arg27 arg28 arg29 arg30 a0 a1 b0 b1 _ _ _ _)) .rfl).trans ?_
  refine BIBase.Entails.trans (show iprop(accs (d, .scVector ((i 0).castLE hcore0) ((i 1).castLE hsub0)) arg27 arg28 arg29 arg30 (fun _ => zer) (fun _ => zer) (fun _ => zer) (fun _ => zer) ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ R)
      ⊢ iprop(holds (d, .scVector ((i 0).castLE hcore0) ((i 1).castLE hsub0)) arg9 fullShare (arg6.view.read (Elt F) f6) ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ accs (d, .scVector ((i 0).castLE hcore0) ((i 1).castLE hsub0)) arg27 arg28 arg29 arg30 (fun _ => zer) (fun _ => zer) (fun _ => zer) (fun _ => zer) ∗ R) from ?_) ?_
  · iintro ⟨H0, H1, H2, H3, H4, H5, H6, H7, H8⟩
    isplitl [H3]; · iexact H3
    isplitl [H1]; · iexact H1
    isplitl [H2]; · iexact H2
    isplitl [H4]; · iexact H4
    isplitl [H5]; · iexact H5
    isplitl [H6]; · iexact H6
    isplitl [H7]; · iexact H7
    isplitl [H0]; · iexact H0
    iexact H8
  refine loop_step (c := (d, .scVector ((i 0).castLE hcore0) ((i 1).castLE hsub0))) (fun t acc => iprop(⌜acc = ((cnts (subs (arg6.view.read (Elt F) f6)) (segA i) t), (cnts (subs (arg6.view.read (Elt F) f6)) (segB i) t), (cnts (subs (arg6.view.read (Elt F) f6)) (segE i) t))⌝ ∗ holds (d, .scVector ((i 0).castLE hcore0) ((i 1).castLE hsub0)) arg9 fullShare (arg6.view.read (Elt F) f6) ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ accs (d, .scVector ((i 0).castLE hcore0) ((i 1).castLE hsub0)) arg27 arg28 arg29 arg30 (fun _ => zer) (fun _ => zer) (fun _ => zer) (fun _ => zer) ∗ R)) ?_ (fun t acc => ?_) (fun acc => ?_)
  · iintro H
    isplitr
    · ipureintro; rw [cnts_zero, cnts_zero, cnts_zero]
    iexact H
  · iintro ⟨%h, H⟩
    subst h
    iapply (frame_run (c := (d, .scVector ((i 0).castLE hcore0) ((i 1).castLE hsub0))) (t2_trip d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 t (arg6.view.read (Elt F) f6)) (fun x => ?_)) $$ H
    iintro ⟨⟨%h, H⟩, HR⟩
    isplitr; · ipureintro; exact h
    isplitl [H]; · iexact H
    iexact HR
  refine pure_step fun h => ?_
  have h : acc = ((cnts (subs (arg6.view.read (Elt F) f6)) (segA i) 200), (cnts (subs (arg6.view.read (Elt F) f6)) (segB i) 200), (cnts (subs (arg6.view.read (Elt F) f6)) (segE i) 200)) := h
  subst h
  refine wp_assume_true (c := (d, .scVector ((i 0).castLE hcore0) ((i 1).castLE hsub0))) hc ?_
  refine ret_step (c := (d, .scVector ((i 0).castLE hcore0) ((i 1).castLE hsub0))) ?_
  refine BIBase.Entails.trans (show iprop(holds (d, .scVector ((i 0).castLE hcore0) ((i 1).castLE hsub0)) arg9 fullShare (arg6.view.read (Elt F) f6) ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ accs (d, .scVector ((i 0).castLE hcore0) ((i 1).castLE hsub0)) arg27 arg28 arg29 arg30 (fun _ => zer) (fun _ => zer) (fun _ => zer) (fun _ => zer) ∗ R)
      ⊢ iprop((arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ accs (d, .scVector ((i 0).castLE hcore0) ((i 1).castLE hsub0)) arg27 arg28 arg29 arg30 (fun _ => zer) (fun _ => zer) (fun _ => zer) (fun _ => zer) ∗ R) from ?_) ?_
  · iintro ⟨H0, H1, H2, H3, H4, H5, H6, H7, H8⟩
    isplitl [H1]; · iexact H1
    isplitl [H2]; · iexact H2
    isplitl [H0]; · iexact H0
    isplitl [H3]; · iexact H3
    isplitl [H4]; · iexact H4
    isplitl [H5]; · iexact H5
    isplitl [H6]; · iexact H6
    isplitl [H7]; · iexact H7
    iexact H8
  exact hk _

end Cert.Proof.Pool
-- ==== Proof.TileParts.lean ====
/-
  A tile's run: its two windows' rows from the streams, the strided ids and the weights.
-/
module

public import proofs.«01_k».proof.Proof.TileStart

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-- A window's rows: the points of `N` chunks taken in, even points apart from odd ones, and the two merged. -/
def res (lo n : BitVec 32) (w0 w1 w2 w3 : Vec F S16 .f32) (X Y Z : Vec F S3200000 .f32) (I : Vec F S3200000 .i32) (off : ℕ → ℕ) (N : ℕ) : Vec F S25088 .f32 :=
  maximumf (taken lo n w0 w1 w2 w3 X Y Z I off 0 N (fun _ => zer))
    (taken lo n w0 w1 w2 w3 X Y Z I off 1 N (fun _ => zer))

/-- Where the first window's rows go. -/
abbrev outA (m : Memref sig .scVector .hbm S1600000 .f32) (i : grid0.Coords) : Memref sig .scVector .hbm S25008 .f32 :=
  m.slice (Rect.unit (s := S1600000) (k0_off14 i) S25008.size (k0_off14_inb i)) (fun _ => rfl)
/-- Where the second window's rows go. -/
abbrev outB (m : Memref sig .scVector .hbm S1600000 .f32) (i : grid0.Coords) : Memref sig .scVector .hbm S24992 .f32 :=
  m.slice (Rect.unit (s := S1600000) (k0_off15 i) S24992.size (k0_off15_inb i)) (fun _ => rfl)

theorem accs_start {c : Thread nD τ} {m0 m1 n0 n1 : Memref sig c.2.kind .vmem S25088 .f32} {v2 v3 : BitVec 32} {v5 v7 v9 v11 : Vec F S16 .f32}
    {s : Strms F c} {nA nB : ℕ → ℕ} {a0 a1 b0 b1 : Vec F S25088 .f32} :
    accs c m0 m1 n0 n1 a0 a1 b0 b1 ⊢ accsAt c m0 m1 n0 n1 v2 v3 v5 v7 v9 v11 s nA nB a0 a1 b0 b1 (2 * 0) := by
  unfold accsAt taken
  rw [Nat.mul_zero, List.range_zero, List.foldl_nil, List.foldl_nil, List.foldl_nil, List.foldl_nil]

/-- The rows from all the chunks. -/
theorem accs_merge {c : Thread nD τ} {m0 m1 n0 n1 : Memref sig c.2.kind .vmem S25088 .f32} {v2 v3 : BitVec 32} {v5 v7 v9 v11 : Vec F S16 .f32}
    {s : Strms F c} {nA nB : ℕ → ℕ} {a0 a1 b0 b1 : Vec F S25088 .f32} {N : ℕ} :
    ∃ a a' b b' : Vec F S25088 .f32, (maximumf a a' = maximumf (taken v2 1563#32 v5 v7 v9 v11 s.X s.Y s.Z s.I nA 0 N a0) (taken v2 1563#32 v5 v7 v9 v11 s.X s.Y s.Z s.I nA 1 N a1))
      ∧ (maximumf b b' = maximumf (taken v3 1562#32 v5 v7 v9 v11 s.X s.Y s.Z s.I nB 0 N b0) (taken v3 1562#32 v5 v7 v9 v11 s.X s.Y s.Z s.I nB 1 N b1))
      ∧ (accsAt c m0 m1 n0 n1 v2 v3 v5 v7 v9 v11 s nA nB a0 a1 b0 b1 N ⊢ iprop(holds c m0 fullShare (rowTo (64 * 0) (maximumf a a') a) ∗ holds c m1 fullShare a'
        ∗ holds c n0 fullShare (rowTo (64 * 0) (maximumf b b') b) ∗ holds c n1 fullShare b')) :=
  ⟨_, _, _, _, rfl, rfl, by rw [Nat.mul_zero, rowTo_zero, rowTo_zero]; unfold accsAt accs; exact .rfl⟩

omit [FloatOps F] in
theorem merged {c : Thread nD τ} (n : ℕ) (hn : n = 392) (m0 m1 n0 n1 : Memref sig c.2.kind .vmem S25088 .f32) (a a' b b' : Vec F S25088 .f32) {z y z' y' : Vec F S25088 .f32} (hz : z = z') (hy : y = y') :
    iprop(holds c m0 fullShare (rowTo (64 * n) z a) ∗ holds c m1 fullShare a' ∗ holds c n0 fullShare (rowTo (64 * n) y b) ∗ holds c n1 fullShare b')
      ⊢ (accs c m0 m1 n0 n1 z' a' y' b' : sProp 𝕄) := by
  subst hz; subst hy
  have h : 25088 ≤ 64 * n := by omega
  rw [rowTo_all _ h, rowTo_all _ h]; unfold accs; exact .rfl

omit [FloatOps F] in
theorem creditA (v : View sig .scVector .hbm S25008 .f32) : v.dmaCredit = 800256 := rfl
omit [FloatOps F] in
theorem creditB (v : View sig .scVector .hbm S24992 .f32) : v.dmaCredit = 799744 := rfl

set_option maxRecDepth 100000 in
/-- The first window is copied out. -/
theorem outA_copy (d : Dev nD) (i : grid0.Coords) (arg8 : Memref sig .scVector .hbm S1600000 .f32) (m : Memref sig .scVector .vmem S25088 .f32)
    {sem : DmaSem sig} {hsrc} {hdst} {hsem} {hsrcw} {hdstw} {α : Type}
    {q : PosShare TreeShare} {a : Vec F S25088 .f32} {b : Vec F S25008 .f32} {O : CellTallies nD τ sig (HIx 1)} {W : Waits sig (HIx 1)}
    {k : PUnit → Prog (TpuEff nD τ sig (Elt F) Λ₀ (.scVector ((i 0).castLE hcore0) ((i 1).castLE hsub0))) α}
    {R : sProp (MT nD τ sig (HIx 1) (Elt F) ℕ UU ℕ)} {Q : α → sProp (MT nD τ sig (HIx 1) (Elt F) ℕ UU ℕ)}
    (hk : iprop(holds (d, .scVector ((i 0).castLE hcore0) ((i 1).castLE hsub0)) m q a ∗ holds (d, .scVector ((i 0).castLE hcore0) ((i 1).castLE hsub0)) (outA arg8 i) fullShare (fun x => a ((Rect.unit (s := S25088) ![0] S25008.size inb_S25088_S25008_0).emb x)) ∗ semVal ((d, .scVector ((i 0).castLE hcore0) ((i 1).castLE hsub0)), .dma sem) 0 ∗ ows (d, .scVector ((i 0).castLE hcore0) ((i 1).castLE hsub0)) O W ∗ R)
      ⊢ wp frame (wpE (defs₀ (F := F)) 𝒱₀ (d, .scVector ((i 0).castLE hcore0) ((i 1).castLE hsub0)) none) Set.univ (k ⟨⟩) Q) :
    iprop(holds (d, .scVector ((i 0).castLE hcore0) ((i 1).castLE hsub0)) m q a ∗ holds (d, .scVector ((i 0).castLE hcore0) ((i 1).castLE hsub0)) (outA arg8 i) fullShare b ∗ semVal ((d, .scVector ((i 0).castLE hcore0) ((i 1).castLE hsub0)), .dma sem) 0 ∗ ows (d, .scVector ((i 0).castLE hcore0) ((i 1).castLE hsub0)) O W ∗ R)
      ⊢ wp frame (wpE (defs₀ (F := F)) 𝒱₀ (d, .scVector ((i 0).castLE hcore0) ((i 1).castLE hsub0)) none) Set.univ
        (.op (.enqueueDmaAs (m.slice (Rect.unit (s := S25088) ![0] S25008.size inb_S25088_S25008_0) (fun _ => rfl)) (.here (outA arg8 i)) .same (.dma sem) hsrc hdst hsem) fun _ =>
          .op (.waitDma2 sem (m.slice (Rect.unit (s := S25088) ![0] S25008.size inb_S25088_S25008_0) (fun _ => rfl)) (outA arg8 i) hsrcw hdstw) k) Q :=
  copy_part_step (c := (d, .scVector ((i 0).castLE hcore0) ((i 1).castLE hsub0))) (m := m) (r := Rect.unit (s := S25088) ![0] S25008.size inb_S25088_S25008_0) (dst := outA arg8 i) 800256 (creditA _) (by decide) (creditA _) hk

set_option maxRecDepth 100000 in
/-- The second window is copied out. -/
theorem outB_copy (d : Dev nD) (i : grid0.Coords) (arg8 : Memref sig .scVector .hbm S1600000 .f32) (m : Memref sig .scVector .vmem S25088 .f32)
    {sem : DmaSem sig} {hsrc} {hdst} {hsem} {hsrcw} {hdstw} {α : Type}
    {q : PosShare TreeShare} {a : Vec F S25088 .f32} {b : Vec F S24992 .f32} {O : CellTallies nD τ sig (HIx 1)} {W : Waits sig (HIx 1)}
    {k : PUnit → Prog (TpuEff nD τ sig (Elt F) Λ₀ (.scVector ((i 0).castLE hcore0) ((i 1).castLE hsub0))) α}
    {R : sProp (MT nD τ sig (HIx 1) (Elt F) ℕ UU ℕ)} {Q : α → sProp (MT nD τ sig (HIx 1) (Elt F) ℕ UU ℕ)}
    (hk : iprop(holds (d, .scVector ((i 0).castLE hcore0) ((i 1).castLE hsub0)) m q a ∗ holds (d, .scVector ((i 0).castLE hcore0) ((i 1).castLE hsub0)) (outB arg8 i) fullShare (fun x => a ((Rect.unit (s := S25088) ![0] S24992.size inb_S25088_S24992_0).emb x)) ∗ semVal ((d, .scVector ((i 0).castLE hcore0) ((i 1).castLE hsub0)), .dma sem) 0 ∗ ows (d, .scVector ((i 0).castLE hcore0) ((i 1).castLE hsub0)) O W ∗ R)
      ⊢ wp frame (wpE (defs₀ (F := F)) 𝒱₀ (d, .scVector ((i 0).castLE hcore0) ((i 1).castLE hsub0)) none) Set.univ (k ⟨⟩) Q) :
    iprop(holds (d, .scVector ((i 0).castLE hcore0) ((i 1).castLE hsub0)) m q a ∗ holds (d, .scVector ((i 0).castLE hcore0) ((i 1).castLE hsub0)) (outB arg8 i) fullShare b ∗ semVal ((d, .scVector ((i 0).castLE hcore0) ((i 1).castLE hsub0)), .dma sem) 0 ∗ ows (d, .scVector ((i 0).castLE hcore0) ((i 1).castLE hsub0)) O W ∗ R)
      ⊢ wp frame (wpE (defs₀ (F := F)) 𝒱₀ (d, .scVector ((i 0).castLE hcore0) ((i 1).castLE hsub0)) none) Set.univ
        (.op (.enqueueDmaAs (m.slice (Rect.unit (s := S25088) ![0] S24992.size inb_S25088_S24992_0) (fun _ => rfl)) (.here (outB arg8 i)) .same (.dma sem) hsrc hdst hsem) fun _ =>
          .op (.waitDma2 sem (m.slice (Rect.unit (s := S25088) ![0] S24992.size inb_S25088_S24992_0) (fun _ => rfl)) (outB arg8 i) hsrcw hdstw) k) Q :=
  copy_part_step (c := (d, .scVector ((i 0).castLE hcore0) ((i 1).castLE hsub0))) (m := m) (r := Rect.unit (s := S25088) ![0] S24992.size inb_S25088_S24992_0) (dst := outB arg8 i) 799744 (creditB _) (by decide) (creditB _) hk

set_option maxHeartbeats 1000000 in
set_option maxRecDepth 100000 in
/-- The first chunk's copies are issued, all but the last. -/
theorem part68_run (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (v22 : BitVec 32) (k0_hw1 : k0_chk1 v22) (v25 : BitVec 32) (k0_hw2 : k0_chk2 v25) (v40 : BitVec 32) (v100 : BitVec 32) (c3198976_i32 : BitVec 32)
    (fx : Buf (Elt F) (arg2.view.loc (d, .scVector ((i 0).castLE hcore0) ((i 1).castLE hsub0)))) (fy : Buf (Elt F) (arg3.view.loc (d, .scVector ((i 0).castLE hcore0) ((i 1).castLE hsub0))))
    (fz : Buf (Elt F) (arg4.view.loc (d, .scVector ((i 0).castLE hcore0) ((i 1).castLE hsub0)))) (fi : Buf (Elt F) (arg5.view.loc (d, .scVector ((i 0).castLE hcore0) ((i 1).castLE hsub0))))
    (qA qB : PosShare TreeShare) (nA nB : ℕ → ℕ) (hA : k0_off3 v22 0 = nA (2 * 0)) (hB : k0_off4 v25 0 = nB (2 * 0)) {R : sProp (MT nD τ sig (HIx 1) (Elt F) ℕ UU ℕ)} {Q : PUnit → sProp (MT nD τ sig (HIx 1) (Elt F) ℕ UU ℕ)}
    (hk : iprop(Batch EC (d, .scVector ((i 0).castLE hcore0) ((i 1).castLE hsub0)) (.dma arg31.sem) (default : HIx 1) 32768 (dels2 (c := (d, .scVector ((i 0).castLE hcore0) ((i 1).castLE hsub0))) ⟨arg11, arg12, arg13, arg14⟩ ⟨arg19, arg20, arg21, arg22⟩ ⟨arg2, arg3, arg4, arg5, fx, fy, fz, fi⟩ qA qB (nA (2 * 0)) (nB (2 * 0))) 7 0 ∗ (lent (d, .scVector ((i 0).castLE hcore0) ((i 1).castLE hsub0)) arg4 qB fz (nB (2 * 0)) ∗ lent (d, .scVector ((i 0).castLE hcore0) ((i 1).castLE hsub0)) arg3 qB fy (nB (2 * 0)) ∗ lent (d, .scVector ((i 0).castLE hcore0) ((i 1).castLE hsub0)) arg2 qB fx (nB (2 * 0)) ∗ lent (d, .scVector ((i 0).castLE hcore0) ((i 1).castLE hsub0)) arg5 qA fi (nA (2 * 0)) ∗ lent (d, .scVector ((i 0).castLE hcore0) ((i 1).castLE hsub0)) arg4 qA fz (nA (2 * 0)) ∗ lent (d, .scVector ((i 0).castLE hcore0) ((i 1).castLE hsub0)) arg3 qA fy (nA (2 * 0)) ∗ lent (d, .scVector ((i 0).castLE hcore0) ((i 1).castLE hsub0)) arg2 qA fx (nA (2 * 0)) ∗ emp) ∗ idle (d, .scVector ((i 0).castLE hcore0) ((i 1).castLE hsub0)) arg22 arg5 qB fi ∗ R) ⊢ Q ⟨⟩) :
    iprop(semVal ((d, .scVector ((i 0).castLE hcore0) ((i 1).castLE hsub0)), SemLoc.dma arg31.sem) 0 ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ R) ⊢ wp frame (wpE (defs₀ (F := F)) 𝒱₀ (d, .scVector ((i 0).castLE hcore0) ((i 1).castLE hsub0)) none) Set.univ (k0_part68_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v22 k0_hw1 v25 k0_hw2 v40 v100 c3198976_i32) Q := by
  unfold k0_part68_skel
  refine (sep_mono .rfl (idles_open (c := (d, .scVector ((i 0).castLE hcore0) ((i 1).castLE hsub0))) ⟨arg11, arg12, arg13, arg14⟩ ⟨arg19, arg20, arg21, arg22⟩ ⟨arg2, arg3, arg4, arg5, fx, fy, fz, fi⟩ qA qB)).trans ?_
  refine round_start (c := (d, .scVector ((i 0).castLE hcore0) ((i 1).castLE hsub0))) (D := (dels2 (c := (d, .scVector ((i 0).castLE hcore0) ((i 1).castLE hsub0))) ⟨arg11, arg12, arg13, arg14⟩ ⟨arg19, arg20, arg21, arg22⟩ ⟨arg2, arg3, arg4, arg5, fx, fy, fz, fi⟩ qA qB (nA (2 * 0)) (nB (2 * 0)))) ?_
  refine issue_step (c := (d, .scVector ((i 0).castLE hcore0) ((i 1).castLE hsub0))) (dst := arg11) (m := arg2) (q := qA) (f := fx) 0 (nA (2 * 0)) (by decide) hA rfl rfl ?_
  refine issue_step (c := (d, .scVector ((i 0).castLE hcore0) ((i 1).castLE hsub0))) (dst := arg12) (m := arg3) (q := qA) (f := fy) 1 (nA (2 * 0)) (by decide) hA rfl rfl ?_
  refine issue_step (c := (d, .scVector ((i 0).castLE hcore0) ((i 1).castLE hsub0))) (dst := arg13) (m := arg4) (q := qA) (f := fz) 2 (nA (2 * 0)) (by decide) hA rfl rfl ?_
  refine issue_step (c := (d, .scVector ((i 0).castLE hcore0) ((i 1).castLE hsub0))) (dst := arg14) (m := arg5) (q := qA) (f := fi) 3 (nA (2 * 0)) (by decide) hA rfl rfl ?_
  refine issue_step (c := (d, .scVector ((i 0).castLE hcore0) ((i 1).castLE hsub0))) (dst := arg19) (m := arg2) (q := qB) (f := fx) 4 (nB (2 * 0)) (by decide) hB rfl rfl ?_
  refine issue_step (c := (d, .scVector ((i 0).castLE hcore0) ((i 1).castLE hsub0))) (dst := arg20) (m := arg3) (q := qB) (f := fy) 5 (nB (2 * 0)) (by decide) hB rfl rfl ?_
  refine issue_step (c := (d, .scVector ((i 0).castLE hcore0) ((i 1).castLE hsub0))) (dst := arg21) (m := arg4) (q := qB) (f := fz) 6 (nB (2 * 0)) (by decide) hB rfl rfl ?_
  exact ret_step (c := (d, .scVector ((i 0).castLE hcore0) ((i 1).castLE hsub0))) hk

set_option maxHeartbeats 1000000 in
set_option maxRecDepth 100000 in
/-- The last of those copies, and the chunk loop. -/
theorem part69_run (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (v2 : BitVec 32) (v3 : BitVec 32) (v5 : Vec F S16 .f32) (v7 : Vec F S16 .f32) (v9 : Vec F S16 .f32) (v11 : Vec F S16 .f32) (v12 : IVec S16 32) (v22 : BitVec 32) (v25 : BitVec 32) (k0_hw2 : k0_chk2 v25) (v28 : BitVec 32) (k0_hw3 : k0_chk3 v22 v25 v28) (v39 : BitVec 32) (v40 : BitVec 32) (v99 : BitVec 32)
    (fx : Buf (Elt F) (arg2.view.loc (d, .scVector ((i 0).castLE hcore0) ((i 1).castLE hsub0)))) (fy : Buf (Elt F) (arg3.view.loc (d, .scVector ((i 0).castLE hcore0) ((i 1).castLE hsub0))))
    (fz : Buf (Elt F) (arg4.view.loc (d, .scVector ((i 0).castLE hcore0) ((i 1).castLE hsub0)))) (fi : Buf (Elt F) (arg5.view.loc (d, .scVector ((i 0).castLE hcore0) ((i 1).castLE hsub0))))
    (qA qB rA rB : PosShare TreeShare) (O : CellTallies nD τ sig (HIx 1)) (W : Waits sig (HIx 1)) (a0 a1 b0 b1 : Vec F S25088 .f32) {a b e : ℕ}
    (h22 : v22 = BitVec.ofNat 32 a) (h25 : v25 = BitVec.ofNat 32 b) (h28 : v28 = BitVec.ofNat 32 e) (hab : a ≤ b) (hbe : b ≤ e) (he : e ≤ 3125)
    (hv12 : ∀ x, v12 x = BitVec.ofNat 32 (x 0).val) {R : sProp (MT nD τ sig (HIx 1) (Elt F) ℕ UU ℕ)} {Q : PUnit → sProp (MT nD τ sig (HIx 1) (Elt F) ℕ UU ℕ)}
    (hk : iprop(Batch EC (d, .scVector ((i 0).castLE hcore0) ((i 1).castLE hsub0)) (.dma arg31.sem) (default : HIx 1) 32768 (dels2 (c := (d, .scVector ((i 0).castLE hcore0) ((i 1).castLE hsub0))) ⟨arg11, arg12, arg13, arg14⟩ ⟨arg19, arg20, arg21, arg22⟩ ⟨arg2, arg3, arg4, arg5, fx, fy, fz, fi⟩ qA qB (chunkAt a (2 * rounds a b e)) (chunkAt b (2 * rounds a b e))) 8 163840 ∗ ows (d, .scVector ((i 0).castLE hcore0) ((i 1).castLE hsub0)) O W ∗ lents (c := (d, .scVector ((i 0).castLE hcore0) ((i 1).castLE hsub0))) ⟨arg2, arg3, arg4, arg5, fx, fy, fz, fi⟩ qA qB (chunkAt a (2 * rounds a b e)) (chunkAt b (2 * rounds a b e)) ∗ accsAt (d, .scVector ((i 0).castLE hcore0) ((i 1).castLE hsub0)) arg27 arg28 arg29 arg30 v2 v3 v5 v7 v9 v11 ⟨arg2, arg3, arg4, arg5, fx, fy, fz, fi⟩ (chunkAt a) (chunkAt b) a0 a1 b0 b1 (2 * rounds a b e) ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ R) ⊢ Q ⟨⟩) :
    iprop(Batch EC (d, .scVector ((i 0).castLE hcore0) ((i 1).castLE hsub0)) (.dma arg31.sem) (default : HIx 1) 32768 (dels2 (c := (d, .scVector ((i 0).castLE hcore0) ((i 1).castLE hsub0))) ⟨arg11, arg12, arg13, arg14⟩ ⟨arg19, arg20, arg21, arg22⟩ ⟨arg2, arg3, arg4, arg5, fx, fy, fz, fi⟩ qA qB (chunkAt a (2 * 0)) (chunkAt b (2 * 0))) 7 0 ∗ (lent (d, .scVector ((i 0).castLE hcore0) ((i 1).castLE hsub0)) arg4 qB fz (chunkAt b (2 * 0)) ∗ lent (d, .scVector ((i 0).castLE hcore0) ((i 1).castLE hsub0)) arg3 qB fy (chunkAt b (2 * 0)) ∗ lent (d, .scVector ((i 0).castLE hcore0) ((i 1).castLE hsub0)) arg2 qB fx (chunkAt b (2 * 0)) ∗ lent (d, .scVector ((i 0).castLE hcore0) ((i 1).castLE hsub0)) arg5 qA fi (chunkAt a (2 * 0)) ∗ lent (d, .scVector ((i 0).castLE hcore0) ((i 1).castLE hsub0)) arg4 qA fz (chunkAt a (2 * 0)) ∗ lent (d, .scVector ((i 0).castLE hcore0) ((i 1).castLE hsub0)) arg3 qA fy (chunkAt a (2 * 0)) ∗ lent (d, .scVector ((i 0).castLE hcore0) ((i 1).castLE hsub0)) arg2 qA fx (chunkAt a (2 * 0)) ∗ emp) ∗ idle (d, .scVector ((i 0).castLE hcore0) ((i 1).castLE hsub0)) arg22 arg5 qB fi ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ ows (d, .scVector ((i 0).castLE hcore0) ((i 1).castLE hsub0)) O W ∗ accs (d, .scVector ((i 0).castLE hcore0) ((i 1).castLE hsub0)) arg27 arg28 arg29 arg30 a0 a1 b0 b1 ∗ R)
      ⊢ wp frame (wpE (defs₀ (F := F)) 𝒱₀ (d, .scVector ((i 0).castLE hcore0) ((i 1).castLE hsub0)) none) Set.univ (k0_part69_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 v22 v25 k0_hw2 v28 k0_hw3 v39 v40 v99) Q := by
  unfold k0_part69_skel
  refine issue_step (c := (d, .scVector ((i 0).castLE hcore0) ((i 1).castLE hsub0))) (dst := arg22) (m := arg5) (q := qB) (f := fi) 7 (chunkAt b (2 * 0)) (by decide) (off4_eq h25 (by omega)) rfl rfl ?_
  refine loop_step (c := (d, .scVector ((i 0).castLE hcore0) ((i 1).castLE hsub0))) (fun t _ => iprop(t3Inv (d, .scVector ((i 0).castLE hcore0) ((i 1).castLE hsub0)) arg31.sem arg32.sem ⟨arg11, arg12, arg13, arg14⟩ ⟨arg19, arg20, arg21, arg22⟩ ⟨arg15, arg16, arg17, arg18⟩ ⟨arg23, arg24, arg25, arg26⟩ arg27 arg28 arg29 arg30 v2 v3 v5 v7 v9 v11 ⟨arg2, arg3, arg4, arg5, fx, fy, fz, fi⟩ qA qB rA rB (chunkAt a) (chunkAt b) O W a0 a1 b0 b1 t ∗ R)) ?_
    (fun k u => frame_run (t3_trip d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 v5 v7 v9 v11 v12 v22 v25 k0_hw2 v28 k0_hw3 v39 v40 v99 hv12 k u fx fy fz fi qA qB rA rB (chunkAt a) (chunkAt b)
      (off5_eq h22 h25 h28 hab hbe he k) (off6_eq h22 h25 h28 hab hbe he k) O W a0 a1 b0 b1 _ rfl) (fun _ => .rfl)) (fun _ => ?_)
  · unfold t3Inv flight lents
    iintro ⟨H1, H2, H3, H4, H5, H6, H7⟩
    isplitl [H1 H2 H3 H4 H5 H6]
    · isplitl [H1 H2]
      · isplitl [H1]; · iexact H1
        iexact H2
      isplitl [H3]; · iexact H3
      isplitl [H4]; · iexact H4
      isplitl [H5]; · iexact H5
      iapply (accs_start (c := (d, .scVector ((i 0).castLE hcore0) ((i 1).castLE hsub0)))) $$ H6
    iexact H7
  refine (sep_mono (Entails.of_eq (congrArg (fun n => t3Inv (d, .scVector ((i 0).castLE hcore0) ((i 1).castLE hsub0)) arg31.sem arg32.sem ⟨arg11, arg12, arg13, arg14⟩ ⟨arg19, arg20, arg21, arg22⟩ ⟨arg15, arg16, arg17, arg18⟩ ⟨arg23, arg24, arg25, arg26⟩ arg27 arg28 arg29 arg30 v2 v3 v5 v7 v9 v11 ⟨arg2, arg3, arg4, arg5, fx, fy, fz, fi⟩ qA qB rA rB (chunkAt a) (chunkAt b) O W a0 a1 b0 b1 n) (t3_trips h22 h25 h28 hab hbe he))) .rfl).trans ?_
  refine loop_step (c := (d, .scVector ((i 0).castLE hcore0) ((i 1).castLE hsub0))) (fun _ _ => iprop(t3Inv (d, .scVector ((i 0).castLE hcore0) ((i 1).castLE hsub0)) arg31.sem arg32.sem ⟨arg11, arg12, arg13, arg14⟩ ⟨arg19, arg20, arg21, arg22⟩ ⟨arg15, arg16, arg17, arg18⟩ ⟨arg23, arg24, arg25, arg26⟩ arg27 arg28 arg29 arg30 v2 v3 v5 v7 v9 v11 ⟨arg2, arg3, arg4, arg5, fx, fy, fz, fi⟩ qA qB rA rB (chunkAt a) (chunkAt b) O W a0 a1 b0 b1 (rounds a b e) ∗ R)) .rfl
    (fun k u => absurd (Nat.lt_of_lt_of_eq k.isLt (t6_trips h22 h25 h28 hab hbe he)) (Nat.not_lt_zero _)) (fun _ => ?_)
  refine BIBase.Entails.trans (show iprop(t3Inv (d, .scVector ((i 0).castLE hcore0) ((i 1).castLE hsub0)) arg31.sem arg32.sem ⟨arg11, arg12, arg13, arg14⟩ ⟨arg19, arg20, arg21, arg22⟩ ⟨arg15, arg16, arg17, arg18⟩ ⟨arg23, arg24, arg25, arg26⟩ arg27 arg28 arg29 arg30 v2 v3 v5 v7 v9 v11 ⟨arg2, arg3, arg4, arg5, fx, fy, fz, fi⟩ qA qB rA rB (chunkAt a) (chunkAt b) O W a0 a1 b0 b1 (rounds a b e) ∗ R) ⊢ iprop(Batch EC (d, .scVector ((i 0).castLE hcore0) ((i 1).castLE hsub0)) (.dma arg31.sem) (default : HIx 1) 32768 (dels2 (c := (d, .scVector ((i 0).castLE hcore0) ((i 1).castLE hsub0))) ⟨arg11, arg12, arg13, arg14⟩ ⟨arg19, arg20, arg21, arg22⟩ ⟨arg2, arg3, arg4, arg5, fx, fy, fz, fi⟩ qA qB (chunkAt a (2 * rounds a b e)) (chunkAt b (2 * rounds a b e))) 8 0 ∗ ows (d, .scVector ((i 0).castLE hcore0) ((i 1).castLE hsub0)) O W ∗ lents (c := (d, .scVector ((i 0).castLE hcore0) ((i 1).castLE hsub0))) ⟨arg2, arg3, arg4, arg5, fx, fy, fz, fi⟩ qA qB (chunkAt a (2 * rounds a b e)) (chunkAt b (2 * rounds a b e)) ∗ accsAt (d, .scVector ((i 0).castLE hcore0) ((i 1).castLE hsub0)) arg27 arg28 arg29 arg30 v2 v3 v5 v7 v9 v11 ⟨arg2, arg3, arg4, arg5, fx, fy, fz, fi⟩ (chunkAt a) (chunkAt b) a0 a1 b0 b1 (2 * rounds a b e) ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ R) from ?_) ?_
  · unfold t3Inv flight
    iintro ⟨⟨⟨H1, H2⟩, H3, H4, H5, H6⟩, H7⟩
    isplitl [H1]; · iexact H1
    isplitl [H5]; · iexact H5
    isplitl [H2]; · iexact H2
    isplitl [H6]; · iexact H6
    isplitl [H3]; · iexact H3
    isplitl [H4]; · iexact H4
    iexact H7
  refine wait_step (c := (d, .scVector ((i 0).castLE hcore0) ((i 1).castLE hsub0))) rfl (by decide) ?_
  refine wait_step (c := (d, .scVector ((i 0).castLE hcore0) ((i 1).castLE hsub0))) rfl (by decide) ?_
  refine wait_step (c := (d, .scVector ((i 0).castLE hcore0) ((i 1).castLE hsub0))) rfl (by decide) ?_
  refine wait_step (c := (d, .scVector ((i 0).castLE hcore0) ((i 1).castLE hsub0))) rfl (by decide) ?_
  refine wait_step (c := (d, .scVector ((i 0).castLE hcore0) ((i 1).castLE hsub0))) rfl (by decide) ?_
  exact ret_step (c := (d, .scVector ((i 0).castLE hcore0) ((i 1).castLE hsub0))) hk

set_option maxHeartbeats 1000000 in
set_option maxRecDepth 100000 in
/-- The rows are merged, and the first window's copied out. -/
theorem part70_run (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (v2 : BitVec 32) (v3 : BitVec 32)
    (fx : Buf (Elt F) (arg2.view.loc (d, .scVector ((i 0).castLE hcore0) ((i 1).castLE hsub0)))) (fy : Buf (Elt F) (arg3.view.loc (d, .scVector ((i 0).castLE hcore0) ((i 1).castLE hsub0))))
    (fz : Buf (Elt F) (arg4.view.loc (d, .scVector ((i 0).castLE hcore0) ((i 1).castLE hsub0)))) (fi : Buf (Elt F) (arg5.view.loc (d, .scVector ((i 0).castLE hcore0) ((i 1).castLE hsub0))))
    (qA qB rA rB : PosShare TreeShare) (O : CellTallies nD τ sig (HIx 1)) (W : Waits sig (HIx 1)) (oA : Vec F S25008 .f32) (v5 v7 v9 v11 : Vec F S16 .f32) {a b e : ℕ} {R : sProp (MT nD τ sig (HIx 1) (Elt F) ℕ UU ℕ)} {Q : PUnit → sProp (MT nD τ sig (HIx 1) (Elt F) ℕ UU ℕ)}
    (hk : iprop(holds (d, .scVector ((i 0).castLE hcore0) ((i 1).castLE hsub0)) arg27 fullShare (res v2 1563#32 v5 v7 v9 v11 (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ∗ holds (d, .scVector ((i 0).castLE hcore0) ((i 1).castLE hsub0)) (outA arg8 i) fullShare (fun x => (res v2 1563#32 v5 v7 v9 v11 (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ((Rect.unit (s := S25088) ![0] S25008.size inb_S25088_S25008_0).emb x)) ∗ semVal ((d, .scVector ((i 0).castLE hcore0) ((i 1).castLE hsub0)), SemLoc.dma v180_r2.sem) 0 ∗ ows (d, .scVector ((i 0).castLE hcore0) ((i 1).castLE hsub0)) O W ∗ (∃ v, holds (d, .scVector ((i 0).castLE hcore0) ((i 1).castLE hsub0)) arg28 fullShare v) ∗ holds (d, .scVector ((i 0).castLE hcore0) ((i 1).castLE hsub0)) arg29 fullShare (res v3 1562#32 v5 v7 v9 v11 (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ∗ (∃ v, holds (d, .scVector ((i 0).castLE hcore0) ((i 1).castLE hsub0)) arg30 fullShare v) ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ R) ⊢ Q ⟨⟩) :
    iprop(Batch EC (d, .scVector ((i 0).castLE hcore0) ((i 1).castLE hsub0)) (.dma arg31.sem) (default : HIx 1) 32768 (dels2 (c := (d, .scVector ((i 0).castLE hcore0) ((i 1).castLE hsub0))) ⟨arg11, arg12, arg13, arg14⟩ ⟨arg19, arg20, arg21, arg22⟩ ⟨arg2, arg3, arg4, arg5, fx, fy, fz, fi⟩ qA qB (chunkAt a (2 * rounds a b e)) (chunkAt b (2 * rounds a b e))) 8 163840 ∗ ows (d, .scVector ((i 0).castLE hcore0) ((i 1).castLE hsub0)) O W ∗ lents (c := (d, .scVector ((i 0).castLE hcore0) ((i 1).castLE hsub0))) ⟨arg2, arg3, arg4, arg5, fx, fy, fz, fi⟩ qA qB (chunkAt a (2 * rounds a b e)) (chunkAt b (2 * rounds a b e)) ∗ accsAt (d, .scVector ((i 0).castLE hcore0) ((i 1).castLE hsub0)) arg27 arg28 arg29 arg30 v2 v3 v5 v7 v9 v11 ⟨arg2, arg3, arg4, arg5, fx, fy, fz, fi⟩ (chunkAt a) (chunkAt b) (fun _ => zer) (fun _ => zer) (fun _ => zer) (fun _ => zer) (2 * rounds a b e) ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ holds (d, .scVector ((i 0).castLE hcore0) ((i 1).castLE hsub0)) (outA arg8 i) fullShare oA ∗ semVal ((d, .scVector ((i 0).castLE hcore0) ((i 1).castLE hsub0)), SemLoc.dma v180_r2.sem) 0 ∗ R)
      ⊢ wp frame (wpE (defs₀ (F := F)) 𝒱₀ (d, .scVector ((i 0).castLE hcore0) ((i 1).castLE hsub0)) none) Set.univ (k0_part70_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3) Q := by
  unfold k0_part70_skel
  refine wait_step (c := (d, .scVector ((i 0).castLE hcore0) ((i 1).castLE hsub0))) rfl (by decide) ?_
  refine wait_step (c := (d, .scVector ((i 0).castLE hcore0) ((i 1).castLE hsub0))) rfl (by decide) ?_
  refine wait_last (c := (d, .scVector ((i 0).castLE hcore0) ((i 1).castLE hsub0))) rfl ?_
  refine (to_groups (c := (d, .scVector ((i 0).castLE hcore0) ((i 1).castLE hsub0))) (k := 2 * rounds a b e) ⟨arg11, arg12, arg13, arg14⟩ ⟨arg19, arg20, arg21, arg22⟩).trans ?_
  refine BIBase.Entails.trans (show iprop((accsAt (d, .scVector ((i 0).castLE hcore0) ((i 1).castLE hsub0)) arg27 arg28 arg29 arg30 v2 v3 v5 v7 v9 v11 ⟨arg2, arg3, arg4, arg5, fx, fy, fz, fi⟩ (chunkAt a) (chunkAt b) (fun _ => zer) (fun _ => zer) (fun _ => zer) (fun _ => zer) (2 * rounds a b e) ∗ filled (c := (d, .scVector ((i 0).castLE hcore0) ((i 1).castLE hsub0))) ⟨arg11, arg12, arg13, arg14⟩ ⟨arg2, arg3, arg4, arg5, fx, fy, fz, fi⟩ (chunkAt a (2 * rounds a b e)) ∗ filled (c := (d, .scVector ((i 0).castLE hcore0) ((i 1).castLE hsub0))) ⟨arg19, arg20, arg21, arg22⟩ ⟨arg2, arg3, arg4, arg5, fx, fy, fz, fi⟩ (chunkAt b (2 * rounds a b e))) ∗ semVal ((d, .scVector ((i 0).castLE hcore0) ((i 1).castLE hsub0)), SemLoc.dma arg31.sem) 0 ∗ ows (d, .scVector ((i 0).castLE hcore0) ((i 1).castLE hsub0)) O W ∗ srcs (c := (d, .scVector ((i 0).castLE hcore0) ((i 1).castLE hsub0))) ⟨arg2, arg3, arg4, arg5, fx, fy, fz, fi⟩ qA qB ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ holds (d, .scVector ((i 0).castLE hcore0) ((i 1).castLE hsub0)) (outA arg8 i) fullShare oA ∗ semVal ((d, .scVector ((i 0).castLE hcore0) ((i 1).castLE hsub0)), SemLoc.dma v180_r2.sem) 0 ∗ R)
    ⊢ iprop(accsAt (d, .scVector ((i 0).castLE hcore0) ((i 1).castLE hsub0)) arg27 arg28 arg29 arg30 v2 v3 v5 v7 v9 v11 ⟨arg2, arg3, arg4, arg5, fx, fy, fz, fi⟩ (chunkAt a) (chunkAt b) (fun _ => zer) (fun _ => zer) (fun _ => zer) (fun _ => zer) (2 * rounds a b e) ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ semVal ((d, .scVector ((i 0).castLE hcore0) ((i 1).castLE hsub0)), SemLoc.dma arg31.sem) 0 ∗ ows (d, .scVector ((i 0).castLE hcore0) ((i 1).castLE hsub0)) O W ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ holds (d, .scVector ((i 0).castLE hcore0) ((i 1).castLE hsub0)) (outA arg8 i) fullShare oA ∗ semVal ((d, .scVector ((i 0).castLE hcore0) ((i 1).castLE hsub0)), SemLoc.dma v180_r2.sem) 0 ∗ R) from ?_) ?_
  · iintro ⟨⟨H1, H2, H3⟩, H4, H5, H6, H7⟩
    isplitl [H1]; · iexact H1
    isplitl [H2 H3 H6]
    · iapply (again (c := (d, .scVector ((i 0).castLE hcore0) ((i 1).castLE hsub0))) ⟨arg11, arg12, arg13, arg14⟩ ⟨arg19, arg20, arg21, arg22⟩ ⟨arg2, arg3, arg4, arg5, fx, fy, fz, fi⟩ qA qB)
      isplitl [H2]; · iexact H2
      isplitl [H3]; · iexact H3
      iexact H6
    isplitl [H4]; · iexact H4
    isplitl [H5]; · iexact H5
    iexact H7
  -- the merge
  obtain ⟨p, p', q, q', ha, hb, hm⟩ := accs_merge (c := (d, .scVector ((i 0).castLE hcore0) ((i 1).castLE hsub0))) (m0 := arg27) (m1 := arg28) (n0 := arg29) (n1 := arg30) (v2 := v2) (v3 := v3)
    (v5 := v5) (v7 := v7) (v9 := v9) (v11 := v11) (s := ⟨arg2, arg3, arg4, arg5, fx, fy, fz, fi⟩) (nA := chunkAt a) (nB := chunkAt b)
    (a0 := fun _ => zer) (a1 := fun _ => zer) (b0 := fun _ => zer) (b1 := fun _ => zer) (N := 2 * rounds a b e)
  refine (sep_mono hm .rfl).trans ?_
  refine loop_step (c := (d, .scVector ((i 0).castLE hcore0) ((i 1).castLE hsub0))) (fun t _ => iprop((holds (d, .scVector ((i 0).castLE hcore0) ((i 1).castLE hsub0)) arg27 fullShare (rowTo (64 * t) (maximumf p p') p) ∗ holds (d, .scVector ((i 0).castLE hcore0) ((i 1).castLE hsub0)) arg28 fullShare p' ∗ holds (d, .scVector ((i 0).castLE hcore0) ((i 1).castLE hsub0)) arg29 fullShare (rowTo (64 * t) (maximumf q q') q) ∗ holds (d, .scVector ((i 0).castLE hcore0) ((i 1).castLE hsub0)) arg30 fullShare q') ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ semVal ((d, .scVector ((i 0).castLE hcore0) ((i 1).castLE hsub0)), SemLoc.dma arg31.sem) 0 ∗ ows (d, .scVector ((i 0).castLE hcore0) ((i 1).castLE hsub0)) O W ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ holds (d, .scVector ((i 0).castLE hcore0) ((i 1).castLE hsub0)) (outA arg8 i) fullShare oA ∗ semVal ((d, .scVector ((i 0).castLE hcore0) ((i 1).castLE hsub0)), SemLoc.dma v180_r2.sem) 0 ∗ R)) .rfl
    (fun t u => frame_run (t9_trip d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 v2 v3 t u p p' q q') (fun _ => .rfl)) (fun _ => ?_)
  refine (sep_mono (merged (c := (d, .scVector ((i 0).castLE hcore0) ((i 1).castLE hsub0))) k0_t9_loop.trips (by decide) arg27 arg28 arg29 arg30 p p' q q' ha hb) .rfl).trans ?_
  refine BIBase.Entails.trans (show _ ⊢ iprop(holds (d, .scVector ((i 0).castLE hcore0) ((i 1).castLE hsub0)) arg27 fullShare (res v2 1563#32 v5 v7 v9 v11 (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ∗ (∃ v, holds (d, .scVector ((i 0).castLE hcore0) ((i 1).castLE hsub0)) arg28 fullShare v) ∗ holds (d, .scVector ((i 0).castLE hcore0) ((i 1).castLE hsub0)) arg29 fullShare (res v3 1562#32 v5 v7 v9 v11 (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ∗ (∃ v, holds (d, .scVector ((i 0).castLE hcore0) ((i 1).castLE hsub0)) arg30 fullShare v) ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ semVal ((d, .scVector ((i 0).castLE hcore0) ((i 1).castLE hsub0)), SemLoc.dma arg31.sem) 0 ∗ ows (d, .scVector ((i 0).castLE hcore0) ((i 1).castLE hsub0)) O W ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ holds (d, .scVector ((i 0).castLE hcore0) ((i 1).castLE hsub0)) (outA arg8 i) fullShare oA ∗ semVal ((d, .scVector ((i 0).castLE hcore0) ((i 1).castLE hsub0)), SemLoc.dma v180_r2.sem) 0 ∗ R) from ?_) ?_
  · unfold accs res
    iintro ⟨⟨H1, H2, H3, H4⟩, H5⟩
    isplitl [H1]; · iexact H1
    isplitl [H2]; · iexists _; iexact H2
    isplitl [H3]; · iexact H3
    isplitl [H4]; · iexists _; iexact H4
    iexact H5
  refine BIBase.Entails.trans (show iprop(holds (d, .scVector ((i 0).castLE hcore0) ((i 1).castLE hsub0)) arg27 fullShare (res v2 1563#32 v5 v7 v9 v11 (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ∗ (∃ v, holds (d, .scVector ((i 0).castLE hcore0) ((i 1).castLE hsub0)) arg28 fullShare v) ∗ holds (d, .scVector ((i 0).castLE hcore0) ((i 1).castLE hsub0)) arg29 fullShare (res v3 1562#32 v5 v7 v9 v11 (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ∗ (∃ v, holds (d, .scVector ((i 0).castLE hcore0) ((i 1).castLE hsub0)) arg30 fullShare v) ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ semVal ((d, .scVector ((i 0).castLE hcore0) ((i 1).castLE hsub0)), SemLoc.dma arg31.sem) 0 ∗ ows (d, .scVector ((i 0).castLE hcore0) ((i 1).castLE hsub0)) O W ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ holds (d, .scVector ((i 0).castLE hcore0) ((i 1).castLE hsub0)) (outA arg8 i) fullShare oA ∗ semVal ((d, .scVector ((i 0).castLE hcore0) ((i 1).castLE hsub0)), SemLoc.dma v180_r2.sem) 0 ∗ R)
      ⊢ iprop(holds (d, .scVector ((i 0).castLE hcore0) ((i 1).castLE hsub0)) arg27 fullShare (res v2 1563#32 v5 v7 v9 v11 (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ∗ holds (d, .scVector ((i 0).castLE hcore0) ((i 1).castLE hsub0)) (outA arg8 i) fullShare oA ∗ semVal ((d, .scVector ((i 0).castLE hcore0) ((i 1).castLE hsub0)), SemLoc.dma v180_r2.sem) 0 ∗ ows (d, .scVector ((i 0).castLE hcore0) ((i 1).castLE hsub0)) O W ∗ (∃ v, holds (d, .scVector ((i 0).castLE hcore0) ((i 1).castLE hsub0)) arg28 fullShare v) ∗ holds (d, .scVector ((i 0).castLE hcore0) ((i 1).castLE hsub0)) arg29 fullShare (res v3 1562#32 v5 v7 v9 v11 (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ∗ (∃ v, holds (d, .scVector ((i 0).castLE hcore0) ((i 1).castLE hsub0)) arg30 fullShare v) ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ R) from ?_) ?_
  · iintro ⟨H0, H1, H2, H3, H4, H5, H6, H7, H8, H9, H10, H11⟩
    isplitl [H0]; · iexact H0
    isplitl [H9]; · iexact H9
    isplitl [H10]; · iexact H10
    isplitl [H6]; · iexact H6
    isplitl [H1]; · iexact H1
    isplitl [H2]; · iexact H2
    isplitl [H3]; · iexact H3
    isplitl [H4]; · iexact H4
    isplitl [H5]; · iexact H5
    isplitl [H7]; · iexact H7
    isplitl [H8]; · iexact H8
    iexact H11
  refine outA_copy d i arg8 arg27 ?_
  exact ret_step (c := (d, .scVector ((i 0).castLE hcore0) ((i 1).castLE hsub0))) hk

end Cert.Proof.Pool
-- ==== Proof.TileRun.lean ====
/-
  A tile's run: its two windows' rows from the streams, the strided ids and the weights.
-/
module

public import proofs.«01_k».proof.Proof.TileParts

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

set_option maxHeartbeats 1000000 in
set_option maxRecDepth 100000 in
/-- The run of the tile at coordinates `i`. -/
theorem tile_run (d : Dev nD) (i : grid0.Coords) (arg2 : Memref sig .scVector .hbm S3200000 .f32) (harg2 : arg2.IsWhole) (arg3 : Memref sig .scVector .hbm S3200000 .f32) (harg3 : arg3.IsWhole) (arg4 : Memref sig .scVector .hbm S3200000 .f32) (harg4 : arg4.IsWhole) (arg5 : Memref sig .scVector .hbm S3200000 .i32) (harg5 : arg5.IsWhole) (arg6 : Memref sig .scVector .hbm S3200 .i32) (harg6 : arg6.IsWhole) (arg7 : Memref sig .scVector .hbm S4x16 .f32) (harg7 : arg7.IsWhole) (arg8 : Memref sig .scVector .hbm S1600000 .f32) (harg8 : arg8.IsWhole) (arg9 : Memref sig .scVector .vmem S3200 .i32) (harg9 : arg9.IsWhole) (arg10 : Memref sig .scVector .vmem S4x16 .f32) (harg10 : arg10.IsWhole) (arg11 : Memref sig .scVector .vmem S1040 .f32) (harg11 : arg11.IsWhole) (arg12 : Memref sig .scVector .vmem S1040 .f32) (harg12 : arg12.IsWhole) (arg13 : Memref sig .scVector .vmem S1040 .f32) (harg13 : arg13.IsWhole) (arg14 : Memref sig .scVector .vmem S1040 .i32) (harg14 : arg14.IsWhole) (arg15 : Memref sig .scVector .vmem S1040 .f32) (harg15 : arg15.IsWhole) (arg16 : Memref sig .scVector .vmem S1040 .f32) (harg16 : arg16.IsWhole) (arg17 : Memref sig .scVector .vmem S1040 .f32) (harg17 : arg17.IsWhole) (arg18 : Memref sig .scVector .vmem S1040 .i32) (harg18 : arg18.IsWhole) (arg19 : Memref sig .scVector .vmem S1040 .f32) (harg19 : arg19.IsWhole) (arg20 : Memref sig .scVector .vmem S1040 .f32) (harg20 : arg20.IsWhole) (arg21 : Memref sig .scVector .vmem S1040 .f32) (harg21 : arg21.IsWhole) (arg22 : Memref sig .scVector .vmem S1040 .i32) (harg22 : arg22.IsWhole) (arg23 : Memref sig .scVector .vmem S1040 .f32) (harg23 : arg23.IsWhole) (arg24 : Memref sig .scVector .vmem S1040 .f32) (harg24 : arg24.IsWhole) (arg25 : Memref sig .scVector .vmem S1040 .f32) (harg25 : arg25.IsWhole) (arg26 : Memref sig .scVector .vmem S1040 .i32) (harg26 : arg26.IsWhole) (arg27 : Memref sig .scVector .vmem S25088 .f32) (harg27 : arg27.IsWhole) (arg28 : Memref sig .scVector .vmem S25088 .f32) (harg28 : arg28.IsWhole) (arg29 : Memref sig .scVector .vmem S25088 .f32) (harg29 : arg29.IsWhole) (arg30 : Memref sig .scVector .vmem S25088 .f32) (harg30 : arg30.IsWhole) (arg31 : DmaSems sig S_) (arg32 : DmaSems sig S_) (v180_r0 : DmaSems sig S_) (v180_r1 : DmaSems sig S_) (v180_r2 : DmaSems sig S_) (v180_r3 : DmaSems sig S_) (f6 : Buf (Elt F) (arg6.view.loc (d, .scVector ((i 0).castLE hcore0) ((i 1).castLE hsub0)))) (f7 : Buf (Elt F) (arg7.view.loc (d, .scVector ((i 0).castLE hcore0) ((i 1).castLE hsub0)))) (q6 q7 : PosShare TreeShare)
    (O : CellTallies nD τ sig (HIx 1)) (W : Waits sig (HIx 1))
    (fx : Buf (Elt F) (arg2.view.loc (d, .scVector ((i 0).castLE hcore0) ((i 1).castLE hsub0)))) (fy : Buf (Elt F) (arg3.view.loc (d, .scVector ((i 0).castLE hcore0) ((i 1).castLE hsub0))))
    (fz : Buf (Elt F) (arg4.view.loc (d, .scVector ((i 0).castLE hcore0) ((i 1).castLE hsub0)))) (fi : Buf (Elt F) (arg5.view.loc (d, .scVector ((i 0).castLE hcore0) ((i 1).castLE hsub0))))
    (qA qB rA rB : PosShare TreeShare) {a b e : ℕ}
    (h22 : (extractAt ![15] (k0_pay476 (cnts (subs (arg6.view.read (Elt F) f6)) (segA i) 200)) inpos_S16_p15) = BitVec.ofNat 32 a) (h25 : (extractAt ![15] (k0_pay477 (cnts (subs (arg6.view.read (Elt F) f6)) (segB i) 200)) inpos_S16_p15) = BitVec.ofNat 32 b)
    (h28 : (extractAt ![15] (k0_pay478 (cnts (subs (arg6.view.read (Elt F) f6)) (segE i) 200)) inpos_S16_p15) = BitVec.ofNat 32 e) (hab : a ≤ b) (hbe : b ≤ e) (he : e ≤ 3125)
    (b9 : Vec F S3200 .i32) (b10 : Vec F S4x16 .f32) (a0 a1 b0 b1 : Vec F S25088 .f32) (oA : Vec F S25008 .f32) (oB : Vec F S24992 .f32) :
    iprop(idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare b9 ∗ holds (d, .scVector ((i 0).castLE hcore0) ((i 1).castLE hsub0)) arg10 fullShare b10 ∗ accs (d, .scVector ((i 0).castLE hcore0) ((i 1).castLE hsub0)) arg27 arg28 arg29 arg30 a0 a1 b0 b1 ∗ holds (d, .scVector ((i 0).castLE hcore0) ((i 1).castLE hsub0)) (outA arg8 i) fullShare oA ∗ holds (d, .scVector ((i 0).castLE hcore0) ((i 1).castLE hsub0)) (outB arg8 i) fullShare oB ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ semVal ((d, .scVector ((i 0).castLE hcore0) ((i 1).castLE hsub0)), SemLoc.dma v180_r2.sem) 0 ∗ semVal ((d, .scVector ((i 0).castLE hcore0) ((i 1).castLE hsub0)), SemLoc.dma v180_r3.sem) 0 ∗ ows (d, .scVector ((i 0).castLE hcore0) ((i 1).castLE hsub0)) O W)
      ⊢ wp frame (wpE (defs₀ (F := F)) 𝒱₀ (d, .scVector ((i 0).castLE hcore0) ((i 1).castLE hsub0)) none) Set.univ (cc0__pool_body_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3) (fun _ =>
        iprop(idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ (∃ v, holds (d, .scVector ((i 0).castLE hcore0) ((i 1).castLE hsub0)) arg9 fullShare v) ∗ (∃ v, holds (d, .scVector ((i 0).castLE hcore0) ((i 1).castLE hsub0)) arg10 fullShare v) ∗ (∃ v, holds (d, .scVector ((i 0).castLE hcore0) ((i 1).castLE hsub0)) arg27 fullShare v) ∗ (∃ v, holds (d, .scVector ((i 0).castLE hcore0) ((i 1).castLE hsub0)) arg28 fullShare v) ∗ (∃ v, holds (d, .scVector ((i 0).castLE hcore0) ((i 1).castLE hsub0)) arg29 fullShare v) ∗ (∃ v, holds (d, .scVector ((i 0).castLE hcore0) ((i 1).castLE hsub0)) arg30 fullShare v) ∗ holds (d, .scVector ((i 0).castLE hcore0) ((i 1).castLE hsub0)) (outA arg8 i) fullShare (fun x => (res (segA i) 1563#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ((Rect.unit (s := S25088) ![0] S25008.size inb_S25088_S25008_0).emb x)) ∗ holds (d, .scVector ((i 0).castLE hcore0) ((i 1).castLE hsub0)) (outB arg8 i) fullShare (fun x => (res (segB i) 1562#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ((Rect.unit (s := S25088) ![0] S24992.size inb_S25088_S24992_0).emb x)) ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ semVal ((d, .scVector ((i 0).castLE hcore0) ((i 1).castLE hsub0)), SemLoc.dma v180_r2.sem) 0 ∗ semVal ((d, .scVector ((i 0).castLE hcore0) ((i 1).castLE hsub0)), SemLoc.dma v180_r3.sem) 0 ∗ ows (d, .scVector ((i 0).castLE hcore0) ((i 1).castLE hsub0)) O W)) := by
  unfold cc0__pool_body_skel
  simp only [k0_part65_eq_skeleton, k0_part66_eq_skeleton, k0_part67_eq_skeleton, k0_part68_eq_skeleton, k0_part69_eq_skeleton, k0_part70_eq_skeleton]
  refine part_step (c := (d, .scVector ((i 0).castLE hcore0) ((i 1).castLE hsub0))) ?_
  refine BIBase.Entails.trans (show iprop(idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare b9 ∗ holds (d, .scVector ((i 0).castLE hcore0) ((i 1).castLE hsub0)) arg10 fullShare b10 ∗ accs (d, .scVector ((i 0).castLE hcore0) ((i 1).castLE hsub0)) arg27 arg28 arg29 arg30 a0 a1 b0 b1 ∗ holds (d, .scVector ((i 0).castLE hcore0) ((i 1).castLE hsub0)) (outA arg8 i) fullShare oA ∗ holds (d, .scVector ((i 0).castLE hcore0) ((i 1).castLE hsub0)) (outB arg8 i) fullShare oB ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ semVal ((d, .scVector ((i 0).castLE hcore0) ((i 1).castLE hsub0)), SemLoc.dma v180_r2.sem) 0 ∗ semVal ((d, .scVector ((i 0).castLE hcore0) ((i 1).castLE hsub0)), SemLoc.dma v180_r3.sem) 0 ∗ ows (d, .scVector ((i 0).castLE hcore0) ((i 1).castLE hsub0)) O W)
      ⊢ iprop((arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare b9 ∗ holds (d, .scVector ((i 0).castLE hcore0) ((i 1).castLE hsub0)) arg10 fullShare b10 ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ accs (d, .scVector ((i 0).castLE hcore0) ((i 1).castLE hsub0)) arg27 arg28 arg29 arg30 a0 a1 b0 b1 ∗ holds (d, .scVector ((i 0).castLE hcore0) ((i 1).castLE hsub0)) (outA arg8 i) fullShare oA ∗ semVal ((d, .scVector ((i 0).castLE hcore0) ((i 1).castLE hsub0)), SemLoc.dma v180_r2.sem) 0 ∗ holds (d, .scVector ((i 0).castLE hcore0) ((i 1).castLE hsub0)) (outB arg8 i) fullShare oB ∗ semVal ((d, .scVector ((i 0).castLE hcore0) ((i 1).castLE hsub0)), SemLoc.dma v180_r3.sem) 0 ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB) from ?_) ?_
  · iintro ⟨H0, H1, H2, H3, H4, H5, H6, H7, H8, H9, H10, H11, H12, H13, H14, H15⟩
    isplitl [H2]; · iexact H2
    isplitl [H3]; · iexact H3
    isplitl [H4]; · iexact H4
    isplitl [H5]; · iexact H5
    isplitl [H11]; · iexact H11
    isplitl [H12]; · iexact H12
    isplitl [H15]; · iexact H15
    isplitl [H6]; · iexact H6
    isplitl [H7]; · iexact H7
    isplitl [H13]; · iexact H13
    isplitl [H8]; · iexact H8
    isplitl [H14]; · iexact H14
    isplitl [H9]; · iexact H9
    isplitl [H10]; · iexact H10
    isplitl [H0]; · iexact H0
    iexact H1
  refine part65_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 f6 f7 q6 q7 O W b9 b10 a0 a1 b0 b1 (chk1_holds h22 (by omega)) (fun hw1 => ?_)
  dsimp only
  refine part_step (c := (d, .scVector ((i 0).castLE hcore0) ((i 1).castLE hsub0))) ?_
  unfold k0_part66_skel
  refine wp_assume_true (c := (d, .scVector ((i 0).castLE hcore0) ((i 1).castLE hsub0))) (chk2_holds h25 (by omega)) ?_
  refine wp_assume_true (c := (d, .scVector ((i 0).castLE hcore0) ((i 1).castLE hsub0))) (chk3_holds h22 h25 h28 hab hbe he) ?_
  refine ret_step (c := (d, .scVector ((i 0).castLE hcore0) ((i 1).castLE hsub0))) ?_
  dsimp only
  refine part_step (c := (d, .scVector ((i 0).castLE hcore0) ((i 1).castLE hsub0))) ?_
  unfold k0_part67_skel
  refine ret_step (c := (d, .scVector ((i 0).castLE hcore0) ((i 1).castLE hsub0))) ?_
  dsimp only
  refine part_step (c := (d, .scVector ((i 0).castLE hcore0) ((i 1).castLE hsub0))) ?_
  refine BIBase.Entails.trans (show iprop((arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ ows (d, .scVector ((i 0).castLE hcore0) ((i 1).castLE hsub0)) O W ∗ accs (d, .scVector ((i 0).castLE hcore0) ((i 1).castLE hsub0)) arg27 arg28 arg29 arg30 (fun _ => zer) (fun _ => zer) (fun _ => zer) (fun _ => zer) ∗ holds (d, .scVector ((i 0).castLE hcore0) ((i 1).castLE hsub0)) (outA arg8 i) fullShare oA ∗ semVal ((d, .scVector ((i 0).castLE hcore0) ((i 1).castLE hsub0)), SemLoc.dma v180_r2.sem) 0 ∗ holds (d, .scVector ((i 0).castLE hcore0) ((i 1).castLE hsub0)) (outB arg8 i) fullShare oB ∗ semVal ((d, .scVector ((i 0).castLE hcore0) ((i 1).castLE hsub0)), SemLoc.dma v180_r3.sem) 0 ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB)
      ⊢ iprop(semVal ((d, .scVector ((i 0).castLE hcore0) ((i 1).castLE hsub0)), SemLoc.dma arg31.sem) 0 ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ ows (d, .scVector ((i 0).castLE hcore0) ((i 1).castLE hsub0)) O W ∗ accs (d, .scVector ((i 0).castLE hcore0) ((i 1).castLE hsub0)) arg27 arg28 arg29 arg30 (fun _ => zer) (fun _ => zer) (fun _ => zer) (fun _ => zer) ∗ holds (d, .scVector ((i 0).castLE hcore0) ((i 1).castLE hsub0)) (outA arg8 i) fullShare oA ∗ semVal ((d, .scVector ((i 0).castLE hcore0) ((i 1).castLE hsub0)), SemLoc.dma v180_r2.sem) 0 ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ holds (d, .scVector ((i 0).castLE hcore0) ((i 1).castLE hsub0)) (outB arg8 i) fullShare oB ∗ semVal ((d, .scVector ((i 0).castLE hcore0) ((i 1).castLE hsub0)), SemLoc.dma v180_r3.sem) 0) from ?_) ?_
  · iintro ⟨H0, H1, H2, H3, H4, H5, H6, H7, H8, H9, H10, H11, H12, H13, H14, H15⟩
    isplitl [H12]; · iexact H12
    isplitl [H14]; · iexact H14
    isplitl [H13]; · iexact H13
    isplitl [H15]; · iexact H15
    isplitl [H6]; · iexact H6
    isplitl [H7]; · iexact H7
    isplitl [H8]; · iexact H8
    isplitl [H9]; · iexact H9
    isplitl [H0]; · iexact H0
    isplitl [H1]; · iexact H1
    isplitl [H2]; · iexact H2
    isplitl [H3]; · iexact H3
    isplitl [H4]; · iexact H4
    isplitl [H5]; · iexact H5
    isplitl [H10]; · iexact H10
    iexact H11
  refine part68_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 _ hw1 _ (chk2_holds h25 (by omega)) _ _ _ fx fy fz fi qA qB (chunkAt a) (chunkAt b) (off3_eq h22 (by omega)) (off4_eq h25 (by omega)) ?_
  refine part_step (c := (d, .scVector ((i 0).castLE hcore0) ((i 1).castLE hsub0))) ?_
  refine part69_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 (segA i) (segB i) (wv0 (arg7.view.read (Elt F) f7)) (wv1 (arg7.view.read (Elt F) f7)) (wv2 (arg7.view.read (Elt F) f7)) (wv3 (arg7.view.read (Elt F) f7)) (iota .scVector S16 32 [0] iota_S16_d0_w32_scVector) _ _ (chk2_holds h25 (by omega)) _
    (chk3_holds h22 h25 h28 hab hbe he) _ _ _ fx fy fz fi qA qB rA rB O W (fun _ => zer) (fun _ => zer) (fun _ => zer) (fun _ => zer) h22 h25 h28 hab hbe he (fun x => ?_) ?_
  · show BitVec.ofNat 32 (0 * _ + (x 0).val) = _
    rw [Nat.zero_mul, Nat.zero_add]
  refine part_step (c := (d, .scVector ((i 0).castLE hcore0) ((i 1).castLE hsub0))) ?_
  refine part70_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg32 v180_r0 v180_r1 v180_r2 v180_r3 (segA i) (segB i) fx fy fz fi qA qB rA rB O W oA (wv0 (arg7.view.read (Elt F) f7)) (wv1 (arg7.view.read (Elt F) f7)) (wv2 (arg7.view.read (Elt F) f7)) (wv3 (arg7.view.read (Elt F) f7)) ?_
  refine BIBase.Entails.trans (show iprop(holds (d, .scVector ((i 0).castLE hcore0) ((i 1).castLE hsub0)) arg27 fullShare (res (segA i) 1563#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ∗ holds (d, .scVector ((i 0).castLE hcore0) ((i 1).castLE hsub0)) (outA arg8 i) fullShare (fun x => (res (segA i) 1563#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ((Rect.unit (s := S25088) ![0] S25008.size inb_S25088_S25008_0).emb x)) ∗ semVal ((d, .scVector ((i 0).castLE hcore0) ((i 1).castLE hsub0)), SemLoc.dma v180_r2.sem) 0 ∗ ows (d, .scVector ((i 0).castLE hcore0) ((i 1).castLE hsub0)) O W ∗ (∃ v, holds (d, .scVector ((i 0).castLE hcore0) ((i 1).castLE hsub0)) arg28 fullShare v) ∗ holds (d, .scVector ((i 0).castLE hcore0) ((i 1).castLE hsub0)) arg29 fullShare (res (segB i) 1562#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ∗ (∃ v, holds (d, .scVector ((i 0).castLE hcore0) ((i 1).castLE hsub0)) arg30 fullShare v) ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ holds (d, .scVector ((i 0).castLE hcore0) ((i 1).castLE hsub0)) (outB arg8 i) fullShare oB ∗ semVal ((d, .scVector ((i 0).castLE hcore0) ((i 1).castLE hsub0)), SemLoc.dma v180_r3.sem) 0)
      ⊢ iprop(holds (d, .scVector ((i 0).castLE hcore0) ((i 1).castLE hsub0)) arg29 fullShare (res (segB i) 1562#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ∗ holds (d, .scVector ((i 0).castLE hcore0) ((i 1).castLE hsub0)) (outB arg8 i) fullShare oB ∗ semVal ((d, .scVector ((i 0).castLE hcore0) ((i 1).castLE hsub0)), SemLoc.dma v180_r3.sem) 0 ∗ ows (d, .scVector ((i 0).castLE hcore0) ((i 1).castLE hsub0)) O W ∗ holds (d, .scVector ((i 0).castLE hcore0) ((i 1).castLE hsub0)) arg27 fullShare (res (segA i) 1563#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ∗ holds (d, .scVector ((i 0).castLE hcore0) ((i 1).castLE hsub0)) (outA arg8 i) fullShare (fun x => (res (segA i) 1563#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ((Rect.unit (s := S25088) ![0] S25008.size inb_S25088_S25008_0).emb x)) ∗ semVal ((d, .scVector ((i 0).castLE hcore0) ((i 1).castLE hsub0)), SemLoc.dma v180_r2.sem) 0 ∗ (∃ v, holds (d, .scVector ((i 0).castLE hcore0) ((i 1).castLE hsub0)) arg28 fullShare v) ∗ (∃ v, holds (d, .scVector ((i 0).castLE hcore0) ((i 1).castLE hsub0)) arg30 fullShare v) ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0) from ?_) ?_
  · iintro ⟨H0, H1, H2, H3, H4, H5, H6, H7, H8, H9, H10, H11, H12, H13, H14, H15, H16, H17, H18⟩
    isplitl [H5]; · iexact H5
    isplitl [H17]; · iexact H17
    isplitl [H18]; · iexact H18
    isplitl [H3]; · iexact H3
    isplitl [H0]; · iexact H0
    isplitl [H1]; · iexact H1
    isplitl [H2]; · iexact H2
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  refine outB_copy d i arg8 arg29 ?_
  refine ret_step (c := (d, .scVector ((i 0).castLE hcore0) ((i 1).castLE hsub0))) ?_
  refine BIBase.Entails.trans (show iprop(holds (d, .scVector ((i 0).castLE hcore0) ((i 1).castLE hsub0)) arg29 fullShare (res (segB i) 1562#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ∗ holds (d, .scVector ((i 0).castLE hcore0) ((i 1).castLE hsub0)) (outB arg8 i) fullShare (fun x => (res (segB i) 1562#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ((Rect.unit (s := S25088) ![0] S24992.size inb_S25088_S24992_0).emb x)) ∗ semVal ((d, .scVector ((i 0).castLE hcore0) ((i 1).castLE hsub0)), SemLoc.dma v180_r3.sem) 0 ∗ ows (d, .scVector ((i 0).castLE hcore0) ((i 1).castLE hsub0)) O W ∗ holds (d, .scVector ((i 0).castLE hcore0) ((i 1).castLE hsub0)) arg27 fullShare (res (segA i) 1563#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ∗ holds (d, .scVector ((i 0).castLE hcore0) ((i 1).castLE hsub0)) (outA arg8 i) fullShare (fun x => (res (segA i) 1563#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ((Rect.unit (s := S25088) ![0] S25008.size inb_S25088_S25008_0).emb x)) ∗ semVal ((d, .scVector ((i 0).castLE hcore0) ((i 1).castLE hsub0)), SemLoc.dma v180_r2.sem) 0 ∗ (∃ v, holds (d, .scVector ((i 0).castLE hcore0) ((i 1).castLE hsub0)) arg28 fullShare v) ∗ (∃ v, holds (d, .scVector ((i 0).castLE hcore0) ((i 1).castLE hsub0)) arg30 fullShare v) ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0)
      ⊢ iprop(holds (d, .scVector ((i 0).castLE hcore0) ((i 1).castLE hsub0)) arg9 fullShare (arg6.view.read (Elt F) f6) ∗ holds (d, .scVector ((i 0).castLE hcore0) ((i 1).castLE hsub0)) arg10 fullShare (arg7.view.read (Elt F) f7) ∗ holds (d, .scVector ((i 0).castLE hcore0) ((i 1).castLE hsub0)) arg27 fullShare (res (segA i) 1563#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ∗ holds (d, .scVector ((i 0).castLE hcore0) ((i 1).castLE hsub0)) arg29 fullShare (res (segB i) 1562#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ∗ idles (c := (d, .scVector ((i 0).castLE hcore0) ((i 1).castLE hsub0))) ⟨arg11, arg12, arg13, arg14⟩ ⟨arg19, arg20, arg21, arg22⟩ ⟨arg2, arg3, arg4, arg5, fx, fy, fz, fi⟩ qA qB ∗ idles (c := (d, .scVector ((i 0).castLE hcore0) ((i 1).castLE hsub0))) ⟨arg15, arg16, arg17, arg18⟩ ⟨arg23, arg24, arg25, arg26⟩ ⟨arg2, arg3, arg4, arg5, fx, fy, fz, fi⟩ rA rB ∗ (arg6.view.loc (d, .scVector ((i 0).castLE hcore0) ((i 1).castLE hsub0)) ↦[arg6.view.set]{q6} f6) ∗ (arg7.view.loc (d, .scVector ((i 0).castLE hcore0) ((i 1).castLE hsub0)) ↦[arg7.view.set]{q7} f7) ∗ (∃ v, holds (d, .scVector ((i 0).castLE hcore0) ((i 1).castLE hsub0)) arg28 fullShare v) ∗ (∃ v, holds (d, .scVector ((i 0).castLE hcore0) ((i 1).castLE hsub0)) arg30 fullShare v) ∗ holds (d, .scVector ((i 0).castLE hcore0) ((i 1).castLE hsub0)) (outA arg8 i) fullShare (fun x => (res (segA i) 1563#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt a) (2 * rounds a b e)) ((Rect.unit (s := S25088) ![0] S25008.size inb_S25088_S25008_0).emb x)) ∗ holds (d, .scVector ((i 0).castLE hcore0) ((i 1).castLE hsub0)) (outB arg8 i) fullShare (fun x => (res (segB i) 1562#32 (wv0 (arg7.view.read (Elt F) f7)) (wv1 (arg7.view.read (Elt F) f7)) (wv2 (arg7.view.read (Elt F) f7)) (wv3 (arg7.view.read (Elt F) f7)) (Strms.X (c := (d, .scVector ((i 0).castLE hcore0) ((i 1).castLE hsub0))) ⟨arg2, arg3, arg4, arg5, fx, fy, fz, fi⟩) (Strms.Y (c := (d, .scVector ((i 0).castLE hcore0) ((i 1).castLE hsub0))) ⟨arg2, arg3, arg4, arg5, fx, fy, fz, fi⟩) (Strms.Z (c := (d, .scVector ((i 0).castLE hcore0) ((i 1).castLE hsub0))) ⟨arg2, arg3, arg4, arg5, fx, fy, fz, fi⟩) (Strms.I (c := (d, .scVector ((i 0).castLE hcore0) ((i 1).castLE hsub0))) ⟨arg2, arg3, arg4, arg5, fx, fy, fz, fi⟩) (chunkAt b) (2 * rounds a b e)) ((Rect.unit (s := S25088) ![0] S24992.size inb_S25088_S24992_0).emb x)) ∗ semVal ((d, .scVector ((i 0).castLE hcore0) ((i 1).castLE hsub0)), SemLoc.dma arg31.sem) 0 ∗ semVal ((d, .scVector ((i 0).castLE hcore0) ((i 1).castLE hsub0)), SemLoc.dma arg32.sem) 0 ∗ semVal ((d, .scVector ((i 0).castLE hcore0) ((i 1).castLE hsub0)), SemLoc.dma v180_r0.sem) 0 ∗ semVal ((d, .scVector ((i 0).castLE hcore0) ((i 1).castLE hsub0)), SemLoc.dma v180_r1.sem) 0 ∗ semVal ((d, .scVector ((i 0).castLE hcore0) ((i 1).castLE hsub0)), SemLoc.dma v180_r2.sem) 0 ∗ semVal ((d, .scVector ((i 0).castLE hcore0) ((i 1).castLE hsub0)), SemLoc.dma v180_r3.sem) 0 ∗ ows (d, .scVector ((i 0).castLE hcore0) ((i 1).castLE hsub0)) O W) from ?_) ?_
  · iintro ⟨H0, H1, H2, H3, H4, H5, H6, H7, H8, H9, H10, H11, H12, H13, H14, H15, H16, H17, H18⟩
    isplitl [H15]; · iexact H15
    isplitl [H16]; · iexact H16
    isplitl [H4]; · iexact H4
    isplitl [H0]; · iexact H0
    isplitl [H9]; · iexact H9
    isplitl [H12]; · iexact H12
    isplitl [H13]; · iexact H13
    isplitl [H14]; · iexact H14
    isplitl [H7]; · iexact H7
    isplitl [H8]; · iexact H8
    isplitl [H5]; · iexact H5
    isplitl [H1]; · iexact H1
    isplitl [H10]; · iexact H10
    isplitl [H11]; · iexact H11
    isplitl [H17]; · iexact H17
    isplitl [H18]; · iexact H18
    isplitl [H6]; · iexact H6
    isplitl [H2]; · iexact H2
    iexact H3
  iintro ⟨H0, H1, H2, H3, H4, H5, H6, H7, H8, H9, H10, H11, H12, H13, H14, H15, H16, H17, H18⟩
  isplitl [H4]; · iexact H4
  isplitl [H5]; · iexact H5
  isplitl [H6]; · iexact H6
  isplitl [H7]; · iexact H7
  isplitl [H0]; · iexists _; iexact H0
  isplitl [H1]; · iexists _; iexact H1
  isplitl [H2]; · iexists _; iexact H2
  isplitl [H8]; · iexact H8
  isplitl [H3]; · iexists _; iexact H3
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.Proof.Pool
-- ==== Proof.Payloads.lean ====
/-
  What the pool call's handshakes carry. Each tile gets a share of the six operands and the words of the result that
  are its own, and brings them back written. What is written is one function of the operands, `outF`, so the pieces
  join without a choice.
-/
module

public import proofs.«01_k».proof.Proof.TileRun
public import Idealize.ShloMosaic.Lib.ShareLeaves

@[expose] public section

noncomputable section

namespace Cert.Proof.Pool

open Cert.KernelIdeal Cert.KernelIdeal.Gen
open Idealize.ShloMosaic
open Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The operands and the result -/

/-- The call's operands: the points' coordinates, their ids, the strided ids, the weights. -/
structure Opnds (F : FTy → Type) where
  x : Vec F S3200000 .f32
  y : Vec F S3200000 .f32
  z : Vec F S3200000 .f32
  i : Vec F S3200000 .i32
  s : Vec F S3200 .i32
  w : Vec F S4x16 .f32

/-- Tile coordinates. -/
def crds (c : Fin (grid0.bound 0)) (s : Fin (grid0.bound 1)) : grid0.Coords :=
  fun | 0 => c | 1 => s | ⟨_ + 2, h⟩ => absurd h (Nat.not_lt.2 (Nat.le_add_left _ _))

/-- Those of the tile numbered `w`. -/
def crd (w : ℕ) : grid0.Coords := crds ⟨w % 2, Nat.mod_lt _ (by decide)⟩ ⟨w / 2 % 16, Nat.mod_lt _ (by decide)⟩

theorem crd_eq (i : grid0.Coords) : crd (2 * (i 1).val + (i 0).val) = i := by
  have h1 : (i 1).val < 16 := (i 1).isLt
  have h0 : (i 0).val < 2 := (i 0).isLt
  funext a
  match a with
  | 0 => exact Fin.ext (by show (2 * (i 1).val + (i 0).val) % 2 = (i 0).val; omega)
  | 1 => exact Fin.ext (by show (2 * (i 1).val + (i 0).val) / 2 % 16 = (i 1).val; omega)

/-- The counts that open a tile's two windows and close the second. -/
def Opnds.cA (o : Opnds F) (i : grid0.Coords) : ℕ := cnt (subs o.s) (segA i)
def Opnds.cB (o : Opnds F) (i : grid0.Coords) : ℕ := cnt (subs o.s) (segB i)
def Opnds.cE (o : Opnds F) (i : grid0.Coords) : ℕ := cnt (subs o.s) (segE i)

/-- A tile's two windows after its run. -/
def Opnds.resA (o : Opnds F) (i : grid0.Coords) : Vec F S25088 .f32 :=
  res (segA i) 1563#32 (wv0 o.w) (wv1 o.w) (wv2 o.w) (wv3 o.w) o.x o.y o.z o.i (chunkAt (o.cA i)) (2 * rounds (o.cA i) (o.cB i) (o.cE i))
def Opnds.resB (o : Opnds F) (i : grid0.Coords) : Vec F S25088 .f32 :=
  res (segB i) 1562#32 (wv0 o.w) (wv1 o.w) (wv2 o.w) (wv3 o.w) o.x o.y o.z o.i (chunkAt (o.cB i)) (2 * rounds (o.cA i) (o.cB i) (o.cE i))

/-- Word `r` of a window. -/
def rowAt (r : ℕ) : S25088.Idx := fun a => ⟨r % S25088.size a, Nat.mod_lt _ (by revert a; decide)⟩

/-- The call's result. -/
def outF (o : Opnds F) : Vec F S1600000 .f32 := fun x =>
  let i := crd ((x 0).val / 50000)
  if (x 0).val % 50000 < 25008 then o.resA i (rowAt ((x 0).val % 50000)) else o.resB i (rowAt ((x 0).val % 50000 - 25008))

/-! ## Whose words are whose -/

/-- Those of the tile numbered `w`. -/
def tileSet (w : ℕ) : Finset S1600000.Idx := Finset.univ.filter fun x => (x 0).val / 50000 = w
/-- Those of SparseCore `c`. -/
def coreSet (c : Fin 2) : Finset S1600000.Idx := Finset.univ.filter fun x => (x 0).val / 50000 % 2 = c.val

theorem mem_tileSet {w : ℕ} {x : S1600000.Idx} : x ∈ tileSet w ↔ (x 0).val / 50000 = w := by simp [tileSet]
theorem mem_coreSet {c : Fin 2} {x : S1600000.Idx} : x ∈ coreSet c ↔ (x 0).val / 50000 % 2 = c.val := by simp [coreSet]

theorem x_lt (x : S1600000.Idx) : (x 0).val < 1600000 := (x 0).isLt

theorem core_tiles (c : Fin 2) : (Finset.univ : Finset (Fin 16)).biUnion (fun s => tileSet (2 * s.val + c.val)) = coreSet c := by
  ext x
  have hx := x_lt x
  have hc := c.isLt
  simp only [Finset.mem_biUnion, Finset.mem_univ, true_and, mem_tileSet, mem_coreSet]
  constructor
  · rintro ⟨s, hs⟩; omega
  · intro h; exact ⟨⟨(x 0).val / 50000 / 2, by omega⟩, by show (x 0).val / 50000 = 2 * ((x 0).val / 50000 / 2) + c.val; omega⟩

theorem tiles_disjoint (c : Fin 2) : ∀ i ∈ (Finset.univ : Finset (Fin 16)), ∀ j ∈ (Finset.univ : Finset (Fin 16)), i ≠ j →
    Disjoint (tileSet (2 * i.val + c.val)) (tileSet (2 * j.val + c.val)) := by
  intro i _ j _ hij
  refine Finset.disjoint_left.mpr fun x h1 h2 => hij (Fin.ext ?_)
  have h1 := mem_tileSet.mp h1
  have h2 := mem_tileSet.mp h2
  omega

theorem all_cores : (Finset.univ : Finset (Fin 2)).biUnion coreSet = Finset.univ := by
  ext x
  simp only [Finset.mem_biUnion, Finset.mem_univ, true_and, mem_coreSet, iff_true]
  exact ⟨⟨(x 0).val / 50000 % 2, Nat.mod_lt _ (by decide)⟩, rfl⟩

theorem cores_disjoint : ∀ i ∈ (Finset.univ : Finset (Fin 2)), ∀ j ∈ (Finset.univ : Finset (Fin 2)), i ≠ j → Disjoint (coreSet i) (coreSet j) := by
  intro i _ j _ hij
  refine Finset.disjoint_left.mpr fun x h1 h2 => hij (Fin.ext ?_)
  have h1 := mem_coreSet.mp h1
  have h2 := mem_coreSet.mp h2
  omega

/-! ## The payloads -/

abbrev locX (d : Dev nD) : Loc nD τ sig := (SparseCore.T d).loc main_v3
abbrev locY (d : Dev nD) : Loc nD τ sig := (SparseCore.T d).loc main_v7
abbrev locZ (d : Dev nD) : Loc nD τ sig := (SparseCore.T d).loc main_v11
abbrev locI (d : Dev nD) : Loc nD τ sig := (SparseCore.T d).loc main_arg1
abbrev locS (d : Dev nD) : Loc nD τ sig := (SparseCore.T d).loc main_v14
abbrev locW (d : Dev nD) : Loc nD τ sig := (SparseCore.T d).loc main_v18
abbrev locO (d : Dev nD) : Loc nD τ sig := (SparseCore.T d).loc main_v19

/-- The six operands, at a share. -/
def opnds (d : Dev nD) (o : Opnds F) (q : PosShare TreeShare) : sProp (MT nD τ sig (HIx 1) (Elt F) ℕ UU ℕ) :=
  iprop((locX d ↦{q} (o.x : Buf (Elt F) (locX d))) ∗ (locY d ↦{q} (o.y : Buf (Elt F) (locY d))) ∗ (locZ d ↦{q} (o.z : Buf (Elt F) (locZ d)))
    ∗ (locI d ↦{q} (o.i : Buf (Elt F) (locI d))) ∗ (locS d ↦{q} (o.s : Buf (Elt F) (locS d))) ∗ (locW d ↦{q} (o.w : Buf (Elt F) (locW d))))

theorem opnds_leaves (d : Dev nD) (o : Opnds F) (n : ℕ) (q : PosShare TreeShare) :
    opnds d o q = bigSep Finset.univ fun i : Fin (2 ^ n) => opnds d o (leaf n q i) := by
  unfold opnds
  rw [bigSep_sep', bigSep_sep', bigSep_sep', bigSep_sep', bigSep_sep', pointsTo_leaves _ _ n q, pointsTo_leaves _ _ n q, pointsTo_leaves _ _ n q,
    pointsTo_leaves _ _ n q, pointsTo_leaves _ _ n q, pointsTo_leaves _ _ n q]

/-- Words of the result. -/
def outPts (d : Dev nD) (I : Finset S1600000.Idx) (f : Vec F S1600000 .f32) : sProp (MT nD τ sig (HIx 1) (Elt F) ℕ UU ℕ) :=
  iprop(locO d ↦[(I : Finset (Idx (locO d)))]{fullShare} (f : Buf (Elt F) (locO d)))

theorem outPts_cores (d : Dev nD) (f : Vec F S1600000 .f32) :
    outPts d Finset.univ f = bigSep Finset.univ fun c : Fin 2 => outPts d (coreSet c) f := by
  unfold outPts
  rw [← pointsTo_biUnion Finset.univ (ℓ := locO d) coreSet cores_disjoint]
  exact congrArg (fun I : Finset (Idx (locO d)) => (locO d ↦[I]{fullShare} (f : Buf (Elt F) (locO d)) : sProp 𝕄)) all_cores.symm

theorem outPts_tiles (d : Dev nD) (c : Fin 2) (f : Vec F S1600000 .f32) :
    outPts d (coreSet c) f = bigSep Finset.univ fun s : Fin 16 => outPts d (tileSet (2 * s.val + c.val)) f := by
  unfold outPts
  rw [← pointsTo_biUnion Finset.univ (ℓ := locO d) (fun s : Fin 16 => tileSet (2 * s.val + c.val)) (tiles_disjoint c)]
  exact congrArg (fun I : Finset (Idx (locO d)) => (locO d ↦[I]{fullShare} (f : Buf (Elt F) (locO d)) : sProp 𝕄)) (core_tiles c).symm

theorem nCore_zero : (K (F := F)).nCore 0 = 2 := rfl

/-- A SparseCore's share of the operands, and a tile's. -/
abbrev coreQ (c : Fin 2) : PosShare TreeShare := leaf 1 fullShare c
abbrev tileQ (c : Fin 2) (s : Fin 16) : PosShare TreeShare := leaf 4 (coreQ c) s

variable (o : Dev nD → Opnds F) (g : Dev nD → Vec F S1600000 .f32)

abbrev goP (d : Dev nD) (c : Fin 2) (s : Fin 16) : sProp (MT nD τ sig (HIx 1) (Elt F) ℕ UU ℕ) :=
  iprop(opnds d (o d) (tileQ c s) ∗ outPts d (tileSet (2 * s.val + c.val)) (g d))
abbrev tdP (d : Dev nD) (c : Fin 2) (s : Fin 16) : sProp (MT nD τ sig (HIx 1) (Elt F) ℕ UU ℕ) :=
  iprop(opnds d (o d) (tileQ c s) ∗ outPts d (tileSet (2 * s.val + c.val)) (outF (o d)))
abbrev stP (d : Dev nD) (c : Fin 2) : sProp (MT nD τ sig (HIx 1) (Elt F) ℕ UU ℕ) :=
  iprop(opnds d (o d) (coreQ c) ∗ outPts d (coreSet c) (g d))
abbrev dnP (d : Dev nD) (c : Fin 2) : sProp (MT nD τ sig (HIx 1) (Elt F) ℕ UU ℕ) :=
  iprop(opnds d (o d) (coreQ c) ∗ outPts d (coreSet c) (outF (o d)))

instance opnds_storable (d : Dev nD) (o : Opnds F) (q : PosShare TreeShare) : BI.Storable (upEmb : UEmb _ 𝕄) (opnds d o q) := by
  unfold opnds; infer_instance
instance outPts_storable (d : Dev nD) (I : Finset S1600000.Idx) (f : Vec F S1600000 .f32) : BI.Storable (upEmb : UEmb _ 𝕄) (outPts d I f) := by
  unfold outPts; infer_instance

/-- What the call's handshakes carry. -/
def P : (K (F := F)).Pay (nD := nD) (Val := Elt F) (Name := ℕ) (U := UU) where
  st := fun q d c => match q with | 0 => stP o g d (Fin.cast nCore_zero c)
  dn := fun q d c => match q with | 0 => dnP o d (Fin.cast nCore_zero c)
  go := fun q d c i => match q with | 0 => goP o g d (Fin.cast nCore_zero c) (Fin.cast nSub_zero i)
  td := fun q d c i => match q with | 0 => tdP o d (Fin.cast nCore_zero c) (Fin.cast nSub_zero i)
  x := fun _ _ => iprop(emp)

instance P_storable : (P o g).IsStorable where
  st q d c := match q with
    | 0 => (inferInstance : BI.Storable (upEmb : UEmb _ 𝕄) (stP o g d (Fin.cast nCore_zero c)))
  dn q d c := match q with
    | 0 => (inferInstance : BI.Storable (upEmb : UEmb _ 𝕄) (dnP o d (Fin.cast nCore_zero c)))
  go q d c i := match q with
    | 0 => (inferInstance : BI.Storable (upEmb : UEmb _ 𝕄) (goP o g d (Fin.cast nCore_zero c) (Fin.cast nSub_zero i)))
  td q d c i := match q with
    | 0 => (inferInstance : BI.Storable (upEmb : UEmb _ 𝕄) (tdP o d (Fin.cast nCore_zero c) (Fin.cast nSub_zero i)))

theorem bigSep_tasks (Φ : Fin 16 → sProp (MT nD τ sig (HIx 1) (Elt F) ℕ UU ℕ)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (MT nD τ sig (HIx 1) (Elt F) ℕ UU ℕ)) :
    (bigSep Finset.univ fun i : Fin ((K (F := F)).nCore 0) => Φ (Fin.cast nCore_zero i)) = bigSep Finset.univ Φ :=
  bigSep_congr fun _ _ => congrArg Φ (Fin.ext rfl)

theorem tiles_of_core (d : Dev nD) (c : Fin 2) (f : Vec F S1600000 .f32) :
    (iprop(opnds d (o d) (coreQ c) ∗ outPts d (coreSet c) f) : sProp 𝕄)
      = bigSep Finset.univ fun s : Fin 16 => iprop(opnds d (o d) (tileQ c s) ∗ outPts d (tileSet (2 * s.val + c.val)) f) := by
  rw [bigSep_sep', outPts_tiles, opnds_leaves d (o d) 4 (coreQ c)]; rfl

theorem cores_of_all (d : Dev nD) (f : Vec F S1600000 .f32) :
    (iprop(opnds d (o d) fullShare ∗ outPts d Finset.univ f) : sProp 𝕄)
      = bigSep Finset.univ fun c : Fin 2 => iprop(opnds d (o d) (coreQ c) ∗ outPts d (coreSet c) f) := by
  rw [bigSep_sep', outPts_cores, opnds_leaves d (o d) 1 fullShare]; rfl

theorem vecSplit : (K (F := F)).VecSplit' (P o g) 0 := by
  intro d c
  show stP o g d (Fin.cast nCore_zero c) ⊢ |={Set.univ}=> iprop(
      (bigSep Finset.univ fun i : Fin ((K (F := F)).nSub 0) => goP o g d (Fin.cast nCore_zero c) (Fin.cast nSub_zero i))
      ∗ ((bigSep Finset.univ fun i : Fin ((K (F := F)).nSub 0) => tdP o d (Fin.cast nCore_zero c) (Fin.cast nSub_zero i))
          -∗ dnP o d (Fin.cast nCore_zero c)))
  rw [bigSep_tasks (F := F) (fun i => goP o g d (Fin.cast nCore_zero c) i), bigSep_tasks (F := F) (fun i => tdP o d (Fin.cast nCore_zero c) i)]
  unfold stP dnP goP tdP
  rw [tiles_of_core, tiles_of_core]
  iintro H; imodintro
  isplitl [H]; · iexact H
  iintro H; iexact H

theorem st0_eq (d : Dev nD) : (bigSep Finset.univ fun c : Fin ((K (F := F)).nCore 0) => (P o g).st 0 d c)
    = iprop(opnds d (o d) fullShare ∗ outPts d Finset.univ (g d)) :=
  (bigSep_cores (F := F) fun c => stP o g d c).trans (cores_of_all o d (g d)).symm
theorem dn0_eq (d : Dev nD) : (bigSep Finset.univ fun c : Fin ((K (F := F)).nCore 0) => (P o g).dn 0 d c)
    = iprop(opnds d (o d) fullShare ∗ outPts d Finset.univ (outF (o d))) :=
  (bigSep_cores (F := F) fun c => dnP o d c).trans (cores_of_all o d (outF (o d))).symm

end Cert.Proof.Pool
-- ==== Proof.Sandwich.lean ====
/-
  What the pool call's windows hold, on the extended reals: a word of a window is the maximum of zero and of the points
  whose row it lies in. Stated as two bounds: whatever bounds those points and zero bounds the word, and the word
  bounds each of them. The upper bound needs nothing; the lower one needs the point to be among the chunks.
-/
module

public import proofs.«01_k».proof.Proof.Payloads
public import Idealize.ShloMosaic.PureOps.Ideal.Laws

@[expose] public section

noncomputable section

namespace Cert.Proof.Pool

open Cert.KernelIdeal Cert.KernelIdeal.Gen
open Idealize.ShloMosaic

/-! ## One list of points -/

theorem upd_ge (a : ℕ) (v : Vec Ideal S16 .f32) (f : Vec Ideal S25088 .f32) (j : S25088.Idx) : f j ≤ upd a v f j := by
  unfold upd
  split
  · exact le_max_left _ _
  · exact le_rfl

theorem upd_at (a : ℕ) (v : Vec Ideal S16 .f32) (f : Vec Ideal S25088 .f32) (j : S25088.Idx) (h : a ≤ (j 0).val ∧ (j 0).val < a + 16) :
    v (lane ((j 0).val - a)) ≤ upd a v f j := by
  unfold upd
  rw [if_pos h]
  exact le_max_right _ _

theorem upd_le (a : ℕ) (v : Vec Ideal S16 .f32) (f : Vec Ideal S25088 .f32) (j : S25088.Idx) (M : EReal) (hf : f j ≤ M)
    (hv : a ≤ (j 0).val ∧ (j 0).val < a + 16 → v (lane ((j 0).val - a)) ≤ M) : upd a v f j ≤ M := by
  unfold upd
  split
  · rename_i h; exact max_le hf (hv h)
  · exact hf

variable {row : ℕ → ℕ} {val : ℕ → Vec Ideal S16 .f32}

theorem proc_ge (L : List ℕ) : ∀ (f : Vec Ideal S25088 .f32) (j : S25088.Idx), f j ≤ proc row val L f j := by
  induction L with
  | nil => intro f j; exact le_rfl
  | cons p L ih => intro f j; exact (upd_ge _ _ _ _).trans (ih _ j)

theorem proc_le (L : List ℕ) (j : S25088.Idx) (M : EReal)
    (hv : ∀ p ∈ L, 16 * row p ≤ (j 0).val ∧ (j 0).val < 16 * row p + 16 → val p (lane ((j 0).val - 16 * row p)) ≤ M) :
    ∀ f : Vec Ideal S25088 .f32, f j ≤ M → proc row val L f j ≤ M := by
  induction L with
  | nil => intro f hf; exact hf
  | cons p L ih =>
    intro f hf
    exact ih (fun q hq => hv q (List.mem_cons_of_mem _ hq)) _ (upd_le _ _ _ _ _ hf (hv p List.mem_cons_self))

theorem proc_at (L : List ℕ) (j : S25088.Idx) (p : ℕ) (hp : p ∈ L) (h : 16 * row p ≤ (j 0).val ∧ (j 0).val < 16 * row p + 16) :
    ∀ f : Vec Ideal S25088 .f32, val p (lane ((j 0).val - 16 * row p)) ≤ proc row val L f j := by
  induction L with
  | nil => cases hp
  | cons q L ih =>
    intro f
    rcases List.mem_cons.mp hp with rfl | hp
    · exact (upd_at _ _ _ _ h).trans (proc_ge L _ j)
    · exact ih hp _

theorem mem_grps (p : ℕ) (h : p < 1024) : p ∈ grps (p % 2) 64 := by
  unfold grps grp
  rw [List.mem_flatMap]
  refine ⟨p / 16, List.mem_range.mpr (by omega), List.mem_map.mpr ⟨p % 16 / 2, List.mem_range.mpr (by omega), by omega⟩⟩

/-! ## The chunks of a window -/

variable (lo n : BitVec 32) (w0 w1 w2 w3 : Vec Ideal S16 .f32) (X Y Z : Vec Ideal S3200000 .f32) (I : Vec Ideal S3200000 .i32) (off : ℕ → ℕ)

/-- The value of point `p`. -/
abbrev ptv (p : ℕ) : Vec Ideal S16 .f32 := pointVal w0 w1 w2 w3 (strm X p) (strm Y p) (strm Z p)

theorem taken_ge (par k : ℕ) (a : Vec Ideal S25088 .f32) (j : S25088.Idx) : a j ≤ taken lo n w0 w1 w2 w3 X Y Z I off par k a j := by
  induction k with
  | zero => exact le_rfl
  | succ k ih => rw [taken_succ]; exact ih.trans (proc_ge _ _ j)

theorem taken_le (par k : ℕ) (a : Vec Ideal S25088 .f32) (j : S25088.Idx) (M : EReal) (ha : a j ≤ M)
    (hv : ∀ p, 16 * slot lo n (strm I p) ≤ (j 0).val ∧ (j 0).val < 16 * slot lo n (strm I p) + 16 →
      ptv w0 w1 w2 w3 X Y Z p (lane ((j 0).val - 16 * slot lo n (strm I p))) ≤ M) :
    taken lo n w0 w1 w2 w3 X Y Z I off par k a j ≤ M := by
  induction k with
  | zero => exact ha
  | succ k ih => rw [taken_succ]; exact proc_le _ j M (fun p _ h => hv _ h) _ ih

theorem taken_at (par k : ℕ) (a : Vec Ideal S25088 .f32) (j : S25088.Idx) (i q : ℕ) (hi : i < k) (hq : q ∈ grps par 64)
    (h : 16 * slot lo n (strm I (off i + q)) ≤ (j 0).val ∧ (j 0).val < 16 * slot lo n (strm I (off i + q)) + 16) :
    ptv w0 w1 w2 w3 X Y Z (off i + q) (lane ((j 0).val - 16 * slot lo n (strm I (off i + q)))) ≤ taken lo n w0 w1 w2 w3 X Y Z I off par k a j := by
  induction k with
  | zero => omega
  | succ k ih =>
    rw [taken_succ]
    by_cases hik : i = k
    · subst hik
      exact proc_at (row := fun p => slot lo n (strm I (off i + p))) (val := fun p => ptv w0 w1 w2 w3 X Y Z (off i + p)) _ j q hq h _
    · exact (ih (by omega)).trans (proc_ge _ _ j)

theorem zer_ideal : (zer : Ideal .f32) = 0 := by show Ideal.ofBits .f32 0x00000000#32 = 0; exact Ideal.ofBits_zero_f32

theorem res_nonneg (N : ℕ) (j : S25088.Idx) : (0 : EReal) ≤ res lo n w0 w1 w2 w3 X Y Z I off N j := by
  refine le_trans ?_ (le_max_left _ _)
  exact le_trans (le_of_eq zer_ideal.symm) (taken_ge lo n w0 w1 w2 w3 X Y Z I off 0 N (fun _ => (zer : Ideal .f32)) j)

theorem res_le (N : ℕ) (j : S25088.Idx) (M : EReal) (h0 : 0 ≤ M)
    (hv : ∀ p, 16 * slot lo n (strm I p) ≤ (j 0).val ∧ (j 0).val < 16 * slot lo n (strm I p) + 16 →
      ptv w0 w1 w2 w3 X Y Z p (lane ((j 0).val - 16 * slot lo n (strm I p))) ≤ M) : res lo n w0 w1 w2 w3 X Y Z I off N j ≤ M :=
  max_le (taken_le lo n w0 w1 w2 w3 X Y Z I off 0 N _ j M (le_trans (le_of_eq zer_ideal) h0) hv)
    (taken_le lo n w0 w1 w2 w3 X Y Z I off 1 N _ j M (le_trans (le_of_eq zer_ideal) h0) hv)

theorem res_at (N : ℕ) (j : S25088.Idx) (i q : ℕ) (hi : i < N) (hq : q < 1024)
    (h : 16 * slot lo n (strm I (off i + q)) ≤ (j 0).val ∧ (j 0).val < 16 * slot lo n (strm I (off i + q)) + 16) :
    ptv w0 w1 w2 w3 X Y Z (off i + q) (lane ((j 0).val - 16 * slot lo n (strm I (off i + q)))) ≤ res lo n w0 w1 w2 w3 X Y Z I off N j := by
  rcases Nat.mod_two_eq_zero_or_one q with e | e
  · exact (taken_at lo n w0 w1 w2 w3 X Y Z I off 0 N _ j i q hi (e ▸ mem_grps q hq) h).trans (le_max_left _ _)
  · exact (taken_at lo n w0 w1 w2 w3 X Y Z I off 1 N _ j i q hi (e ▸ mem_grps q hq) h).trans (le_max_right _ _)

/-! ## Rows and ids -/

/-- A point whose row is below the window's size has the id that many from the window's first. -/
theorem id_of_slot (id : BitVec 32) (r : ℕ) (hr : r < 1563) (h : slot lo n id = r) : id = lo + BitVec.ofNat 32 r := by
  unfold slot slotW at h
  split at h
  · apply BitVec.eq_of_toNat_eq
    rw [BitVec.toNat_sub] at h
    rw [BitVec.toNat_add, BitVec.toNat_ofNat]
    have := id.isLt
    have := lo.isLt
    omega
  · exfalso
    have : (1567#32).toNat = 1567 := rfl
    omega

/-- A point whose id is in the window has the row that far from its first. -/
theorem slot_of_id (r : ℕ) (hn : n.toNat ≤ 1563) (hr : r < n.toNat) : slot lo n (lo + BitVec.ofNat 32 r) = r := by
  have e : lo + BitVec.ofNat 32 r - lo = BitVec.ofNat 32 r := by
    rw [BitVec.add_comm, BitVec.add_sub_cancel]
  have hnat : (BitVec.ofNat 32 r).toNat = r := by rw [BitVec.toNat_ofNat]; omega
  have e1 : (0#32).sle (BitVec.ofNat 32 r) = true := by
    rw [BitVec.sle_iff_toInt_le, BitVec.toInt_zero, BitVec.toInt_eq_toNat_cond, hnat]
    split <;> omega
  have e2 : (BitVec.ofNat 32 r).slt n = true := by
    rw [BitVec.slt_iff_toInt_lt, BitVec.toInt_eq_toNat_cond, BitVec.toInt_eq_toNat_cond, hnat]
    split <;> split <;> omega
  unfold slot slotW
  rw [e, e1, e2, if_pos (by decide)]
  exact hnat

end Cert.Proof.Pool
-- ==== Proof.Cover.lean ====
/-
  Which chunks hold a window's points. The ids ascend, and the count of strided ids below a bound says, to within one
  stride, where the points from that bound on begin: so the chunks a window takes hold every point whose id lies in it.
-/
module

public import proofs.«01_k».proof.Proof.Sandwich

@[expose] public section

noncomputable section

namespace Cert.Proof.Pool

open Cert.KernelIdeal Cert.KernelIdeal.Gen
open Idealize.ShloMosaic

/-- A property that only ever turns from true to false holds exactly below the count of its places. -/
theorem count_of_prefix (P : ℕ → Prop) [DecidablePred P] (n : ℕ) (h : ∀ i j, i ≤ j → j < n → P j → P i) :
    (∑ k ∈ Finset.range n, if P k then 1 else 0) ≤ n ∧ ∀ k < n, (P k ↔ k < ∑ k ∈ Finset.range n, if P k then 1 else 0) := by
  induction n with
  | zero => exact ⟨by simp, fun k hk => absurd hk (by omega)⟩
  | succ n ih =>
    obtain ⟨h1, h2⟩ := ih fun i j hij hj => h i j hij (by omega)
    rw [Finset.sum_range_succ]
    by_cases hn : P n
    · have e : (∑ k ∈ Finset.range n, if P k then 1 else 0) = n := by
        rcases Nat.eq_zero_or_pos n with rfl | hp
        · simp
        · have := (h2 (n - 1) (by omega)).mp (h (n - 1) n (by omega) (by omega) hn)
          omega
      rw [if_pos hn, e]
      exact ⟨le_rfl, fun k hk => ⟨fun _ => hk, fun _ => h k n (by omega) (by omega) hn⟩⟩
    · rw [if_neg hn, Nat.add_zero]
      refine ⟨by omega, fun k hk => ?_⟩
      by_cases hk' : k < n
      · exact h2 k hk'
      · obtain rfl : k = n := by omega
        exact ⟨fun hc => absurd hc hn, fun hc => by omega⟩

/-- The ids ascend. -/
def Sorted (I : Vec Ideal S3200000 .i32) : Prop := ∀ p q, p ≤ q → q < 3200000 → (strm I p).toInt ≤ (strm I q).toInt

/-- The strided ids: every 1024th, then a padding above every id that counts. -/
structure Strided (I : Vec Ideal S3200000 .i32) (S : ℕ → BitVec 32) : Prop where
  at_stride : ∀ k < 3125, S k = strm I (1024 * k)
  pad : ∀ k, 3125 ≤ k → k < 3200 → S k = 1073741824#32

section
variable {I : Vec Ideal S3200000 .i32} {S : ℕ → BitVec 32} (hI : Sorted I) (hS : Strided I S)
include hI hS

/-- The strided ids below a bound are the first ones. -/
theorem lt_cnt_iff (b : BitVec 32) (hb : b.toInt ≤ 1073741824) (k : ℕ) (hk : k < 3125) : (strm I (1024 * k)).toInt < b.toInt ↔ k < cnt S b := by
  have key := count_of_prefix (fun k => (S k).toInt < b.toInt) 3200 (by
    intro i j hij hj hlt
    have hj' : j < 3125 := by
      by_contra hc
      rw [hS.pad j (by omega) hj] at hlt
      have : (1073741824#32).toInt = 1073741824 := by decide
      omega
    rw [hS.at_stride j hj'] at hlt
    show (S i).toInt < b.toInt
    rw [hS.at_stride i (by omega)]
    have := hI (1024 * i) (1024 * j) (by omega) (by omega)
    omega)
  have e : cnt S b = ∑ k ∈ Finset.range 3200, if (S k).toInt < b.toInt then 1 else 0 := by
    unfold cnt below
    refine Finset.sum_congr rfl fun k _ => ?_
    simp only [BitVec.slt_iff_toInt_lt]
  rw [e, ← key.2 k (by omega)]
  show _ ↔ (S k).toInt < b.toInt
  rw [hS.at_stride k hk]

/-- Points from a bound on begin no earlier than one stride before its count. -/
theorem from_cnt (b : BitVec 32) (hb : b.toInt ≤ 1073741824) (p : ℕ) (hp : p < 3200000) (h : b.toInt ≤ (strm I p).toInt) : 1024 * (cnt S b - 1) ≤ p := by
  by_contra hc
  have hk : cnt S b - 1 < 3125 := by
    have := cnt_le S b hS.pad hb
    omega
  have h1 := (lt_cnt_iff hI hS b hb (cnt S b - 1) hk).mpr (by omega)
  have h2 := hI p (1024 * (cnt S b - 1)) (by omega) (by omega)
  omega

/-- Points below a bound end before its count of strides. -/
theorem to_cnt (b : BitVec 32) (hb : b.toInt ≤ 1073741824) (p : ℕ) (hp : p < 3200000) (h : (strm I p).toInt < b.toInt) : p < 1024 * cnt S b := by
  have h2 := hI (1024 * (p / 1024)) p (by omega) hp
  have h1 := (lt_cnt_iff hI hS b hb (p / 1024) (by omega)).mp (by omega)
  omega

end

/-- The chunk that holds a point of the range. -/
theorem chunk_of (a b N p : ℕ) (hp : p < 3200000) (h0 : 1024 * (a - 1) ≤ p) (h1 : p < 1024 * b) (hN : b - (a - 1) ≤ N) :
    ∃ i q, i < N ∧ q < 1024 ∧ chunkAt a i + q = p := by
  refine ⟨p / 1024 - (a - 1), p % 1024, by omega, by omega, ?_⟩
  unfold chunkAt
  omega

end Cert.Proof.Pool
-- ==== Proof.PoolValue.lean ====
/-
  The pool call's result on the extended reals: word `16 * g + l` is the maximum of zero and of lane `l` of the points
  whose id is `g`. Stated as two bounds, which determine it.
-/
module

public import proofs.«01_k».proof.Proof.Cover

@[expose] public section

noncomputable section

namespace Cert.Proof.Pool

open Cert.KernelIdeal Cert.KernelIdeal.Gen
open Idealize.ShloMosaic

/-- The value of point `p` of the call's operands. -/
abbrev Opnds.pt (o : Opnds Ideal) (p : ℕ) : Vec Ideal S16 .f32 := ptv (wv0 o.w) (wv1 o.w) (wv2 o.w) (wv3 o.w) o.x o.y o.z p

/-- The maximum of zero and of lane `l` of the points of id `g`, as the number that two bounds determine. -/
structure IsPool (o : Opnds Ideal) (g l : ℕ) (v : EReal) : Prop where
  nonneg : 0 ≤ v
  le : ∀ M : EReal, 0 ≤ M → (∀ p, p < 3200000 → strm o.i p = BitVec.ofNat 32 g → o.pt p (lane l) ≤ M) → v ≤ M
  ge : ∀ p, p < 3200000 → strm o.i p = BitVec.ofNat 32 g → o.pt p (lane l) ≤ v

theorem strm_clip {α : Type} (a : S3200000.Idx → α) (p : ℕ) : strm a p = strm a (min p 3199999) :=
  congrArg a (funext fun x => Fin.ext (by show min p 3199999 = min (min p 3199999) 3199999; omega))

theorem toInt_small (n : ℕ) (h : n < 200000) : (BitVec.ofNat 32 n).toInt = n := by
  rw [BitVec.toInt_eq_toNat_cond, BitVec.toNat_ofNat]
  split <;> omega

theorem word_of_int (b : BitVec 32) (n : ℕ) (h : n < 200000) (hb : Affine.IsInt b (n : ℤ)) : b = BitVec.ofNat 32 n := by
  apply BitVec.eq_of_toNat_eq
  rw [toNat_of_isInt hb, BitVec.toNat_ofNat]
  omega

/-- One window: its first id is `base`, it has `cntR` rows, and it takes the chunks from the count of `base` on. -/
theorem window (o : Opnds Ideal) (hI : Sorted o.i) (hS : Strided o.i (subs o.s)) (base cntR N r l : ℕ) (hbase : base + cntR ≤ 100000) (hcnt : cntR ≤ 1563)
    (hr : r < cntR) (hl : l < 16)
    (hN : cnt (subs o.s) (BitVec.ofNat 32 (base + cntR)) - (cnt (subs o.s) (BitVec.ofNat 32 base) - 1) ≤ N)
    (j : S25088.Idx) (hj : (j 0).val = 16 * r + l) :
    IsPool o (base + r) l (res (BitVec.ofNat 32 base) (BitVec.ofNat 32 cntR) (wv0 o.w) (wv1 o.w) (wv2 o.w) (wv3 o.w) o.x o.y o.z o.i
      (chunkAt (cnt (subs o.s) (BitVec.ofNat 32 base))) N j) := by
  have hword : BitVec.ofNat 32 base + BitVec.ofNat 32 r = BitVec.ofNat 32 (base + r) := by rw [BitVec.ofNat_add]
  have hn : (BitVec.ofNat 32 cntR).toNat = cntR := by rw [BitVec.toNat_ofNat]; omega
  refine ⟨res_nonneg .., fun M h0 hM => res_le _ _ _ _ _ _ _ _ _ _ _ N j M h0 fun p hp => ?_, fun p hp hid => ?_⟩
  · have hs : slot (BitVec.ofNat 32 base) (BitVec.ofNat 32 cntR) (strm o.i p) = r := by omega
    have hid := id_of_slot _ _ _ r (by omega) hs
    rw [hword] at hid
    have h := hM (min p 3199999) (by omega) (by rw [← strm_clip]; exact hid)
    rw [hs, show (j 0).val - 16 * r = l by omega]
    unfold Opnds.pt ptv at h
    rw [← strm_clip, ← strm_clip, ← strm_clip] at h
    exact h
  · have hslot := slot_of_id (BitVec.ofNat 32 base) (BitVec.ofNat 32 cntR) r (by omega) (by omega)
    rw [hword] at hslot
    have hb1 := toInt_small base (by omega)
    have hb2 := toInt_small (base + cntR) (by omega)
    have hb3 := toInt_small (base + r) (by omega)
    have lo := from_cnt hI hS (BitVec.ofNat 32 base) (by omega) p hp (by rw [hid]; omega)
    have hi := to_cnt hI hS (BitVec.ofNat 32 (base + cntR)) (by omega) p hp (by rw [hid]; omega)
    obtain ⟨i, q, hi', hq, e⟩ := chunk_of _ _ N p hp lo hi hN
    have hs : slot (BitVec.ofNat 32 base) (BitVec.ofNat 32 cntR) (strm o.i (chunkAt (cnt (subs o.s) (BitVec.ofNat 32 base)) i + q)) = r := by
      rw [e, hid]; exact hslot
    have h := res_at (BitVec.ofNat 32 base) (BitVec.ofNat 32 cntR) (wv0 o.w) (wv1 o.w) (wv2 o.w) (wv3 o.w) o.x o.y o.z o.i
      (chunkAt (cnt (subs o.s) (BitVec.ofNat 32 base))) N j i q hi' hq (by rw [hs]; omega)
    rw [hs, show (j 0).val - 16 * r = l by omega, e] at h
    exact h

theorem tid_crd (w : ℕ) (hw : w < 32) : tid (crd w) = w := by
  show 2 * (w / 2 % 16) + w % 2 = w; omega

/-- A tile's first ids as words. -/
theorem segs_eq (w : ℕ) (hw : w < 32) : segA (crd w) = BitVec.ofNat 32 (3125 * w) ∧ segB (crd w) = BitVec.ofNat 32 (3125 * w + 1563)
    ∧ segE (crd w) = BitVec.ofNat 32 (3125 * w + 3125) := by
  have hA := isInt_segA (crd w)
  have hB := isInt_segB (crd w)
  have hE := isInt_segE (crd w)
  rw [tid_crd w hw] at hA hB hE
  exact ⟨word_of_int _ _ (by omega) hA, word_of_int _ _ (by omega) hB, word_of_int _ _ (by omega) hE⟩

theorem resA_isPool (o : Opnds Ideal) (hI : Sorted o.i) (hS : Strided o.i (subs o.s)) (w r l : ℕ) (hw : w < 32) (hr : r < 1563) (hl : l < 16)
    (j : S25088.Idx) (hj : (j 0).val = 16 * r + l) : IsPool o (3125 * w + r) l (o.resA (crd w) j) := by
  obtain ⟨eA, eB, eE⟩ := segs_eq w hw
  unfold Opnds.resA Opnds.cA Opnds.cB Opnds.cE
  rw [eA, eB, eE]
  exact window o hI hS (3125 * w) 1563 _ r l (by omega) (by omega) hr hl (by unfold rounds; omega) j hj

theorem resB_isPool (o : Opnds Ideal) (hI : Sorted o.i) (hS : Strided o.i (subs o.s)) (w r l : ℕ) (hw : w < 32) (hr : r < 1562) (hl : l < 16)
    (j : S25088.Idx) (hj : (j 0).val = 16 * r + l) : IsPool o (3125 * w + 1563 + r) l (o.resB (crd w) j) := by
  obtain ⟨eA, eB, eE⟩ := segs_eq w hw
  unfold Opnds.resB Opnds.cA Opnds.cB Opnds.cE
  rw [eA, eB, eE, show 3125 * w + 3125 = 3125 * w + 1563 + 1562 from rfl]
  exact window o hI hS (3125 * w + 1563) 1562 _ r l (by omega) (by omega) hr hl (by unfold rounds; omega) j hj

theorem rowAt_val (r : ℕ) (h : r < 25088) : (rowAt r 0).val = r := Nat.mod_eq_of_lt h

/-- The call's result, word by word. -/
theorem outF_isPool (o : Opnds Ideal) (hI : Sorted o.i) (hS : Strided o.i (subs o.s)) (g l : ℕ) (hg : g < 100000) (hl : l < 16)
    (x : S1600000.Idx) (hx : (x 0).val = 16 * g + l) : IsPool o g l (outF o x) := by
  by_cases h : (x 0).val % 50000 < 25008
  · have e : outF o x = o.resA (crd ((x 0).val / 50000)) (rowAt ((x 0).val % 50000)) := by unfold outF; exact if_pos h
    rw [e, show g = 3125 * ((x 0).val / 50000) + g % 3125 by omega]
    exact resA_isPool o hI hS _ _ l (by omega) (by omega) hl _ (by rw [rowAt_val _ (by omega)]; omega)
  · have e : outF o x = o.resB (crd ((x 0).val / 50000)) (rowAt ((x 0).val % 50000 - 25008)) := by unfold outF; exact if_neg h
    rw [e, show g = 3125 * ((x 0).val / 50000) + 1563 + (g % 3125 - 1563) by omega]
    exact resB_isPool o hI hS _ _ l (by omega) (by omega) hl _ (by rw [rowAt_val _ (by omega)]; omega)

end Cert.Proof.Pool
-- ==== Proof.Pieces.lean ====
/-
  A tile's holdings, one by one: its scratch buffers and semaphores out of what the launch deals it, and its words of the
  result as its two windows' rows.
-/
module

public import proofs.«01_k».proof.Proof.Payloads
public import Idealize.ShloMosaic.Lib.ShareLeaves

@[expose] public section

noncomputable section

namespace Cert.Proof.Pool

open Cert.KernelIdeal Cert.KernelIdeal.Gen
open Idealize.ShloMosaic
open Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-! ## Out of a conjunction, a list of its members -/

theorem peel {M : Type} [URA M] {I : Type} [DecidableEq I] (Φ : I → sProp M) : ∀ (l : List I) (S : Finset I), l.Nodup → (∀ a ∈ l, a ∈ S) →
    bigSep S Φ = l.foldr (fun a R => iprop(Φ a ∗ R)) (bigSep (l.foldl Finset.erase S) Φ)
  | [], S, _, _ => rfl
  | a :: l, S, hn, hm => by
    have hn' := List.nodup_cons.mp hn
    rw [SparseCore.bigSep_erase' (hm a List.mem_cons_self), peel Φ l (S.erase a) hn'.2
      (fun b hb => Finset.mem_erase.mpr ⟨fun e => hn'.1 (e ▸ hb), hm b (List.mem_cons_of_mem _ hb)⟩)]
    rfl

section
variable (d : Dev nD) (c : Fin τ.nSC) (s : Fin τ.nSub)

/-- A subcore's scratch buffers. -/
def scrs : List (Ref sig .scVector) := [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18, cc0_scratch19, cc0_scratch20, cc0_scratch21]
/-- Its semaphores. -/
def sems : List (SemLoc sig) := [.dma cc0_scratch22.sem, .dma cc0_scratch23.sem, .dma cc0_scoped0.sem, .dma cc0_scoped1.sem, .dma cc0_scoped2.sem, .dma cc0_scoped3.sem]

theorem scrs_nodup : scrs.Nodup := by decide
theorem sems_nodup : sems.Nodup := by decide

/-- What is left of its buffers, and of its semaphores. -/
def restBufs : sProp (MT nD τ sig (HIx 1) (Elt F) ℕ UU ℕ) :=
  bigSep ((scrs.map (Proc.scVector c s).devRef).foldl Finset.erase (ownRefs (τ := τ) (.scVector c s))) fun b => iprop(∃ f, ((d, b) : Loc nD τ sig) ↦{fullShare} f)
def restSems : sProp (MT nD τ sig (HIx 1) (Elt F) ℕ UU ℕ) :=
  bigSep ((sems.map fun sm => ((V d c s, sm) : GSem nD τ sig)).foldl Finset.erase (ownCells (V d c s))) fun g => semVal g 0

theorem ownBufs_list : (ownBufs (V d c s) : sProp 𝕄) = scrs.foldr (fun r R => iprop((∃ f, (V d c s).loc r ↦{fullShare} f) ∗ R)) (restBufs d c s) := by
  unfold SparseCore.Cfg.ownBufs restBufs
  refine (peel _ (scrs.map (Proc.scVector c s).devRef) _ (scrs_nodup.map (Proc.devRef_injective _)) ?_).trans ?_
  · intro b hb
    obtain ⟨r, hr, rfl⟩ := List.mem_map.mp hb
    refine SparseCore.Cfg.mem_ownRefs_of_owner ?_
    simp only [scrs, List.mem_cons, List.not_mem_nil, or_false] at hr
    rcases hr with rfl | rfl | rfl | rfl | rfl | rfl | rfl | rfl | rfl | rfl | rfl | rfl | rfl | rfl | rfl | rfl | rfl | rfl | rfl | rfl | rfl | rfl <;> rfl
  · rw [List.foldr_map]

theorem ownSems0_list : (ownSems0 (V d c s) : sProp 𝕄) = sems.foldr (fun sm R => iprop(semVal (V d c s, sm) 0 ∗ R)) (restSems d c s) := by
  unfold SparseCore.Cfg.ownSems0 restSems
  refine (peel _ (sems.map fun sm => ((V d c s, sm) : GSem nD τ sig)) _ (sems_nodup.map fun a b h => (Prod.mk.inj h).2) ?_).trans ?_
  · intro b hb
    obtain ⟨r, hr, rfl⟩ := List.mem_map.mp hb
    refine mem_ownCells.mpr ⟨rfl, ?_⟩
    have key : ∀ r ∈ sems, r.isScoped .scVector = true := by decide
    exact key r hr
  · rw [List.foldr_map]

/-- A scratch buffer, as the memory rules name it. -/
theorem scr_holds (r : Ref sig .scVector) :
    (iprop(∃ f, (V d c s).loc r ↦{fullShare} f) : sProp 𝕄) ⊢ iprop(∃ v, holds (V d c s) (Memref.whole r) fullShare v) := by
  iintro ⟨%f, H⟩
  iexists ((Memref.whole r).view.read (Elt F) f)
  iapply (holds_intro (c := V d c s) (Memref.whole r) fullShare f)
  have h : (Memref.whole r).view.set = Finset.univ := View.set_whole _
  rw [h]
  iexact H

theorem holds_scr (r : Ref sig .scVector) :
    (iprop(∃ v, holds (V d c s) (Memref.whole r) fullShare v) : sProp 𝕄) ⊢ iprop(∃ f, (V d c s).loc r ↦{fullShare} f) := by
  iintro ⟨%v, H⟩
  unfold holds
  icases H with ⟨%f, H, -⟩
  have h : (Memref.whole r).view.set = Finset.univ := View.set_whole _
  rw [h]
  iexists f
  iexact H

end

/-! ## A tile's words of the result -/

/-- The result, as a tile addresses it. -/
abbrev oV : Memref sig .scVector .hbm S1600000 .f32 := Memref.whole main_v19_scv

/-- The words of a tile's two windows. -/
def setA (i : grid0.Coords) : Finset S1600000.Idx := (outA oV i).view.set
def setB (i : grid0.Coords) : Finset S1600000.Idx := (outB oV i).view.set

theorem setA_eq (i : grid0.Coords) : setA i = (Rect.unit (s := S1600000) (k0_off14 i) S25008.size (k0_off14_inb i)).set := by
  show ((View.whole (main_v19_scv : Ref sig .scVector)).slice _).set = _
  rw [View.set_slice]; exact Finset.map_refl
theorem setB_eq (i : grid0.Coords) : setB i = (Rect.unit (s := S1600000) (k0_off15 i) S24992.size (k0_off15_inb i)).set := by
  show ((View.whole (main_v19_scv : Ref sig .scVector)).slice _).set = _
  rw [View.set_slice]; exact Finset.map_refl

theorem mem_setA {i : grid0.Coords} {x : S1600000.Idx} : x ∈ setA i ↔ 50000 * tid i ≤ (x 0).val ∧ (x 0).val < 50000 * tid i + 25008 := by
  rw [setA_eq, Rect.mem_set_unit, Fin.forall_fin_one, k0_off14_eq]
  show 100000 * (i 1).val + 50000 * (i 0).val ≤ _ ∧ _ < 100000 * (i 1).val + 50000 * (i 0).val + 25008 ↔ _
  unfold tid; constructor <;> rintro ⟨h1, h2⟩ <;> constructor <;> omega
theorem mem_setB {i : grid0.Coords} {x : S1600000.Idx} : x ∈ setB i ↔ 50000 * tid i + 25008 ≤ (x 0).val ∧ (x 0).val < 50000 * tid i + 50000 := by
  rw [setB_eq, Rect.mem_set_unit, Fin.forall_fin_one, k0_off15_eq]
  show 100000 * (i 1).val + 50000 * (i 0).val + 25008 ≤ _ ∧ _ < 100000 * (i 1).val + 50000 * (i 0).val + 25008 + 24992 ↔ _
  unfold tid; constructor <;> rintro ⟨h1, h2⟩ <;> constructor <;> omega

theorem set_AB (i : grid0.Coords) : tileSet (tid i) = setA i ∪ setB i := by
  ext x
  rw [Finset.mem_union, mem_tileSet, mem_setA, mem_setB]
  omega
theorem disj_AB (i : grid0.Coords) : Disjoint (setA i) (setB i) :=
  Finset.disjoint_left.mpr fun x h1 h2 => by have h1 := mem_setA.mp h1; have h2 := mem_setB.mp h2; omega

theorem outPts_AB (d : Dev nD) (i : grid0.Coords) (f : Vec F S1600000 .f32) :
    outPts d (tileSet (tid i)) f = iprop(outPts d (setA i) f ∗ outPts d (setB i) f) := by
  rw [set_AB]
  unfold outPts
  exact BI.Entails.antisymm (pointsTo_union (disj_AB i)).1 (pointsTo_union (disj_AB i)).2

theorem embA (i : grid0.Coords) (j : S25008.Idx) : (((outA oV i).view.emb j : S1600000.Idx) 0).val = 50000 * tid i + (j 0).val := by
  show k0_off14 i 0 + 1 * (j 0).val = _
  rw [k0_off14_eq]
  show 100000 * (i 1).val + 50000 * (i 0).val + 1 * (j 0).val = _
  unfold tid; omega
theorem embB (i : grid0.Coords) (j : S24992.Idx) : (((outB oV i).view.emb j : S1600000.Idx) 0).val = 50000 * tid i + 25008 + (j 0).val := by
  show k0_off15 i 0 + 1 * (j 0).val = _
  rw [k0_off15_eq]
  show 100000 * (i 1).val + 50000 * (i 0).val + 25008 + 1 * (j 0).val = _
  unfold tid; omega

theorem outF_A (o : Opnds F) (i : grid0.Coords) (j : S25008.Idx) :
    outF o ((outA oV i).view.emb j) = o.resA i ((Rect.unit (s := S25088) ![0] S25008.size inb_S25088_S25008_0).emb j) := by
  have hj : (j 0).val < 25008 := (j 0).isLt
  have e := embA i j
  unfold outF
  dsimp only
  rw [e, show (50000 * tid i + (j 0).val) / 50000 = 2 * (i 1).val + (i 0).val by unfold tid; omega, crd_eq,
    show (50000 * tid i + (j 0).val) % 50000 = (j 0).val by omega, if_pos hj]
  refine congrArg (o.resA i) (funext fun a => Fin.ext ?_)
  rw [Fin.eq_zero a]
  show (j 0).val % 25088 = 0 + 1 * (j 0).val
  omega
theorem outF_B (o : Opnds F) (i : grid0.Coords) (j : S24992.Idx) :
    outF o ((outB oV i).view.emb j) = o.resB i ((Rect.unit (s := S25088) ![0] S24992.size inb_S25088_S24992_0).emb j) := by
  have hj : (j 0).val < 24992 := (j 0).isLt
  have e := embB i j
  unfold outF
  dsimp only
  rw [e, show (50000 * tid i + 25008 + (j 0).val) / 50000 = 2 * (i 1).val + (i 0).val by unfold tid; omega, crd_eq,
    show (50000 * tid i + 25008 + (j 0).val) % 50000 = 25008 + (j 0).val by omega, if_neg (by omega)]
  refine congrArg (o.resB i) (funext fun a => Fin.ext ?_)
  rw [Fin.eq_zero a]
  show (25008 + (j 0).val - 25008) % 25088 = 0 + 1 * (j 0).val
  omega

section
variable (d : Dev nD) (c : Fin τ.nSC) (s : Fin τ.nSub) (i : grid0.Coords)

theorem outA_in (f : Vec F S1600000 .f32) :
    outPts d (setA i) f ⊢ holds (V d c s) (outA oV i) fullShare ((outA oV i).view.read (Elt F) (f : Buf (Elt F) (locO d))) :=
  holds_intro (c := V d c s) (outA oV i) fullShare f
theorem outB_in (f : Vec F S1600000 .f32) :
    outPts d (setB i) f ⊢ holds (V d c s) (outB oV i) fullShare ((outB oV i).view.read (Elt F) (f : Buf (Elt F) (locO d))) :=
  holds_intro (c := V d c s) (outB oV i) fullShare f

theorem outA_out (o : Opnds F) :
    holds (V d c s) (outA oV i) fullShare (fun x => o.resA i ((Rect.unit (s := S25088) ![0] S25008.size inb_S25088_S25008_0).emb x)) ⊢ outPts d (setA i) (outF o) := by
  unfold holds outPts
  iintro ⟨%f, H, %hf⟩
  iapply (Entails.of_eq (pointsTo_congr (ℓ := locO d) (I := setA i) (q := fullShare) (f := f) (g := outF o) (fun x hx => by
    obtain ⟨j, -, rfl⟩ := Finset.mem_map.mp (show x ∈ Finset.univ.map (outA oV i).view.emb from hx)
    rw [outF_A]
    exact congrFun hf j)))
  iexact H
theorem outB_out (o : Opnds F) :
    holds (V d c s) (outB oV i) fullShare (fun x => o.resB i ((Rect.unit (s := S25088) ![0] S24992.size inb_S25088_S24992_0).emb x)) ⊢ outPts d (setB i) (outF o) := by
  unfold holds outPts
  iintro ⟨%f, H, %hf⟩
  iapply (Entails.of_eq (pointsTo_congr (ℓ := locO d) (I := setB i) (q := fullShare) (f := f) (g := outF o) (fun x hx => by
    obtain ⟨j, -, rfl⟩ := Finset.mem_map.mp (show x ∈ Finset.univ.map (outB oV i).view.emb from hx)
    rw [outF_B]
    exact congrFun hf j)))
  iexact H

end

end Cert.Proof.Pool
-- ==== Proof.TileBody.lean ====
/-
  A tile's task, from what the launch and the call's handshake deal it to what it hands back.
-/
module

public import proofs.«01_k».proof.Proof.Pieces
public import Idealize.ShloMosaic.Lib.ShareLeaves

@[expose] public section

noncomputable section

namespace Cert.Proof.Pool

open Cert.KernelIdeal Cert.KernelIdeal.Gen
open Idealize.ShloMosaic
open Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-- A whole buffer's words, as the memory rules name them. -/
theorem pts_whole (d : Dev nD) (c : Fin τ.nSC) (s : Fin τ.nSub) (r : Ref sig .scVector) (q : PosShare TreeShare) (f : Buf (Elt F) ((V d c s).loc r)) :
    ((Memref.whole r).view.loc (V d c s) ↦[(Memref.whole r).view.set]{q} f : sProp 𝕄) = ((V d c s).loc r ↦{q} f) := by
  have h : (Memref.whole r).view.set = Finset.univ := View.set_whole _
  rw [h]

/-- What is left of four shares' list: nothing that matters. -/
def restQ (d : Dev nD) (o : Opnds F) (q : PosShare TreeShare) : sProp (MT nD τ sig (HIx 1) (Elt F) ℕ UU ℕ) :=
  bigSep (([0, 1, 2, 3] : List (Fin (2 ^ 2))).foldl Finset.erase Finset.univ) fun i => opnds d o (leaf 2 q i)

/-- The operands in four shares. -/
theorem opnds_four (d : Dev nD) (o : Opnds F) (q : PosShare TreeShare) :
    opnds d o q = iprop(opnds d o (leaf 2 q 0) ∗ opnds d o (leaf 2 q 1) ∗ opnds d o (leaf 2 q 2) ∗ opnds d o (leaf 2 q 3) ∗ restQ d o q) :=
  (opnds_leaves d o 2 q).trans (peel (fun i : Fin (2 ^ 2) => opnds d o (leaf 2 q i)) [0, 1, 2, 3] Finset.univ (by decide) (fun _ _ => Finset.mem_univ _))

/-- A tile's window, over what the memrefs read. -/
theorem read_A (d : Dev nD) (i : grid0.Coords) (o : Opnds F) :
    (fun x => res (segA i) 1563#32 (wv0 ((Memref.whole main_v18_scv : Memref sig .scVector .hbm S4x16 .f32).view.read (Elt F) o.w)) (wv1 ((Memref.whole main_v18_scv : Memref sig .scVector .hbm S4x16 .f32).view.read (Elt F) o.w)) (wv2 ((Memref.whole main_v18_scv : Memref sig .scVector .hbm S4x16 .f32).view.read (Elt F) o.w)) (wv3 ((Memref.whole main_v18_scv : Memref sig .scVector .hbm S4x16 .f32).view.read (Elt F) o.w)) (Strms.X (⟨Memref.whole main_v3_scv, Memref.whole main_v7_scv, Memref.whole main_v11_scv, Memref.whole main_arg1_scv, o.x, o.y, o.z, o.i⟩ : Strms F (V d ((i 0).castLE hcore0) ((i 1).castLE hsub0)))) (Strms.Y (⟨Memref.whole main_v3_scv, Memref.whole main_v7_scv, Memref.whole main_v11_scv, Memref.whole main_arg1_scv, o.x, o.y, o.z, o.i⟩ : Strms F (V d ((i 0).castLE hcore0) ((i 1).castLE hsub0)))) (Strms.Z (⟨Memref.whole main_v3_scv, Memref.whole main_v7_scv, Memref.whole main_v11_scv, Memref.whole main_arg1_scv, o.x, o.y, o.z, o.i⟩ : Strms F (V d ((i 0).castLE hcore0) ((i 1).castLE hsub0)))) (Strms.I (⟨Memref.whole main_v3_scv, Memref.whole main_v7_scv, Memref.whole main_v11_scv, Memref.whole main_arg1_scv, o.x, o.y, o.z, o.i⟩ : Strms F (V d ((i 0).castLE hcore0) ((i 1).castLE hsub0)))) (chunkAt (o.cA i)) (2 * rounds (o.cA i) (o.cB i) (o.cE i))
        ((Rect.unit (s := S25088) ![0] S25008.size inb_S25088_S25008_0).emb x))
      = fun x => o.resA i ((Rect.unit (s := S25088) ![0] S25008.size inb_S25088_S25008_0).emb x) := by
  have hw : ((Memref.whole main_v18_scv : Memref sig .scVector .hbm S4x16 .f32).view.read (Elt F) o.w) = o.w := View.read_whole (Val := Elt F) (b := main_v18_scv) o.w
  have hx : Strms.X (⟨Memref.whole main_v3_scv, Memref.whole main_v7_scv, Memref.whole main_v11_scv, Memref.whole main_arg1_scv, o.x, o.y, o.z, o.i⟩ : Strms F (V d ((i 0).castLE hcore0) ((i 1).castLE hsub0))) = o.x := View.read_whole (Val := Elt F) (b := main_v3_scv) o.x
  have hy : Strms.Y (⟨Memref.whole main_v3_scv, Memref.whole main_v7_scv, Memref.whole main_v11_scv, Memref.whole main_arg1_scv, o.x, o.y, o.z, o.i⟩ : Strms F (V d ((i 0).castLE hcore0) ((i 1).castLE hsub0))) = o.y := View.read_whole (Val := Elt F) (b := main_v7_scv) o.y
  have hz : Strms.Z (⟨Memref.whole main_v3_scv, Memref.whole main_v7_scv, Memref.whole main_v11_scv, Memref.whole main_arg1_scv, o.x, o.y, o.z, o.i⟩ : Strms F (V d ((i 0).castLE hcore0) ((i 1).castLE hsub0))) = o.z := View.read_whole (Val := Elt F) (b := main_v11_scv) o.z
  have hi : Strms.I (⟨Memref.whole main_v3_scv, Memref.whole main_v7_scv, Memref.whole main_v11_scv, Memref.whole main_arg1_scv, o.x, o.y, o.z, o.i⟩ : Strms F (V d ((i 0).castLE hcore0) ((i 1).castLE hsub0))) = o.i := View.read_whole (Val := Elt F) (b := main_arg1_scv) o.i
  rw [hw, hx, hy, hz, hi]
  rfl

/-- A tile's window, over what the memrefs read. -/
theorem read_B (d : Dev nD) (i : grid0.Coords) (o : Opnds F) :
    (fun x => res (segB i) 1562#32 (wv0 ((Memref.whole main_v18_scv : Memref sig .scVector .hbm S4x16 .f32).view.read (Elt F) o.w)) (wv1 ((Memref.whole main_v18_scv : Memref sig .scVector .hbm S4x16 .f32).view.read (Elt F) o.w)) (wv2 ((Memref.whole main_v18_scv : Memref sig .scVector .hbm S4x16 .f32).view.read (Elt F) o.w)) (wv3 ((Memref.whole main_v18_scv : Memref sig .scVector .hbm S4x16 .f32).view.read (Elt F) o.w)) (Strms.X (⟨Memref.whole main_v3_scv, Memref.whole main_v7_scv, Memref.whole main_v11_scv, Memref.whole main_arg1_scv, o.x, o.y, o.z, o.i⟩ : Strms F (V d ((i 0).castLE hcore0) ((i 1).castLE hsub0)))) (Strms.Y (⟨Memref.whole main_v3_scv, Memref.whole main_v7_scv, Memref.whole main_v11_scv, Memref.whole main_arg1_scv, o.x, o.y, o.z, o.i⟩ : Strms F (V d ((i 0).castLE hcore0) ((i 1).castLE hsub0)))) (Strms.Z (⟨Memref.whole main_v3_scv, Memref.whole main_v7_scv, Memref.whole main_v11_scv, Memref.whole main_arg1_scv, o.x, o.y, o.z, o.i⟩ : Strms F (V d ((i 0).castLE hcore0) ((i 1).castLE hsub0)))) (Strms.I (⟨Memref.whole main_v3_scv, Memref.whole main_v7_scv, Memref.whole main_v11_scv, Memref.whole main_arg1_scv, o.x, o.y, o.z, o.i⟩ : Strms F (V d ((i 0).castLE hcore0) ((i 1).castLE hsub0)))) (chunkAt (o.cB i)) (2 * rounds (o.cA i) (o.cB i) (o.cE i))
        ((Rect.unit (s := S25088) ![0] S24992.size inb_S25088_S24992_0).emb x))
      = fun x => o.resB i ((Rect.unit (s := S25088) ![0] S24992.size inb_S25088_S24992_0).emb x) := by
  have hw : ((Memref.whole main_v18_scv : Memref sig .scVector .hbm S4x16 .f32).view.read (Elt F) o.w) = o.w := View.read_whole (Val := Elt F) (b := main_v18_scv) o.w
  have hx : Strms.X (⟨Memref.whole main_v3_scv, Memref.whole main_v7_scv, Memref.whole main_v11_scv, Memref.whole main_arg1_scv, o.x, o.y, o.z, o.i⟩ : Strms F (V d ((i 0).castLE hcore0) ((i 1).castLE hsub0))) = o.x := View.read_whole (Val := Elt F) (b := main_v3_scv) o.x
  have hy : Strms.Y (⟨Memref.whole main_v3_scv, Memref.whole main_v7_scv, Memref.whole main_v11_scv, Memref.whole main_arg1_scv, o.x, o.y, o.z, o.i⟩ : Strms F (V d ((i 0).castLE hcore0) ((i 1).castLE hsub0))) = o.y := View.read_whole (Val := Elt F) (b := main_v7_scv) o.y
  have hz : Strms.Z (⟨Memref.whole main_v3_scv, Memref.whole main_v7_scv, Memref.whole main_v11_scv, Memref.whole main_arg1_scv, o.x, o.y, o.z, o.i⟩ : Strms F (V d ((i 0).castLE hcore0) ((i 1).castLE hsub0))) = o.z := View.read_whole (Val := Elt F) (b := main_v11_scv) o.z
  have hi : Strms.I (⟨Memref.whole main_v3_scv, Memref.whole main_v7_scv, Memref.whole main_v11_scv, Memref.whole main_arg1_scv, o.x, o.y, o.z, o.i⟩ : Strms F (V d ((i 0).castLE hcore0) ((i 1).castLE hsub0))) = o.i := View.read_whole (Val := Elt F) (b := main_arg1_scv) o.i
  rw [hw, hx, hy, hz, hi]
  rfl

set_option maxHeartbeats 2000000 in
set_option maxRecDepth 100000 in
/-- The task at coordinates `i`, over its own holdings. -/
theorem tile_core (d : Dev nD) (i : grid0.Coords) (o : Opnds F) (q : PosShare TreeShare) (gg : Vec F S1600000 .f32)
    (O : CellTallies nD τ sig (HIx 1)) (W : Waits sig (HIx 1)) (hpad : ∀ k, 3125 ≤ k → k < 3200 → subs o.s k = 1073741824#32) :
    iprop(opnds d o q ∗ outPts d (tileSet (tid i)) gg ∗ ownBufs (V d ((i 0).castLE hcore0) ((i 1).castLE hsub0)) ∗ ownSems0 (V d ((i 0).castLE hcore0) ((i 1).castLE hsub0)) ∗ ows (V d ((i 0).castLE hcore0) ((i 1).castLE hsub0)) O W)
      ⊢ wp frame (wpE (defs₀ (F := F)) 𝒱₀ (V d ((i 0).castLE hcore0) ((i 1).castLE hsub0)) none) Set.univ
          (cc0__pool_body i (Memref.whole main_v3_scv) (Memref.isWhole_whole _) (Memref.whole main_v7_scv) (Memref.isWhole_whole _) (Memref.whole main_v11_scv) (Memref.isWhole_whole _) (Memref.whole main_arg1_scv) (Memref.isWhole_whole _) (Memref.whole main_v14_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) cc0_scratch22 cc0_scratch23 cc0_scoped0 cc0_scoped1 cc0_scoped2 cc0_scoped3)
          fun _ => iprop(opnds d o q ∗ outPts d (tileSet (tid i)) (outF o) ∗ ownBufs (V d ((i 0).castLE hcore0) ((i 1).castLE hsub0)) ∗ ownSems0 (V d ((i 0).castLE hcore0) ((i 1).castLE hsub0)) ∗ ows (V d ((i 0).castLE hcore0) ((i 1).castLE hsub0)) O W) := by
  have h6 : (Memref.whole main_v14_scv : Memref sig .scVector .hbm S3200 .i32).view.read (Elt F) o.s = o.s := View.read_whole (Val := Elt F) (b := main_v14_scv) o.s
  have h22 : extractAt ![15] (k0_pay476 (cnts (subs ((Memref.whole main_v14_scv : Memref sig .scVector .hbm S3200 .i32).view.read (Elt F) o.s)) (segA i) 200)) inpos_S16_p15 = BitVec.ofNat 32 (o.cA i) := by
    rw [h6]; exact cnts_last _ _
  have h25 : extractAt ![15] (k0_pay477 (cnts (subs ((Memref.whole main_v14_scv : Memref sig .scVector .hbm S3200 .i32).view.read (Elt F) o.s)) (segB i) 200)) inpos_S16_p15 = BitVec.ofNat 32 (o.cB i) := by
    rw [h6]; exact cnts_last _ _
  have h28 : extractAt ![15] (k0_pay478 (cnts (subs ((Memref.whole main_v14_scv : Memref sig .scVector .hbm S3200 .i32).view.read (Elt F) o.s)) (segE i) 200)) inpos_S16_p15 = BitVec.ofNat 32 (o.cE i) := by
    rw [h6]; exact cnts_last _ _
  rw [cc0__pool_body_eq_skeleton, ownBufs_list, ownSems0_list, opnds_four, outPts_AB, outPts_AB]
  simp only [scrs, sems, List.foldr]
  unfold opnds
  iintro ⟨⟨⟨Q0x, Q0y, Q0z, Q0i, Q0s, Q0w⟩, ⟨Q1x, Q1y, Q1z, Q1i, Q1s, Q1w⟩, ⟨Q2x, Q2y, Q2z, Q2i, Q2s, Q2w⟩, ⟨Q3x, Q3y, Q3z, Q3i, Q3s, Q3w⟩, HR0⟩, ⟨HA, HB⟩, ⟨S0, S1, S2, S3, S4, S5, S6, S7, S8, S9, S10, S11, S12, S13, S14, S15, S16, S17, S18, S19, S20, S21, HR1⟩, ⟨M0, M1, M2, M3, M4, M5, HR2⟩, HOW⟩
  ihave S0 := (scr_holds (F := F) d ((i 0).castLE hcore0) ((i 1).castLE hsub0) cc0_scratch0) $$ S0
  ihave S1 := (scr_holds (F := F) d ((i 0).castLE hcore0) ((i 1).castLE hsub0) cc0_scratch1) $$ S1
  ihave S2 := (scr_holds (F := F) d ((i 0).castLE hcore0) ((i 1).castLE hsub0) cc0_scratch2) $$ S2
  ihave S3 := (scr_holds (F := F) d ((i 0).castLE hcore0) ((i 1).castLE hsub0) cc0_scratch3) $$ S3
  ihave S4 := (scr_holds (F := F) d ((i 0).castLE hcore0) ((i 1).castLE hsub0) cc0_scratch4) $$ S4
  ihave S5 := (scr_holds (F := F) d ((i 0).castLE hcore0) ((i 1).castLE hsub0) cc0_scratch5) $$ S5
  ihave S6 := (scr_holds (F := F) d ((i 0).castLE hcore0) ((i 1).castLE hsub0) cc0_scratch6) $$ S6
  ihave S7 := (scr_holds (F := F) d ((i 0).castLE hcore0) ((i 1).castLE hsub0) cc0_scratch7) $$ S7
  ihave S8 := (scr_holds (F := F) d ((i 0).castLE hcore0) ((i 1).castLE hsub0) cc0_scratch8) $$ S8
  ihave S9 := (scr_holds (F := F) d ((i 0).castLE hcore0) ((i 1).castLE hsub0) cc0_scratch9) $$ S9
  ihave S10 := (scr_holds (F := F) d ((i 0).castLE hcore0) ((i 1).castLE hsub0) cc0_scratch10) $$ S10
  ihave S11 := (scr_holds (F := F) d ((i 0).castLE hcore0) ((i 1).castLE hsub0) cc0_scratch11) $$ S11
  ihave S12 := (scr_holds (F := F) d ((i 0).castLE hcore0) ((i 1).castLE hsub0) cc0_scratch12) $$ S12
  ihave S13 := (scr_holds (F := F) d ((i 0).castLE hcore0) ((i 1).castLE hsub0) cc0_scratch13) $$ S13
  ihave S14 := (scr_holds (F := F) d ((i 0).castLE hcore0) ((i 1).castLE hsub0) cc0_scratch14) $$ S14
  ihave S15 := (scr_holds (F := F) d ((i 0).castLE hcore0) ((i 1).castLE hsub0) cc0_scratch15) $$ S15
  ihave S16 := (scr_holds (F := F) d ((i 0).castLE hcore0) ((i 1).castLE hsub0) cc0_scratch16) $$ S16
  ihave S17 := (scr_holds (F := F) d ((i 0).castLE hcore0) ((i 1).castLE hsub0) cc0_scratch17) $$ S17
  ihave S18 := (scr_holds (F := F) d ((i 0).castLE hcore0) ((i 1).castLE hsub0) cc0_scratch18) $$ S18
  ihave S19 := (scr_holds (F := F) d ((i 0).castLE hcore0) ((i 1).castLE hsub0) cc0_scratch19) $$ S19
  ihave S20 := (scr_holds (F := F) d ((i 0).castLE hcore0) ((i 1).castLE hsub0) cc0_scratch20) $$ S20
  ihave S21 := (scr_holds (F := F) d ((i 0).castLE hcore0) ((i 1).castLE hsub0) cc0_scratch21) $$ S21
  icases S18 with ⟨%a0, S18⟩
  icases S19 with ⟨%a1, S19⟩
  icases S20 with ⟨%b0, S20⟩
  icases S21 with ⟨%b1, S21⟩
  icases S0 with ⟨%b9, S0⟩
  icases S1 with ⟨%b10, S1⟩
  ihave Q0x := (Entails.of_eq (pts_whole (F := F) d ((i 0).castLE hcore0) ((i 1).castLE hsub0) main_v3_scv _ o.x).symm) $$ Q0x
  ihave Q0y := (Entails.of_eq (pts_whole (F := F) d ((i 0).castLE hcore0) ((i 1).castLE hsub0) main_v7_scv _ o.y).symm) $$ Q0y
  ihave Q0z := (Entails.of_eq (pts_whole (F := F) d ((i 0).castLE hcore0) ((i 1).castLE hsub0) main_v11_scv _ o.z).symm) $$ Q0z
  ihave Q0i := (Entails.of_eq (pts_whole (F := F) d ((i 0).castLE hcore0) ((i 1).castLE hsub0) main_arg1_scv _ o.i).symm) $$ Q0i
  ihave Q0s := (Entails.of_eq (pts_whole (F := F) d ((i 0).castLE hcore0) ((i 1).castLE hsub0) main_v14_scv _ o.s).symm) $$ Q0s
  ihave Q0w := (Entails.of_eq (pts_whole (F := F) d ((i 0).castLE hcore0) ((i 1).castLE hsub0) main_v18_scv _ o.w).symm) $$ Q0w
  ihave Q1x := (Entails.of_eq (pts_whole (F := F) d ((i 0).castLE hcore0) ((i 1).castLE hsub0) main_v3_scv _ o.x).symm) $$ Q1x
  ihave Q1y := (Entails.of_eq (pts_whole (F := F) d ((i 0).castLE hcore0) ((i 1).castLE hsub0) main_v7_scv _ o.y).symm) $$ Q1y
  ihave Q1z := (Entails.of_eq (pts_whole (F := F) d ((i 0).castLE hcore0) ((i 1).castLE hsub0) main_v11_scv _ o.z).symm) $$ Q1z
  ihave Q1i := (Entails.of_eq (pts_whole (F := F) d ((i 0).castLE hcore0) ((i 1).castLE hsub0) main_arg1_scv _ o.i).symm) $$ Q1i
  ihave Q2x := (Entails.of_eq (pts_whole (F := F) d ((i 0).castLE hcore0) ((i 1).castLE hsub0) main_v3_scv _ o.x).symm) $$ Q2x
  ihave Q2y := (Entails.of_eq (pts_whole (F := F) d ((i 0).castLE hcore0) ((i 1).castLE hsub0) main_v7_scv _ o.y).symm) $$ Q2y
  ihave Q2z := (Entails.of_eq (pts_whole (F := F) d ((i 0).castLE hcore0) ((i 1).castLE hsub0) main_v11_scv _ o.z).symm) $$ Q2z
  ihave Q2i := (Entails.of_eq (pts_whole (F := F) d ((i 0).castLE hcore0) ((i 1).castLE hsub0) main_arg1_scv _ o.i).symm) $$ Q2i
  ihave Q3x := (Entails.of_eq (pts_whole (F := F) d ((i 0).castLE hcore0) ((i 1).castLE hsub0) main_v3_scv _ o.x).symm) $$ Q3x
  ihave Q3y := (Entails.of_eq (pts_whole (F := F) d ((i 0).castLE hcore0) ((i 1).castLE hsub0) main_v7_scv _ o.y).symm) $$ Q3y
  ihave Q3z := (Entails.of_eq (pts_whole (F := F) d ((i 0).castLE hcore0) ((i 1).castLE hsub0) main_v11_scv _ o.z).symm) $$ Q3z
  ihave Q3i := (Entails.of_eq (pts_whole (F := F) d ((i 0).castLE hcore0) ((i 1).castLE hsub0) main_arg1_scv _ o.i).symm) $$ Q3i
  ihave HA := (outA_in (F := F) d ((i 0).castLE hcore0) ((i 1).castLE hsub0) i gg) $$ HA
  ihave HB := (outB_in (F := F) d ((i 0).castLE hcore0) ((i 1).castLE hsub0) i gg) $$ HB
  ihave Hw := (tile_run d i (Memref.whole main_v3_scv) (Memref.isWhole_whole _) (Memref.whole main_v7_scv) (Memref.isWhole_whole _) (Memref.whole main_v11_scv) (Memref.isWhole_whole _) (Memref.whole main_arg1_scv) (Memref.isWhole_whole _) (Memref.whole main_v14_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) cc0_scratch22 cc0_scratch23 cc0_scoped0 cc0_scoped1 cc0_scoped2 cc0_scoped3 o.s o.w _ _ O W o.x o.y o.z o.i
    (leaf 2 q 0) (leaf 2 q 1) (leaf 2 q 2) (leaf 2 q 3) (a := o.cA i) (b := o.cB i) (e := o.cE i) h22 h25 h28 (cnt_AB _ i) (cnt_BE _ i) (cnt_E _ i hpad) b9 b10 a0 a1 b0 b1 _ _) $$ [S0 S1 S2 S3 S4 S5 S6 S7 S8 S9 S10 S11 S12 S13 S14 S15 S16 S17 S18 S19 S20 S21 Q0x Q0y Q0z Q0i Q0s Q0w Q1x Q1y Q1z Q1i Q2x Q2y Q2z Q2i Q3x Q3y Q3z Q3i HA HB M0 M1 M2 M3 M4 M5 HOW]
  · unfold idles idle src accs
    isplitl [S2 Q0x S3 Q0y S4 Q0z S5 Q0i S10 Q1x S11 Q1y S12 Q1z S13 Q1i]
    · isplitl [S2 Q0x]
      · isplitl [S2]; · iexact S2
        iexact Q0x
      isplitl [S3 Q0y]
      · isplitl [S3]; · iexact S3
        iexact Q0y
      isplitl [S4 Q0z]
      · isplitl [S4]; · iexact S4
        iexact Q0z
      isplitl [S5 Q0i]
      · isplitl [S5]; · iexact S5
        iexact Q0i
      isplitl [S10 Q1x]
      · isplitl [S10]; · iexact S10
        iexact Q1x
      isplitl [S11 Q1y]
      · isplitl [S11]; · iexact S11
        iexact Q1y
      isplitl [S12 Q1z]
      · isplitl [S12]; · iexact S12
        iexact Q1z
      isplitl [S13]; · iexact S13
      iexact Q1i
    isplitl [S6 Q2x S7 Q2y S8 Q2z S9 Q2i S14 Q3x S15 Q3y S16 Q3z S17 Q3i]
    · isplitl [S6 Q2x]
      · isplitl [S6]; · iexact S6
        iexact Q2x
      isplitl [S7 Q2y]
      · isplitl [S7]; · iexact S7
        iexact Q2y
      isplitl [S8 Q2z]
      · isplitl [S8]; · iexact S8
        iexact Q2z
      isplitl [S9 Q2i]
      · isplitl [S9]; · iexact S9
        iexact Q2i
      isplitl [S14 Q3x]
      · isplitl [S14]; · iexact S14
        iexact Q3x
      isplitl [S15 Q3y]
      · isplitl [S15]; · iexact S15
        iexact Q3y
      isplitl [S16 Q3z]
      · isplitl [S16]; · iexact S16
        iexact Q3z
      isplitl [S17]; · iexact S17
      iexact Q3i
    isplitl [Q0s]; · iexact Q0s
    isplitl [Q0w]; · iexact Q0w
    isplitl [S0]; · iexact S0
    isplitl [S1]; · iexact S1
    isplitl [S18 S19 S20 S21]
    · isplitl [S18]; · iexact S18
      isplitl [S19]; · iexact S19
      isplitl [S20]; · iexact S20
      iexact S21
    isplitl [HA]; · iexact HA
    isplitl [HB]; · iexact HB
    isplitl [M0]; · iexact M0
    isplitl [M1]; · iexact M1
    isplitl [M2]; · iexact M2
    isplitl [M3]; · iexact M3
    isplitl [M4]; · iexact M4
    isplitl [M5]; · iexact M5
    iexact HOW
  iapply (wp_wand frame (wpE (defs₀ (F := F)) 𝒱₀ (V d ((i 0).castLE hcore0) ((i 1).castLE hsub0)) none) Set.univ) $$ Hw
  unfold idles idle src
  iintro %_ ⟨⟨⟨S2, Q0x⟩, ⟨S3, Q0y⟩, ⟨S4, Q0z⟩, ⟨S5, Q0i⟩, ⟨S10, Q1x⟩, ⟨S11, Q1y⟩, ⟨S12, Q1z⟩, ⟨S13, Q1i⟩⟩, ⟨⟨S6, Q2x⟩, ⟨S7, Q2y⟩, ⟨S8, Q2z⟩, ⟨S9, Q2i⟩, ⟨S14, Q3x⟩, ⟨S15, Q3y⟩, ⟨S16, Q3z⟩, ⟨S17, Q3i⟩⟩, Q0s, Q0w, S0, S1, S18, S19, S20, S21, HA, HB, M0, M1, M2, M3, M4, M5, HOW⟩
  ihave S0 := (holds_scr (F := F) d ((i 0).castLE hcore0) ((i 1).castLE hsub0) cc0_scratch0) $$ S0
  ihave S1 := (holds_scr (F := F) d ((i 0).castLE hcore0) ((i 1).castLE hsub0) cc0_scratch1) $$ S1
  ihave S2 := (holds_scr (F := F) d ((i 0).castLE hcore0) ((i 1).castLE hsub0) cc0_scratch2) $$ S2
  ihave S3 := (holds_scr (F := F) d ((i 0).castLE hcore0) ((i 1).castLE hsub0) cc0_scratch3) $$ S3
  ihave S4 := (holds_scr (F := F) d ((i 0).castLE hcore0) ((i 1).castLE hsub0) cc0_scratch4) $$ S4
  ihave S5 := (holds_scr (F := F) d ((i 0).castLE hcore0) ((i 1).castLE hsub0) cc0_scratch5) $$ S5
  ihave S6 := (holds_scr (F := F) d ((i 0).castLE hcore0) ((i 1).castLE hsub0) cc0_scratch6) $$ S6
  ihave S7 := (holds_scr (F := F) d ((i 0).castLE hcore0) ((i 1).castLE hsub0) cc0_scratch7) $$ S7
  ihave S8 := (holds_scr (F := F) d ((i 0).castLE hcore0) ((i 1).castLE hsub0) cc0_scratch8) $$ S8
  ihave S9 := (holds_scr (F := F) d ((i 0).castLE hcore0) ((i 1).castLE hsub0) cc0_scratch9) $$ S9
  ihave S10 := (holds_scr (F := F) d ((i 0).castLE hcore0) ((i 1).castLE hsub0) cc0_scratch10) $$ S10
  ihave S11 := (holds_scr (F := F) d ((i 0).castLE hcore0) ((i 1).castLE hsub0) cc0_scratch11) $$ S11
  ihave S12 := (holds_scr (F := F) d ((i 0).castLE hcore0) ((i 1).castLE hsub0) cc0_scratch12) $$ S12
  ihave S13 := (holds_scr (F := F) d ((i 0).castLE hcore0) ((i 1).castLE hsub0) cc0_scratch13) $$ S13
  ihave S14 := (holds_scr (F := F) d ((i 0).castLE hcore0) ((i 1).castLE hsub0) cc0_scratch14) $$ S14
  ihave S15 := (holds_scr (F := F) d ((i 0).castLE hcore0) ((i 1).castLE hsub0) cc0_scratch15) $$ S15
  ihave S16 := (holds_scr (F := F) d ((i 0).castLE hcore0) ((i 1).castLE hsub0) cc0_scratch16) $$ S16
  ihave S17 := (holds_scr (F := F) d ((i 0).castLE hcore0) ((i 1).castLE hsub0) cc0_scratch17) $$ S17
  ihave S18 := (holds_scr (F := F) d ((i 0).castLE hcore0) ((i 1).castLE hsub0) cc0_scratch18) $$ S18
  ihave S19 := (holds_scr (F := F) d ((i 0).castLE hcore0) ((i 1).castLE hsub0) cc0_scratch19) $$ S19
  ihave S20 := (holds_scr (F := F) d ((i 0).castLE hcore0) ((i 1).castLE hsub0) cc0_scratch20) $$ S20
  ihave S21 := (holds_scr (F := F) d ((i 0).castLE hcore0) ((i 1).castLE hsub0) cc0_scratch21) $$ S21
  ihave Q0x := (Entails.of_eq (pts_whole (F := F) d ((i 0).castLE hcore0) ((i 1).castLE hsub0) main_v3_scv _ o.x)) $$ Q0x
  ihave Q0y := (Entails.of_eq (pts_whole (F := F) d ((i 0).castLE hcore0) ((i 1).castLE hsub0) main_v7_scv _ o.y)) $$ Q0y
  ihave Q0z := (Entails.of_eq (pts_whole (F := F) d ((i 0).castLE hcore0) ((i 1).castLE hsub0) main_v11_scv _ o.z)) $$ Q0z
  ihave Q0i := (Entails.of_eq (pts_whole (F := F) d ((i 0).castLE hcore0) ((i 1).castLE hsub0) main_arg1_scv _ o.i)) $$ Q0i
  ihave Q0s := (Entails.of_eq (pts_whole (F := F) d ((i 0).castLE hcore0) ((i 1).castLE hsub0) main_v14_scv _ o.s)) $$ Q0s
  ihave Q0w := (Entails.of_eq (pts_whole (F := F) d ((i 0).castLE hcore0) ((i 1).castLE hsub0) main_v18_scv _ o.w)) $$ Q0w
  ihave Q1x := (Entails.of_eq (pts_whole (F := F) d ((i 0).castLE hcore0) ((i 1).castLE hsub0) main_v3_scv _ o.x)) $$ Q1x
  ihave Q1y := (Entails.of_eq (pts_whole (F := F) d ((i 0).castLE hcore0) ((i 1).castLE hsub0) main_v7_scv _ o.y)) $$ Q1y
  ihave Q1z := (Entails.of_eq (pts_whole (F := F) d ((i 0).castLE hcore0) ((i 1).castLE hsub0) main_v11_scv _ o.z)) $$ Q1z
  ihave Q1i := (Entails.of_eq (pts_whole (F := F) d ((i 0).castLE hcore0) ((i 1).castLE hsub0) main_arg1_scv _ o.i)) $$ Q1i
  ihave Q2x := (Entails.of_eq (pts_whole (F := F) d ((i 0).castLE hcore0) ((i 1).castLE hsub0) main_v3_scv _ o.x)) $$ Q2x
  ihave Q2y := (Entails.of_eq (pts_whole (F := F) d ((i 0).castLE hcore0) ((i 1).castLE hsub0) main_v7_scv _ o.y)) $$ Q2y
  ihave Q2z := (Entails.of_eq (pts_whole (F := F) d ((i 0).castLE hcore0) ((i 1).castLE hsub0) main_v11_scv _ o.z)) $$ Q2z
  ihave Q2i := (Entails.of_eq (pts_whole (F := F) d ((i 0).castLE hcore0) ((i 1).castLE hsub0) main_arg1_scv _ o.i)) $$ Q2i
  ihave Q3x := (Entails.of_eq (pts_whole (F := F) d ((i 0).castLE hcore0) ((i 1).castLE hsub0) main_v3_scv _ o.x)) $$ Q3x
  ihave Q3y := (Entails.of_eq (pts_whole (F := F) d ((i 0).castLE hcore0) ((i 1).castLE hsub0) main_v7_scv _ o.y)) $$ Q3y
  ihave Q3z := (Entails.of_eq (pts_whole (F := F) d ((i 0).castLE hcore0) ((i 1).castLE hsub0) main_v11_scv _ o.z)) $$ Q3z
  ihave Q3i := (Entails.of_eq (pts_whole (F := F) d ((i 0).castLE hcore0) ((i 1).castLE hsub0) main_arg1_scv _ o.i)) $$ Q3i
  isplitl [Q0x Q0y Q0z Q0i Q0s Q0w Q1x Q1y Q1z Q1i Q1s Q1w Q2x Q2y Q2z Q2i Q2s Q2w Q3x Q3y Q3z Q3i Q3s Q3w HR0]
  · isplitl [Q0x Q0y Q0z Q0i Q0s Q0w]
    · isplitl [Q0x]; · iexact Q0x
      isplitl [Q0y]; · iexact Q0y
      isplitl [Q0z]; · iexact Q0z
      isplitl [Q0i]; · iexact Q0i
      isplitl [Q0s]; · iexact Q0s
      iexact Q0w
    isplitl [Q1x Q1y Q1z Q1i Q1s Q1w]
    · isplitl [Q1x]; · iexact Q1x
      isplitl [Q1y]; · iexact Q1y
      isplitl [Q1z]; · iexact Q1z
      isplitl [Q1i]; · iexact Q1i
      isplitl [Q1s]; · iexact Q1s
      iexact Q1w
    isplitl [Q2x Q2y Q2z Q2i Q2s Q2w]
    · isplitl [Q2x]; · iexact Q2x
      isplitl [Q2y]; · iexact Q2y
      isplitl [Q2z]; · iexact Q2z
      isplitl [Q2i]; · iexact Q2i
      isplitl [Q2s]; · iexact Q2s
      iexact Q2w
    isplitl [Q3x Q3y Q3z Q3i Q3s Q3w]
    · isplitl [Q3x]; · iexact Q3x
      isplitl [Q3y]; · iexact Q3y
      isplitl [Q3z]; · iexact Q3z
      isplitl [Q3i]; · iexact Q3i
      isplitl [Q3s]; · iexact Q3s
      iexact Q3w
    iexact HR0
  isplitl [HA HB]
  · isplitl [HA]
    · iapply (outA_out (F := F) d ((i 0).castLE hcore0) ((i 1).castLE hsub0) i o); iapply (Entails.of_eq (congrArg (holds (V d ((i 0).castLE hcore0) ((i 1).castLE hsub0)) (outA oV i) fullShare) (read_A d i o))); iexact HA
    iapply (outB_out (F := F) d ((i 0).castLE hcore0) ((i 1).castLE hsub0) i o); iapply (Entails.of_eq (congrArg (holds (V d ((i 0).castLE hcore0) ((i 1).castLE hsub0)) (outB oV i) fullShare) (read_B d i o))); iexact HB
  isplitl [S0 S1 S2 S3 S4 S5 S6 S7 S8 S9 S10 S11 S12 S13 S14 S15 S16 S17 S18 S19 S20 S21 HR1]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    iexact HR1
  isplitl [M0 M1 M2 M3 M4 M5 HR2]
  · isplitl [M0]; · iexact M0
    isplitl [M1]; · iexact M1
    isplitl [M2]; · iexact M2
    isplitl [M3]; · iexact M3
    isplitl [M4]; · iexact M4
    isplitl [M5]; · iexact M5
    iexact HR2
  iexact HOW

end Cert.Proof.Pool
-- ==== Proof.TileObl.lean ====
/-
  The task's obligation to the launch: a tile's run, from what the launch deals it to what it hands back.
-/
module

public import proofs.«01_k».proof.Proof.TileBody

@[expose] public section

noncomputable section

namespace Cert.Proof.Pool

open Cert.KernelIdeal Cert.KernelIdeal.Gen
open Idealize.ShloMosaic
open Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

variable (o : Dev nD → Opnds F) (g : Dev nD → Vec F S1600000 .f32)

set_option maxHeartbeats 1000000 in
set_option maxRecDepth 100000 in
/-- The task at coordinates `i`, over what the launch and the handshake deal it. -/
theorem tile_body (d : Dev nD) (i : grid0.Coords) (hF : (K (F := F)).Facts)
    (hpad : ∀ k, 3125 ≤ k → k < 3200 → subs (o d).s k = 1073741824#32)
    (O : CellTallies nD τ sig (HIx 1)) (W : Waits sig (HIx 1)) (hO : ∀ g, O g none = 0) :
    iprop(levAts (K (F := F)).L (K (F := F)).lev ∗ emp
        ∗ (opnds d (o d) (tileQ (i 0) (i 1)) ∗ outPts d (tileSet (tid i)) (g d))
        ∗ scopedBufs (V d ((i 0).castLE hcore0) ((i 1).castLE hsub0)) ∗ scopedSems0 (V d ((i 0).castLE hcore0) ((i 1).castLE hsub0))
        ∗ owes (V d ((i 0).castLE hcore0) ((i 1).castLE hsub0)) O W)
      ⊢ wp frame (wpE (defs₀ (F := F)) 𝒱₀ (V d ((i 0).castLE hcore0) ((i 1).castLE hsub0)) none) Set.univ
          (cc0__pool_body i (Memref.whole main_v3_scv) (Memref.isWhole_whole _) (Memref.whole main_v7_scv) (Memref.isWhole_whole _) (Memref.whole main_v11_scv) (Memref.isWhole_whole _) (Memref.whole main_arg1_scv) (Memref.isWhole_whole _) (Memref.whole main_v14_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) cc0_scratch22 cc0_scratch23 cc0_scoped0 cc0_scoped1 cc0_scoped2 cc0_scoped3)
          fun _ => iprop((opnds d (o d) (tileQ (i 0) (i 1)) ∗ outPts d (tileSet (tid i)) (outF (o d)))
            ∗ scopedBufs (V d ((i 0).castLE hcore0) ((i 1).castLE hsub0)) ∗ scopedSems0 (V d ((i 0).castLE hcore0) ((i 1).castLE hsub0))
            ∗ ∃ W', ⌜∀ p ∈ W', p ∈ W ∨ p.2 = none⌝ ∗ owes (V d ((i 0).castLE hcore0) ((i 1).castLE hsub0)) O W') := by
  rw [(K (F := F)).scopedBufs_V hF d _ _, SparseCore.Cfg.scopedSems0_V (Val := Elt F) d _ _]
  refine BIBase.Entails.trans ?_ ((tile_core d i (o d) (tileQ (i 0) (i 1)) (g d) O W hpad).trans (wp_mono frame _ _ fun _ => ?_))
  · iintro ⟨#Hlv, -, ⟨Ho, Hw⟩, Hb, Hs, HO⟩
    isplitl [Ho]; · iexact Ho
    isplitl [Hw]; · iexact Hw
    isplitl [Hb]; · iexact Hb
    isplitl [Hs]; · iexact Hs
    unfold ows
    isplitr
    · iapply ((K (F := F)).mayWaits_none (thr := V d ((i 0).castLE hcore0) ((i 1).castLE hsub0)) hO); iexact Hlv
    iexists W
    isplitr; · ipureintro; exact fun p hp => Or.inl hp
    iexact HO
  · unfold ows
    iintro ⟨Ho, Hw, Hb, Hs, -, HO⟩
    isplitl [Ho Hw]; · isplitl [Ho] <;> iassumption
    isplitl [Hb]; · iexact Hb
    isplitl [Hs]; · iexact Hs
    iexact HO

theorem defs₀_vector (c : Fin τ.nSC) (s : Fin τ.nSub) :
    defs₀ (F := F) (.scVector c s) 0 ()
      = SparseCore.onTile hcore0 hsub0 (fun c s => cc0__pool_body (crds c s)
          (Memref.whole main_v3_scv) (Memref.isWhole_whole _) (Memref.whole main_v7_scv) (Memref.isWhole_whole _) (Memref.whole main_v11_scv) (Memref.isWhole_whole _) (Memref.whole main_arg1_scv) (Memref.isWhole_whole _) (Memref.whole main_v14_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) cc0_scratch22 cc0_scratch23 cc0_scoped0 cc0_scoped1 cc0_scoped2 cc0_scoped3) ⟨⟩ c s := rfl

theorem obl_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 1000000 in
set_option maxRecDepth 100000 in
theorem tileObl (hpad : ∀ d k, 3125 ≤ k → k < 3200 → subs (o d).s k = 1073741824#32) :
    (K (F := F)).TileObl (D (F := F)) 𝒱 (P o g) v₀ 0 := by
  intro d c i O W hO _ _
  simp only [show (P o g).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body o g d (crds ⟨_, hci.1⟩ ⟨_, hci.2⟩) facts (hpad d) O W hO).trans (wp_mono frame _ _ fun _ => obl_post)

end Cert.Proof.Pool
-- ==== Proof.Mlp.lean ====
/-
  The second call: the two dense layers, over a grid of row blocks. Its proof data at any contents of the buffers, its
  body, and the region it runs in.
-/
module

public import proofs.«01_k».proof.Proof.TileObl
public import proofs.«01_k».proof.Proof.Gen.KernelIdeal.Launch
public import Idealize.ShloMosaic.Lib.Pipeline.ValueKit
public import Idealize.ShloMosaic.Lib.Pipeline.FrameBody

@[expose] public section

noncomputable section

namespace Cert.Proof.Pool

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- A memref owned at a reading, as the memory rules here spell it. -/
theorem owns_eq_holds (c : Thread nD τ) {sp : Space} {s : Shape} {e : EltTy} (m : Memref sig c.2.kind sp s e) (q : PosShare TreeShare) (a : Vec F s e) :
    (owns c m q a : sProp 𝕄) ⊣⊢ holds c m q a := by
  unfold owns holds
  refine ⟨?_, ?_⟩
  · iintro ⟨%f, %h, H⟩; iexists f; isplitl [H]; · iexact H
    ipureintro; exact h
  · iintro ⟨%f, H, %h⟩; iexists f; isplitr; · ipureintro; exact h
    iexact H

/-- A load of a whole buffer through the unit rectangle at the origin reads it. -/
theorem unit_zero_emb {s : Shape} {off : Fin s.rank → ℕ} (h0 : ∀ a, off a = 0) (inb : ∀ a, off a + s.size a ≤ s.size a) (x : s.Idx) :
    (Rect.unit (s := s) off s.size inb).emb x = x := by
  funext a
  apply Fin.ext
  simp [Rect.emb_apply, h0]

/-- A load of a whole buffer. -/
theorem wp_load_all {c : Thread nD τ} {cs : CoreSpace} {s : Shape} {e : EltTy} {m : Memref sig c.2.kind cs s e} {q : PosShare TreeShare} {a : Vec F s e} {α : Type}
    {Q : α → sProp (MT nD τ sig (HIx 1) (Elt F) ℕ UU ℕ)} {off : Fin s.rank → ℕ} (h0 : ∀ x, off x = 0) {inb : ∀ x, off x + s.size x ≤ s.size x}
    {hl : m.view.LoadsAt (Rect.unit (s := s) off s.size inb).toLoadRect} {k : (s.Idx → Elt F e) → Prog (TpuEff nD τ sig (Elt F) Λ₀ c.2) α} :
    holds c m q a ⊢ iprop((holds c m q a -∗ wp frame (wpE (defs₀ (F := F)) 𝒱₀ c none) Set.univ (k a) Q)
      -∗ wp frame (wpE (defs₀ (F := F)) 𝒱₀ c none) Set.univ (.op (.load m (Rect.unit (s := s) off s.size inb).toLoadRect hl) k) Q) := by
  have e0 : (fun x : s.Idx => a ((Rect.unit (s := s) off s.size inb).emb x)) = a := funext fun x => congrArg a (unit_zero_emb h0 _ x)
  have h := wp_load_holds (F := F) (c := c) (m := m) (q := q) (a := a) (r := Rect.unit (s := s) off s.size inb) (hl := hl) (k := k) (Q := Q)
  rw [show (fun x : (Rect.unit (s := s) off s.size inb).shape.Idx => a ((Rect.unit (s := s) off s.size inb).emb x)) = a from e0] at h
  exact h

/-- The body: the six staging buffers, the last written with the two layers of the others. -/
theorem mlp_body (d : Dev nD) (i : grid1.Coords) (M0 : Memref sig .tc .vmem S10000x16 .f32) (h0 : M0.IsWhole) (M1 : Memref sig .tc .vmem S16x16 .bf16) (h1 : M1.IsWhole)
    (M2 : Memref sig .tc .vmem S1x16 .f32) (h2 : M2.IsWhole) (M3 : Memref sig .tc .vmem S16x16 .bf16) (h3 : M3.IsWhole)
    (M4 : Memref sig .tc .vmem S1x16 .f32) (h4 : M4.IsWhole) (M5 : Memref sig .tc .vmem S10000x16 .f32) (h5 : M5.IsWhole)
    (a0 : Vec F S10000x16 .f32) (a1 : Vec F S16x16 .bf16) (a2 : Vec F S1x16 .f32) (a3 : Vec F S16x16 .bf16) (a4 : Vec F S1x16 .f32) (a5 : Vec F S10000x16 .f32)
    (Q : PUnit → sProp (MT nD τ sig (HIx 1) (Elt F) ℕ UU ℕ)) :
    iprop(holds (d.tc : Thread nD τ) M0 fullShare a0 ∗ holds (d.tc : Thread nD τ) M1 fullShare a1 ∗ holds (d.tc : Thread nD τ) M2 fullShare a2
        ∗ holds (d.tc : Thread nD τ) M3 fullShare a3 ∗ holds (d.tc : Thread nD τ) M4 fullShare a4 ∗ holds (d.tc : Thread nD τ) M5 fullShare a5
        ∗ (iprop(holds (d.tc : Thread nD τ) M0 fullShare a0 ∗ holds (d.tc : Thread nD τ) M1 fullShare a1 ∗ holds (d.tc : Thread nD τ) M2 fullShare a2
        ∗ holds (d.tc : Thread nD τ) M3 fullShare a3 ∗ holds (d.tc : Thread nD τ) M4 fullShare a4
        ∗ holds (d.tc : Thread nD τ) M5 fullShare (k1_pay1 a0 a1 a2 a3 a4)) -∗ Q ⟨⟩))
      ⊢ wp frame (wpE (defs₀ (F := F)) 𝒱₀ (d.tc : Thread nD τ) none) Set.univ (cc1__mlp_body i M0 h0 M1 h1 M2 h2 M3 h3 M4 h4 M5 h5) Q := by
  rw [cc1__mlp_body_eq_skeleton]
  unfold cc1__mlp_body_skel
  iintro ⟨H0, H1, H2, H3, H4, H5, Hk⟩
  iapply (wp_load_all (c := (d.tc : Thread nD τ)) (m := M0) (by decide)) $$ H0
  iintro H0
  iapply (wp_load_all (c := (d.tc : Thread nD τ)) (m := M1) (by decide)) $$ H1
  iintro H1
  iapply (wp_load_all (c := (d.tc : Thread nD τ)) (m := M2) (by decide)) $$ H2
  iintro H2
  iapply (wp_load_all (c := (d.tc : Thread nD τ)) (m := M3) (by decide)) $$ H3
  iintro H3
  iapply (wp_load_all (c := (d.tc : Thread nD τ)) (m := M4) (by decide)) $$ H4
  iintro H4
  iapply (wp_load_all (c := (d.tc : Thread nD τ)) (m := M5) (by decide)) $$ H5
  iintro H5
  iapply (wp_store_holds (c := (d.tc : Thread nD τ)) (m := M5) (r := Rect.unit (s := S10000x16) ![0, 0] S10000x16.size inb_S10000x16_S10000x16_0_0)
    (k1_pay1 a0 a1 a2 a3 a4) (fun x => congrArg _ (unit_zero_emb (by decide) _ x))
    (fun y hy => absurd (Finset.mem_map.mpr ⟨y, Finset.mem_univ _, unit_zero_emb (off := ![0, 0]) (by decide) _ y⟩) (by rw [Rect.map_emb_univ]; exact hy))) $$ H5
  iintro H5
  show _ ⊢ wp _ _ _ (Prog.ret PUnit.unit) _
  rw [wp_ret]
  iintro ⟨⟨⟨⟨⟨⟨Hk, H0⟩, H1⟩, H2⟩, H3⟩, H4⟩, H5⟩
  imodintro
  iapply Hk
  isplitl [H0]; · iexact H0
  isplitl [H1]; · iexact H1
  isplitl [H2]; · iexact H2
  isplitl [H3]; · iexact H3
  isplitl [H4]; · iexact H4
  iexact H5

/-! ## The proof data -/

variable (W : Dev nD → Valuation τ sig (Elt F))

/-- Window `w`'s block at point `t`. -/
abbrev stg (d : Dev nD) (w : Fin 6) (t : Fin cfg1.N) : ((cfg1.win w).xblock (cfg1.grid.coords t)).Idx → Elt F (cfg1.win w).elt :=
  ((cfg1.win w).blk t).view.read (Elt F) (W d (Proc.devRef .tc (Pipeline.arrRef spec1 w)))

/-- The levels below which everything the core has recorded lies. -/
abbrev recd (d : Dev nD) : Set (SemLoc sig × HIx 1) := {p | (K (F := F)).lev ((SparseCore.T d : Thread nD τ), p.1) p.2 ≤ 8}

/-- The region's proof data: the arrays at `W`; the inputs' buffers left as fetched, the result's at the two layers. -/
def dat (d : Dev nD) : Dat τ (Elt F) (HIx 1) ℕ UU ℕ cfg1 d where
  A w := W d (Proc.devRef .tc (Pipeline.arrRef spec1 w))
  after w t := match w with
    | ⟨0, _⟩ => stg W d 0 t
    | ⟨1, _⟩ => stg W d 1 t
    | ⟨2, _⟩ => stg W d 2 t
    | ⟨3, _⟩ => stg W d 3 t
    | ⟨4, _⟩ => stg W d 4 t
    | ⟨5, _⟩ => k1_pay1 (stg W d 0 t) (stg W d 1 t) (stg W d 2 t) (stg W d 3 t) (stg W d 4 t)
  Φ _ := Pipeline.scopedRest (Ix := HIx 1) (Name := ℕ) (U := UU) (Lvl := ℕ) (Val := Elt F) spec1 d
  q _ := fullShare
  owed _ := 0
  recorded _ := recd (F := F) d

abbrev adm (p : Fin 1) : (pcfgs (F := F) p).Adm := (cfgs p).toPCfg_adm

def pdats : (p : Fin 1) → (d : Dev nD) → Dat τ (Elt F) (HIx 1) ℕ UU ℕ (Pipeline.pin (pcfgs (F := F)) adm p) d
  | ⟨0, _⟩ => fun d => dat W d

theorem before0 (d : Dev nD) (t : Fin cfg1.N) (x) : (dat W d).before 0 t x = stg W d 0 t :=
  (dat W d).before_in_eq_fetched 0 rfl (fun _ => rfl) (fun _ _ _ => rfl) (fun _ => rfl) t x
theorem before1 (d : Dev nD) (t : Fin cfg1.N) (x) : (dat W d).before 1 t x = stg W d 1 t :=
  (dat W d).before_in_eq_fetched 1 rfl (fun _ => rfl) (fun _ _ _ => rfl) (fun _ => rfl) t x
theorem before2 (d : Dev nD) (t : Fin cfg1.N) (x) : (dat W d).before 2 t x = stg W d 2 t :=
  (dat W d).before_in_eq_fetched 2 rfl (fun _ => rfl) (fun _ _ _ => rfl) (fun _ => rfl) t x
theorem before3 (d : Dev nD) (t : Fin cfg1.N) (x) : (dat W d).before 3 t x = stg W d 3 t :=
  (dat W d).before_in_eq_fetched 3 rfl (fun _ => rfl) (fun _ _ _ => rfl) (fun _ => rfl) t x
theorem before4 (d : Dev nD) (t : Fin cfg1.N) (x) : (dat W d).before 4 t x = stg W d 4 t :=
  (dat W d).before_in_eq_fetched 4 rfl (fun _ => rfl) (fun _ _ _ => rfl) (fun _ => rfl) t x

set_option maxRecDepth 16384 in
/-- The body's obligation at every point. -/
theorem body_obligation (d : Dev nD) : BodyObligation (dat W d) (defs₀ (F := F)) 𝒱₀ (none : HIx 1) Set.univ := fun t => by
  rw [bigSep_W1, bigSep_W1]
  rw [show (dat W d).Φ t.castSucc = (dat W d).Φ t.succ from rfl,
    show (dat W d).owesAt (none : HIx 1) t.castSucc = (dat W d).owesAt (none : HIx 1) t.succ from rfl]
  iintro ⟨HΦ, Howes, ⟨%d0, H0⟩, ⟨%d1, H1⟩, ⟨%d2, H2⟩, ⟨%d3, H3⟩, ⟨%d4, H4⟩, ⟨%d5, H5⟩⟩
  rw [before0, before1, before2, before3, before4]
  ihave H0 := (owns_eq_holds (d.tc : Thread nD τ) _ _ _).1 $$ H0
  ihave H1 := (owns_eq_holds (d.tc : Thread nD τ) _ _ _).1 $$ H1
  ihave H2 := (owns_eq_holds (d.tc : Thread nD τ) _ _ _).1 $$ H2
  ihave H3 := (owns_eq_holds (d.tc : Thread nD τ) _ _ _).1 $$ H3
  ihave H4 := (owns_eq_holds (d.tc : Thread nD τ) _ _ _).1 $$ H4
  ihave H5 := (owns_eq_holds (d.tc : Thread nD τ) _ _ _).1 $$ H5
  iapply (mlp_body d (grid1.coords t) _ (hstage1_0 ((cfg1.slots t 0).cast nbuf1_0)) _ (hstage1_1 ((cfg1.slots t 1).cast nbuf1_1)) _ (hstage1_2 ((cfg1.slots t 2).cast nbuf1_2))
    _ (hstage1_3 ((cfg1.slots t 3).cast nbuf1_3)) _ (hstage1_4 ((cfg1.slots t 4).cast nbuf1_4)) _ (hstage1_5 ((cfg1.slots t 5).cast nbuf1_5))
    (stg W d 0 t) (stg W d 1 t) (stg W d 2 t) (stg W d 3 t) (stg W d 4 t) _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iapply (owns_eq_holds (d.tc : Thread nD τ) _ _ _).2; iexact H0
  isplitl [H1]; · iapply (owns_eq_holds (d.tc : Thread nD τ) _ _ _).2; iexact H1
  isplitl [H2]; · iapply (owns_eq_holds (d.tc : Thread nD τ) _ _ _).2; iexact H2
  isplitl [H3]; · iapply (owns_eq_holds (d.tc : Thread nD τ) _ _ _).2; iexact H3
  isplitl [H4]; · iapply (owns_eq_holds (d.tc : Thread nD τ) _ _ _).2; iexact H4
  iapply (owns_eq_holds (d.tc : Thread nD τ) _ _ _).2; iexact H5

/-! ## The region over the thread's state -/

/-- The result's array after the region: the write-backs of the ten blocks. -/
def mlpOut (d : Dev nD) : Buf (Elt F) ((SparseCore.T d : Thread nD τ).loc main_v25) := (dat W d).arrAt 5 cfg1.N

/-- The valuation the region leaves. -/
def Wp (d : Dev nD) : Valuation τ sig (Elt F) := Function.update (W d) main_v25 (mlpOut W d)

theorem Wp_self (d : Dev nD) : Wp W d main_v25 = mlpOut W d := Function.update_self _ _ _
theorem Wp_ne (d : Dev nD) (b : Ref sig .tc) (h : b ≠ main_v25) : Wp W d b = W d b :=
  Function.update_of_ne (fun e => h (Proc.devRef_injective _ e)) _ _

/-- What the core owes between the calls: nothing, its waits recorded below the first call's levels' end. -/
abbrev owesR (d : Dev nD) : sProp 𝕄 :=
  iprop(∃ Z : Waits sig (HIx 1), ⌜(K (F := F)).WBelow (SparseCore.T d) Z 8⌝ ∗ owes (SparseCore.T d : Thread nD τ) (0 : CellTallies nD τ sig (HIx 1)) Z)

set_option backward.isDefEq.respectTransparency.types false in
/-- The TensorCore call over the thread's state: the unscoped buffers go from `W` to `Wp`. -/
def reg (R : Dev nD → sProp 𝕄) : Pipeline.RegionSeg (pcfgs (F := F)) adm (pdats W) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation W d).loose
  hwaits := Pipeline.hwaits_of_owed_zero _ _ _ _ (K (F := F)).L (K (F := F)).lev 0 fun _ _ => rfl
  pre d := iprop(unscopedBufs d (fun b => W d b) ∗ R d ∗ owesR (F := F) d)
  post d := iprop(unscopedBufs d (fun b => Wp W d b) ∗ R d ∗ owesR (F := F) d)
  X _ := BI.emp
  Y _ := BI.emp
  Z d := iprop(Pipeline.unscopedRest (Ix := HIx 1) (Name := ℕ) (U := UU) (Lvl := ℕ) spec1 d (fun b => W d b) ∗ R d)
  hentry d := by
    rw [Pipeline.ownSems0_none]
    have hsplit := Pipeline.arrays_of_unscopedBufs (p := 0) (pcfgs (F := F)) adm (pdats W) launch1.win launch1.arr_whole d
      ((pdats W 0 d).share_full fun _ => rfl) (fun b => W d b) fun _ => rfl
    iintro ⟨⟨Hub, HR, ⟨%Z, %hZ, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Z; isplitr; · ipureintro; exact fun p hp => Or.inl (hZ p hp)
      iexact HO
    isplitr; · iempintro
    isplitl [Hrest] <;> iassumption
  hin d := by
    rw [show (pdats W 0 d).Φ 0 = Pipeline.scopedRest spec1 d from rfl]
    iintro ⟨-, -, Hr⟩; iexact Hr
  hout d := by
    rw [Pipeline.ownSems0_none, show (pdats W 0 d).Φ (Fin.last _) = Pipeline.scopedRest spec1 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch1.win launch1.arr_whole d
      (pdats W) ((pdats W 0 d).share_full fun _ => rfl) (fun b => W d b) (fun b => Wp W d b) ((pdats W 0 d).arrAt · cfg1.N)
      (fun w => by
        fin_cases w
        · exact ((dat W d).arrAt_in 0 rfl _).trans (Wp_ne W d main_v20 (by decide)).symm
        · exact ((dat W d).arrAt_in 1 rfl _).trans (Wp_ne W d main_v21 (by decide)).symm
        · exact ((dat W d).arrAt_in 2 rfl _).trans (Wp_ne W d main_v22 (by decide)).symm
        · exact ((dat W d).arrAt_in 3 rfl _).trans (Wp_ne W d main_v23 (by decide)).symm
        · exact ((dat W d).arrAt_in 4 rfl _).trans (Wp_ne W d main_v24 (by decide)).symm
        · exact (Wp_self W d).symm)
      (fun b hb => Wp_ne W d b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Z, %hZ, HO⟩; iexists Z
    isplitr
    · ipureintro
      intro p hp
      rcases hZ hp with h | ⟨w, s, rfl⟩
      · exact h
      · exact Nat.zero_le _
    iexact HO

end Cert.Proof.Pool
-- ==== Proof.Launch.lean ====
/-
  The whole program's run: the host operations, the SparseCore call, the second call, and the launch, for any float values.
-/
module

public import proofs.«01_k».proof.Proof.Mlp
public import proofs.«01_k».proof.Proof.Gen.KernelIdeal.Launch
public import Idealize.ShloMosaic.Lib.SparseCore.Quiescent

@[expose] public section

noncomputable section

namespace Cert.Proof.Pool

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations and the contents they leave -/

/-- The strided ids and their padding, one after the other. -/
def catS : (⟨S3125, .i32⟩ : BufTy).Contents (Elt F) → (⟨S75, .i32⟩ : BufTy).Contents (Elt F) → (⟨S3200, .i32⟩ : BufTy).Contents (Elt F) :=
  fun a b => concatenate S3200 0 [⟨S3125, a⟩, ⟨S75, b⟩] concatenates_S3125_S75_S3200_d0
/-- The weights and the bias, one under the other. -/
def catW : (⟨S3x16, .f32⟩ : BufTy).Contents (Elt F) → (⟨S1x16, .f32⟩ : BufTy).Contents (Elt F) → (⟨S4x16, .f32⟩ : BufTy).Contents (Elt F) :=
  fun a b => concatenate S4x16 0 [⟨S3x16, a⟩, ⟨S1x16, b⟩] concatenates_S3x16_S1x16_S4x16_d0

/-- The operations before the first call. -/
abbrev preOps : List (HloOp τ sig (Elt F)) :=
  [ StableHlo.unary main_arg0 main_v0 ((extractStridedSlice S3200000x1 ![0, 0] · slices_S3200000x3_S3200000x1_0_0) : (⟨S3200000x3, .f32⟩ : BufTy).Contents (Elt F) → (⟨S3200000x1, .f32⟩ : BufTy).Contents (Elt F)),
    StableHlo.reshape main_v0 main_v1 (rfl : (.f32 : EltTy) = .f32) shapeCasts_S3200000x1_S3200000,
    StableHlo.unary main_v1 main_v2 ((truncf .bf16 · bitsLt_bf16_f32) : (⟨S3200000, .f32⟩ : BufTy).Contents (Elt F) → (⟨S3200000, .bf16⟩ : BufTy).Contents (Elt F)),
    StableHlo.unary main_v2 main_v3 ((extf .f32 · bitsLt_bf16_f32) : (⟨S3200000, .bf16⟩ : BufTy).Contents (Elt F) → (⟨S3200000, .f32⟩ : BufTy).Contents (Elt F)),
    StableHlo.unary main_arg0 main_v4 ((extractStridedSlice S3200000x1 ![0, 1] · slices_S3200000x3_S3200000x1_0_1) : (⟨S3200000x3, .f32⟩ : BufTy).Contents (Elt F) → (⟨S3200000x1, .f32⟩ : BufTy).Contents (Elt F)),
    StableHlo.reshape main_v4 main_v5 (rfl : (.f32 : EltTy) = .f32) shapeCasts_S3200000x1_S3200000,
    StableHlo.unary main_v5 main_v6 ((truncf .bf16 · bitsLt_bf16_f32) : (⟨S3200000, .f32⟩ : BufTy).Contents (Elt F) → (⟨S3200000, .bf16⟩ : BufTy).Contents (Elt F)),
    StableHlo.unary main_v6 main_v7 ((extf .f32 · bitsLt_bf16_f32) : (⟨S3200000, .bf16⟩ : BufTy).Contents (Elt F) → (⟨S3200000, .f32⟩ : BufTy).Contents (Elt F)),
    StableHlo.unary main_arg0 main_v8 ((extractStridedSlice S3200000x1 ![0, 2] · slices_S3200000x3_S3200000x1_0_2) : (⟨S3200000x3, .f32⟩ : BufTy).Contents (Elt F) → (⟨S3200000x1, .f32⟩ : BufTy).Contents (Elt F)),
    StableHlo.reshape main_v8 main_v9 (rfl : (.f32 : EltTy) = .f32) shapeCasts_S3200000x1_S3200000,
    StableHlo.unary main_v9 main_v10 ((truncf .bf16 · bitsLt_bf16_f32) : (⟨S3200000, .f32⟩ : BufTy).Contents (Elt F) → (⟨S3200000, .bf16⟩ : BufTy).Contents (Elt F)),
    StableHlo.unary main_v10 main_v11 ((extf .f32 · bitsLt_bf16_f32) : (⟨S3200000, .bf16⟩ : BufTy).Contents (Elt F) → (⟨S3200000, .f32⟩ : BufTy).Contents (Elt F)),
    StableHlo.unary main_arg1 main_v12 ((Host.slice S3125 ![0] ![1024] · slicesBy_S3200000_S3125_0s1024) : (⟨S3200000, .i32⟩ : BufTy).Contents (Elt F) → (⟨S3125, .i32⟩ : BufTy).Contents (Elt F)),
    StableHlo.nullary main_c (constantI S_ 32 1073741824#32),
    StableHlo.unary main_c main_v13 (broadcastInDim S75 ![] bcast_S_S75 : (⟨S_, .i32⟩ : BufTy).Contents (Elt F) → (⟨S75, .i32⟩ : BufTy).Contents (Elt F)),
    StableHlo.binary main_v12 main_v13 main_v14 catS,
    StableHlo.unary main_arg2 main_v15 ((truncf .bf16 · bitsLt_bf16_f32) : (⟨S3x16, .f32⟩ : BufTy).Contents (Elt F) → (⟨S3x16, .bf16⟩ : BufTy).Contents (Elt F)),
    StableHlo.unary main_v15 main_v16 ((extf .f32 · bitsLt_bf16_f32) : (⟨S3x16, .bf16⟩ : BufTy).Contents (Elt F) → (⟨S3x16, .f32⟩ : BufTy).Contents (Elt F)),
    StableHlo.unary main_arg3 main_v17 (broadcastInDim S1x16 ![1] bcast_S16_S1x16_1 : (⟨S16, .f32⟩ : BufTy).Contents (Elt F) → (⟨S1x16, .f32⟩ : BufTy).Contents (Elt F)),
    StableHlo.binary main_v16 main_v17 main_v18 catW ]

/-- The operations between the two calls. -/
abbrev postOps : List (HloOp τ sig (Elt F)) :=
  [ StableHlo.reshape main_v19 main_v20 (rfl : (.f32 : EltTy) = .f32) shapeCasts_S1600000_S100000x16,
    StableHlo.unary main_arg4 main_v21 ((truncf .bf16 · bitsLt_bf16_f32) : (⟨S16x16, .f32⟩ : BufTy).Contents (Elt F) → (⟨S16x16, .bf16⟩ : BufTy).Contents (Elt F)),
    StableHlo.reshape main_arg5 main_v22 (rfl : (.f32 : EltTy) = .f32) shapeCasts_S16_S1x16,
    StableHlo.unary main_arg6 main_v23 ((truncf .bf16 · bitsLt_bf16_f32) : (⟨S16x16, .f32⟩ : BufTy).Contents (Elt F) → (⟨S16x16, .bf16⟩ : BufTy).Contents (Elt F)),
    StableHlo.reshape main_arg7 main_v24 (rfl : (.f32 : EltTy) = .f32) shapeCasts_S16_S1x16 ]

set_option maxRecDepth 8192 in
theorem preOps_sub : (preOps : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub ..⟩
set_option maxRecDepth 8192 in
theorem postOps_sub : (postOps : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub ..⟩

/-- The TensorCore call as a statement of `@main`. -/
abbrev call1 : Prog (TpuEff nD τ sig (Elt F) (SparseCore.Sig (ΛP (F := F)) 1) .tc) PUnit :=
  Prog.lift (.customCall (SparseCore.inner (Pipeline.entry 0)) ())

set_option maxRecDepth 8192 in
theorem main_eq (d : Dev nD) : main (F := F) d = (StableHlo.seq preOps >>= fun _ => (K (F := F)).run d 0 >>= fun _ => StableHlo.seq postOps >>= fun _ => call1 (F := F)) := rfl

/-- The buffers at the start, before the first call, after it, before the second, after it. -/
def V0 (d : Dev nD) : Valuation τ sig (Elt F) := fun b => m (d, b)
def V1 (d : Dev nD) : Valuation τ sig (Elt F) := StableHlo.after preOps (V0 m d)

/-- The first call's operands. -/
def opO (d : Dev nD) : Opnds F := ⟨V1 m d main_v3, V1 m d main_v7, V1 m d main_v11, V1 m d main_arg1, V1 m d main_v14, V1 m d main_v18⟩
/-- The result's contents before it. -/
def g0 (d : Dev nD) : Vec F S1600000 .f32 := V1 m d main_v19

def V2 (d : Dev nD) : Valuation τ sig (Elt F) := Function.update (V1 m d) main_v19 (outF (opO m d) : Buf (Elt F) (locO d))
def V3 (d : Dev nD) : Valuation τ sig (Elt F) := StableHlo.after postOps (V2 m d)
def V4 (d : Dev nD) : Valuation τ sig (Elt F) := Wp (V3 m) d

theorem V1_v14 (d : Dev nD) : V1 m d main_v14 = catS (Host.slice S3125 ![0] ![1024] (V0 m d main_arg1) slicesBy_S3200000_S3125_0s1024)
    (broadcastInDim S75 ![] bcast_S_S75 (constantI S_ 32 1073741824#32)) := by
  unfold V1; simp only [preOps]; after_results_simp

set_option maxRecDepth 32768 in
/-- The strided ids' last entries are the padding. -/
theorem hpad (d : Dev nD) (k : ℕ) (h0 : 3125 ≤ k) (h1 : k < 3200) : subs (opO m d).s k = 1073741824#32 := by
  show subs (V1 m d main_v14) k = _
  rw [V1_v14]
  exact concatenate_pair_apply_right (t := S3200) (s₁ := S3125) (s₂ := S75) 0 _ _ concatenates_S3125_S75_S3200_d0 _ rfl rfl (ix1 75 (by decide) (k - 3125))
    (fun b hb => absurd (Subsingleton.elim _ _) hb) (by show min (k - 3125) 74 + 3125 = min k 3199; omega)

/-! ## The launch element of the certificate's ghost state -/

abbrev pcf := Pipeline.pin (pcfgs (F := F)) adm

def u₀ : UU := (initOf (K (F := F)).hsCells (K (F := F)).hsToks,
  (initOf (Pipeline.cells (pcf (F := F)) cellOf_inj) (Pipeline.launchToks (pcf (F := F)) cellOf_inj), 1))

/-- The second call's share of it. -/
def G (d : Dev nD) : sProp (MT nD τ sig (HIx 1) (Elt F) ℕ UU ℕ) :=
  iprop(Pipeline.cellsGhost (pcf (F := F)) (EP (F := F)) 0 d ∗ Pipeline.toksInit (pcf (F := F)) (EP (F := F)) 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P (opO m) (g0 m)).x q thr) := by
  unfold u₀
  iintro Hu
  ihave H := (ownU_pair (nD := nD) (τ := τ) (sig := sig) (Ix := HIx 1) (Val := Elt F) (Name := ℕ) (Lvl := ℕ) (initOf (K (F := F)).hsCells (K (F := F)).hsToks)
    ((initOf (Pipeline.cells (pcf (F := F)) cellOf_inj) (Pipeline.launchToks (pcf (F := F)) cellOf_inj), (1 : Counters)))) $$ Hu
  icases H with ⟨HH, HP⟩
  ihave HP := (show (BI.own (embR (initOf (Pipeline.cells (pcf (F := F)) cellOf_inj) (Pipeline.launchToks (pcf (F := F)) cellOf_inj), (1 : Counters))) : sProp 𝕄) ⊢ BI.own ((EP (F := F)) (initOf (Pipeline.cells (pcf (F := F)) cellOf_inj) (Pipeline.launchToks (pcf (F := F)) cellOf_inj))) from .rfl) $$ HP
  ihave HP := (Pipeline.fund_ghost (pcf (F := F)) (EP (F := F)) cellOf_inj) $$ HP
  imod HP with ⟨Hc, Ht⟩
  imodintro
  isplitl [HH]; · iexact HH
  isplitl [Hc Ht]
  · unfold G
    rw [bigSep_sep']
    isplitl [Hc]
    · iapply (Entails.of_eq (show (bigSep Finset.univ fun d : Dev nD => bigSep Finset.univ fun p : Fin 1 => Pipeline.cellsGhost (pcf (F := F)) (EP (F := F)) p d)
        = bigSep Finset.univ fun d : Dev nD => Pipeline.cellsGhost (pcf (F := F)) (EP (F := F)) 0 d from bigSep_congr fun d _ => bigSep_univ_of_subsingleton (0 : Fin 1)))
      iexact Hc
    · iapply (Entails.of_eq (show (bigSep Finset.univ fun d : Dev nD => bigSep Finset.univ fun p : Fin 1 => Pipeline.toksInit (pcf (F := F)) (EP (F := F)) p d)
        = bigSep Finset.univ fun d : Dev nD => Pipeline.toksInit (pcf (F := F)) (EP (F := F)) 0 d from bigSep_congr fun d _ => bigSep_univ_of_subsingleton (0 : Fin 1)))
      iexact Ht
  rw [show (bigSep Finset.univ fun thr : Thread nD τ => bigSep Finset.univ fun q : Fin 1 => (P (opO m) (g0 m)).x q thr) = bigSep Finset.univ fun _ => iprop(emp) from
    bigSep_congr fun _ _ => bigSep_univ_of_subsingleton (0 : Fin 1), bigSep_emp']
  iempintro

/-! ## @main on the TensorCore -/

/-- The first call's buffers. -/
def callRefs : Finset (DevRef τ sig) := {Proc.devRef .tc main_v3, Proc.devRef .tc main_v7, Proc.devRef .tc main_v11, Proc.devRef .tc main_arg1,
  Proc.devRef .tc main_v14, Proc.devRef .tc main_v18, Proc.devRef .tc main_v19}

set_option maxRecDepth 16384 in
theorem callRefs_sub : callRefs ⊆ Pipeline.ucRefs τ sig := by decide

theorem sep_assoc_eq (A B C : sProp (MT nD τ sig (HIx 1) (Elt F) ℕ UU ℕ)) : iprop((A ∗ B) ∗ C) = iprop(A ∗ B ∗ C) :=
  BI.Entails.antisymm BI.sep_assoc BI.sep_assoc'

theorem held_callRefs (d : Dev nD) (W : Valuation τ sig (Elt F)) :
    (StableHlo.held (d.tc : Thread nD τ) callRefs W : sProp 𝕄)
      = iprop(opnds d ⟨W main_v3, W main_v7, W main_v11, W main_arg1, W main_v14, W main_v18⟩ fullShare ∗ outPts d Finset.univ (W main_v19)) := by
  unfold StableHlo.held callRefs opnds outPts
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rw [sep_assoc_eq, sep_assoc_eq, sep_assoc_eq, sep_assoc_eq, sep_assoc_eq]

theorem tcSt_split (d : Dev nD) : ∃ R : sProp (MT nD τ sig (HIx 1) (Elt F) ℕ UU ℕ), ((K (F := F)).tcSt EH d 1 : sProp 𝕄) = iprop(owesR (F := F) d ∗ R) := by
  unfold SparseCore.Cfg.tcSt
  rw [(K (F := F)).Otc_end d le_rfl]
  exact ⟨_, rfl⟩

/-- What the core's state between the calls holds beside what it owes. -/
def tcRest (d : Dev nD) : sProp (MT nD τ sig (HIx 1) (Elt F) ℕ UU ℕ) := (tcSt_split (F := F) d).choose

theorem tcSt_one (d : Dev nD) : ((K (F := F)).tcSt EH d 1 : sProp 𝕄) = iprop(owesR (F := F) d ∗ tcRest (F := F) d) := (tcSt_split (F := F) d).choose_spec

abbrev FIN (d : Dev nD) : sProp (MT nD τ sig (HIx 1) (Elt F) ℕ UU ℕ) := StableHlo.held (d.tc : Thread nD τ) (Pipeline.ucRefs τ sig) (V4 m d)

theorem V2_off (d : Dev nD) (b : DevRef τ sig) (h : b ≠ Proc.devRef .tc main_v19) : V2 m d b = V1 m d b := Function.update_of_ne h _ _

set_option maxRecDepth 16384 in
theorem V2_call (d : Dev nD) : iprop(opnds d (opO m d) fullShare ∗ outPts d Finset.univ (outF (opO m d)))
    = (StableHlo.held (d.tc : Thread nD τ) callRefs (V2 m d) : sProp 𝕄) := by
  rw [held_callRefs, V2_off m d (Proc.devRef .tc main_v3) (by decide), V2_off m d (Proc.devRef .tc main_v7) (by decide), V2_off m d (Proc.devRef .tc main_v11) (by decide),
    V2_off m d (Proc.devRef .tc main_arg1) (by decide), V2_off m d (Proc.devRef .tc main_v14) (by decide), V2_off m d (Proc.devRef .tc main_v18) (by decide)]
  unfold V2
  rw [Function.update_self]
  rfl

theorem reg_pre (W : Dev nD → Valuation τ sig (Elt F)) (R : Dev nD → sProp (MT nD τ sig (HIx 1) (Elt F) ℕ UU ℕ)) (d : Dev nD) :
    (reg W R).pre d = iprop(unscopedBufs d (fun b => W d b) ∗ R d ∗ owesR (F := F) d) := rfl
theorem reg_post (W : Dev nD → Valuation τ sig (Elt F)) (R : Dev nD → sProp (MT nD τ sig (HIx 1) (Elt F) ℕ UU ℕ)) (d : Dev nD) :
    (reg W R).post d = iprop(unscopedBufs d (fun b => Wp W d b) ∗ R d ∗ owesR (F := F) d) := rfl

/-- The second call, from the buffers at `V3` to the buffers at `V4`. -/
theorem call1_run (κ : GSem nD τ sig → ℕ) (d : Dev nD) (Q : PUnit → sProp (MT nD τ sig (HIx 1) (Elt F) ℕ UU ℕ)) :
    iprop((K (F := F)).ctx EH (P (opO m) (g0 m)) κ ∗ G d ∗ boundary (d.tc : Thread nD τ) ∗ StableHlo.held (d.tc : Thread nD τ) (Pipeline.ucRefs τ sig) (V3 m d) ∗ (K (F := F)).tcSt EH d 1
        ∗ (iprop(boundary (d.tc : Thread nD τ) ∗ StableHlo.held (d.tc : Thread nD τ) (Pipeline.ucRefs τ sig) (V4 m d) ∗ (K (F := F)).tcSt EH d 1) -∗ Q ⟨⟩))
      ⊢ wp frame (wpE ((K (F := F)).defs (D (F := F))) 𝒱 (SparseCore.T d) none) Set.univ (call1 (F := F)) Q := by
  rw [tcSt_one, ← Pipeline.unscopedBufs_held, ← Pipeline.unscopedBufs_held]
  unfold G
  iintro ⟨#Hctx, ⟨Hc, Ht⟩, Hb, Hh, ⟨HO, HR⟩, Hk⟩
  ihave Hlev := ((K (F := F)).ctx_levAts κ) $$ Hctx
  iapply (show wp frame (wpE (D (F := F)) 𝒱 (SparseCore.T d) none) Set.univ (Prog.op (.customCall (Pipeline.entry 0) ()) .ret) Q
      ⊢ wp frame (wpE ((K (F := F)).defs (D (F := F))) 𝒱 (SparseCore.T d) none) Set.univ (call1 (F := F)) Q from
    (K (F := F)).wp_liftProg (D (F := F)) 𝒱 (SparseCore.T d) Set.univ none _ Q)
  iapply (Pipeline.RegionSeg.wp (pcfgs (F := F)) adm (pdats (V3 m)) (none : HIx 1) cellOf_inj (EP (F := F)) defs₀ 𝒱₀ (K (F := F)).L (K (F := F)).lev
    (reg (V3 m) (tcRest (F := F))) d none (fun u hu => nomatch hu) _ Q)
  isplitl [Hk]
  · iintro ⟨Hb, Hp⟩
    ihave Hp := (Entails.of_eq (reg_post (V3 m) (tcRest (F := F)) d)) $$ Hp
    icases Hp with ⟨Hh, HR, HO⟩
    rw [wp_ret]; imodintro
    iapply Hk
    isplitl [Hb]; · iexact Hb
    isplitl [Hh]; · iexact Hh
    isplitl [HO] <;> iassumption
  isplitl [Hb]; · iexact Hb
  isplitl [Hh HR HO]
  · rw [reg_pre]
    isplitl [Hh]; · iexact Hh
    isplitl [HR] <;> iassumption
  isplitl [Hlev]; · iexact Hlev
  isplitl [Hc] <;> iassumption

/-- @main on device `d`'s TensorCore. -/
theorem hmain (κ : GSem nD τ sig → ℕ) (d : Dev nD) :
    iprop((K (F := F)).ctx EH (P (opO m) (g0 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d : Thread nD τ).loc b)) : sProp 𝕄) = StableHlo.held (d.tc : Thread nD τ) (Pipeline.ucRefs τ sig) (V0 m d)
    from Pipeline.unscopedBufs_held d (V0 m d)]
  iintro ⟨#Hctx, Hst, ⟨Hb, Hh, Hts, -⟩, HG⟩
  iapply (StableHlo.wp_seq 𝒱 none Set.univ d (Pipeline.ucRefs τ sig) _ preOps
    (fun op h => Pipeline.sub_ucRefs op ((List.forall_iff_forall_mem.mp preOps_sub) op h))
    (fun op h => (List.forall_iff_forall_mem.mp (StableHlo.forall_fresh_of_map rfl)) op h) (V0 m d)) $$ [Hb Hh]
  · isplitl [Hb] <;> iassumption
  iintro ⟨Hb, Hh⟩
  ihave Hh := (Entails.of_eq (show (StableHlo.held (d.tc : Thread nD τ) (Pipeline.ucRefs τ sig) (StableHlo.after preOps (V0 m d)) : sProp 𝕄) = _ from
    StableHlo.held_sub_split (d.tc : Thread nD τ) callRefs_sub (V1 m d))) $$ Hh
  icases Hh with ⟨Hc, Hrest⟩
  ihave Hc := (Entails.of_eq (held_callRefs d (V1 m d))) $$ Hc
  rw [wp_bind]
  iapply ((K (F := F)).wp_run (D (F := F)) 𝒱 (EH := EH) (P := P (opO m) (g0 m)) κ d 0) $$ [Hst Hc Hrest Hb Hts HG]
  isplitr; · iexact Hctx
  isplitl [Hst]; · iexact Hst
  isplitl [Hc]
  · rw [st0_eq]; iexact Hc
  iintro ⟨Hst, Hdn⟩
  ihave Hdn := (Entails.of_eq ((dn0_eq (opO m) (g0 m) d).trans (V2_call m d))) $$ Hdn
  ihave Hrest := (Entails.of_eq (StableHlo.held_congr (c := (d.tc : Thread nD τ)) (S := Pipeline.ucRefs τ sig \ callRefs) (V := V1 m d) (V' := V2 m d)
    (fun b hb => (V2_off m d b fun e => (Finset.mem_sdiff.mp hb).2 (by rw [e]; decide)).symm))) $$ Hrest
  iapply (StableHlo.wp_seq 𝒱 none Set.univ d (Pipeline.ucRefs τ sig) _ postOps
    (fun op h => Pipeline.sub_ucRefs op ((List.forall_iff_forall_mem.mp postOps_sub) op h))
    (fun op h => (List.forall_iff_forall_mem.mp (StableHlo.forall_fresh_of_map rfl)) op h) (V2 m d)) $$ [Hb Hdn Hrest]
  · isplitl [Hb]; · iexact Hb
    iapply (Entails.of_eq (StableHlo.held_sub_split (d.tc : Thread nD τ) callRefs_sub (V2 m d)).symm)
    isplitl [Hdn] <;> iassumption
  iintro ⟨Hb, Hh⟩
  iapply (call1_run m κ d _)
  isplitr; · iexact Hctx
  isplitl [HG]; · iexact HG
  isplitl [Hb]; · iexact Hb
  isplitl [Hh]; · iexact Hh
  isplitl [Hst]; · iexact Hst
  iintro ⟨Hb, Hh, Hst⟩
  isplitl [Hst]; · iexact Hst
  isplitl [Hh]; · iexact Hh
  isplitl [Hb] <;> iassumption

/-- Where a device's memory ends. -/
def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := by
  unfold FIN StableHlo.held
  exact fun x hx b hb => ((sep_mono (bigSep_elim hb) .rfl).trans
    ((sep_comm.1.trans SI_pointsTo_agree).trans (BI.pure_mono fun h => funext fun i => h i (Finset.mem_univ i)))) x hx

/-! ## The program's run -/

def QC : PUnit × MemSt nD τ sig (Elt F) → Prop := fun r => (∀ (d : Dev nD), ∀ b ∈ Pipeline.ucRefs τ sig, r.2.mem (d, b) = V4 m d b) ∧ r.2.sem = fun _ => 0

/-- Every execution ends, the buffers at `V4`, every counter at zero. -/
theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := P (opO m) (g0 m)) (A := ∅) facts v₀
    (fun q hq => match q with | 0 => nomatch hq)
    (fun q _ => match q with | 0 => tileObl (opO m) (g0 m) (hpad m))
    (fun q _ => match q with | 0 => SparseCore.Cfg.VecSplit.of_plain (vecSplit (opO m) (g0 m)))
    m ρ main G (FIN m) (u₀ (F := F)) (sep_elim_left.trans (hu₀ m)) (hmain m ρ) (fq m) (hfin m) (QC m) (fun _ h hz => ⟨h, hz⟩)

end Cert.Proof.Pool
-- ==== Proof.HostValues.lean ====
/-
  What the pool call is given, on the extended reals: the points' columns, their ids, every 1024th id, and the weights
  over the bias, read from the program's arguments.
-/
module

public import proofs.«01_k».proof.Proof.PoolValue
public import proofs.«01_k».proof.Proof.Launch
public import Idealize.ShloMosaic.Lib.Pointwise

@[expose] public section

noncomputable section

namespace Cert.Proof.Pool

open Cert.KernelIdeal Cert.KernelIdeal.Gen
open Idealize.ShloMosaic
open Idealize.ShloMosaic.TcCoe

variable (m : (ℓ : Loc nD τ sig) → Buf (Elt Ideal) ℓ) (d : Dev nD)

/-- The arguments of the first layer, as arrays. -/
abbrev aPts : Vec Ideal S3200000x3 .f32 := V0 m d main_arg0
abbrev aIds : Vec Ideal S3200000 .i32 := V0 m d main_arg1
abbrev aW1 : Vec Ideal S3x16 .f32 := V0 m d main_arg2
abbrev aB1 : Vec Ideal S16 .f32 := V0 m d main_arg3

theorem strm_eq {α : Type} (a : S3200000.Idx → α) (p : ℕ) (hp : p < 3200000) : strm a p = a (Idealize.ShloMosaic.ix1 ⟨p, hp⟩) :=
  congrArg a (funext fun x => Fin.ext (by
    obtain rfl : x = 0 := Fin.eq_zero x
    show min p 3199999 = p; omega))

theorem lane_eq (l : Fin 16) : lane l.val = (Idealize.ShloMosaic.ix1 l : S16.Idx) :=
  funext fun x => Fin.ext (by
    obtain rfl : x = 0 := Fin.eq_zero x
    show min l.val 15 = l.val; omega)

theorem op_x (p : ℕ) (hp : p < 3200000) : strm (opO m d).x p = aPts m d (Idealize.ShloMosaic.ix2 ⟨p, hp⟩ 0) := by
  rw [strm_eq _ p hp]
  have e : V1 m d main_v3 = extf (F := Ideal) .f32 (truncf .bf16 (shapeCast S3200000 (extractStridedSlice S3200000x1 ![0, 0] (aPts m d) slices_S3200000x3_S3200000x1_0_0)
      shapeCasts_S3200000x1_S3200000) bitsLt_bf16_f32) bitsLt_bf16_f32 := by
    unfold V1; simp only [preOps]; after_results_simp
    rfl
  show (V1 m d main_v3 : Vec Ideal S3200000 .f32) _ = _
  rw [e]
  pointwise

theorem op_y (p : ℕ) (hp : p < 3200000) : strm (opO m d).y p = aPts m d (Idealize.ShloMosaic.ix2 ⟨p, hp⟩ 1) := by
  rw [strm_eq _ p hp]
  have e : V1 m d main_v7 = extf (F := Ideal) .f32 (truncf .bf16 (shapeCast S3200000 (extractStridedSlice S3200000x1 ![0, 1] (aPts m d) slices_S3200000x3_S3200000x1_0_1)
      shapeCasts_S3200000x1_S3200000) bitsLt_bf16_f32) bitsLt_bf16_f32 := by
    unfold V1; simp only [preOps]; after_results_simp
    rfl
  show (V1 m d main_v7 : Vec Ideal S3200000 .f32) _ = _
  rw [e]
  pointwise

theorem op_z (p : ℕ) (hp : p < 3200000) : strm (opO m d).z p = aPts m d (Idealize.ShloMosaic.ix2 ⟨p, hp⟩ 2) := by
  rw [strm_eq _ p hp]
  have e : V1 m d main_v11 = extf (F := Ideal) .f32 (truncf .bf16 (shapeCast S3200000 (extractStridedSlice S3200000x1 ![0, 2] (aPts m d) slices_S3200000x3_S3200000x1_0_2)
      shapeCasts_S3200000x1_S3200000) bitsLt_bf16_f32) bitsLt_bf16_f32 := by
    unfold V1; simp only [preOps]; after_results_simp
    rfl
  show (V1 m d main_v11 : Vec Ideal S3200000 .f32) _ = _
  rw [e]
  pointwise

theorem op_i : (opO m d).i = aIds m d := by
  show V1 m d main_arg1 = _
  unfold V1; simp only [preOps]; after_results_simp

theorem op_w : (opO m d).w = catW (extf .f32 (truncf .bf16 (aW1 m d) bitsLt_bf16_f32) bitsLt_bf16_f32) (broadcastInDim S1x16 ![1] bcast_S16_S1x16_1 (aB1 m d)) := by
  show V1 m d main_v18 = _
  unfold V1; simp only [preOps]; after_results_simp

/-- Row `r` of the four, by its load. -/
theorem emb_row (off : Fin 2 → ℕ) (inb : ∀ a, off a + S1x16.size a ≤ S4x16.size a) (r : Fin 4) (h0 : off 0 = r.val) (h1 : off 1 = 0) (l : Fin 16) :
    (Rect.unit (s := S4x16) off S1x16.size inb).emb (Idealize.ShloMosaic.ix2 (0 : Fin 1) l : S1x16.Idx) = (Idealize.ShloMosaic.ix2 r l : S4x16.Idx) := by
  funext a
  match a with
  | 0 => exact Fin.ext (by simp only [Rect.emb_apply]; show off 0 + 1 * 0 = r.val; omega)
  | 1 => exact Fin.ext (by simp only [Rect.emb_apply]; show off 1 + 1 * l.val = l.val; omega)

theorem cast_row (x : Vec Ideal S1x16 .f32) (l : Fin 16) : shapeCast S16 x shapeCasts_S1x16_S16 (Idealize.ShloMosaic.ix1 l) = x (Idealize.ShloMosaic.ix2 0 l) := by
  pointwise

theorem wv0_read (a : Vec Ideal S4x16 .f32) (l : Fin 16) : wv0 a (lane l.val) = a (Idealize.ShloMosaic.ix2 0 l) := by
  rw [lane_eq]
  exact (cast_row (fun x => a ((Rect.unit (s := S4x16) ![0, 0] S1x16.size inb_S4x16_S1x16_0_0).emb x)) l).trans (congrArg a (emb_row _ _ 0 rfl rfl l))

theorem wv1_read (a : Vec Ideal S4x16 .f32) (l : Fin 16) : wv1 a (lane l.val) = a (Idealize.ShloMosaic.ix2 1 l) := by
  rw [lane_eq]
  exact (cast_row (fun x => a ((Rect.unit (s := S4x16) ![1, 0] S1x16.size inb_S4x16_S1x16_1_0).emb x)) l).trans (congrArg a (emb_row _ _ 1 rfl rfl l))

theorem wv2_read (a : Vec Ideal S4x16 .f32) (l : Fin 16) : wv2 a (lane l.val) = a (Idealize.ShloMosaic.ix2 2 l) := by
  rw [lane_eq]
  exact (cast_row (fun x => a ((Rect.unit (s := S4x16) ![2, 0] S1x16.size inb_S4x16_S1x16_2_0).emb x)) l).trans (congrArg a (emb_row _ _ 2 rfl rfl l))

theorem wv3_read (a : Vec Ideal S4x16 .f32) (l : Fin 16) : wv3 a (lane l.val) = a (Idealize.ShloMosaic.ix2 3 l) := by
  rw [lane_eq]
  exact (cast_row (fun x => a ((Rect.unit (s := S4x16) ![3, 0] S1x16.size inb_S4x16_S1x16_3_0).emb x)) l).trans (congrArg a (emb_row _ _ 3 rfl rfl l))

/-- The packed rows, from the arguments. -/
theorem catW_rows (a : Vec Ideal S3x16 .f32) (b : Vec Ideal S16 .f32) (l : Fin 16) :
    catW (F := Ideal) (extf (F := Ideal) .f32 (truncf .bf16 a bitsLt_bf16_f32) bitsLt_bf16_f32) (broadcastInDim S1x16 ![1] bcast_S16_S1x16_1 b) (Idealize.ShloMosaic.ix2 0 l) = a (Idealize.ShloMosaic.ix2 0 l)
    ∧ catW (F := Ideal) (extf (F := Ideal) .f32 (truncf .bf16 a bitsLt_bf16_f32) bitsLt_bf16_f32) (broadcastInDim S1x16 ![1] bcast_S16_S1x16_1 b) (Idealize.ShloMosaic.ix2 1 l) = a (Idealize.ShloMosaic.ix2 1 l)
    ∧ catW (F := Ideal) (extf (F := Ideal) .f32 (truncf .bf16 a bitsLt_bf16_f32) bitsLt_bf16_f32) (broadcastInDim S1x16 ![1] bcast_S16_S1x16_1 b) (Idealize.ShloMosaic.ix2 2 l) = a (Idealize.ShloMosaic.ix2 2 l)
    ∧ catW (F := Ideal) (extf (F := Ideal) .f32 (truncf .bf16 a bitsLt_bf16_f32) bitsLt_bf16_f32) (broadcastInDim S1x16 ![1] bcast_S16_S1x16_1 b) (Idealize.ShloMosaic.ix2 3 l) = b (Idealize.ShloMosaic.ix1 l) := by
  unfold catW
  refine ⟨?_, ?_, ?_, ?_⟩ <;> pointwise

/-- Lane `l` of a point's value, from the arguments. -/
theorem pt_eq (p : ℕ) (hp : p < 3200000) (l : Fin 16) : (opO m d).pt p (lane l.val) =
    (aPts m d (Idealize.ShloMosaic.ix2 ⟨p, hp⟩ 0) * aW1 m d (Idealize.ShloMosaic.ix2 0 l) + aPts m d (Idealize.ShloMosaic.ix2 ⟨p, hp⟩ 1) * aW1 m d (Idealize.ShloMosaic.ix2 1 l))
    + (aPts m d (Idealize.ShloMosaic.ix2 ⟨p, hp⟩ 2) * aW1 m d (Idealize.ShloMosaic.ix2 2 l) + aB1 m d (Idealize.ShloMosaic.ix1 l)) := by
  show (strm (opO m d).x p * wv0 (opO m d).w (lane l.val) + strm (opO m d).y p * wv1 (opO m d).w (lane l.val))
    + (strm (opO m d).z p * wv2 (opO m d).w (lane l.val) + wv3 (opO m d).w (lane l.val)) = _
  obtain ⟨h0, h1, h2, h3⟩ := catW_rows (aW1 m d) (aB1 m d) l
  rw [op_x m d p hp, op_y m d p hp, op_z m d p hp, wv0_read, wv1_read, wv2_read, wv3_read, op_w, h0, h1, h2, h3]

set_option maxRecDepth 32768 in
theorem op_strided : Strided (opO m d).i (subs (opO m d).s) where
  pad := hpad m d
  at_stride := by
    intro k hk
    rw [op_i]
    show (V1 m d main_v14 : Vec Ideal S3200 .i32) (ix1 3200 (by decide) k) = _
    rw [V1_v14, strm_eq _ _ (by omega)]
    have e : (ix1 3200 (by decide) k : S3200.Idx) = Idealize.ShloMosaic.ix1 ⟨k, by omega⟩ :=
      funext fun x => Fin.ext (by
        obtain rfl : x = 0 := Fin.eq_zero x
        show min k 3199 = k; omega)
    rw [e]
    unfold catS
    pointwise
    rw [dif_pos hk]

end Cert.Proof.Pool
-- ==== Proof.MlpValue.lean ====
/-
  The second call's result, element by element, on the extended reals: two dense layers of a row of the pool, each
  followed by the maximum with zero.
-/
module

public import proofs.«01_k».proof.Proof.HostValues
public import Idealize.ShloMosaic.Lib.Pipeline.ValueKit

@[expose] public section

set_option maxRecDepth 16384

noncomputable section

namespace Cert.Proof.Pool

open Cert.KernelIdeal Cert.KernelIdeal.Gen
open Idealize.ShloMosaic
open Idealize.ShloMosaic.TcCoe
open scoped BigOperators

/-- Two dense layers, each followed by the maximum with zero, of a row `p`. -/
def layers (p : Fin 16 → EReal) (w2 : Fin 16 → Fin 16 → EReal) (b2 : Fin 16 → EReal) (w3 : Fin 16 → Fin 16 → EReal) (b3 : Fin 16 → EReal) (c : Fin 16) : EReal :=
  max ((∑ k, max ((∑ j, p j * w2 j k) + b2 k) 0 * w3 k c) + b3 c) 0

theorem layers_congr {p p' : Fin 16 → EReal} {w2 w2' : Fin 16 → Fin 16 → EReal} {b2 b2' : Fin 16 → EReal} {w3 w3' : Fin 16 → Fin 16 → EReal} {b3 b3' : Fin 16 → EReal}
    (hp : ∀ j, p j = p' j) (h2 : ∀ j k, w2 j k = w2' j k) (e2 : ∀ k, b2 k = b2' k) (h3 : ∀ j k, w3 j k = w3' j k) (e3 : ∀ k, b3 k = b3' k) (c : Fin 16) :
    layers p w2 b2 w3 b3 c = layers p' w2' b2' w3' b3' c := by
  rw [funext hp, funext fun j => funext (h2 j), funext e2, funext fun j => funext (h3 j), funext e3]

/-- The body's value at an element. -/
theorem pay1_eq (a0 : Vec Ideal S10000x16 .f32) (a1 : Vec Ideal S16x16 .bf16) (a2 : Vec Ideal S1x16 .f32) (a3 : Vec Ideal S16x16 .bf16) (a4 : Vec Ideal S1x16 .f32)
    (q : Fin 10000) (c : Fin 16) :
    k1_pay1 a0 a1 a2 a3 a4 (Idealize.ShloMosaic.ix2 q c) = layers (fun j => a0 (Idealize.ShloMosaic.ix2 q j)) (fun j k => a1 (Idealize.ShloMosaic.ix2 j k))
      (fun k => a2 (Idealize.ShloMosaic.ix2 0 k)) (fun j k => a3 (Idealize.ShloMosaic.ix2 j k)) (fun k => a4 (Idealize.ShloMosaic.ix2 0 k)) c := by
  pointwise [k1_pay1, layers]

variable (W : (d : Dev nD) → Valuation τ sig (Elt Ideal)) (d : Dev nD)

/-- The second call's result as one array. -/
def mlpG : Vec Ideal S100000x16 .f32 := fun x =>
  layers (fun j => (W d main_v20 : Vec Ideal S100000x16 .f32) (Idealize.ShloMosaic.ix2 (x 0) j)) (fun j k => (W d main_v21 : Vec Ideal S16x16 .bf16) (Idealize.ShloMosaic.ix2 j k))
    (fun k => (W d main_v22 : Vec Ideal S1x16 .f32) (Idealize.ShloMosaic.ix2 0 k)) (fun j k => (W d main_v23 : Vec Ideal S16x16 .bf16) (Idealize.ShloMosaic.ix2 j k))
    (fun k => (W d main_v24 : Vec Ideal S1x16 .f32) (Idealize.ShloMosaic.ix2 0 k)) (x 1)

theorem idx0 : ∀ t : Fin cfg1.N, win1_0.index t = ![t.val, 0] := by decide +kernel
theorem idx1 : ∀ t : Fin cfg1.N, win1_1.index t = ![0, 0] := by decide +kernel
theorem idx2 : ∀ t : Fin cfg1.N, win1_2.index t = ![0, 0] := by decide +kernel
theorem idx3 : ∀ t : Fin cfg1.N, win1_3.index t = ![0, 0] := by decide +kernel
theorem idx4 : ∀ t : Fin cfg1.N, win1_4.index t = ![0, 0] := by decide +kernel
theorem idx5 : ∀ t : Fin cfg1.N, win1_5.index t = ![t.val, 0] := by decide +kernel

/-- Row `q` of block `t`. -/
def rowOf (t : Fin cfg1.N) (q : Fin 10000) : Fin 100000 := ⟨t.val * 10000 + q.val, by have h := t.isLt; have h' := q.isLt; have e : cfg1.N = 10 := (by decide); omega⟩

theorem emb0_eq (t : Fin cfg1.N) (q : Fin 10000) (j : Fin 16) : (win1_0.blk t).view.emb (Idealize.ShloMosaic.ix2 q j) = (Idealize.ShloMosaic.ix2 (rowOf t q) j : S100000x16.Idx) := by
  unfold rowOf
  blk_ext [idx0 t]
theorem emb1_eq (t : Fin cfg1.N) (j k : Fin 16) : (win1_1.blk t).view.emb (Idealize.ShloMosaic.ix2 j k) = (Idealize.ShloMosaic.ix2 j k : S16x16.Idx) := by
  blk_ext [idx1 t]
theorem emb2_eq (t : Fin cfg1.N) (k : Fin 16) : (win1_2.blk t).view.emb (Idealize.ShloMosaic.ix2 (0 : Fin 1) k) = (Idealize.ShloMosaic.ix2 0 k : S1x16.Idx) := by
  blk_ext [idx2 t]
theorem emb3_eq (t : Fin cfg1.N) (j k : Fin 16) : (win1_3.blk t).view.emb (Idealize.ShloMosaic.ix2 j k) = (Idealize.ShloMosaic.ix2 j k : S16x16.Idx) := by
  blk_ext [idx3 t]
theorem emb4_eq (t : Fin cfg1.N) (k : Fin 16) : (win1_4.blk t).view.emb (Idealize.ShloMosaic.ix2 (0 : Fin 1) k) = (Idealize.ShloMosaic.ix2 0 k : S1x16.Idx) := by
  blk_ext [idx4 t]
theorem emb5_eq (t : Fin cfg1.N) (q : Fin 10000) (c : Fin 16) :
    (win1_5.blk t).view.emb (Idealize.ShloMosaic.ix2 q c) = (Idealize.ShloMosaic.ix2 (rowOf t q) c : S100000x16.Idx) := by
  unfold rowOf
  blk_ext [idx5 t]

theorem stg0_eq (t : Fin cfg1.N) (q : Fin 10000) (j : Fin 16) :
    stg W d 0 t (Idealize.ShloMosaic.ix2 q j) = (W d main_v20 : Vec Ideal S100000x16 .f32) (Idealize.ShloMosaic.ix2 (rowOf t q) j) :=
  congrArg (W d main_v20) (emb0_eq t q j)
theorem stg1_eq (t : Fin cfg1.N) (j k : Fin 16) :
    stg W d 1 t (Idealize.ShloMosaic.ix2 j k) = (W d main_v21 : Vec Ideal S16x16 .bf16) (Idealize.ShloMosaic.ix2 j k) :=
  congrArg (W d main_v21) (emb1_eq t j k)
theorem stg2_eq (t : Fin cfg1.N) (k : Fin 16) :
    stg W d 2 t (Idealize.ShloMosaic.ix2 (0 : Fin 1) k) = (W d main_v22 : Vec Ideal S1x16 .f32) (Idealize.ShloMosaic.ix2 0 k) :=
  congrArg (W d main_v22) (emb2_eq t k)
theorem stg3_eq (t : Fin cfg1.N) (j k : Fin 16) :
    stg W d 3 t (Idealize.ShloMosaic.ix2 j k) = (W d main_v23 : Vec Ideal S16x16 .bf16) (Idealize.ShloMosaic.ix2 j k) :=
  congrArg (W d main_v23) (emb3_eq t j k)
theorem stg4_eq (t : Fin cfg1.N) (k : Fin 16) :
    stg W d 4 t (Idealize.ShloMosaic.ix2 (0 : Fin 1) k) = (W d main_v24 : Vec Ideal S1x16 .f32) (Idealize.ShloMosaic.ix2 0 k) :=
  congrArg (W d main_v24) (emb4_eq t k)

theorem mlpG_apply (g : Fin 100000) (c : Fin 16) : mlpG W d (Idealize.ShloMosaic.ix2 g c) =
    layers (fun j => (W d main_v20 : Vec Ideal S100000x16 .f32) (Idealize.ShloMosaic.ix2 g j)) (fun j k => (W d main_v21 : Vec Ideal S16x16 .bf16) (Idealize.ShloMosaic.ix2 j k))
      (fun k => (W d main_v22 : Vec Ideal S1x16 .f32) (Idealize.ShloMosaic.ix2 0 k)) (fun j k => (W d main_v23 : Vec Ideal S16x16 .bf16) (Idealize.ShloMosaic.ix2 j k))
      (fun k => (W d main_v24 : Vec Ideal S1x16 .f32) (Idealize.ShloMosaic.ix2 0 k)) c := rfl

theorem block_eq (t : Fin cfg1.N) (q : Fin 10000) (c : Fin 16) :
    k1_pay1 (stg W d 0 t) (stg W d 1 t) (stg W d 2 t) (stg W d 3 t) (stg W d 4 t) (Idealize.ShloMosaic.ix2 q c)
      = mlpG W d (Idealize.ShloMosaic.ix2 (rowOf t q) c) := by
  rw [pay1_eq]
  unfold mlpG
  simp only [stg0_eq, stg1_eq, stg2_eq, stg3_eq, stg4_eq]
  rfl

theorem mlpOut_eq : mlpOut W d = mlpG W d := by
  unfold mlpOut
  refine (dat W d).arrAt_eq_of_covers 5 _ (by decide +kernel) fun t hf y => ?_
  blk_simp
  obtain ⟨q, c, rfl⟩ : ∃ (q : Fin 10000) (c : Fin 16), y = (Idealize.ShloMosaic.ix2 q c : S10000x16.Idx) := ⟨y 0, y 1, eq_ix2 y⟩
  exact (block_eq W d t q c).trans (congrArg (mlpG W d) (emb5_eq t q c).symm)

/-! ## The program's result -/

variable (m : (ℓ : Loc nD τ sig) → Buf (Elt Ideal) ℓ)

/-- The arguments of the dense layers, as arrays. -/
abbrev aW2 : Vec Ideal S16x16 .f32 := V0 m d main_arg4
abbrev aB2 : Vec Ideal S16 .f32 := V0 m d main_arg5
abbrev aW3 : Vec Ideal S16x16 .f32 := V0 m d main_arg6
abbrev aB3 : Vec Ideal S16 .f32 := V0 m d main_arg7

/-- Word `l` of row `g` of the pool. -/
def poolAt (g : Fin 100000) (l : Fin 16) : EReal := outF (opO m d) (Idealize.ShloMosaic.ix1 ⟨16 * g.val + l.val, by have := g.isLt; have := l.isLt; omega⟩)

theorem v20_eq (g : Fin 100000) (l : Fin 16) : (V3 m d main_v20 : Vec Ideal S100000x16 .f32) (Idealize.ShloMosaic.ix2 g l) = poolAt d m g l := by
  have e : V3 m d main_v20 = shapeCast S100000x16 (outF (opO m d)) shapeCasts_S1600000_S100000x16 := by
    unfold V3; simp only [postOps]; after_results_simp
    rw [show V2 m d main_v19 = outF (opO m d) from Function.update_self _ _ _]
    rfl
  rw [e]
  unfold poolAt
  pointwise
  exact congrArg (fun k => outF (opO m d) (Idealize.ShloMosaic.ix1 k)) (Fin.ext (by show g.val * 16 + l.val = 16 * g.val + l.val; omega))

theorem v21_eq (j k : Fin 16) : (V3 m d main_v21 : Vec Ideal S16x16 .bf16) (Idealize.ShloMosaic.ix2 j k) = aW2 d m (Idealize.ShloMosaic.ix2 j k) := by
  have e : V3 m d main_v21 = truncf (F := Ideal) .bf16 (aW2 d m) bitsLt_bf16_f32 := by
    unfold V3; simp only [postOps]; after_results_simp
    rw [V2_off m d _ (by decide)]
    unfold V1; simp only [preOps]; after_results_simp
  rw [e]; rfl

theorem v23_eq (j k : Fin 16) : (V3 m d main_v23 : Vec Ideal S16x16 .bf16) (Idealize.ShloMosaic.ix2 j k) = aW3 d m (Idealize.ShloMosaic.ix2 j k) := by
  have e : V3 m d main_v23 = truncf (F := Ideal) .bf16 (aW3 d m) bitsLt_bf16_f32 := by
    unfold V3; simp only [postOps]; after_results_simp
    rw [V2_off m d _ (by decide)]
    unfold V1; simp only [preOps]; after_results_simp
  rw [e]; rfl

theorem v22_eq (k : Fin 16) : (V3 m d main_v22 : Vec Ideal S1x16 .f32) (Idealize.ShloMosaic.ix2 0 k) = aB2 d m (Idealize.ShloMosaic.ix1 k) := by
  have e : V3 m d main_v22 = shapeCast S1x16 (aB2 d m) shapeCasts_S16_S1x16 := by
    unfold V3; simp only [postOps]; after_results_simp
    rw [V2_off m d _ (by decide)]
    unfold V1; simp only [preOps]; after_results_simp
    rfl
  rw [e]; pointwise

theorem v24_eq (k : Fin 16) : (V3 m d main_v24 : Vec Ideal S1x16 .f32) (Idealize.ShloMosaic.ix2 0 k) = aB3 d m (Idealize.ShloMosaic.ix1 k) := by
  have e : V3 m d main_v24 = shapeCast S1x16 (aB3 d m) shapeCasts_S16_S1x16 := by
    unfold V3; simp only [postOps]; after_results_simp
    rw [V2_off m d _ (by decide)]
    unfold V1; simp only [preOps]; after_results_simp
    rfl
  rw [e]; pointwise

/-- The program's result at an element. -/
theorem result_eq (g : Fin 100000) (c : Fin 16) : (V4 m d main_v25 : Vec Ideal S100000x16 .f32) (Idealize.ShloMosaic.ix2 g c) =
    layers (poolAt d m g) (fun j k => aW2 d m (Idealize.ShloMosaic.ix2 j k)) (fun k => aB2 d m (Idealize.ShloMosaic.ix1 k))
      (fun j k => aW3 d m (Idealize.ShloMosaic.ix2 j k)) (fun k => aB3 d m (Idealize.ShloMosaic.ix1 k)) c := by
  show (Wp (V3 m) d main_v25 : Vec Ideal S100000x16 .f32) _ = _
  rw [Wp_self, mlpOut_eq, mlpG_apply]
  exact layers_congr (v20_eq d m g) (v21_eq d m) (v22_eq d m) (v23_eq d m) (v24_eq d m) c

end Cert.Proof.Pool
-- ==== Proof.PoolEq.lean ====
/-
  The kernel's pool is the reference's: a segment's word is the maximum over its points of the first layer, and zero
  for a segment of no point.
-/
module

public import proofs.«01_k».proof.Proof.RefValue
public import proofs.«01_k».proof.Proof.Precondition
public import proofs.«01_k».proof.Proof.MlpValue

@[expose] public section

set_option maxRecDepth 16384

noncomputable section

namespace Cert.Proof.Pool

open Cert.KernelIdeal Cert.KernelIdeal.Gen
open Idealize.ShloMosaic
open Idealize.ShloMosaic.TcCoe
open scoped BigOperators

/-- A word between the bounds is the pool as the reference takes it: the supremum over the segment's points, minus
    infinity where it has none and then zero. -/
theorem word_eq {n : ℕ} (v : EReal) (mem : Fin n → Prop) [DecidablePred mem] (f : Fin n → EReal) (h0 : 0 ≤ v)
    (hle : ∀ M : EReal, 0 ≤ M → (∀ p, mem p → f p ≤ M) → v ≤ M) (hge : ∀ p, mem p → f p ≤ v) (hfin : ∀ p, f p < ⊤)
    (q : EReal) (hq : q = Finset.univ.fold max (⊥ : EReal) (fun p => if mem p then max (f p) 0 else ⊥)) :
    v = if max q (-q) < ⊤ then q else 0 := by
  have hs : q = Finset.univ.sup (fun p => if mem p then max (f p) 0 else ⊥) := hq
  by_cases hm : ∃ p, mem p
  · obtain ⟨p, hp⟩ := hm
    have hq0 : ∀ p, mem p → max (f p) 0 ≤ q := fun p hp => by
      have := Finset.le_sup (f := fun p => if mem p then max (f p) 0 else (⊥ : EReal)) (Finset.mem_univ p)
      rw [← hs] at this
      simpa only [if_pos hp] using this
    have hqn : 0 ≤ q := le_trans (le_max_right _ _) (hq0 p hp)
    have hqt : q < ⊤ := by
      rw [hs, Finset.sup_lt_iff bot_lt_top]
      intro p _
      by_cases hp : mem p
      · simp only [if_pos hp]; exact max_lt (hfin p) (EReal.zero_lt_top)
      · simp only [if_neg hp]; exact bot_lt_top
    have hneg : -q < ⊤ := lt_of_le_of_lt (by simpa using hqn : -q ≤ 0) EReal.zero_lt_top
    rw [if_pos (max_lt hqt hneg)]
    refine le_antisymm (hle q hqn fun p hp => le_trans (le_max_left _ _) (hq0 p hp)) ?_
    rw [hs]
    refine Finset.sup_le fun p _ => ?_
    by_cases hp : mem p
    · simp only [if_pos hp]; exact max_le (hge p hp) h0
    · simp only [if_neg hp]; exact bot_le
  · have hb : q = ⊥ := by
      rw [hs]
      refine le_bot_iff.1 (Finset.sup_le fun p _ => ?_)
      rw [if_neg fun hp => hm ⟨p, hp⟩]
    subst hb
    rw [if_neg (by simp)]
    exact le_antisymm (hle 0 le_rfl fun p hp => absurd ⟨p, hp⟩ hm) h0

/-- Finite factors make a finite sum. -/
theorem layer_lt {a b c x y z w : EReal} (ha : a ≠ ⊤ ∧ a ≠ ⊥) (hb : b ≠ ⊤ ∧ b ≠ ⊥) (hc : c ≠ ⊤ ∧ c ≠ ⊥) (hx : x ≠ ⊤ ∧ x ≠ ⊥)
    (hy : y ≠ ⊤ ∧ y ≠ ⊥) (hz : z ≠ ⊤ ∧ z ≠ ⊥) (hw : w ≠ ⊤ ∧ w ≠ ⊥) : (a * x + b * y) + (c * z + w) < ⊤ := by
  lift a to ℝ using ha
  lift b to ℝ using hb
  lift c to ℝ using hc
  lift x to ℝ using hx
  lift y to ℝ using hy
  lift z to ℝ using hz
  lift w to ℝ using hw
  rw [← EReal.coe_mul, ← EReal.coe_mul, ← EReal.coe_mul, ← EReal.coe_add, ← EReal.coe_add, ← EReal.coe_add]
  exact EReal.coe_lt_top _

variable (d : Dev nD) (m : (ℓ : Loc nD τ sig) → Buf (Elt Ideal) ℓ)

/-- Ids of which each is at most the next are in order. -/
theorem sorted_of (h : Pre.Says (aPts m d) (aIds m d) (aW1 m d) (aB1 m d)) : Sorted (aIds m d) := by
  intro p q hpq
  induction q, hpq using Nat.le_induction with
  | base => intro _; exact le_rfl
  | succ q hpq ih =>
    intro hq
    refine le_trans (ih (by omega)) ?_
    rw [strm_eq _ q (by omega), strm_eq _ (q + 1) hq]
    exact h.step ⟨q, by omega⟩

theorem pool_eq (h : Pre.Says (aPts m d) (aIds m d) (aW1 m d) (aB1 m d)) (g : Fin 100000) (l : Fin 16) :
    poolAt d m g l = Ref.fixPool (Ref.rawPool (aPts m d) (aIds m d) (aW1 m d) (aB1 m d)) (Idealize.ShloMosaic.ix2 g l) := by
  have hp := outF_isPool (opO m d) (by rw [op_i]; exact sorted_of d m h) (op_strided m d) g.val l.val g.isLt l.isLt
    (Idealize.ShloMosaic.ix1 ⟨16 * g.val + l.val, by have := g.isLt; have := l.isLt; omega⟩) rfl
  rw [Ref.fixPool_eq]
  refine word_eq _ (fun p : Fin 3200000 => aIds m d (Idealize.ShloMosaic.ix1 p) = BitVec.ofNat 32 g.val)
    (fun p => (opO m d).pt p.val (lane l.val)) hp.nonneg
    (fun M hM hall => hp.le M hM fun p hlt hid => hall ⟨p, hlt⟩ (by rw [op_i, strm_eq _ p hlt] at hid; exact hid))
    (fun p hid => hp.ge p.val p.isLt (by rw [op_i, strm_eq _ p.val p.isLt]; exact hid))
    (fun p => ?_) _ ?_
  · show (opO m d).pt p.val (lane l.val) < (⊤ : EReal)
    rw [pt_eq m d p.val p.isLt l]
    exact layer_lt (h.pts _) (h.pts _) (h.pts _) (h.w1 _) (h.w1 _) (h.w1 _) (h.b1 _)
  · rw [Ref.rawPool_eq]
    refine Finset.fold_congr fun p _ => ?_
    refine if_congr Iff.rfl ?_ rfl
    rw [Ref.fc1_eq, Fin.sum_univ_three]
    show _ = max ((opO m d).pt p.val (lane l.val) : EReal) 0
    rw [pt_eq m d p.val p.isLt l, add_assoc]

end Cert.Proof.Pool
-- ==== Proof.Frames.lean ====
/-
  The frames: the program's argument arrays end unchanged, every semaphore at zero; and the reference's.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Proof.Pool

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

theorem V4_ne (d : Dev nD) (b : Ref sig .tc) (h : b ≠ main_v25) : V4 m d b = V3 m d b := Wp_ne (V3 m) d b h

theorem V4_arg0 (d : Dev nD) : V4 m d main_arg0 = m (d, Proc.devRef .tc main_arg0) := by
  rw [V4_ne m d main_arg0 (by decide)]
  unfold V3; simp only [postOps]; after_results_simp
  rw [V2_off m d _ (by decide)]
  unfold V1; simp only [preOps]; after_results_simp
  rfl

theorem V4_arg1 (d : Dev nD) : V4 m d main_arg1 = m (d, Proc.devRef .tc main_arg1) := by
  rw [V4_ne m d main_arg1 (by decide)]
  unfold V3; simp only [postOps]; after_results_simp
  rw [V2_off m d _ (by decide)]
  unfold V1; simp only [preOps]; after_results_simp
  rfl

theorem V4_arg2 (d : Dev nD) : V4 m d main_arg2 = m (d, Proc.devRef .tc main_arg2) := by
  rw [V4_ne m d main_arg2 (by decide)]
  unfold V3; simp only [postOps]; after_results_simp
  rw [V2_off m d _ (by decide)]
  unfold V1; simp only [preOps]; after_results_simp
  rfl

theorem V4_arg3 (d : Dev nD) : V4 m d main_arg3 = m (d, Proc.devRef .tc main_arg3) := by
  rw [V4_ne m d main_arg3 (by decide)]
  unfold V3; simp only [postOps]; after_results_simp
  rw [V2_off m d _ (by decide)]
  unfold V1; simp only [preOps]; after_results_simp
  rfl

theorem V4_arg4 (d : Dev nD) : V4 m d main_arg4 = m (d, Proc.devRef .tc main_arg4) := by
  rw [V4_ne m d main_arg4 (by decide)]
  unfold V3; simp only [postOps]; after_results_simp
  rw [V2_off m d _ (by decide)]
  unfold V1; simp only [preOps]; after_results_simp
  rfl

theorem V4_arg5 (d : Dev nD) : V4 m d main_arg5 = m (d, Proc.devRef .tc main_arg5) := by
  rw [V4_ne m d main_arg5 (by decide)]
  unfold V3; simp only [postOps]; after_results_simp
  rw [V2_off m d _ (by decide)]
  unfold V1; simp only [preOps]; after_results_simp
  rfl

theorem V4_arg6 (d : Dev nD) : V4 m d main_arg6 = m (d, Proc.devRef .tc main_arg6) := by
  rw [V4_ne m d main_arg6 (by decide)]
  unfold V3; simp only [postOps]; after_results_simp
  rw [V2_off m d _ (by decide)]
  unfold V1; simp only [preOps]; after_results_simp
  rfl

theorem V4_arg7 (d : Dev nD) : V4 m d main_arg7 = m (d, Proc.devRef .tc main_arg7) := by
  rw [V4_ne m d main_arg7 (by decide)]
  unfold V3; simp only [postOps]; after_results_simp
  rw [V2_off m d _ (by decide)]
  unfold V1; simp only [preOps]; after_results_simp
  rfl

set_option maxRecDepth 16384 in
/-- The arguments after the run. -/
theorem args_kept (c : Dev nD) (r : PUnit × MemSt nD τ sig (Elt F)) (h : QC m r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
    ⟨((h.1 c (Proc.devRef .tc main_arg0) (by decide)).trans (V4_arg0 m c)),
      ((h.1 c (Proc.devRef .tc main_arg1) (by decide)).trans (V4_arg1 m c)),
      ((h.1 c (Proc.devRef .tc main_arg2) (by decide)).trans (V4_arg2 m c)),
      ((h.1 c (Proc.devRef .tc main_arg3) (by decide)).trans (V4_arg3 m c)),
      ((h.1 c (Proc.devRef .tc main_arg4) (by decide)).trans (V4_arg4 m c)),
      ((h.1 c (Proc.devRef .tc main_arg5) (by decide)).trans (V4_arg5 m c)),
      ((h.1 c (Proc.devRef .tc main_arg6) (by decide)).trans (V4_arg6 m c)),
      ((h.1 c (Proc.devRef .tc main_arg7) (by decide)).trans (V4_arg7 m c))⟩

/-- The two printed programs are the same text. -/
theorem d0_eq : Cert.Kernel.defs₀ (F := Bits) = Cert.KernelIdeal.defs₀ (F := Bits) := by
  funext p l
  cases p <;> (try fin_cases l) <;> rfl

theorem defs_eq : Cert.Kernel.defs (F := Bits) = Cert.KernelIdeal.defs (F := Bits) := by
  unfold Cert.Kernel.defs Cert.KernelIdeal.defs
  rw [d0_eq]
  rfl

theorem run_of_eq {D₁ D₂ : Defs nD τ sig (Elt Bits) (SparseCore.Sig (ΛP (F := Bits)) 1)} (h : D₁ = D₂) (s : MemSt nD τ sig (Elt Bits)) (Q : PUnit × MemSt nD τ sig (Elt Bits) → Prop)
    (hr : θ_run D₂ (threads (F := Bits)) s Q) : θ_run D₁ (threads (F := Bits)) s Q := h ▸ hr

theorem run_kernel (m : (ℓ : Loc nD τ sig) → Buf (Elt Bits) ℓ) (ρ : Dev nD → PrngReg) :
    θ_run (Cert.Kernel.defs (F := Bits)) (threads (F := Bits)) ⟨m, fun _ => 0, ρ⟩ (QC m) :=
  run_of_eq defs_eq _ _ (run_main (F := Bits) m ρ)

/-- The kernel as printed. -/
theorem frame_kernel : Cert.quiescent_Kernel := fun m ρ _ =>
  (θ_run (Cert.Kernel.defs (F := Bits)) (Cert.Kernel.threads (F := Bits)) _).mono (fun r h => ⟨fun c => args_kept (F := Bits) m c r h, h.2⟩) (run_kernel m ρ)

/-- The kernel on the reals. -/
theorem frame_kernelIdeal : Cert.quiescent_KernelIdeal := fun m ρ _ =>
  (θ_run Cert.KernelIdeal.defs _ _).mono (fun r h => ⟨fun c => args_kept m c r h, h.2⟩) (run_main (F := Ideal) m ρ)

/-- The reference: it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Pool
-- ==== Proof.Algebraic.lean ====
/-
  The value claim: on the extended reals the kernel's result and the reference's are the same array.
-/
module

public import proofs.«01_k».proof.Proof.PoolEq
public import proofs.«01_k».proof.Proof.Frames

@[expose] public section

set_option maxRecDepth 16384

noncomputable section

namespace Cert.Proof.Pool

open Cert.KernelIdeal Cert.KernelIdeal.Gen
open Idealize.ShloMosaic
open Idealize.ShloMosaic.TcCoe
open Idealize.SL Idealize.SL.Sem

variable (d : Dev nD) (m : (ℓ : Loc nD τ sig) → Buf (Elt Ideal) ℓ)

/-- The two results, as functions of the same arguments. -/
theorem value_eq (h : Pre.Says (aPts m d) (aIds m d) (aW1 m d) (aB1 m d)) :
    Ref.dense (aW2 d m) (aB2 d m) (aW3 d m) (aB3 d m) (Ref.fixPool (Ref.rawPool (aPts m d) (aIds m d) (aW1 m d) (aB1 m d)))
      = (V4 m d main_v25 : Vec Ideal S100000x16 .f32) := by
  funext i
  obtain ⟨g, c, rfl⟩ : ∃ (g : Fin 100000) (c : Fin 16), i = Idealize.ShloMosaic.ix2 g c := ⟨i 0, i 1, Idealize.ShloMosaic.eq_ix2 i⟩
  rw [result_eq d m g c, Ref.dense_eq]
  rw [show poolAt d m g = _ from funext (pool_eq d m h g)]
  generalize Ref.fixPool _ = q
  rfl

theorem frame_kernelIdeal_pre : Cert.quiescent_KernelIdeal_pre_sorted_and_finite := fun m ρ _ => frame_kernelIdeal m ρ trivial

theorem frame_referenceIdeal_pre : Cert.quiescent_ReferenceIdeal_pre_sorted_and_finite := fun m ρ _ => frame_referenceIdeal m ρ trivial

theorem algebraic : Cert.algebraic_KernelIdeal_ReferenceIdeal_pre_sorted_and_finite := by
  intro m ρ m' ρ' hpre hag
  refine ⟨fun c => V4 m c main_v25, ?_, ?_⟩
  · exact (θ_run Cert.KernelIdeal.defs _ _).mono (fun r h c => ⟨h.1 c (Proc.devRef .tc main_v25) (by decide), args_kept m c r h⟩) (run_main (F := Ideal) m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7⟩ := hag c
    rw [e0, e1, e2, e3, e4, e5, e6, e7]
    exact value_eq c m (Pre.read_pre _ _ _ _ _ _ _ _ (hpre c))

end Cert.Proof.Pool
-- ==== Proof.lean ====
module

public import proofs.«01_k».proof.Proof.Algebraic
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel Cert.Proof.Pool

theorem claim : Cert.Claim :=
  ⟨Cert.Kernel.Gen.facts, Cert.KernelIdeal.Gen.facts, Cert.ReferenceIdeal.Gen.facts, Cert.Proof.Pre.facts,
    frame_kernel, frame_kernelIdeal, frame_kernelIdeal_pre, frame_referenceIdeal, frame_referenceIdeal_pre, trivial, algebraic⟩

end Cert.Proof

end
